-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v7_0)) (v1 : (c : Dev Cert.Kernel18Ideal.nD) → Buf (Elt Ideal) ((c.tc : Thread Cert.Kernel18Ideal.nD Cert.Kernel18Ideal.τ).loc Cert.Kernel18Ideal.main_v7_1)) (v2 : (c : Dev Cert.Kernel18Ideal.nD) → Buf (Elt Ideal) ((c.tc : Thread Cert.Kernel18Ideal.nD Cert.Kernel18Ideal.τ).loc Cert.Kernel18Ideal.main_v7_2)) (v3 : (c : Dev Cert.Kernel18Ideal.nD) → Buf (Elt Ideal) ((c.tc : Thread Cert.Kernel18Ideal.nD Cert.Kernel18Ideal.τ).loc Cert.Kernel18Ideal.main_v7_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v7_0) = v0 c
          ∧ r.2.mem ((c.tc : Thread Cert.Kernel18Ideal.nD Cert.Kernel18Ideal.τ).loc Cert.Kernel18Ideal.main_v7_1) = v1 c
          ∧ r.2.mem ((c.tc : Thread Cert.Kernel18Ideal.nD Cert.Kernel18Ideal.τ).loc Cert.Kernel18Ideal.main_v7_2) = v2 c
          ∧ r.2.mem ((c.tc : Thread Cert.Kernel18Ideal.nD Cert.Kernel18Ideal.τ).loc Cert.Kernel18Ideal.main_v7_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v30) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v34) = v2 c
          ∧ r.2.mem ((c.tc : Thread Cert.Reference18Ideal.nD Cert.Reference18Ideal.τ).loc Cert.Reference18Ideal.main_v36) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v7_0)) (v1 : (c : Dev Cert.Kernel20Ideal.nD) → Buf (Elt Ideal) ((c.tc : Thread Cert.Kernel20Ideal.nD Cert.Kernel20Ideal.τ).loc Cert.Kernel20Ideal.main_v7_1)) (v2 : (c : Dev Cert.Kernel20Ideal.nD) → Buf (Elt Ideal) ((c.tc : Thread Cert.Kernel20Ideal.nD Cert.Kernel20Ideal.τ).loc Cert.Kernel20Ideal.main_v7_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v7_0) = v0 c
          ∧ r.2.mem ((c.tc : Thread Cert.Kernel20Ideal.nD Cert.Kernel20Ideal.τ).loc Cert.Kernel20Ideal.main_v7_1) = v1 c
          ∧ r.2.mem ((c.tc : Thread Cert.Kernel20Ideal.nD Cert.Kernel20Ideal.τ).loc Cert.Kernel20Ideal.main_v7_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v40) = v0 c
          ∧ r.2.mem ((c.tc : Thread Cert.Reference20Ideal.nD Cert.Reference20Ideal.τ).loc Cert.Reference20Ideal.main_v42) = v1 c
          ∧ r.2.mem ((c.tc : Thread Cert.Reference20Ideal.nD Cert.Reference20Ideal.τ).loc Cert.Reference20Ideal.main_v43) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v5_0)) (v1 : (c : Dev Cert.Kernel22Ideal.nD) → Buf (Elt Ideal) ((c.tc : Thread Cert.Kernel22Ideal.nD Cert.Kernel22Ideal.τ).loc Cert.Kernel22Ideal.main_v5_1)) (v2 : (c : Dev Cert.Kernel22Ideal.nD) → Buf (Elt Ideal) ((c.tc : Thread Cert.Kernel22Ideal.nD Cert.Kernel22Ideal.τ).loc Cert.Kernel22Ideal.main_v5_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5_0) = v0 c
          ∧ r.2.mem ((c.tc : Thread Cert.Kernel22Ideal.nD Cert.Kernel22Ideal.τ).loc Cert.Kernel22Ideal.main_v5_1) = v1 c
          ∧ r.2.mem ((c.tc : Thread Cert.Kernel22Ideal.nD Cert.Kernel22Ideal.τ).loc Cert.Kernel22Ideal.main_v5_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v17) = v0 c
          ∧ r.2.mem ((c.tc : Thread Cert.Reference22Ideal.nD Cert.Reference22Ideal.τ).loc Cert.Reference22Ideal.main_v19) = v1 c
          ∧ r.2.mem ((c.tc : Thread Cert.Reference22Ideal.nD Cert.Reference22Ideal.τ).loc Cert.Reference22Ideal.main_v21) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v5_0)) (v1 : (c : Dev Cert.Kernel23Ideal.nD) → Buf (Elt Ideal) ((c.tc : Thread Cert.Kernel23Ideal.nD Cert.Kernel23Ideal.τ).loc Cert.Kernel23Ideal.main_v5_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5_0) = v0 c
          ∧ r.2.mem ((c.tc : Thread Cert.Kernel23Ideal.nD Cert.Kernel23Ideal.τ).loc Cert.Kernel23Ideal.main_v5_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v18) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v5_0)) (v1 : (c : Dev Cert.Kernel24Ideal.nD) → Buf (Elt Ideal) ((c.tc : Thread Cert.Kernel24Ideal.nD Cert.Kernel24Ideal.τ).loc Cert.Kernel24Ideal.main_v5_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5_0) = v0 c
          ∧ r.2.mem ((c.tc : Thread Cert.Kernel24Ideal.nD Cert.Kernel24Ideal.τ).loc Cert.Kernel24Ideal.main_v5_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v17) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v3_0)) (v1 : (c : Dev Cert.Kernel25Ideal.nD) → Buf (Elt Ideal) ((c.tc : Thread Cert.Kernel25Ideal.nD Cert.Kernel25Ideal.τ).loc Cert.Kernel25Ideal.main_v3_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3_0) = v0 c
          ∧ r.2.mem ((c.tc : Thread Cert.Kernel25Ideal.nD Cert.Kernel25Ideal.τ).loc Cert.Kernel25Ideal.main_v3_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_v16) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v19) = v0 c
          ∧ r.2.mem ((c.tc : Thread Cert.Reference26Ideal.nD Cert.Reference26Ideal.τ).loc Cert.Reference26Ideal.main_v21) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v15_0)) (v1 : (c : Dev Cert.Kernel27Ideal.nD) → Buf (Elt Ideal) ((c.tc : Thread Cert.Kernel27Ideal.nD Cert.Kernel27Ideal.τ).loc Cert.Kernel27Ideal.main_v15_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v15_0) = v0 c
          ∧ r.2.mem ((c.tc : Thread Cert.Kernel27Ideal.nD Cert.Kernel27Ideal.τ).loc Cert.Kernel27Ideal.main_v15_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v39) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S2x4096x8x64 : Shape := ⟨4, ![2, 4096, 8, 64]⟩
abbrev S2x4096x8 : Shape := ⟨3, ![2, 4096, 8]⟩
abbrev S_ : Shape := ⟨0, ![]⟩
abbrev S2x4096x8x1 : Shape := ⟨4, ![2, 4096, 8, 1]⟩

class Facts : Prop where
  bcast_S_S2x4096x8x64 : S_.BroadcastsInDim S2x4096x8x64 (![] : Fin 0 → Fin S2x4096x8x64.rank)
  bcast_S_S2x4096x8 : S_.BroadcastsInDim S2x4096x8 (![] : Fin 0 → Fin S2x4096x8.rank)
  bcast_S2x4096x8_S2x4096x8x1_0_1_2 : S2x4096x8.BroadcastsInDim S2x4096x8x1 (![0, 1, 2] : Fin 3 → Fin S2x4096x8x1.rank)
  bcast_S2x4096x8x1_S2x4096x8x64_0_1_2_3 : S2x4096x8x1.BroadcastsInDim S2x4096x8x64 (![0, 1, 2, 3] : Fin 4 → Fin S2x4096x8x64.rank)

variable [Facts]

def fn_part1 {F : FTy → Type} [FloatOps F] (main_arg4 : FVec F S2x4096x8 .f32) (main_arg6 : FVec F S2x4096x8 .f32) (main_arg7 : FVec F S2x4096x8x64 .f32) (main_v18 : IVec S2x4096x8x64 1) : IVec S2x4096x8x64 1 :=
  let main_v19 : FVec F S2x4096x8x64 .f32 := Host.absf main_arg7
  let main_cst_4 : FVec F S_ .f32 := constant S_ .f32 0x7F800000#32
  let main_v20 : FVec F S2x4096x8x64 .f32 := broadcastInDim S2x4096x8x64 ![] bcast_S_S2x4096x8x64 main_cst_4
  let main_v21 : IVec S2x4096x8x64 1 := cmpf .olt main_v19 main_v20
  let main_v22 : IVec S2x4096x8x64 1 := andi main_v18 main_v21
  let main_v23 : FVec F S2x4096x8 .f32 := Host.absf main_arg4
  let main_cst_5 : FVec F S_ .f32 := constant S_ .f32 0x7F800000#32
  let main_v24 : FVec F S2x4096x8 .f32 := broadcastInDim S2x4096x8 ![] bcast_S_S2x4096x8 main_cst_5
  let main_v25 : IVec S2x4096x8 1 := cmpf .olt main_v23 main_v24
  let main_v26 : FVec F S2x4096x8 .f32 := Host.absf main_arg6
  let main_cst_6 : FVec F S_ .f32 := constant S_ .f32 0x7F800000#32
  let main_v27 : FVec F S2x4096x8 .f32 := broadcastInDim S2x4096x8 ![] bcast_S_S2x4096x8 main_cst_6
  let main_v28 : IVec S2x4096x8 1 := cmpf .olt main_v26 main_v27
  let main_v29 : IVec S2x4096x8 1 := andi main_v25 main_v28
  let main_v30 : IVec S2x4096x8x1 1 := broadcastInDim S2x4096x8x1 ![0, 1, 2] bcast_S2x4096x8_S2x4096x8x1_0_1_2 main_v29
  let main_v31 : IVec S2x4096x8x64 1 := broadcastInDim S2x4096x8x64 ![0, 1, 2, 3] bcast_S2x4096x8x1_S2x4096x8x64_0_1_2_3 main_v30
  let main_v32 : IVec S2x4096x8x64 1 := andi main_v22 main_v31
  main_v32

def fn {F : FTy → Type} [FloatOps F] (main_arg0 : FVec F S2x4096x8x64 .f32) (main_arg1 : FVec F S2x4096x8x64 .f32) (main_arg2 : FVec F S2x4096x8x64 .f32) (main_arg3 : FVec F S2x4096x8x64 .f32) (main_arg4 : FVec F S2x4096x8 .f32) (main_arg5 : FVec F S2x4096x8x64 .f32) (main_arg6 : FVec F S2x4096x8 .f32) (main_arg7 : FVec F S2x4096x8x64 .f32) : IVec S2x4096x8x64 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_v3 : FVec F S2x4096x8x64 .f32 := Host.absf main_arg1
  let main_cst_0 : FVec F S_ .f32 := constant S_ .f32 0x7F800000#32
  let main_v4 : FVec F S2x4096x8x64 .f32 := broadcastInDim S2x4096x8x64 ![] bcast_S_S2x4096x8x64 main_cst_0
  let main_v5 : IVec S2x4096x8x64 1 := cmpf .olt main_v3 main_v4
  let main_v6 : IVec S2x4096x8x64 1 := andi main_v2 main_v5
  let main_v7 : FVec F S2x4096x8x64 .f32 := Host.absf main_arg2
  let main_cst_1 : FVec F S_ .f32 := constant S_ .f32 0x7F800000#32
  let main_v8 : FVec F S2x4096x8x64 .f32 := broadcastInDim S2x4096x8x64 ![] bcast_S_S2x4096x8x64 main_cst_1
  let main_v9 : IVec S2x4096x8x64 1 := cmpf .olt main_v7 main_v8
  let main_v10 : IVec S2x4096x8x64 1 := andi main_v6 main_v9
  let main_v11 : FVec F S2x4096x8x64 .f32 := Host.absf main_arg3
  let main_cst_2 : FVec F S_ .f32 := constant S_ .f32 0x7F800000#32
  let main_v12 : FVec F S2x4096x8x64 .f32 := broadcastInDim S2x4096x8x64 ![] bcast_S_S2x4096x8x64 main_cst_2
  let main_v13 : IVec S2x4096x8x64 1 := cmpf .olt main_v11 main_v12
  let main_v14 : IVec S2x4096x8x64 1 := andi main_v10 main_v13
  let main_v15 : FVec F S2x4096x8x64 .f32 := Host.absf main_arg5
  let main_cst_3 : FVec F S_ .f32 := constant S_ .f32 0x7F800000#32
  let main_v16 : FVec F S2x4096x8x64 .f32 := broadcastInDim S2x4096x8x64 ![] bcast_S_S2x4096x8x64 main_cst_3
  let main_v17 : IVec S2x4096x8x64 1 := cmpf .olt main_v15 main_v16
  let main_v18 : IVec S2x4096x8x64 1 := andi main_v14 main_v17
  fn_part1 (F := F) main_arg4 main_arg6 main_arg7 main_v18
-- ==== Kernel.lean ====
abbrev S2x4096x8x64 : Shape := ⟨4, ![2, 4096, 8, 64]⟩
abbrev S2x4096x8 : Shape := ⟨3, ![2, 4096, 8]⟩
abbrev S2x4096x512 : Shape := ⟨3, ![2, 4096, 512]⟩
abbrev S8192x512 : Shape := ⟨2, ![8192, 512]⟩
abbrev S_ : Shape := ⟨0, ![]⟩
abbrev S2x1024x4x512 : Shape := ⟨4, ![2, 1024, 4, 512]⟩
abbrev S2x4x1024x512 : Shape := ⟨4, ![2, 4, 1024, 512]⟩
abbrev S8192x1536 : Shape := ⟨2, ![8192, 1536]⟩
abbrev S2x1024x4x8x64 : Shape := ⟨5, ![2, 1024, 4, 8, 64]⟩
abbrev S2x4x1024x8x64 : Shape := ⟨5, ![2, 4, 1024, 8, 64]⟩
abbrev S8x1024x8x64 : Shape := ⟨4, ![8, 1024, 8, 64]⟩
abbrev S8x8x128x8x64 : Shape := ⟨5, ![8, 8, 128, 8, 64]⟩
abbrev S8x1x128x8x64 : Shape := ⟨5, ![8, 1, 128, 8, 64]⟩
abbrev S8x7x128x8x64 : Shape := ⟨5, ![8, 7, 128, 8, 64]⟩
abbrev S8x8x256x8x64 : Shape := ⟨5, ![8, 8, 256, 8, 64]⟩
abbrev S8x8x8x256x64 : Shape := ⟨5, ![8, 8, 8, 256, 64]⟩
abbrev S8x8x8x1x256x64 : Shape := ⟨6, ![8, 8, 8, 1, 256, 64]⟩
abbrev S8x8x8x128x64 : Shape := ⟨5, ![8, 8, 8, 128, 64]⟩
abbrev S8x8x8x128x1x64 : Shape := ⟨6, ![8, 8, 8, 128, 1, 64]⟩
abbrev S8x8x8x128x256x64 : Shape := ⟨6, ![8, 8, 8, 128, 256, 64]⟩
abbrev S8x8x8x128x256 : Shape := ⟨5, ![8, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S8x8x8x128 : Shape := ⟨4, ![8, 8, 8, 128]⟩
abbrev S8x8x8x128x1 : Shape := ⟨5, ![8, 8, 8, 128, 1]⟩
abbrev S8x8x8x128x256x1 : Shape := ⟨6, ![8, 8, 8, 128, 256, 1]⟩
abbrev S8x8x128x8 : Shape := ⟨4, ![8, 8, 128, 8]⟩
abbrev S2x4x1024x8 : Shape := ⟨4, ![2, 4, 1024, 8]⟩
abbrev S2x1024x4x8 : Shape := ⟨4, ![2, 1024, 4, 8]⟩
abbrev S1x2x4096x8 : Shape := ⟨4, ![1, 2, 4096, 8]⟩
abbrev S3x2x4096x8 : Shape := ⟨4, ![3, 2, 4096, 8]⟩
abbrev S2x4096x8x1 : Shape := ⟨4, ![2, 4096, 8, 1]⟩
abbrev S8192x8 : Shape := ⟨2, ![8192, 8]⟩
abbrev S8192x128 : Shape := ⟨2, ![8192, 128]⟩
abbrev S2x1024x4x128 : Shape := ⟨4, ![2, 1024, 4, 128]⟩
abbrev S2x4x1024x128 : Shape := ⟨4, ![2, 4, 1024, 128]⟩
abbrev S128x1536 : Shape := ⟨2, ![128, 1536]⟩
abbrev S128x512 : Shape := ⟨2, ![128, 512]⟩
abbrev S128x128 : Shape := ⟨2, ![128, 128]⟩
abbrev S1x128 : Shape := ⟨2, ![1, 128]⟩
abbrev S256x128 : Shape := ⟨2, ![256, 128]⟩

abbrev nBuf : Space → Nat
  | .hbm => 210
  | .vmem => 24
  | .smem => 0
  | _ => 0

abbrev hbmTy0_0 (i : Nat) : BufTy := match i % 128 with
  | 0 => ⟨S2x4096x8x64, .f32⟩
  | 1 => ⟨S2x4096x8x64, .f32⟩
  | 2 => ⟨S2x4096x8x64, .f32⟩
  | 3 => ⟨S2x4096x8x64, .f32⟩
  | 4 => ⟨S2x4096x8, .f32⟩
  | 5 => ⟨S2x4096x8x64, .f32⟩
  | 6 => ⟨S2x4096x8, .f32⟩
  | 7 => ⟨S2x4096x8x64, .f32⟩
  | 8 => ⟨S2x4096x512, .f32⟩
  | 9 => ⟨S8192x512, .f32⟩
  | 10 => ⟨S_, .f32⟩
  | 11 => ⟨S8192x512, .f32⟩
  | 12 => ⟨S8192x512, .f32⟩
  | 13 => ⟨S8192x512, .bf16⟩
  | 14 => ⟨S2x1024x4x512, .bf16⟩
  | 15 => ⟨S2x4x1024x512, .bf16⟩
  | 16 => ⟨S8192x512, .bf16⟩
  | 17 => ⟨S2x4096x512, .f32⟩
  | 18 => ⟨S8192x512, .f32⟩
  | 19 => ⟨S_, .f32⟩
  | 20 => ⟨S8192x512, .f32⟩
  | 21 => ⟨S8192x512, .f32⟩
  | 22 => ⟨S8192x512, .bf16⟩
  | 23 => ⟨S2x1024x4x512, .bf16⟩
  | 24 => ⟨S2x4x1024x512, .bf16⟩
  | 25 => ⟨S8192x512, .bf16⟩
  | 26 => ⟨S2x4096x512, .f32⟩
  | 27 => ⟨S8192x512, .f32⟩
  | 28 => ⟨S_, .f32⟩
  | 29 => ⟨S8192x512, .f32⟩
  | 30 => ⟨S8192x512, .f32⟩
  | 31 => ⟨S8192x512, .bf16⟩
  | 32 => ⟨S2x1024x4x512, .bf16⟩
  | 33 => ⟨S2x4x1024x512, .bf16⟩
  | 34 => ⟨S8192x512, .bf16⟩
  | 35 => ⟨S8192x1536, .bf16⟩
  | 36 => ⟨S8192x512, .f32⟩
  | 37 => ⟨S2x1024x4x512, .f32⟩
  | 38 => ⟨S2x4x1024x512, .f32⟩
  | 39 => ⟨S8192x512, .f32⟩
  | 40 => ⟨S2x1024x4x8x64, .f32⟩
  | 41 => ⟨S2x4x1024x8x64, .f32⟩
  | 42 => ⟨S8x1024x8x64, .f32⟩
  | 43 => ⟨S8x8x128x8x64, .f32⟩
  | 44 => ⟨S2x1024x4x8x64, .f32⟩
  | 45 => ⟨S2x4x1024x8x64, .f32⟩
  | 46 => ⟨S8x1024x8x64, .f32⟩
  | 47 => ⟨S8x8x128x8x64, .f32⟩
  | 48 => ⟨S8x1x128x8x64, .f32⟩
  | 49 => ⟨S_, .f32⟩
  | 50 => ⟨S8x1x128x8x64, .f32⟩
  | 51 => ⟨S8x7x128x8x64, .f32⟩
  | 52 => ⟨S8x8x128x8x64, .f32⟩
  | 53 => ⟨S8x8x256x8x64, .f32⟩
  | 54 => ⟨S2x1024x4x8x64, .f32⟩
  | 55 => ⟨S2x4x1024x8x64, .f32⟩
  | 56 => ⟨S8x1024x8x64, .f32⟩
  | 57 => ⟨S8x8x128x8x64, .f32⟩
  | 58 => ⟨S8x1x128x8x64, .f32⟩
  | 59 => ⟨S_, .f32⟩
  | 60 => ⟨S8x1x128x8x64, .f32⟩
  | 61 => ⟨S8x7x128x8x64, .f32⟩
  | 62 => ⟨S8x8x128x8x64, .f32⟩
  | 63 => ⟨S8x8x256x8x64, .f32⟩
  | 64 => ⟨S8x8x8x256x64, .f32⟩
  | 65 => ⟨S8x8x8x1x256x64, .f32⟩
  | 66 => ⟨S8x8x8x128x64, .f32⟩
  | 67 => ⟨S8x8x8x128x1x64, .f32⟩
  | 68 => ⟨S8x8x8x128x256x64, .f32⟩
  | 69 => ⟨S8x8x8x128x256x64, .f32⟩
  | 70 => ⟨S8x8x8x128x256x64, .f32⟩
  | 71 => ⟨S_, .f32⟩
  | 72 => ⟨S8x8x8x128x256, .f32⟩
  | 73 => ⟨S_, .f32⟩
  | 74 => ⟨S8x8x8x128x256, .f32⟩
  | 75 => ⟨S8x8x8x128x256, .f32⟩
  | 76 => ⟨S128, .i32⟩
  | 77 => ⟨S128x1, .i32⟩
  | 78 => ⟨S256, .i32⟩
  | 79 => ⟨S1x256, .i32⟩
  | 80 => ⟨S_, .i32⟩
  | 81 => ⟨S128x1, .i32⟩
  | 82 => ⟨S128x1, .i32⟩
  | 83 => ⟨S128x256, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i1⟩
  | 92 => ⟨S128x256, .i1⟩
  | 93 => ⟨S8, .i32⟩
  | 94 => ⟨S8x1x1, .i32⟩
  | 95 => ⟨S_, .i32⟩
  | 96 => ⟨S8x1x1, .i32⟩
  | 97 => ⟨S8x1x1, .i32⟩
  | 98 => ⟨S_, .i32⟩
  | 99 => ⟨S8x1x1, .i32⟩
  | 100 => ⟨S8x1x1, .i32⟩
  | 101 => ⟨S1x1x256, .i32⟩
  | 102 => ⟨S8x1x256, .i32⟩
  | 103 => ⟨S8x1x256, .i32⟩
  | 104 => ⟨S8x1x256, .i32⟩
  | 105 => ⟨S1x128x256, .i1⟩
  | 106 => ⟨S_, .i32⟩
  | 107 => ⟨S8x1x256, .i32⟩
  | 108 => ⟨S8x1x256, .i1⟩
  | 109 => ⟨S8x128x256, .i1⟩
  | 110 => ⟨S8x128x256, .i1⟩
  | 111 => ⟨S8x128x256, .i1⟩
  | 112 => ⟨S1x8x1x128x256, .i1⟩
  | 113 => ⟨S_, .f32⟩
  | 114 => ⟨S_, .f32⟩
  | 115 => ⟨S8x8x8x128x256, .i1⟩
  | 116 => ⟨S8x8x8x128x256, .f32⟩
  | 117 => ⟨S8x8x8x128x256, .f32⟩
  | 118 => ⟨S_, .f32⟩
  | 119 => ⟨S8x8x8x128, .f32⟩
  | 120 => ⟨S8x8x8x128x1, .f32⟩
  | 121 => ⟨S8x8x8x128x256, .f32⟩
  | 122 => ⟨S8x8x8x128x256, .f32⟩
  | 123 => ⟨S8x8x8x128x256, .f32⟩
  | 124 => ⟨S_, .f32⟩
  | 125 => ⟨S8x8x8x128, .f32⟩
  | 126 => ⟨S8x8x8x128x1, .f32⟩
  | 127 => ⟨S8x8x8x128x256, .f32⟩
  | _ => ⟨S2x4096x8x64, .f32⟩

abbrev hbmTy0_1 (i : Nat) : BufTy := match i % 128 with
  | 0 => ⟨S8x8x8x128x256, .f32⟩
  | 1 => ⟨S8x8x8x256x64, .f32⟩
  | 2 => ⟨S8x8x8x1x256x64, .f32⟩
  | 3 => ⟨S8x8x8x128x256x1, .f32⟩
  | 4 => ⟨S8x8x8x128x256x64, .f32⟩
  | 5 => ⟨S8x8x8x128x256x64, .f32⟩
  | 6 => ⟨S8x8x8x128x256x64, .f32⟩
  | 7 => ⟨S_, .f32⟩
  | 8 => ⟨S8x8x8x128x64, .f32⟩
  | 9 => ⟨S8x8x128x8x64, .f32⟩
  | 10 => ⟨S8x8x8x128x1, .f32⟩
  | 11 => ⟨S8x8x8x128x1, .f32⟩
  | 12 => ⟨S8x8x8x128, .f32⟩
  | 13 => ⟨S2x4x1024x8x64, .f32⟩
  | 14 => ⟨S2x1024x4x8x64, .f32⟩
  | 15 => ⟨S2x4096x8x64, .f32⟩
  | 16 => ⟨S8x8x128x8, .f32⟩
  | 17 => ⟨S2x4x1024x8, .f32⟩
  | 18 => ⟨S2x1024x4x8, .f32⟩
  | 19 => ⟨S2x4096x8, .f32⟩
  | 20 => ⟨S1x2x4096x8, .f32⟩
  | 21 => ⟨S1x2x4096x8, .f32⟩
  | 22 => ⟨S1x2x4096x8, .f32⟩
  | 23 => ⟨S3x2x4096x8, .f32⟩
  | 24 => ⟨S_, .f32⟩
  | 25 => ⟨S2x4096x8, .f32⟩
  | 26 => ⟨S_, .f32⟩
  | 27 => ⟨S2x4096x8, .f32⟩
  | 28 => ⟨S2x4096x8, .f32⟩
  | 29 => ⟨S1x2x4096x8, .f32⟩
  | 30 => ⟨S3x2x4096x8, .f32⟩
  | 31 => ⟨S3x2x4096x8, .f32⟩
  | 32 => ⟨S3x2x4096x8, .f32⟩
  | 33 => ⟨S_, .f32⟩
  | 34 => ⟨S2x4096x8, .f32⟩
  | 35 => ⟨S1x2x4096x8, .f32⟩
  | 36 => ⟨S3x2x4096x8, .f32⟩
  | 37 => ⟨S3x2x4096x8, .f32⟩
  | 38 => ⟨S1x2x4096x8, .f32⟩
  | 39 => ⟨S2x4096x8, .f32⟩
  | 40 => ⟨S2x4096x8x1, .f32⟩
  | 41 => ⟨S2x4096x8x64, .f32⟩
  | 42 => ⟨S2x4096x8x64, .f32⟩
  | 43 => ⟨S1x2x4096x8, .f32⟩
  | 44 => ⟨S2x4096x8, .f32⟩
  | 45 => ⟨S2x4096x8x1, .f32⟩
  | 46 => ⟨S2x4096x8x64, .f32⟩
  | 47 => ⟨S2x4096x8x64, .f32⟩
  | 48 => ⟨S2x4096x8x64, .f32⟩
  | 49 => ⟨S1x2x4096x8, .f32⟩
  | 50 => ⟨S2x4096x8, .f32⟩
  | 51 => ⟨S2x4096x8x1, .f32⟩
  | 52 => ⟨S2x4096x8x64, .f32⟩
  | 53 => ⟨S2x4096x8x64, .f32⟩
  | 54 => ⟨S2x4096x8x64, .f32⟩
  | 55 => ⟨S1x2x4096x8, .f32⟩
  | 56 => ⟨S2x4096x8, .f32⟩
  | 57 => ⟨S2x4096x8x64, .f32⟩
  | 58 => ⟨S_, .f32⟩
  | 59 => ⟨S2x4096x8, .f32⟩
  | 60 => ⟨S8192x8, .f32⟩
  | 61 => ⟨S_, .i32⟩
  | 62 => ⟨S_, .f32⟩
  | 63 => ⟨S8192x128, .f32⟩
  | 64 => ⟨S2x1024x4x128, .f32⟩
  | 65 => ⟨S2x4x1024x128, .f32⟩
  | 66 => ⟨S8192x128, .f32⟩
  | 67 => ⟨S8192x8, .f32⟩
  | 68 => ⟨S_, .i32⟩
  | 69 => ⟨S_, .f32⟩
  | 70 => ⟨S8192x128, .f32⟩
  | 71 => ⟨S2x1024x4x128, .f32⟩
  | 72 => ⟨S2x4x1024x128, .f32⟩
  | 73 => ⟨S8192x128, .f32⟩
  | 74 => ⟨S8192x8, .f32⟩
  | 75 => ⟨S_, .i32⟩
  | 76 => ⟨S_, .f32⟩
  | 77 => ⟨S8192x128, .f32⟩
  | 78 => ⟨S2x1024x4x128, .f32⟩
  | 79 => ⟨S2x4x1024x128, .f32⟩
  | 80 => ⟨S8192x128, .f32⟩
  | 81 => ⟨S8192x1536, .f32⟩
  | _ => ⟨S2x4096x8x64, .f32⟩

abbrev hbmTy (i : Nat) : BufTy := match i / 128 with
  | 0 => hbmTy0_0 i
  | 1 => hbmTy0_1 i
  | _ => ⟨S2x4096x8x64, .f32⟩

abbrev bufTy : (tb : Table) → Fin (tcTables nBuf tb) → BufTy
  | .hbm, ⟨i, _⟩ => hbmTy i
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S128x1536, .bf16⟩
  | .local _ .vmem, ⟨5, _⟩ => ⟨S128x1536, .bf16⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x1536, .f32⟩
  | .local _ .vmem, ⟨23, _⟩ => ⟨S128x1536, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_cst_5 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_6 : Ref sig .tc := ⟨.hbm, 86, rfl⟩
abbrev main_v70 : Ref sig .tc := ⟨.hbm, 87, rfl⟩
abbrev main_v71 : Ref sig .tc := ⟨.hbm, 88, rfl⟩
abbrev main_c_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_8 : Ref sig .tc := ⟨.hbm, 95, rfl⟩
abbrev main_v77 : Ref sig .tc := ⟨.hbm, 96, rfl⟩
abbrev main_v78 : Ref sig .tc := ⟨.hbm, 97, rfl⟩
abbrev main_c_9 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c_10 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_11 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_v92 : Ref sig .tc := ⟨.hbm, 117, rfl⟩
abbrev main_cst_12 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_13 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_14 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_15 : Ref sig .tc := ⟨.hbm, 152, rfl⟩
abbrev main_v124 : Ref sig .tc := ⟨.hbm, 153, rfl⟩
abbrev main_cst_16 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_17 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_18 : Ref sig .tc := ⟨.hbm, 186, rfl⟩
abbrev main_v155 : Ref sig .tc := ⟨.hbm, 187, rfl⟩
abbrev main_v156 : Ref sig .tc := ⟨.hbm, 188, rfl⟩
abbrev main_c_19 : Ref sig .tc := ⟨.hbm, 189, rfl⟩
abbrev main_call1_v0 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_c_20 : Ref sig .tc := ⟨.hbm, 196, rfl⟩
abbrev main_call2_v0 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_c_21 : Ref sig .tc := ⟨.hbm, 203, rfl⟩
abbrev main_call3_v0 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
abbrev S2x4096x8x64 : Shape := ⟨4, ![2, 4096, 8, 64]⟩
abbrev S2x4096x8 : Shape := ⟨3, ![2, 4096, 8]⟩
abbrev S2x4096x512 : Shape := ⟨3, ![2, 4096, 512]⟩
abbrev S8192x512 : Shape := ⟨2, ![8192, 512]⟩
abbrev S_ : Shape := ⟨0, ![]⟩
abbrev S2x1024x4x512 : Shape := ⟨4, ![2, 1024, 4, 512]⟩
abbrev S2x4x1024x512 : Shape := ⟨4, ![2, 4, 1024, 512]⟩
abbrev S8192x1536 : Shape := ⟨2, ![8192, 1536]⟩
abbrev S2x1024x4x8x64 : Shape := ⟨5, ![2, 1024, 4, 8, 64]⟩
abbrev S2x4x1024x8x64 : Shape := ⟨5, ![2, 4, 1024, 8, 64]⟩
abbrev S8x1024x8x64 : Shape := ⟨4, ![8, 1024, 8, 64]⟩
abbrev S8x8x128x8x64 : Shape := ⟨5, ![8, 8, 128, 8, 64]⟩
abbrev S8x1x128x8x64 : Shape := ⟨5, ![8, 1, 128, 8, 64]⟩
abbrev S8x7x128x8x64 : Shape := ⟨5, ![8, 7, 128, 8, 64]⟩
abbrev S8x8x256x8x64 : Shape := ⟨5, ![8, 8, 256, 8, 64]⟩
abbrev S8x8x8x256x64 : Shape := ⟨5, ![8, 8, 8, 256, 64]⟩
abbrev S8x8x8x1x256x64 : Shape := ⟨6, ![8, 8, 8, 1, 256, 64]⟩
abbrev S8x8x8x128x64 : Shape := ⟨5, ![8, 8, 8, 128, 64]⟩
abbrev S8x8x8x128x1x64 : Shape := ⟨6, ![8, 8, 8, 128, 1, 64]⟩
abbrev S8x8x8x128x256x64 : Shape := ⟨6, ![8, 8, 8, 128, 256, 64]⟩
abbrev S8x8x8x128x256 : Shape := ⟨5, ![8, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S8x8x8x128 : Shape := ⟨4, ![8, 8, 8, 128]⟩
abbrev S8x8x8x128x1 : Shape := ⟨5, ![8, 8, 8, 128, 1]⟩
abbrev S8x8x8x128x256x1 : Shape := ⟨6, ![8, 8, 8, 128, 256, 1]⟩
abbrev S8x8x128x8 : Shape := ⟨4, ![8, 8, 128, 8]⟩
abbrev S2x4x1024x8 : Shape := ⟨4, ![2, 4, 1024, 8]⟩
abbrev S2x1024x4x8 : Shape := ⟨4, ![2, 1024, 4, 8]⟩
abbrev S1x2x4096x8 : Shape := ⟨4, ![1, 2, 4096, 8]⟩
abbrev S3x2x4096x8 : Shape := ⟨4, ![3, 2, 4096, 8]⟩
abbrev S2x4096x8x1 : Shape := ⟨4, ![2, 4096, 8, 1]⟩
abbrev S8192x8 : Shape := ⟨2, ![8192, 8]⟩
abbrev S8192x128 : Shape := ⟨2, ![8192, 128]⟩
abbrev S2x1024x4x128 : Shape := ⟨4, ![2, 1024, 4, 128]⟩
abbrev S2x4x1024x128 : Shape := ⟨4, ![2, 4, 1024, 128]⟩
abbrev S128x1536 : Shape := ⟨2, ![128, 1536]⟩
abbrev S128x512 : Shape := ⟨2, ![128, 512]⟩
abbrev S128x128 : Shape := ⟨2, ![128, 128]⟩
abbrev S1x128 : Shape := ⟨2, ![1, 128]⟩
abbrev S256x128 : Shape := ⟨2, ![256, 128]⟩

abbrev nBuf : Space → Nat
  | .hbm => 210
  | .vmem => 24
  | .smem => 0
  | _ => 0

abbrev hbmTy0_0 (i : Nat) : BufTy := match i % 128 with
  | 0 => ⟨S2x4096x8x64, .f32⟩
  | 1 => ⟨S2x4096x8x64, .f32⟩
  | 2 => ⟨S2x4096x8x64, .f32⟩
  | 3 => ⟨S2x4096x8x64, .f32⟩
  | 4 => ⟨S2x4096x8, .f32⟩
  | 5 => ⟨S2x4096x8x64, .f32⟩
  | 6 => ⟨S2x4096x8, .f32⟩
  | 7 => ⟨S2x4096x8x64, .f32⟩
  | 8 => ⟨S2x4096x512, .f32⟩
  | 9 => ⟨S8192x512, .f32⟩
  | 10 => ⟨S_, .f32⟩
  | 11 => ⟨S8192x512, .f32⟩
  | 12 => ⟨S8192x512, .f32⟩
  | 13 => ⟨S8192x512, .bf16⟩
  | 14 => ⟨S2x1024x4x512, .bf16⟩
  | 15 => ⟨S2x4x1024x512, .bf16⟩
  | 16 => ⟨S8192x512, .bf16⟩
  | 17 => ⟨S2x4096x512, .f32⟩
  | 18 => ⟨S8192x512, .f32⟩
  | 19 => ⟨S_, .f32⟩
  | 20 => ⟨S8192x512, .f32⟩
  | 21 => ⟨S8192x512, .f32⟩
  | 22 => ⟨S8192x512, .bf16⟩
  | 23 => ⟨S2x1024x4x512, .bf16⟩
  | 24 => ⟨S2x4x1024x512, .bf16⟩
  | 25 => ⟨S8192x512, .bf16⟩
  | 26 => ⟨S2x4096x512, .f32⟩
  | 27 => ⟨S8192x512, .f32⟩
  | 28 => ⟨S_, .f32⟩
  | 29 => ⟨S8192x512, .f32⟩
  | 30 => ⟨S8192x512, .f32⟩
  | 31 => ⟨S8192x512, .bf16⟩
  | 32 => ⟨S2x1024x4x512, .bf16⟩
  | 33 => ⟨S2x4x1024x512, .bf16⟩
  | 34 => ⟨S8192x512, .bf16⟩
  | 35 => ⟨S8192x1536, .bf16⟩
  | 36 => ⟨S8192x512, .f32⟩
  | 37 => ⟨S2x1024x4x512, .f32⟩
  | 38 => ⟨S2x4x1024x512, .f32⟩
  | 39 => ⟨S8192x512, .f32⟩
  | 40 => ⟨S2x1024x4x8x64, .f32⟩
  | 41 => ⟨S2x4x1024x8x64, .f32⟩
  | 42 => ⟨S8x1024x8x64, .f32⟩
  | 43 => ⟨S8x8x128x8x64, .f32⟩
  | 44 => ⟨S2x1024x4x8x64, .f32⟩
  | 45 => ⟨S2x4x1024x8x64, .f32⟩
  | 46 => ⟨S8x1024x8x64, .f32⟩
  | 47 => ⟨S8x8x128x8x64, .f32⟩
  | 48 => ⟨S8x1x128x8x64, .f32⟩
  | 49 => ⟨S_, .f32⟩
  | 50 => ⟨S8x1x128x8x64, .f32⟩
  | 51 => ⟨S8x7x128x8x64, .f32⟩
  | 52 => ⟨S8x8x128x8x64, .f32⟩
  | 53 => ⟨S8x8x256x8x64, .f32⟩
  | 54 => ⟨S2x1024x4x8x64, .f32⟩
  | 55 => ⟨S2x4x1024x8x64, .f32⟩
  | 56 => ⟨S8x1024x8x64, .f32⟩
  | 57 => ⟨S8x8x128x8x64, .f32⟩
  | 58 => ⟨S8x1x128x8x64, .f32⟩
  | 59 => ⟨S_, .f32⟩
  | 60 => ⟨S8x1x128x8x64, .f32⟩
  | 61 => ⟨S8x7x128x8x64, .f32⟩
  | 62 => ⟨S8x8x128x8x64, .f32⟩
  | 63 => ⟨S8x8x256x8x64, .f32⟩
  | 64 => ⟨S8x8x8x256x64, .f32⟩
  | 65 => ⟨S8x8x8x1x256x64, .f32⟩
  | 66 => ⟨S8x8x8x128x64, .f32⟩
  | 67 => ⟨S8x8x8x128x1x64, .f32⟩
  | 68 => ⟨S8x8x8x128x256x64, .f32⟩
  | 69 => ⟨S8x8x8x128x256x64, .f32⟩
  | 70 => ⟨S8x8x8x128x256x64, .f32⟩
  | 71 => ⟨S_, .f32⟩
  | 72 => ⟨S8x8x8x128x256, .f32⟩
  | 73 => ⟨S_, .f32⟩
  | 74 => ⟨S8x8x8x128x256, .f32⟩
  | 75 => ⟨S8x8x8x128x256, .f32⟩
  | 76 => ⟨S128, .i32⟩
  | 77 => ⟨S128x1, .i32⟩
  | 78 => ⟨S256, .i32⟩
  | 79 => ⟨S1x256, .i32⟩
  | 80 => ⟨S_, .i32⟩
  | 81 => ⟨S128x1, .i32⟩
  | 82 => ⟨S128x1, .i32⟩
  | 83 => ⟨S128x256, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i1⟩
  | 92 => ⟨S128x256, .i1⟩
  | 93 => ⟨S8, .i32⟩
  | 94 => ⟨S8x1x1, .i32⟩
  | 95 => ⟨S_, .i32⟩
  | 96 => ⟨S8x1x1, .i32⟩
  | 97 => ⟨S8x1x1, .i32⟩
  | 98 => ⟨S_, .i32⟩
  | 99 => ⟨S8x1x1, .i32⟩
  | 100 => ⟨S8x1x1, .i32⟩
  | 101 => ⟨S1x1x256, .i32⟩
  | 102 => ⟨S8x1x256, .i32⟩
  | 103 => ⟨S8x1x256, .i32⟩
  | 104 => ⟨S8x1x256, .i32⟩
  | 105 => ⟨S1x128x256, .i1⟩
  | 106 => ⟨S_, .i32⟩
  | 107 => ⟨S8x1x256, .i32⟩
  | 108 => ⟨S8x1x256, .i1⟩
  | 109 => ⟨S8x128x256, .i1⟩
  | 110 => ⟨S8x128x256, .i1⟩
  | 111 => ⟨S8x128x256, .i1⟩
  | 112 => ⟨S1x8x1x128x256, .i1⟩
  | 113 => ⟨S_, .f32⟩
  | 114 => ⟨S_, .f32⟩
  | 115 => ⟨S8x8x8x128x256, .i1⟩
  | 116 => ⟨S8x8x8x128x256, .f32⟩
  | 117 => ⟨S8x8x8x128x256, .f32⟩
  | 118 => ⟨S_, .f32⟩
  | 119 => ⟨S8x8x8x128, .f32⟩
  | 120 => ⟨S8x8x8x128x1, .f32⟩
  | 121 => ⟨S8x8x8x128x256, .f32⟩
  | 122 => ⟨S8x8x8x128x256, .f32⟩
  | 123 => ⟨S8x8x8x128x256, .f32⟩
  | 124 => ⟨S_, .f32⟩
  | 125 => ⟨S8x8x8x128, .f32⟩
  | 126 => ⟨S8x8x8x128x1, .f32⟩
  | 127 => ⟨S8x8x8x128x256, .f32⟩
  | _ => ⟨S2x4096x8x64, .f32⟩

abbrev hbmTy0_1 (i : Nat) : BufTy := match i % 128 with
  | 0 => ⟨S8x8x8x128x256, .f32⟩
  | 1 => ⟨S8x8x8x256x64, .f32⟩
  | 2 => ⟨S8x8x8x1x256x64, .f32⟩
  | 3 => ⟨S8x8x8x128x256x1, .f32⟩
  | 4 => ⟨S8x8x8x128x256x64, .f32⟩
  | 5 => ⟨S8x8x8x128x256x64, .f32⟩
  | 6 => ⟨S8x8x8x128x256x64, .f32⟩
  | 7 => ⟨S_, .f32⟩
  | 8 => ⟨S8x8x8x128x64, .f32⟩
  | 9 => ⟨S8x8x128x8x64, .f32⟩
  | 10 => ⟨S8x8x8x128x1, .f32⟩
  | 11 => ⟨S8x8x8x128x1, .f32⟩
  | 12 => ⟨S8x8x8x128, .f32⟩
  | 13 => ⟨S2x4x1024x8x64, .f32⟩
  | 14 => ⟨S2x1024x4x8x64, .f32⟩
  | 15 => ⟨S2x4096x8x64, .f32⟩
  | 16 => ⟨S8x8x128x8, .f32⟩
  | 17 => ⟨S2x4x1024x8, .f32⟩
  | 18 => ⟨S2x1024x4x8, .f32⟩
  | 19 => ⟨S2x4096x8, .f32⟩
  | 20 => ⟨S1x2x4096x8, .f32⟩
  | 21 => ⟨S1x2x4096x8, .f32⟩
  | 22 => ⟨S1x2x4096x8, .f32⟩
  | 23 => ⟨S3x2x4096x8, .f32⟩
  | 24 => ⟨S_, .f32⟩
  | 25 => ⟨S2x4096x8, .f32⟩
  | 26 => ⟨S_, .f32⟩
  | 27 => ⟨S2x4096x8, .f32⟩
  | 28 => ⟨S2x4096x8, .f32⟩
  | 29 => ⟨S1x2x4096x8, .f32⟩
  | 30 => ⟨S3x2x4096x8, .f32⟩
  | 31 => ⟨S3x2x4096x8, .f32⟩
  | 32 => ⟨S3x2x4096x8, .f32⟩
  | 33 => ⟨S_, .f32⟩
  | 34 => ⟨S2x4096x8, .f32⟩
  | 35 => ⟨S1x2x4096x8, .f32⟩
  | 36 => ⟨S3x2x4096x8, .f32⟩
  | 37 => ⟨S3x2x4096x8, .f32⟩
  | 38 => ⟨S1x2x4096x8, .f32⟩
  | 39 => ⟨S2x4096x8, .f32⟩
  | 40 => ⟨S2x4096x8x1, .f32⟩
  | 41 => ⟨S2x4096x8x64, .f32⟩
  | 42 => ⟨S2x4096x8x64, .f32⟩
  | 43 => ⟨S1x2x4096x8, .f32⟩
  | 44 => ⟨S2x4096x8, .f32⟩
  | 45 => ⟨S2x4096x8x1, .f32⟩
  | 46 => ⟨S2x4096x8x64, .f32⟩
  | 47 => ⟨S2x4096x8x64, .f32⟩
  | 48 => ⟨S2x4096x8x64, .f32⟩
  | 49 => ⟨S1x2x4096x8, .f32⟩
  | 50 => ⟨S2x4096x8, .f32⟩
  | 51 => ⟨S2x4096x8x1, .f32⟩
  | 52 => ⟨S2x4096x8x64, .f32⟩
  | 53 => ⟨S2x4096x8x64, .f32⟩
  | 54 => ⟨S2x4096x8x64, .f32⟩
  | 55 => ⟨S1x2x4096x8, .f32⟩
  | 56 => ⟨S2x4096x8, .f32⟩
  | 57 => ⟨S2x4096x8x64, .f32⟩
  | 58 => ⟨S_, .f32⟩
  | 59 => ⟨S2x4096x8, .f32⟩
  | 60 => ⟨S8192x8, .f32⟩
  | 61 => ⟨S_, .i32⟩
  | 62 => ⟨S_, .f32⟩
  | 63 => ⟨S8192x128, .f32⟩
  | 64 => ⟨S2x1024x4x128, .f32⟩
  | 65 => ⟨S2x4x1024x128, .f32⟩
  | 66 => ⟨S8192x128, .f32⟩
  | 67 => ⟨S8192x8, .f32⟩
  | 68 => ⟨S_, .i32⟩
  | 69 => ⟨S_, .f32⟩
  | 70 => ⟨S8192x128, .f32⟩
  | 71 => ⟨S2x1024x4x128, .f32⟩
  | 72 => ⟨S2x4x1024x128, .f32⟩
  | 73 => ⟨S8192x128, .f32⟩
  | 74 => ⟨S8192x8, .f32⟩
  | 75 => ⟨S_, .i32⟩
  | 76 => ⟨S_, .f32⟩
  | 77 => ⟨S8192x128, .f32⟩
  | 78 => ⟨S2x1024x4x128, .f32⟩
  | 79 => ⟨S2x4x1024x128, .f32⟩
  | 80 => ⟨S8192x128, .f32⟩
  | 81 => ⟨S8192x1536, .f32⟩
  | _ => ⟨S2x4096x8x64, .f32⟩

abbrev hbmTy (i : Nat) : BufTy := match i / 128 with
  | 0 => hbmTy0_0 i
  | 1 => hbmTy0_1 i
  | _ => ⟨S2x4096x8x64, .f32⟩

abbrev bufTy : (tb : Table) → Fin (tcTables nBuf tb) → BufTy
  | .hbm, ⟨i, _⟩ => hbmTy i
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S128x1536, .bf16⟩
  | .local _ .vmem, ⟨5, _⟩ => ⟨S128x1536, .bf16⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x1536, .f32⟩
  | .local _ .vmem, ⟨23, _⟩ => ⟨S128x1536, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_cst_5 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_6 : Ref sig .tc := ⟨.hbm, 86, rfl⟩
abbrev main_v70 : Ref sig .tc := ⟨.hbm, 87, rfl⟩
abbrev main_v71 : Ref sig .tc := ⟨.hbm, 88, rfl⟩
abbrev main_c_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_8 : Ref sig .tc := ⟨.hbm, 95, rfl⟩
abbrev main_v77 : Ref sig .tc := ⟨.hbm, 96, rfl⟩
abbrev main_v78 : Ref sig .tc := ⟨.hbm, 97, rfl⟩
abbrev main_c_9 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c_10 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_11 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_v92 : Ref sig .tc := ⟨.hbm, 117, rfl⟩
abbrev main_cst_12 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_13 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_14 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_15 : Ref sig .tc := ⟨.hbm, 152, rfl⟩
abbrev main_v124 : Ref sig .tc := ⟨.hbm, 153, rfl⟩
abbrev main_cst_16 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_17 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_18 : Ref sig .tc := ⟨.hbm, 186, rfl⟩
abbrev main_v155 : Ref sig .tc := ⟨.hbm, 187, rfl⟩
abbrev main_v156 : Ref sig .tc := ⟨.hbm, 188, rfl⟩
abbrev main_c_19 : Ref sig .tc := ⟨.hbm, 189, rfl⟩
abbrev main_call1_v0 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_c_20 : Ref sig .tc := ⟨.hbm, 196, rfl⟩
abbrev main_call2_v0 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_c_21 : Ref sig .tc := ⟨.hbm, 203, rfl⟩
abbrev main_call3_v0 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F] [Named F]

def κ : String → Option EReal := fun
  | "mask" => some ⊥
  | _ => none

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x4096x8x64 : Shape := ⟨4, ![2, 4096, 8, 64]⟩
abbrev S2x4096x8 : Shape := ⟨3, ![2, 4096, 8]⟩
abbrev S2x1024x4x8x64 : Shape := ⟨5, ![2, 1024, 4, 8, 64]⟩
abbrev S2x4x1024x8x64 : Shape := ⟨5, ![2, 4, 1024, 8, 64]⟩
abbrev S8x1024x8x64 : Shape := ⟨4, ![8, 1024, 8, 64]⟩
abbrev S8x8x128x8x64 : Shape := ⟨5, ![8, 8, 128, 8, 64]⟩
abbrev S8x1x128x8x64 : Shape := ⟨5, ![8, 1, 128, 8, 64]⟩
abbrev S_ : Shape := ⟨0, ![]⟩
abbrev S8x7x128x8x64 : Shape := ⟨5, ![8, 7, 128, 8, 64]⟩
abbrev S8x8x256x8x64 : Shape := ⟨5, ![8, 8, 256, 8, 64]⟩
abbrev S8x8x8x128x256 : Shape := ⟨5, ![8, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S8x8x8x128 : Shape := ⟨4, ![8, 8, 8, 128]⟩
abbrev S8x8x8x128x1 : Shape := ⟨5, ![8, 8, 8, 128, 1]⟩
abbrev S8x8x8x64x128 : Shape := ⟨5, ![8, 8, 8, 64, 128]⟩
abbrev S8x8x128x8 : Shape := ⟨4, ![8, 8, 128, 8]⟩
abbrev S2x4x1024x8 : Shape := ⟨4, ![2, 4, 1024, 8]⟩
abbrev S2x1024x4x8 : Shape := ⟨4, ![2, 1024, 4, 8]⟩
abbrev S1x2x4096x8 : Shape := ⟨4, ![1, 2, 4096, 8]⟩
abbrev S3x2x4096x8 : Shape := ⟨4, ![3, 2, 4096, 8]⟩
abbrev S2x4096x8x1 : Shape := ⟨4, ![2, 4096, 8, 1]⟩
abbrev S8x8x8x64x256 : Shape := ⟨5, ![8, 8, 8, 64, 256]⟩
abbrev S8x8x8x256x64 : Shape := ⟨5, ![8, 8, 8, 256, 64]⟩
abbrev S8x8x8x128x64 : Shape := ⟨5, ![8, 8, 8, 128, 64]⟩
abbrev S2x1024x4x512 : Shape := ⟨4, ![2, 1024, 4, 512]⟩
abbrev S2x4x1024x512 : Shape := ⟨4, ![2, 4, 1024, 512]⟩
abbrev S8192x512 : Shape := ⟨2, ![8192, 512]⟩
abbrev S8192x1536 : Shape := ⟨2, ![8192, 1536]⟩

abbrev nBuf : Space → Nat
  | .hbm => 323
  | .vmem => 0
  | .smem => 0
  | _ => 0

abbrev hbmTy0_0 (i : Nat) : BufTy := match i % 128 with
  | 0 => ⟨S2x4096x8x64, .f32⟩
  | 1 => ⟨S2x4096x8x64, .f32⟩
  | 2 => ⟨S2x4096x8x64, .f32⟩
  | 3 => ⟨S2x4096x8x64, .f32⟩
  | 4 => ⟨S2x4096x8, .f32⟩
  | 5 => ⟨S2x4096x8x64, .f32⟩
  | 6 => ⟨S2x4096x8, .f32⟩
  | 7 => ⟨S2x4096x8x64, .f32⟩
  | 8 => ⟨S2x1024x4x8x64, .f32⟩
  | 9 => ⟨S2x4x1024x8x64, .f32⟩
  | 10 => ⟨S8x1024x8x64, .f32⟩
  | 11 => ⟨S8x8x128x8x64, .f32⟩
  | 12 => ⟨S2x1024x4x8x64, .f32⟩
  | 13 => ⟨S2x4x1024x8x64, .f32⟩
  | 14 => ⟨S8x1024x8x64, .f32⟩
  | 15 => ⟨S8x8x128x8x64, .f32⟩
  | 16 => ⟨S8x1x128x8x64, .f32⟩
  | 17 => ⟨S_, .f32⟩
  | 18 => ⟨S8x1x128x8x64, .f32⟩
  | 19 => ⟨S8x7x128x8x64, .f32⟩
  | 20 => ⟨S8x8x128x8x64, .f32⟩
  | 21 => ⟨S_, .f32⟩
  | 22 => ⟨S8x1x128x8x64, .f32⟩
  | 23 => ⟨S8x8x256x8x64, .f32⟩
  | 24 => ⟨S2x1024x4x8x64, .f32⟩
  | 25 => ⟨S2x4x1024x8x64, .f32⟩
  | 26 => ⟨S8x1024x8x64, .f32⟩
  | 27 => ⟨S8x8x128x8x64, .f32⟩
  | 28 => ⟨S8x1x128x8x64, .f32⟩
  | 29 => ⟨S_, .f32⟩
  | 30 => ⟨S8x1x128x8x64, .f32⟩
  | 31 => ⟨S8x7x128x8x64, .f32⟩
  | 32 => ⟨S8x8x128x8x64, .f32⟩
  | 33 => ⟨S_, .f32⟩
  | 34 => ⟨S8x1x128x8x64, .f32⟩
  | 35 => ⟨S8x8x256x8x64, .f32⟩
  | 36 => ⟨S8x8x8x128x256, .f32⟩
  | 37 => ⟨S_, .f32⟩
  | 38 => ⟨S8x8x8x128x256, .f32⟩
  | 39 => ⟨S8x8x8x128x256, .f32⟩
  | 40 => ⟨S128, .i32⟩
  | 41 => ⟨S128x1, .i32⟩
  | 42 => ⟨S256, .i32⟩
  | 43 => ⟨S1x256, .i32⟩
  | 44 => ⟨S_, .i32⟩
  | 45 => ⟨S128x1, .i32⟩
  | 46 => ⟨S128x1, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i1⟩
  | 56 => ⟨S128x256, .i1⟩
  | 57 => ⟨S8, .i32⟩
  | 58 => ⟨S8x1x1, .i32⟩
  | 59 => ⟨S_, .i32⟩
  | 60 => ⟨S8x1x1, .i32⟩
  | 61 => ⟨S8x1x1, .i32⟩
  | 62 => ⟨S_, .i32⟩
  | 63 => ⟨S8x1x1, .i32⟩
  | 64 => ⟨S8x1x1, .i32⟩
  | 65 => ⟨S1x1x256, .i32⟩
  | 66 => ⟨S8x1x256, .i32⟩
  | 67 => ⟨S8x1x256, .i32⟩
  | 68 => ⟨S8x1x256, .i32⟩
  | 69 => ⟨S1x128x256, .i1⟩
  | 70 => ⟨S_, .i32⟩
  | 71 => ⟨S8x1x256, .i32⟩
  | 72 => ⟨S8x1x256, .i1⟩
  | 73 => ⟨S8x128x256, .i1⟩
  | 74 => ⟨S8x128x256, .i1⟩
  | 75 => ⟨S8x128x256, .i1⟩
  | 76 => ⟨S1x8x1x128x256, .i1⟩
  | 77 => ⟨S_, .f32⟩
  | 78 => ⟨S_, .f32⟩
  | 79 => ⟨S8x8x8x128x256, .i1⟩
  | 80 => ⟨S8x8x8x128x256, .f32⟩
  | 81 => ⟨S8x8x8x128x256, .f32⟩
  | 82 => ⟨S_, .f32⟩
  | 83 => ⟨S8x8x8x128x256, .f32⟩
  | 84 => ⟨S_, .f32⟩
  | 85 => ⟨S8x8x8x128, .f32⟩
  | 86 => ⟨S8x8x8x128x1, .f32⟩
  | 87 => ⟨S8x8x8x128x256, .f32⟩
  | 88 => ⟨S8x8x8x128x256, .i1⟩
  | 89 => ⟨S8x8x8x128x256, .f32⟩
  | 90 => ⟨S_, .f32⟩
  | 91 => ⟨S8x8x8x128, .f32⟩
  | 92 => ⟨S8x8x8x128x1, .f32⟩
  | 93 => ⟨S8x8x8x128x256, .f32⟩
  | 94 => ⟨S8x8x8x128x256, .f32⟩
  | 95 => ⟨S8x8x8x128x256, .f32⟩
  | 96 => ⟨S_, .f32⟩
  | 97 => ⟨S8x8x8x128, .f32⟩
  | 98 => ⟨S8x8x8x128x1, .f32⟩
  | 99 => ⟨S8x8x8x128x256, .f32⟩
  | 100 => ⟨S8x8x8x128x256, .f32⟩
  | 101 => ⟨S8x8x8x128x1, .f32⟩
  | 102 => ⟨S_, .f32⟩
  | 103 => ⟨S8x8x8x128x1, .f32⟩
  | 104 => ⟨S8x8x8x128x1, .f32⟩
  | 105 => ⟨S8x8x8x64x128, .f32⟩
  | 106 => ⟨S8x8x128x8x64, .f32⟩
  | 107 => ⟨S8x8x8x128x1, .f32⟩
  | 108 => ⟨S8x8x8x128x1, .f32⟩
  | 109 => ⟨S8x8x8x128, .f32⟩
  | 110 => ⟨S2x4x1024x8x64, .f32⟩
  | 111 => ⟨S2x1024x4x8x64, .f32⟩
  | 112 => ⟨S2x4096x8x64, .f32⟩
  | 113 => ⟨S8x8x128x8, .f32⟩
  | 114 => ⟨S2x4x1024x8, .f32⟩
  | 115 => ⟨S2x1024x4x8, .f32⟩
  | 116 => ⟨S2x4096x8, .f32⟩
  | 117 => ⟨S1x2x4096x8, .f32⟩
  | 118 => ⟨S1x2x4096x8, .f32⟩
  | 119 => ⟨S1x2x4096x8, .f32⟩
  | 120 => ⟨S3x2x4096x8, .f32⟩
  | 121 => ⟨S_, .f32⟩
  | 122 => ⟨S2x4096x8, .f32⟩
  | 123 => ⟨S_, .f32⟩
  | 124 => ⟨S2x4096x8, .f32⟩
  | 125 => ⟨S_, .f32⟩
  | 126 => ⟨S2x4096x8, .f32⟩
  | 127 => ⟨S1x2x4096x8, .f32⟩
  | _ => ⟨S2x4096x8x64, .f32⟩

abbrev hbmTy0_1 (i : Nat) : BufTy := match i % 128 with
  | 0 => ⟨S3x2x4096x8, .f32⟩
  | 1 => ⟨S3x2x4096x8, .i1⟩
  | 2 => ⟨S3x2x4096x8, .f32⟩
  | 3 => ⟨S_, .f32⟩
  | 4 => ⟨S2x4096x8, .f32⟩
  | 5 => ⟨S_, .f32⟩
  | 6 => ⟨S2x4096x8, .f32⟩
  | 7 => ⟨S2x4096x8, .f32⟩
  | 8 => ⟨S_, .f32⟩
  | 9 => ⟨S2x4096x8, .f32⟩
  | 10 => ⟨S2x4096x8, .i1⟩
  | 11 => ⟨S_, .f32⟩
  | 12 => ⟨S2x4096x8, .f32⟩
  | 13 => ⟨S2x4096x8, .i1⟩
  | 14 => ⟨S_, .f32⟩
  | 15 => ⟨S2x4096x8, .f32⟩
  | 16 => ⟨S_, .f32⟩
  | 17 => ⟨S2x4096x8, .f32⟩
  | 18 => ⟨S_, .f32⟩
  | 19 => ⟨S2x4096x8, .f32⟩
  | 20 => ⟨S2x4096x8, .f32⟩
  | 21 => ⟨S2x4096x8, .f32⟩
  | 22 => ⟨S1x2x4096x8, .f32⟩
  | 23 => ⟨S3x2x4096x8, .f32⟩
  | 24 => ⟨S3x2x4096x8, .f32⟩
  | 25 => ⟨S3x2x4096x8, .f32⟩
  | 26 => ⟨S_, .f32⟩
  | 27 => ⟨S2x4096x8, .f32⟩
  | 28 => ⟨S1x2x4096x8, .f32⟩
  | 29 => ⟨S3x2x4096x8, .f32⟩
  | 30 => ⟨S3x2x4096x8, .f32⟩
  | 31 => ⟨S1x2x4096x8, .f32⟩
  | 32 => ⟨S_, .f32⟩
  | 33 => ⟨S1x2x4096x8, .f32⟩
  | 34 => ⟨S1x2x4096x8, .f32⟩
  | 35 => ⟨S1x2x4096x8, .f32⟩
  | 36 => ⟨S2x4096x8, .f32⟩
  | 37 => ⟨S2x4096x8x1, .f32⟩
  | 38 => ⟨S2x4096x8x64, .f32⟩
  | 39 => ⟨S2x4096x8x64, .f32⟩
  | 40 => ⟨S1x2x4096x8, .f32⟩
  | 41 => ⟨S2x4096x8, .f32⟩
  | 42 => ⟨S2x4096x8x1, .f32⟩
  | 43 => ⟨S2x4096x8x64, .f32⟩
  | 44 => ⟨S2x4096x8x64, .f32⟩
  | 45 => ⟨S2x4096x8x64, .f32⟩
  | 46 => ⟨S1x2x4096x8, .f32⟩
  | 47 => ⟨S2x4096x8, .f32⟩
  | 48 => ⟨S2x4096x8x1, .f32⟩
  | 49 => ⟨S2x4096x8x64, .f32⟩
  | 50 => ⟨S2x4096x8x64, .f32⟩
  | 51 => ⟨S2x4096x8x64, .f32⟩
  | 52 => ⟨S1x2x4096x8, .f32⟩
  | 53 => ⟨S2x4096x8, .f32⟩
  | 54 => ⟨S2x4096x8x64, .f32⟩
  | 55 => ⟨S2x4096x8x64, .f32⟩
  | 56 => ⟨S2x4096x8x64, .f32⟩
  | 57 => ⟨S_, .f32⟩
  | 58 => ⟨S2x4096x8, .f32⟩
  | 59 => ⟨S2x4096x8x1, .f32⟩
  | 60 => ⟨S_, .f32⟩
  | 61 => ⟨S2x4096x8, .f32⟩
  | 62 => ⟨S1x2x4096x8, .f32⟩
  | 63 => ⟨S_, .f32⟩
  | 64 => ⟨S3x2x4096x8, .f32⟩
  | 65 => ⟨S2x4096x8x64, .f32⟩
  | 66 => ⟨S2x4096x8x64, .f32⟩
  | 67 => ⟨S2x4096x8x64, .f32⟩
  | 68 => ⟨S_, .f32⟩
  | 69 => ⟨S2x4096x8, .f32⟩
  | 70 => ⟨S2x4096x8x1, .f32⟩
  | 71 => ⟨S_, .f32⟩
  | 72 => ⟨S2x4096x8, .f32⟩
  | 73 => ⟨S1x2x4096x8, .f32⟩
  | 74 => ⟨S_, .f32⟩
  | 75 => ⟨S3x2x4096x8, .f32⟩
  | 76 => ⟨S3x2x4096x8, .f32⟩
  | 77 => ⟨S2x4096x8x64, .f32⟩
  | 78 => ⟨S_, .f32⟩
  | 79 => ⟨S2x4096x8, .f32⟩
  | 80 => ⟨S2x4096x8x1, .f32⟩
  | 81 => ⟨S_, .f32⟩
  | 82 => ⟨S2x4096x8, .f32⟩
  | 83 => ⟨S1x2x4096x8, .f32⟩
  | 84 => ⟨S_, .f32⟩
  | 85 => ⟨S3x2x4096x8, .f32⟩
  | 86 => ⟨S3x2x4096x8, .f32⟩
  | 87 => ⟨S3x2x4096x8, .f32⟩
  | 88 => ⟨S3x2x4096x8, .f32⟩
  | 89 => ⟨S3x2x4096x8, .f32⟩
  | 90 => ⟨S_, .f32⟩
  | 91 => ⟨S2x4096x8, .f32⟩
  | 92 => ⟨S1x2x4096x8, .f32⟩
  | 93 => ⟨S1x2x4096x8, .f32⟩
  | 94 => ⟨S3x2x4096x8, .f32⟩
  | 95 => ⟨S3x2x4096x8, .f32⟩
  | 96 => ⟨S_, .f32⟩
  | 97 => ⟨S2x4096x8, .f32⟩
  | 98 => ⟨S3x2x4096x8, .f32⟩
  | 99 => ⟨S3x2x4096x8, .f32⟩
  | 100 => ⟨S3x2x4096x8, .f32⟩
  | 101 => ⟨S1x2x4096x8, .f32⟩
  | 102 => ⟨S2x4096x8, .f32⟩
  | 103 => ⟨S1x2x4096x8, .f32⟩
  | 104 => ⟨S2x4096x8, .f32⟩
  | 105 => ⟨S1x2x4096x8, .f32⟩
  | 106 => ⟨S2x4096x8, .f32⟩
  | 107 => ⟨S2x1024x4x8, .f32⟩
  | 108 => ⟨S2x4x1024x8, .f32⟩
  | 109 => ⟨S8x8x128x8, .f32⟩
  | 110 => ⟨S8x8x8x128, .f32⟩
  | 111 => ⟨S2x1024x4x8x64, .f32⟩
  | 112 => ⟨S2x4x1024x8x64, .f32⟩
  | 113 => ⟨S8x8x128x8x64, .f32⟩
  | 114 => ⟨S8x8x8x128x1, .f32⟩
  | 115 => ⟨S8x8x8x128x1, .f32⟩
  | 116 => ⟨S8x8x8x64x128, .f32⟩
  | 117 => ⟨S8x8x8x128x256, .f32⟩
  | 118 => ⟨S8x8x8x64x256, .f32⟩
  | 119 => ⟨S8x8x256x8x64, .f32⟩
  | 120 => ⟨S8x8x8x128x256, .f32⟩
  | 121 => ⟨S8x8x8x128x256, .f32⟩
  | 122 => ⟨S8x8x8x128x256, .f32⟩
  | 123 => ⟨S_, .f32⟩
  | 124 => ⟨S8x8x8x128, .f32⟩
  | 125 => ⟨S8x8x8x128x1, .f32⟩
  | 126 => ⟨S8x8x8x128x1, .f32⟩
  | 127 => ⟨S8x8x8x128x1, .f32⟩
  | _ => ⟨S2x4096x8x64, .f32⟩

abbrev hbmTy0_2 (i : Nat) : BufTy := match i % 128 with
  | 0 => ⟨S8x8x8x128x256, .f32⟩
  | 1 => ⟨S8x8x8x128x256, .f32⟩
  | 2 => ⟨S_, .f32⟩
  | 3 => ⟨S8x8x8x128, .f32⟩
  | 4 => ⟨S8x8x8x128x256, .f32⟩
  | 5 => ⟨S8x8x8x128x256, .f32⟩
  | 6 => ⟨S8x8x8x128x256, .f32⟩
  | 7 => ⟨S8x8x8x128x256, .f32⟩
  | 8 => ⟨S_, .f32⟩
  | 9 => ⟨S8x8x8x128, .f32⟩
  | 10 => ⟨S8x8x8x128x1, .f32⟩
  | 11 => ⟨S8x8x8x128x1, .f32⟩
  | 12 => ⟨S_, .f32⟩
  | 13 => ⟨S8x8x8x128, .f32⟩
  | 14 => ⟨S8x8x8x128, .f32⟩
  | 15 => ⟨S8x8x8x128x256, .f32⟩
  | 16 => ⟨S8x8x8x128x256, .f32⟩
  | 17 => ⟨S8x8x8x128x256, .f32⟩
  | 18 => ⟨S_, .f32⟩
  | 19 => ⟨S8x8x8x128x256, .f32⟩
  | 20 => ⟨S8x8x8x128x256, .f32⟩
  | 21 => ⟨S_, .f32⟩
  | 22 => ⟨S8x8x8x128x256, .f32⟩
  | 23 => ⟨S8x8x8x128x256, .f32⟩
  | 24 => ⟨S8x8x8x256x64, .f32⟩
  | 25 => ⟨S8x8x256x8x64, .f32⟩
  | 26 => ⟨S8x8x8x128x64, .f32⟩
  | 27 => ⟨S8x8x128x8x64, .f32⟩
  | 28 => ⟨S8x8x128x8x64, .f32⟩
  | 29 => ⟨S8x8x128x8x64, .f32⟩
  | 30 => ⟨S8x1x128x8x64, .f32⟩
  | 31 => ⟨S8x7x128x8x64, .f32⟩
  | 32 => ⟨S_, .f32⟩
  | 33 => ⟨S8x8x128x8x64, .f32⟩
  | 34 => ⟨S8x8x128x8x64, .f32⟩
  | 35 => ⟨S8x1024x8x64, .f32⟩
  | 36 => ⟨S2x4x1024x8x64, .f32⟩
  | 37 => ⟨S2x1024x4x8x64, .f32⟩
  | 38 => ⟨S2x4096x8x64, .f32⟩
  | 39 => ⟨S8x8x128x8x64, .f32⟩
  | 40 => ⟨S8x8x128x8x64, .f32⟩
  | 41 => ⟨S8x1x128x8x64, .f32⟩
  | 42 => ⟨S8x7x128x8x64, .f32⟩
  | 43 => ⟨S_, .f32⟩
  | 44 => ⟨S8x8x128x8x64, .f32⟩
  | 45 => ⟨S8x8x128x8x64, .f32⟩
  | 46 => ⟨S8x1024x8x64, .f32⟩
  | 47 => ⟨S2x4x1024x8x64, .f32⟩
  | 48 => ⟨S2x1024x4x8x64, .f32⟩
  | 49 => ⟨S2x4096x8x64, .f32⟩
  | 50 => ⟨S8x1024x8x64, .f32⟩
  | 51 => ⟨S2x4x1024x8x64, .f32⟩
  | 52 => ⟨S2x1024x4x8x64, .f32⟩
  | 53 => ⟨S2x4096x8x64, .f32⟩
  | 54 => ⟨S2x1024x4x512, .f32⟩
  | 55 => ⟨S2x4x1024x512, .f32⟩
  | 56 => ⟨S8192x512, .f32⟩
  | 57 => ⟨S_, .f32⟩
  | 58 => ⟨S8192x512, .f32⟩
  | 59 => ⟨S8192x512, .f32⟩
  | 60 => ⟨S2x1024x4x512, .f32⟩
  | 61 => ⟨S2x4x1024x512, .f32⟩
  | 62 => ⟨S8192x512, .f32⟩
  | 63 => ⟨S2x1024x4x512, .f32⟩
  | 64 => ⟨S2x4x1024x512, .f32⟩
  | 65 => ⟨S8192x512, .f32⟩
  | 66 => ⟨S8192x1536, .f32⟩
  | _ => ⟨S2x4096x8x64, .f32⟩

abbrev hbmTy (i : Nat) : BufTy := match i / 128 with
  | 0 => hbmTy0_0 i
  | 1 => hbmTy0_1 i
  | 2 => hbmTy0_2 i
  | _ => ⟨S2x4096x8x64, .f32⟩

abbrev bufTy : (tb : Table) → Fin (tcTables nBuf tb) → BufTy
  | .hbm, ⟨i, _⟩ => hbmTy i
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_call0_v0 : Ref sig .tc := ⟨.hbm, 78, rfl⟩
abbrev main_v58_1 : Ref sig .tc := ⟨.hbm, 79, rfl⟩
abbrev main_call0_v2 : Ref sig .tc := ⟨.hbm, 80, rfl⟩
abbrev main_v58_0 : Ref sig .tc := ⟨.hbm, 81, rfl⟩
abbrev main_call0_cst : Ref sig .tc := ⟨.hbm, 82, rfl⟩
abbrev main_v58_2 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_14 : Ref sig .tc := ⟨.hbm, 121, rfl⟩
abbrev main_v92 : Ref sig .tc := ⟨.hbm, 122, rfl⟩
abbrev main_cst_15 : Ref sig .tc := ⟨.hbm, 123, rfl⟩
abbrev main_v93 : Ref sig .tc := ⟨.hbm, 124, rfl⟩
abbrev main_cst_16 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_17 : Ref sig .tc := ⟨.hbm, 131, rfl⟩
abbrev main_v99 : Ref sig .tc := ⟨.hbm, 132, rfl⟩
abbrev main_cst_18 : Ref sig .tc := ⟨.hbm, 133, rfl⟩
abbrev main_v100 : Ref sig .tc := ⟨.hbm, 134, rfl⟩
abbrev main_v101 : Ref sig .tc := ⟨.hbm, 135, rfl⟩
abbrev main_cst_19 : Ref sig .tc := ⟨.hbm, 136, rfl⟩
abbrev main_v102 : Ref sig .tc := ⟨.hbm, 137, rfl⟩
abbrev main_v103 : Ref sig .tc := ⟨.hbm, 138, rfl⟩
abbrev main_cst_20 : Ref sig .tc := ⟨.hbm, 139, rfl⟩
abbrev main_v104 : Ref sig .tc := ⟨.hbm, 140, rfl⟩
abbrev main_v105 : Ref sig .tc := ⟨.hbm, 141, rfl⟩
abbrev main_cst_21 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_cst_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_25 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_26 : Ref sig .tc := ⟨.hbm, 185, rfl⟩
abbrev main_v144 : Ref sig .tc := ⟨.hbm, 186, rfl⟩
abbrev main_v145 : Ref sig .tc := ⟨.hbm, 187, rfl⟩
abbrev main_cst_27 : Ref sig .tc := ⟨.hbm, 188, rfl⟩
abbrev main_v146 : Ref sig .tc := ⟨.hbm, 189, rfl⟩
abbrev main_v147 : Ref sig .tc := ⟨.hbm, 190, rfl⟩
abbrev main_cst_28 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_29 : Ref sig .tc := ⟨.hbm, 196, rfl⟩
abbrev main_v152 : Ref sig .tc := ⟨.hbm, 197, rfl⟩
abbrev main_v153 : Ref sig .tc := ⟨.hbm, 198, rfl⟩
abbrev main_cst_30 : Ref sig .tc := ⟨.hbm, 199, rfl⟩
abbrev main_v154 : Ref sig .tc := ⟨.hbm, 200, rfl⟩
abbrev main_v155 : Ref sig .tc := ⟨.hbm, 201, rfl⟩
abbrev main_cst_31 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_32 : Ref sig .tc := ⟨.hbm, 206, rfl⟩
abbrev main_v159 : Ref sig .tc := ⟨.hbm, 207, rfl⟩
abbrev main_v160 : Ref sig .tc := ⟨.hbm, 208, rfl⟩
abbrev main_cst_33 : Ref sig .tc := ⟨.hbm, 209, rfl⟩
abbrev main_v161 : Ref sig .tc := ⟨.hbm, 210, rfl⟩
abbrev main_v162 : Ref sig .tc := ⟨.hbm, 211, rfl⟩
abbrev main_cst_34 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_cst_35 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_36 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_cst_37 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_cst_38 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_cst_39 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_cst_40 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_call1_cst : Ref sig .tc := ⟨.hbm, 274, rfl⟩
abbrev main_call1_v0 : Ref sig .tc := ⟨.hbm, 275, rfl⟩
abbrev main_v218 : Ref sig .tc := ⟨.hbm, 276, rfl⟩
abbrev main_cst_41 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_cst_42 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_cst_43 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_cst_44 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩

abbrev nD : Nat := 1
abbrev τ : Topo := Topo.v7x

variable {F : FTy → Type} [FloatOps F]
-- ==== Kernel2.lean ====
abbrev S2x4096x1024 : Shape := ⟨3, ![2, 4096, 1024]⟩
abbrev S2x4096x4096 : Shape := ⟨3, ![2, 4096, 4096]⟩
abbrev S8192x1024 : Shape := ⟨2, ![8192, 1024]⟩
abbrev S8192x4096 : Shape := ⟨2, ![8192, 4096]⟩
abbrev S1024x4096 : Shape := ⟨2, ![1024, 4096]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S8192x1024, .f32⟩
  | .hbm, ⟨3, _⟩ => ⟨S8192x1024, .bf16⟩
  | .hbm, ⟨4, _⟩ => ⟨S8192x4096, .f32⟩
  | .hbm, ⟨5, _⟩ => ⟨S8192x4096, .bf16⟩
  | .hbm, ⟨6, _⟩ => ⟨S1024x4096, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S2x4096x1024 : Shape := ⟨3, ![2, 4096, 1024]⟩
abbrev S2x4096x4096 : Shape := ⟨3, ![2, 4096, 4096]⟩
abbrev S8192x1024 : Shape := ⟨2, ![8192, 1024]⟩
abbrev S8192x4096 : Shape := ⟨2, ![8192, 4096]⟩
abbrev S1024x4096 : Shape := ⟨2, ![1024, 4096]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S8192x1024, .f32⟩
  | .hbm, ⟨3, _⟩ => ⟨S8192x1024, .bf16⟩
  | .hbm, ⟨4, _⟩ => ⟨S8192x4096, .f32⟩
  | .hbm, ⟨5, _⟩ => ⟨S8192x4096, .bf16⟩
  | .hbm, ⟨6, _⟩ => ⟨S1024x4096, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x4096x1024 : Shape := ⟨3, ![2, 4096, 1024]⟩
abbrev S2x4096x4096 : Shape := ⟨3, ![2, 4096, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S_, .f32⟩
  | .hbm, ⟨3, _⟩ => ⟨S1024x4096, .f32⟩
  | .hbm, ⟨4, _⟩ => ⟨S2x4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2x4096x1024 : Shape := ⟨3, ![2, 4096, 1024]⟩
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2816x1024, .f32⟩
  | .hbm, ⟨2, _⟩ => ⟨S8192x1024, .f32⟩
  | .hbm, ⟨3, _⟩ => ⟨S8192x1024, .bf16⟩
  | .hbm, ⟨4, _⟩ => ⟨S2816x1024, .bf16⟩
  | .hbm, ⟨5, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S2x4096x1024 : Shape := ⟨3, ![2, 4096, 1024]⟩
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2816x1024, .f32⟩
  | .hbm, ⟨2, _⟩ => ⟨S8192x1024, .f32⟩
  | .hbm, ⟨3, _⟩ => ⟨S8192x1024, .bf16⟩
  | .hbm, ⟨4, _⟩ => ⟨S2816x1024, .bf16⟩
  | .hbm, ⟨5, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4096x1024 : Shape := ⟨3, ![2, 4096, 1024]⟩
abbrev S2816x1024 : Shape := ⟨2, ![2816, 1024]⟩
abbrev S_ : Shape := ⟨0, ![]⟩
abbrev S2x4096x2816 : Shape := ⟨3, ![2, 4096, 2816]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2816x1024, .f32⟩
  | .hbm, ⟨2, _⟩ => ⟨S_, .f32⟩
  | .hbm, ⟨3, _⟩ => ⟨S2x4096x2816, .f32⟩
  | .hbm, ⟨4, _⟩ => ⟨S2x4096x1024, .f32⟩
  | .hbm, ⟨5, _⟩ => ⟨S2x4096x2816, .f32⟩
  | .hbm, ⟨6, _⟩ => ⟨S8192x2816, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x4096x2816 : Shape := ⟨3, ![2, 4096, 2816]⟩
abbrev S8192x1024 : Shape := ⟨2, ![8192, 1024]⟩
abbrev S8192x2816 : Shape := ⟨2, ![8192, 2816]⟩
abbrev S1024x2816 : Shape := ⟨2, ![1024, 2816]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2816, .f32⟩
  | .hbm, ⟨2, _⟩ => ⟨S8192x1024, .f32⟩
  | .hbm, ⟨3, _⟩ => ⟨S8192x1024, .bf16⟩
  | .hbm, ⟨4, _⟩ => ⟨S8192x2816, .f32⟩
  | .hbm, ⟨5, _⟩ => ⟨S8192x2816, .bf16⟩
  | .hbm, ⟨6, _⟩ => ⟨S1024x2816, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S2x4096x1024 : Shape := ⟨3, ![2, 4096, 1024]⟩
abbrev S2x4096x2816 : Shape := ⟨3, ![2, 4096, 2816]⟩
abbrev S8192x1024 : Shape := ⟨2, ![8192, 1024]⟩
abbrev S8192x2816 : Shape := ⟨2, ![8192, 2816]⟩
abbrev S1024x2816 : Shape := ⟨2, ![1024, 2816]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2816, .f32⟩
  | .hbm, ⟨2, _⟩ => ⟨S8192x1024, .f32⟩
  | .hbm, ⟨3, _⟩ => ⟨S8192x1024, .bf16⟩
  | .hbm, ⟨4, _⟩ => ⟨S8192x2816, .f32⟩
  | .hbm, ⟨5, _⟩ => ⟨S8192x2816, .bf16⟩
  | .hbm, ⟨6, _⟩ => ⟨S1024x2816, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x1024 : Shape := ⟨3, ![2, 4096, 1024]⟩
abbrev S2x4096x2816 : Shape := ⟨3, ![2, 4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2816, .f32⟩
  | .hbm, ⟨2, _⟩ => ⟨S_, .f32⟩
  | .hbm, ⟨3, _⟩ => ⟨S1024x2816, .f32⟩
  | .hbm, ⟨4, _⟩ => ⟨S2x4096x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2x4096x2816 : Shape := ⟨3, ![2, 4096, 2816]⟩
abbrev S2x4096x1024 : Shape := ⟨3, ![2, 4096, 1024]⟩
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2816, .f32⟩
  | .hbm, ⟨1, _⟩ => ⟨S2x4096x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S2x4096x2816 : Shape := ⟨3, ![2, 4096, 2816]⟩
abbrev S2x4096x1024 : Shape := ⟨3, ![2, 4096, 1024]⟩
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2816, .f32⟩
  | .hbm, ⟨1, _⟩ => ⟨S2x4096x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x4096x2816 : Shape := ⟨3, ![2, 4096, 2816]⟩
abbrev S2x4096x1024 : Shape := ⟨3, ![2, 4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S2x4096x1024, .f32⟩
  | .hbm, ⟨2, _⟩ => ⟨S_, .f32⟩
  | .hbm, ⟨3, _⟩ => ⟨S2816x1024, .f32⟩
  | .hbm, ⟨4, _⟩ => ⟨S2x4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2x4096x1024 : Shape := ⟨3, ![2, 4096, 1024]⟩
abbrev S2x4096x2048 : Shape := ⟨3, ![2, 4096, 2048]⟩
abbrev S8192x1024 : Shape := ⟨2, ![8192, 1024]⟩
abbrev S8192x2048 : Shape := ⟨2, ![8192, 2048]⟩
abbrev S1024x2048 : Shape := ⟨2, ![1024, 2048]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S8192x1024, .f32⟩
  | .hbm, ⟨3, _⟩ => ⟨S8192x1024, .bf16⟩
  | .hbm, ⟨4, _⟩ => ⟨S8192x2048, .f32⟩
  | .hbm, ⟨5, _⟩ => ⟨S8192x2048, .bf16⟩
  | .hbm, ⟨6, _⟩ => ⟨S1024x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S2x4096x1024 : Shape := ⟨3, ![2, 4096, 1024]⟩
abbrev S2x4096x2048 : Shape := ⟨3, ![2, 4096, 2048]⟩
abbrev S8192x1024 : Shape := ⟨2, ![8192, 1024]⟩
abbrev S8192x2048 : Shape := ⟨2, ![8192, 2048]⟩
abbrev S1024x2048 : Shape := ⟨2, ![1024, 2048]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S8192x1024, .f32⟩
  | .hbm, ⟨3, _⟩ => ⟨S8192x1024, .bf16⟩
  | .hbm, ⟨4, _⟩ => ⟨S8192x2048, .f32⟩
  | .hbm, ⟨5, _⟩ => ⟨S8192x2048, .bf16⟩
  | .hbm, ⟨6, _⟩ => ⟨S1024x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x4096x1024 : Shape := ⟨3, ![2, 4096, 1024]⟩
abbrev S2x4096x2048 : Shape := ⟨3, ![2, 4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S_, .f32⟩
  | .hbm, ⟨3, _⟩ => ⟨S1024x2048, .f32⟩
  | .hbm, ⟨4, _⟩ => ⟨S2x4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2x4096x1024 : Shape := ⟨3, ![2, 4096, 1024]⟩
abbrev S8192x1024 : Shape := ⟨2, ![8192, 1024]⟩
abbrev S1024x1024 : Shape := ⟨2, ![1024, 1024]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1024x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S2x4096x1024 : Shape := ⟨3, ![2, 4096, 1024]⟩
abbrev S8192x1024 : Shape := ⟨2, ![8192, 1024]⟩
abbrev S1024x1024 : Shape := ⟨2, ![1024, 1024]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1024x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2x4096x1024 : Shape := ⟨3, ![2, 4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S_, .f32⟩
  | .hbm, ⟨3, _⟩ => ⟨S1024x1024, .f32⟩
  | .hbm, ⟨4, _⟩ => ⟨S2x4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2x4096x1024 : Shape := ⟨3, ![2, 4096, 1024]⟩
abbrev S2x4096x1536 : Shape := ⟨3, ![2, 4096, 1536]⟩
abbrev S8192x1024 : Shape := ⟨2, ![8192, 1024]⟩
abbrev S8192x1536 : Shape := ⟨2, ![8192, 1536]⟩
abbrev S1024x1536 : Shape := ⟨2, ![1024, 1536]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S8192x1024, .f32⟩
  | .hbm, ⟨3, _⟩ => ⟨S8192x1024, .bf16⟩
  | .hbm, ⟨4, _⟩ => ⟨S8192x1536, .f32⟩
  | .hbm, ⟨5, _⟩ => ⟨S8192x1536, .bf16⟩
  | .hbm, ⟨6, _⟩ => ⟨S1024x1536, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S2x4096x1024 : Shape := ⟨3, ![2, 4096, 1024]⟩
abbrev S2x4096x1536 : Shape := ⟨3, ![2, 4096, 1536]⟩
abbrev S8192x1024 : Shape := ⟨2, ![8192, 1024]⟩
abbrev S8192x1536 : Shape := ⟨2, ![8192, 1536]⟩
abbrev S1024x1536 : Shape := ⟨2, ![1024, 1536]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S8192x1024, .f32⟩
  | .hbm, ⟨3, _⟩ => ⟨S8192x1024, .bf16⟩
  | .hbm, ⟨4, _⟩ => ⟨S8192x1536, .f32⟩
  | .hbm, ⟨5, _⟩ => ⟨S8192x1536, .bf16⟩
  | .hbm, ⟨6, _⟩ => ⟨S1024x1536, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2x4096x1024 : Shape := ⟨3, ![2, 4096, 1024]⟩
abbrev S2x4096x1536 : Shape := ⟨3, ![2, 4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S_, .f32⟩
  | .hbm, ⟨3, _⟩ => ⟨S1024x1536, .f32⟩
  | .hbm, ⟨4, _⟩ => ⟨S2x4096x1536, .f32⟩
  | .hbm, ⟨5, _⟩ => ⟨S1536x1024, .f32⟩
  | .hbm, ⟨6, _⟩ => ⟨S1024x1536, .f32⟩
  | .hbm, ⟨7, _⟩ => ⟨S1024x1536, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2x4096x1024 : Shape := ⟨3, ![2, 4096, 1024]⟩
abbrev S2x4096x1536 : Shape := ⟨3, ![2, 4096, 1536]⟩
abbrev S8192x1024 : Shape := ⟨2, ![8192, 1024]⟩
abbrev S2x1024x4x1024 : Shape := ⟨4, ![2, 1024, 4, 1024]⟩
abbrev S2x4x1024x1024 : Shape := ⟨4, ![2, 4, 1024, 1024]⟩
abbrev S8192x1536 : Shape := ⟨2, ![8192, 1536]⟩
abbrev S2x1024x4x1536 : Shape := ⟨4, ![2, 1024, 4, 1536]⟩
abbrev S2x4x1024x1536 : Shape := ⟨4, ![2, 4, 1024, 1536]⟩
abbrev S1024x1536 : Shape := ⟨2, ![1024, 1536]⟩
abbrev S8192x512 : Shape := ⟨2, ![8192, 512]⟩
abbrev S512x512 : Shape := ⟨2, ![512, 512]⟩

abbrev nBuf : Space → Nat
  | .hbm => 13
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S8192x1024, .f32⟩
  | .hbm, ⟨3, _⟩ => ⟨S8192x1024, .bf16⟩
  | .hbm, ⟨4, _⟩ => ⟨S2x1024x4x1024, .bf16⟩
  | .hbm, ⟨5, _⟩ => ⟨S2x4x1024x1024, .bf16⟩
  | .hbm, ⟨6, _⟩ => ⟨S8192x1024, .bf16⟩
  | .hbm, ⟨7, _⟩ => ⟨S8192x1536, .f32⟩
  | .hbm, ⟨8, _⟩ => ⟨S8192x1536, .bf16⟩
  | .hbm, ⟨9, _⟩ => ⟨S2x1024x4x1536, .bf16⟩
  | .hbm, ⟨10, _⟩ => ⟨S2x4x1024x1536, .bf16⟩
  | .hbm, ⟨11, _⟩ => ⟨S8192x1536, .bf16⟩
  | .hbm, ⟨12, _⟩ => ⟨S1024x1536, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S2x4096x1024 : Shape := ⟨3, ![2, 4096, 1024]⟩
abbrev S2x4096x1536 : Shape := ⟨3, ![2, 4096, 1536]⟩
abbrev S8192x1024 : Shape := ⟨2, ![8192, 1024]⟩
abbrev S2x1024x4x1024 : Shape := ⟨4, ![2, 1024, 4, 1024]⟩
abbrev S2x4x1024x1024 : Shape := ⟨4, ![2, 4, 1024, 1024]⟩
abbrev S8192x1536 : Shape := ⟨2, ![8192, 1536]⟩
abbrev S2x1024x4x1536 : Shape := ⟨4, ![2, 1024, 4, 1536]⟩
abbrev S2x4x1024x1536 : Shape := ⟨4, ![2, 4, 1024, 1536]⟩
abbrev S1024x1536 : Shape := ⟨2, ![1024, 1536]⟩
abbrev S8192x512 : Shape := ⟨2, ![8192, 512]⟩
abbrev S512x512 : Shape := ⟨2, ![512, 512]⟩

abbrev nBuf : Space → Nat
  | .hbm => 13
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S8192x1024, .f32⟩
  | .hbm, ⟨3, _⟩ => ⟨S8192x1024, .bf16⟩
  | .hbm, ⟨4, _⟩ => ⟨S2x1024x4x1024, .bf16⟩
  | .hbm, ⟨5, _⟩ => ⟨S2x4x1024x1024, .bf16⟩
  | .hbm, ⟨6, _⟩ => ⟨S8192x1024, .bf16⟩
  | .hbm, ⟨7, _⟩ => ⟨S8192x1536, .f32⟩
  | .hbm, ⟨8, _⟩ => ⟨S8192x1536, .bf16⟩
  | .hbm, ⟨9, _⟩ => ⟨S2x1024x4x1536, .bf16⟩
  | .hbm, ⟨10, _⟩ => ⟨S2x4x1024x1536, .bf16⟩
  | .hbm, ⟨11, _⟩ => ⟨S8192x1536, .bf16⟩
  | .hbm, ⟨12, _⟩ => ⟨S1024x1536, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2x4096x1024 : Shape := ⟨3, ![2, 4096, 1024]⟩
abbrev S2x4096x1536 : Shape := ⟨3, ![2, 4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S_, .f32⟩
  | .hbm, ⟨3, _⟩ => ⟨S1024x1536, .f32⟩
  | .hbm, ⟨4, _⟩ => ⟨S2x4096x1536, .f32⟩
  | .hbm, ⟨5, _⟩ => ⟨S1536x1024, .f32⟩
  | .hbm, ⟨6, _⟩ => ⟨S1024x1536, .f32⟩
  | .hbm, ⟨7, _⟩ => ⟨S1024x1536, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2x4096x1024 : Shape := ⟨3, ![2, 4096, 1024]⟩
abbrev S2x4096x1536 : Shape := ⟨3, ![2, 4096, 1536]⟩
abbrev S8192x1024 : Shape := ⟨2, ![8192, 1024]⟩
abbrev S2x256x16x1024 : Shape := ⟨4, ![2, 256, 16, 1024]⟩
abbrev S2x16x256x1024 : Shape := ⟨4, ![2, 16, 256, 1024]⟩
abbrev S8192x1536 : Shape := ⟨2, ![8192, 1536]⟩
abbrev S2x256x16x1536 : Shape := ⟨4, ![2, 256, 16, 1536]⟩
abbrev S2x16x256x1536 : Shape := ⟨4, ![2, 16, 256, 1536]⟩
abbrev S1024x1536 : Shape := ⟨2, ![1024, 1536]⟩
abbrev S8192x512 : Shape := ⟨2, ![8192, 512]⟩
abbrev S512x512 : Shape := ⟨2, ![512, 512]⟩

abbrev nBuf : Space → Nat
  | .hbm => 13
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S8192x1024, .f32⟩
  | .hbm, ⟨3, _⟩ => ⟨S8192x1024, .bf16⟩
  | .hbm, ⟨4, _⟩ => ⟨S2x256x16x1024, .bf16⟩
  | .hbm, ⟨5, _⟩ => ⟨S2x16x256x1024, .bf16⟩
  | .hbm, ⟨6, _⟩ => ⟨S8192x1024, .bf16⟩
  | .hbm, ⟨7, _⟩ => ⟨S8192x1536, .f32⟩
  | .hbm, ⟨8, _⟩ => ⟨S8192x1536, .bf16⟩
  | .hbm, ⟨9, _⟩ => ⟨S2x256x16x1536, .bf16⟩
  | .hbm, ⟨10, _⟩ => ⟨S2x16x256x1536, .bf16⟩
  | .hbm, ⟨11, _⟩ => ⟨S8192x1536, .bf16⟩
  | .hbm, ⟨12, _⟩ => ⟨S1024x1536, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S2x4096x1024 : Shape := ⟨3, ![2, 4096, 1024]⟩
abbrev S2x4096x1536 : Shape := ⟨3, ![2, 4096, 1536]⟩
abbrev S8192x1024 : Shape := ⟨2, ![8192, 1024]⟩
abbrev S2x256x16x1024 : Shape := ⟨4, ![2, 256, 16, 1024]⟩
abbrev S2x16x256x1024 : Shape := ⟨4, ![2, 16, 256, 1024]⟩
abbrev S8192x1536 : Shape := ⟨2, ![8192, 1536]⟩
abbrev S2x256x16x1536 : Shape := ⟨4, ![2, 256, 16, 1536]⟩
abbrev S2x16x256x1536 : Shape := ⟨4, ![2, 16, 256, 1536]⟩
abbrev S1024x1536 : Shape := ⟨2, ![1024, 1536]⟩
abbrev S8192x512 : Shape := ⟨2, ![8192, 512]⟩
abbrev S512x512 : Shape := ⟨2, ![512, 512]⟩

abbrev nBuf : Space → Nat
  | .hbm => 13
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S8192x1024, .f32⟩
  | .hbm, ⟨3, _⟩ => ⟨S8192x1024, .bf16⟩
  | .hbm, ⟨4, _⟩ => ⟨S2x256x16x1024, .bf16⟩
  | .hbm, ⟨5, _⟩ => ⟨S2x16x256x1024, .bf16⟩
  | .hbm, ⟨6, _⟩ => ⟨S8192x1024, .bf16⟩
  | .hbm, ⟨7, _⟩ => ⟨S8192x1536, .f32⟩
  | .hbm, ⟨8, _⟩ => ⟨S8192x1536, .bf16⟩
  | .hbm, ⟨9, _⟩ => ⟨S2x256x16x1536, .bf16⟩
  | .hbm, ⟨10, _⟩ => ⟨S2x16x256x1536, .bf16⟩
  | .hbm, ⟨11, _⟩ => ⟨S8192x1536, .bf16⟩
  | .hbm, ⟨12, _⟩ => ⟨S1024x1536, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2x4096x1024 : Shape := ⟨3, ![2, 4096, 1024]⟩
abbrev S2x4096x1536 : Shape := ⟨3, ![2, 4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S_, .f32⟩
  | .hbm, ⟨3, _⟩ => ⟨S1024x1536, .f32⟩
  | .hbm, ⟨4, _⟩ => ⟨S2x4096x1536, .f32⟩
  | .hbm, ⟨5, _⟩ => ⟨S1536x1024, .f32⟩
  | .hbm, ⟨6, _⟩ => ⟨S1024x1536, .f32⟩
  | .hbm, ⟨7, _⟩ => ⟨S1024x1536, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2x4096x2048 : Shape := ⟨3, ![2, 4096, 2048]⟩
abbrev S2x4096x1024 : Shape := ⟨3, ![2, 4096, 1024]⟩
abbrev S8192x2048 : Shape := ⟨2, ![8192, 2048]⟩
abbrev S8192x1024 : Shape := ⟨2, ![8192, 1024]⟩
abbrev S2048x1024 : Shape := ⟨2, ![2048, 1024]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S8192x2048, .f32⟩
  | .hbm, ⟨3, _⟩ => ⟨S8192x2048, .bf16⟩
  | .hbm, ⟨4, _⟩ => ⟨S8192x1024, .f32⟩
  | .hbm, ⟨5, _⟩ => ⟨S8192x1024, .bf16⟩
  | .hbm, ⟨6, _⟩ => ⟨S2048x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S2x4096x2048 : Shape := ⟨3, ![2, 4096, 2048]⟩
abbrev S2x4096x1024 : Shape := ⟨3, ![2, 4096, 1024]⟩
abbrev S8192x2048 : Shape := ⟨2, ![8192, 2048]⟩
abbrev S8192x1024 : Shape := ⟨2, ![8192, 1024]⟩
abbrev S2048x1024 : Shape := ⟨2, ![2048, 1024]⟩
abbrev S8192x512 : Shape := ⟨2, ![8192, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S8192x2048, .f32⟩
  | .hbm, ⟨3, _⟩ => ⟨S8192x2048, .bf16⟩
  | .hbm, ⟨4, _⟩ => ⟨S8192x1024, .f32⟩
  | .hbm, ⟨5, _⟩ => ⟨S8192x1024, .bf16⟩
  | .hbm, ⟨6, _⟩ => ⟨S2048x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2x4096x2048 : Shape := ⟨3, ![2, 4096, 2048]⟩
abbrev S2x4096x1024 : Shape := ⟨3, ![2, 4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S_, .f32⟩
  | .hbm, ⟨3, _⟩ => ⟨S2048x1024, .f32⟩
  | .hbm, ⟨4, _⟩ => ⟨S2x4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2x4096x2816 : Shape := ⟨3, ![2, 4096, 2816]⟩
abbrev S1024x2816 : Shape := ⟨2, ![1024, 2816]⟩
abbrev S8192x2816 : Shape := ⟨2, ![8192, 2816]⟩
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x2816, .f32⟩
  | .hbm, ⟨1, _⟩ => ⟨S1024x2816, .f32⟩
  | .hbm, ⟨2, _⟩ => ⟨S8192x2816, .f32⟩
  | .hbm, ⟨3, _⟩ => ⟨S8192x2816, .bf16⟩
  | .hbm, ⟨4, _⟩ => ⟨S1024x2816, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S2x4096x2816 : Shape := ⟨3, ![2, 4096, 2816]⟩
abbrev S1024x2816 : Shape := ⟨2, ![1024, 2816]⟩
abbrev S8192x2816 : Shape := ⟨2, ![8192, 2816]⟩
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x2816, .f32⟩
  | .hbm, ⟨1, _⟩ => ⟨S1024x2816, .f32⟩
  | .hbm, ⟨2, _⟩ => ⟨S8192x2816, .f32⟩
  | .hbm, ⟨3, _⟩ => ⟨S8192x2816, .bf16⟩
  | .hbm, ⟨4, _⟩ => ⟨S1024x2816, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2x4096x2816 : Shape := ⟨3, ![2, 4096, 2816]⟩
abbrev S1024x2816 : Shape := ⟨2, ![1024, 2816]⟩
abbrev S_ : Shape := ⟨0, ![]⟩
abbrev S2x4096x1024 : Shape := ⟨3, ![2, 4096, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S1024x2816, .f32⟩
  | .hbm, ⟨2, _⟩ => ⟨S_, .f32⟩
  | .hbm, ⟨3, _⟩ => ⟨S2x4096x1024, .f32⟩
  | .hbm, ⟨4, _⟩ => ⟨S2x4096x2816, .f32⟩
  | .hbm, ⟨5, _⟩ => ⟨S2x4096x1024, .f32⟩
  | .hbm, ⟨6, _⟩ => ⟨S8192x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel13Ideal.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2x4096x1024 : Shape := ⟨3, ![2, 4096, 1024]⟩
abbrev S1024x1024 : Shape := ⟨2, ![1024, 1024]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S_, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S2x4096x1536 : Shape := ⟨3, ![2, 4096, 1536]⟩
abbrev S1024x1536 : Shape := ⟨2, ![1024, 1536]⟩
abbrev S2x4096x1024 : Shape := ⟨3, ![2, 4096, 1024]⟩
abbrev S8192x1536 : Shape := ⟨2, ![8192, 1536]⟩
abbrev S8192x1024 : Shape := ⟨2, ![8192, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x1536, .f32⟩
  | .hbm, ⟨1, _⟩ => ⟨S1024x1536, .f32⟩
  | .hbm, ⟨2, _⟩ => ⟨S2x4096x1024, .f32⟩
  | .hbm, ⟨3, _⟩ => ⟨S8192x1536, .f32⟩
  | .hbm, ⟨4, _⟩ => ⟨S8192x1536, .bf16⟩
  | .hbm, ⟨5, _⟩ => ⟨S1024x1536, .bf16⟩
  | .hbm, ⟨6, _⟩ => ⟨S8192x1024, .f32⟩
  | .hbm, ⟨7, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel14Ideal.lean ====
abbrev S2x4096x1536 : Shape := ⟨3, ![2, 4096, 1536]⟩
abbrev S1024x1536 : Shape := ⟨2, ![1024, 1536]⟩
abbrev S2x4096x1024 : Shape := ⟨3, ![2, 4096, 1024]⟩
abbrev S8192x1536 : Shape := ⟨2, ![8192, 1536]⟩
abbrev S8192x1024 : Shape := ⟨2, ![8192, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x1536, .f32⟩
  | .hbm, ⟨1, _⟩ => ⟨S1024x1536, .f32⟩
  | .hbm, ⟨2, _⟩ => ⟨S2x4096x1024, .f32⟩
  | .hbm, ⟨3, _⟩ => ⟨S8192x1536, .f32⟩
  | .hbm, ⟨4, _⟩ => ⟨S8192x1536, .bf16⟩
  | .hbm, ⟨5, _⟩ => ⟨S1024x1536, .bf16⟩
  | .hbm, ⟨6, _⟩ => ⟨S8192x1024, .f32⟩
  | .hbm, ⟨7, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S2x4096x1536 : Shape := ⟨3, ![2, 4096, 1536]⟩
abbrev S1024x1536 : Shape := ⟨2, ![1024, 1536]⟩
abbrev S2x4096x1024 : Shape := ⟨3, ![2, 4096, 1024]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1536, .f32⟩
  | .hbm, ⟨1, _⟩ => ⟨S1024x1536, .f32⟩
  | .hbm, ⟨2, _⟩ => ⟨S2x4096x1024, .f32⟩
  | .hbm, ⟨3, _⟩ => ⟨S_, .f32⟩
  | .hbm, ⟨4, _⟩ => ⟨S2x4096x1024, .f32⟩
  | .hbm, ⟨5, _⟩ => ⟨S2x4096x1536, .f32⟩
  | .hbm, ⟨6, _⟩ => ⟨S2x4096x1024, .f32⟩
  | .hbm, ⟨7, _⟩ => ⟨S2x4096x1024, .f32⟩
  | .hbm, ⟨8, _⟩ => ⟨S8192x1024, .f32⟩
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel15.lean ====
abbrev S2x4096x1024 : Shape := ⟨3, ![2, 4096, 1024]⟩
abbrev S1024x4096 : Shape := ⟨2, ![1024, 4096]⟩
abbrev S8192x1024 : Shape := ⟨2, ![8192, 1024]⟩
abbrev S8192x4096 : Shape := ⟨2, ![8192, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1024x4096, .f32⟩
  | .hbm, ⟨2, _⟩ => ⟨S8192x1024, .f32⟩
  | .hbm, ⟨3, _⟩ => ⟨S8192x1024, .bf16⟩
  | .hbm, ⟨4, _⟩ => ⟨S1024x4096, .bf16⟩
  | .hbm, ⟨5, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S2x4096x1024 : Shape := ⟨3, ![2, 4096, 1024]⟩
abbrev S1024x4096 : Shape := ⟨2, ![1024, 4096]⟩
abbrev S8192x1024 : Shape := ⟨2, ![8192, 1024]⟩
abbrev S8192x4096 : Shape := ⟨2, ![8192, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1024x4096, .f32⟩
  | .hbm, ⟨2, _⟩ => ⟨S8192x1024, .f32⟩
  | .hbm, ⟨3, _⟩ => ⟨S8192x1024, .bf16⟩
  | .hbm, ⟨4, _⟩ => ⟨S1024x4096, .bf16⟩
  | .hbm, ⟨5, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2x4096x1024 : Shape := ⟨3, ![2, 4096, 1024]⟩
abbrev S1024x4096 : Shape := ⟨2, ![1024, 4096]⟩
abbrev S2x4096x4096 : Shape := ⟨3, ![2, 4096, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x4096, .f32⟩
  | .hbm, ⟨2, _⟩ => ⟨S2x4096x4096, .f32⟩
  | .hbm, ⟨3, _⟩ => ⟨S8192x4096, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S2x4096x1024 : Shape := ⟨3, ![2, 4096, 1024]⟩
abbrev S1024x2816 : Shape := ⟨2, ![1024, 2816]⟩
abbrev S8192x1024 : Shape := ⟨2, ![8192, 1024]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1024x2816, .f32⟩
  | .hbm, ⟨2, _⟩ => ⟨S8192x1024, .f32⟩
  | .hbm, ⟨3, _⟩ => ⟨S8192x1024, .bf16⟩
  | .hbm, ⟨4, _⟩ => ⟨S1024x2816, .bf16⟩
  | .hbm, ⟨5, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S2x4096x1024 : Shape := ⟨3, ![2, 4096, 1024]⟩
abbrev S1024x2816 : Shape := ⟨2, ![1024, 2816]⟩
abbrev S8192x1024 : Shape := ⟨2, ![8192, 1024]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1024x2816, .f32⟩
  | .hbm, ⟨2, _⟩ => ⟨S8192x1024, .f32⟩
  | .hbm, ⟨3, _⟩ => ⟨S8192x1024, .bf16⟩
  | .hbm, ⟨4, _⟩ => ⟨S1024x2816, .bf16⟩
  | .hbm, ⟨5, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2x4096x1024 : Shape := ⟨3, ![2, 4096, 1024]⟩
abbrev S1024x2816 : Shape := ⟨2, ![1024, 2816]⟩
abbrev S2x4096x2816 : Shape := ⟨3, ![2, 4096, 2816]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x2816, .f32⟩
  | .hbm, ⟨2, _⟩ => ⟨S2x4096x2816, .f32⟩
  | .hbm, ⟨3, _⟩ => ⟨S8192x2816, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S2x4096x1024 : Shape := ⟨3, ![2, 4096, 1024]⟩
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 17
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S8192x1024, .f32⟩
  | .hbm, ⟨7, _⟩ => ⟨S8192x1024, .bf16⟩
  | .hbm, ⟨8, _⟩ => ⟨S1024x1024, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference18Ideal.lean ====
abbrev S2x4096x1024 : Shape := ⟨3, ![2, 4096, 1024]⟩
abbrev S1024x1024 : Shape := ⟨2, ![1024, 1024]⟩
abbrev S_ : Shape := ⟨0, ![]⟩
abbrev S8192x1024 : Shape := ⟨2, ![8192, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x4096x1024, .f32⟩
  | .hbm, ⟨10, _⟩ => ⟨S2x4096x1024, .f32⟩
  | .hbm, ⟨11, _⟩ => ⟨S_, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S_, .f32⟩
  | .hbm, ⟨22, _⟩ => ⟨S2x4096x1024, .f32⟩
  | .hbm, ⟨23, _⟩ => ⟨S2x4096x1024, .f32⟩
  | .hbm, ⟨24, _⟩ => ⟨S_, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S8192x1024, .f32⟩
  | .hbm, ⟨42, _⟩ => ⟨S8192x1024, .bf16⟩
  | .hbm, ⟨43, _⟩ => ⟨S8192x1024, .f32⟩
  | .hbm, ⟨44, _⟩ => ⟨S8192x1024, .bf16⟩
  | .hbm, ⟨45, _⟩ => ⟨S8192x1024, .f32⟩
  | .hbm, ⟨46, _⟩ => ⟨S8192x1024, .bf16⟩
  | .hbm, ⟨47, _⟩ => ⟨S8192x1024, .f32⟩
  | .hbm, ⟨48, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel19.lean ====
abbrev S2x4096x1024 : Shape := ⟨3, ![2, 4096, 1024]⟩
abbrev S512x1024 : Shape := ⟨2, ![512, 1024]⟩
abbrev S8192x1024 : Shape := ⟨2, ![8192, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x1024, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S2x4096x1024 : Shape := ⟨3, ![2, 4096, 1024]⟩
abbrev S512x1024 : Shape := ⟨2, ![512, 1024]⟩
abbrev S8192x1024 : Shape := ⟨2, ![8192, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x1024, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2x4096x1024 : Shape := ⟨3, ![2, 4096, 1024]⟩
abbrev S512x1024 : Shape := ⟨2, ![512, 1024]⟩
abbrev S_ : Shape := ⟨0, ![]⟩
abbrev S2x4096x512 : Shape := ⟨3, ![2, 4096, 512]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S512x1024, .f32⟩
  | .hbm, ⟨2, _⟩ => ⟨S_, .f32⟩
  | .hbm, ⟨3, _⟩ => ⟨S2x4096x512, .f32⟩
  | .hbm, ⟨4, _⟩ => ⟨S2x4096x1024, .f32⟩
  | .hbm, ⟨5, _⟩ => ⟨S2x4096x512, .f32⟩
  | .hbm, ⟨6, _⟩ => ⟨S8192x512, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S2x4096x2816 : Shape := ⟨3, ![2, 4096, 2816]⟩
abbrev S1024x2816 : Shape := ⟨2, ![1024, 2816]⟩
abbrev S2x4096x1024 : Shape := ⟨3, ![2, 4096, 1024]⟩
abbrev S1024 : Shape := ⟨1, ![1024]⟩
abbrev S8192x2816 : Shape := ⟨2, ![8192, 2816]⟩
abbrev S8192x1024 : Shape := ⟨2, ![8192, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S2x4096x2816, .f32⟩
  | .hbm, ⟨1, _⟩ => ⟨S1024x2816, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S1024, .f32⟩
  | .hbm, ⟨6, _⟩ => ⟨S8192x2816, .f32⟩
  | .hbm, ⟨7, _⟩ => ⟨S8192x2816, .bf16⟩
  | .hbm, ⟨8, _⟩ => ⟨S1024x2816, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S1024x2816, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_21 : BitVec 32 := 0#32
  let v45 : BitVec 1 := Scalar.cmpi .ne v44 c0_i32_21
  v45

def k0_cond2 (i : grid0.Coords) : BitVec 1 :=
  let arg0 : BitVec 32 := BitVec.ofNat 32 (i 0).val
  let c0_i32_22 : BitVec 32 := 0#32
  let v46 : BitVec 1 := Scalar.cmpi .ne arg0 c0_i32_22
  let v47 : BitVec 32 := Scalar.extui v46
  let c0_i32_23 : BitVec 32 := 0#32
  let v48 : BitVec 1 := Scalar.cmpi .ne v47 c0_i32_23
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference20Ideal.lean ====
abbrev S2x4096x2816 : Shape := ⟨3, ![2, 4096, 2816]⟩
abbrev S1024x2816 : Shape := ⟨2, ![1024, 2816]⟩
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S1024x2816, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S1x1x1024, .f32⟩
  | .hbm, ⟨24, _⟩ => ⟨S2x4096x1024, .f32⟩
  | .hbm, ⟨25, _⟩ => ⟨S2x4096x1024, .f32⟩
  | .hbm, ⟨26, _⟩ => ⟨S2x4096x2816, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S1024, .f32⟩
  | .hbm, ⟨37, _⟩ => ⟨S2x4096x1024, .f32⟩
  | .hbm, ⟨38, _⟩ => ⟨S_, .f32⟩
  | .hbm, ⟨39, _⟩ => ⟨S2x4096, .f32⟩
  | .hbm, ⟨40, _⟩ => ⟨S2x4096x1, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S_, .f32⟩
  | .hbm, ⟨49, _⟩ => ⟨S2x4096, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel21.lean ====
abbrev S2x4096x512 : Shape := ⟨3, ![2, 4096, 512]⟩
abbrev S2x4096x1024 : Shape := ⟨3, ![2, 4096, 1024]⟩
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x512, .f32⟩
  | .hbm, ⟨1, _⟩ => ⟨S2x4096x1024, .f32⟩
  | .hbm, ⟨2, _⟩ => ⟨S8192x512, .f32⟩
  | .hbm, ⟨3, _⟩ => ⟨S8192x1024, .f32⟩
  | .hbm, ⟨4, _⟩ => ⟨S8192x1024, .bf16⟩
  | .hbm, ⟨5, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S2x4096x512 : Shape := ⟨3, ![2, 4096, 512]⟩
abbrev S2x4096x1024 : Shape := ⟨3, ![2, 4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x1024, .f32⟩
  | .hbm, ⟨2, _⟩ => ⟨S_, .f32⟩
  | .hbm, ⟨3, _⟩ => ⟨S512x1024, .f32⟩
  | .hbm, ⟨4, _⟩ => ⟨S2x4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S8192x2816 : Shape := ⟨2, ![8192, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S1024 : Shape := ⟨1, ![1024]⟩

abbrev nBuf : Space → Nat
  | .hbm => 12
  | .vmem => 12
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x4096x1024, .f32⟩
  | .hbm, ⟨4, _⟩ => ⟨S8192x2816, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_13 : BitVec 32 := 0#32
  let v21 : BitVec 1 := Scalar.cmpi .ne v20 c0_i32_13
  v21

def k0_cond2 (i : grid0.Coords) : BitVec 1 :=
  let arg0 : BitVec 32 := BitVec.ofNat 32 (i 0).val
  let c0_i32_14 : BitVec 32 := 0#32
  let v22 : BitVec 1 := Scalar.cmpi .ne arg0 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference22Ideal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S_ : Shape := ⟨0, ![]⟩
abbrev S2x4096 : Shape := ⟨2, ![2, 4096]⟩
abbrev S8192x1024 : Shape := ⟨2, ![8192, 1024]⟩
abbrev S1024 : Shape := ⟨1, ![1024]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x4096x1024, .f32⟩
  | .hbm, ⟨10, _⟩ => ⟨S2x4096x1024, .f32⟩
  | .hbm, ⟨11, _⟩ => ⟨S_, .f32⟩
  | .hbm, ⟨12, _⟩ => ⟨S2x4096, .f32⟩
  | .hbm, ⟨13, _⟩ => ⟨S_, .f32⟩
  | .hbm, ⟨14, _⟩ => ⟨S2x4096, .f32⟩
  | .hbm, ⟨15, _⟩ => ⟨S2x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x4096, .f32⟩
  | .hbm, ⟨24, _⟩ => ⟨S_, .f32⟩
  | .hbm, ⟨25, _⟩ => ⟨S2x4096, .f32⟩
  | .hbm, ⟨26, _⟩ => ⟨S2x4096, .f32⟩
  | .hbm, ⟨27, _⟩ => ⟨S2x4096x1024, .f32⟩
  | .hbm, ⟨28, _⟩ => ⟨S2x4096x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S_, .f32⟩
  | .hbm, ⟨33, _⟩ => ⟨S1024, .f32⟩
  | .hbm, ⟨34, _⟩ => ⟨S1x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Kernel23.lean ====
abbrev S2x4096x512 : Shape := ⟨3, ![2, 4096, 512]⟩
abbrev S512x1024 : Shape := ⟨2, ![512, 1024]⟩
abbrev S2x4096x1024 : Shape := ⟨3, ![2, 4096, 1024]⟩
abbrev S8192x512 : Shape := ⟨2, ![8192, 512]⟩
abbrev S8192x1024 : Shape := ⟨2, ![8192, 1024]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x512, .f32⟩
  | .hbm, ⟨1, _⟩ => ⟨S512x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S8192x512, .f32⟩
  | .hbm, ⟨6, _⟩ => ⟨S512x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference23Ideal.lean ====
abbrev S2x4096x512 : Shape := ⟨3, ![2, 4096, 512]⟩
abbrev S512x1024 : Shape := ⟨2, ![512, 1024]⟩
abbrev S2x4096x1024 : Shape := ⟨3, ![2, 4096, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S8192x1024, .f32⟩
  | .hbm, ⟨7, _⟩ => ⟨S2x4096x1024, .f32⟩
  | .hbm, ⟨8, _⟩ => ⟨S2x4096x1024, .f32⟩
  | .hbm, ⟨9, _⟩ => ⟨S_, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096x1024, .f32⟩
  | .hbm, ⟨20, _⟩ => ⟨S2x4096x1024, .f32⟩
  | .hbm, ⟨21, _⟩ => ⟨S_, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S8192x1024, .f32⟩
  | .hbm, ⟨27, _⟩ => ⟨S8192x1024, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel24.lean ====
abbrev S2x4096x1024 : Shape := ⟨3, ![2, 4096, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference24Ideal.lean ====
abbrev S2x4096x1024 : Shape := ⟨3, ![2, 4096, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S1024, .f32⟩
  | .hbm, ⟨4, _⟩ => ⟨S2x4096x1024, .f32⟩
  | .hbm, ⟨5, _⟩ => ⟨S2x4096x1024, .f32⟩
  | .hbm, ⟨6, _⟩ => ⟨S8192x1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1024, .f32⟩
  | .hbm, ⟨19, _⟩ => ⟨S2x4096x1024, .f32⟩
  | .hbm, ⟨20, _⟩ => ⟨S1x1x1024, .f32⟩
  | .hbm, ⟨21, _⟩ => ⟨S2x4096x1024, .f32⟩
  | .hbm, ⟨22, _⟩ => ⟨S2x4096x1024, .f32⟩
  | .hbm, ⟨23, _⟩ => ⟨S8192x1024, .f32⟩
  | .hbm, ⟨24, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel25.lean ====
abbrev S2x4096x1024 : Shape := ⟨3, ![2, 4096, 1024]⟩
abbrev S1024x2048 : Shape := ⟨2, ![1024, 2048]⟩
abbrev S1024 : Shape := ⟨1, ![1024]⟩
abbrev S8192x1024 : Shape := ⟨2, ![8192, 1024]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S1024x2048, .f32⟩
  | .hbm, ⟨2, _⟩ => ⟨S1024, .f32⟩
  | .hbm, ⟨3, _⟩ => ⟨S8192x1024, .f32⟩
  | .hbm, ⟨4, _⟩ => ⟨S1024x2048, .bf16⟩
  | .hbm, ⟨5, _⟩ => ⟨S1x1024, .f32⟩
  | .hbm, ⟨6, _⟩ => ⟨S8192x2048, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x1024, .f32⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]
-- ==== Reference25Ideal.lean ====
abbrev S2x4096x1024 : Shape := ⟨3, ![2, 4096, 1024]⟩
abbrev S1024x2048 : Shape := ⟨2, ![1024, 2048]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2048 : Shape := ⟨3, ![2, 4096, 2048]⟩
abbrev S8192x2048 : Shape := ⟨2, ![8192, 2048]⟩
abbrev S8192x1024 : Shape := ⟨2, ![8192, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x2048, .f32⟩
  | .hbm, ⟨2, _⟩ => ⟨S1024, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1024, .f32⟩
  | .hbm, ⟨15, _⟩ => ⟨S2x4096x1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S2x4096x2048, .f32⟩
  | .hbm, ⟨20, _⟩ => ⟨S8192x2048, .f32⟩
  | .hbm, ⟨21, _⟩ => ⟨S8192x1024, .f32⟩
  | .hbm, ⟨22, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel26.lean ====
abbrev S2x4096x2048 : Shape := ⟨3, ![2, 4096, 2048]⟩
abbrev S2048x1024 : Shape := ⟨2, ![2048, 1024]⟩
abbrev S2048 : Shape := ⟨1, ![2048]⟩
abbrev S8192x2048 : Shape := ⟨2, ![8192, 2048]⟩
abbrev S1x2048 : Shape := ⟨2, ![1, 2048]⟩
abbrev S8192x1024 : Shape := ⟨2, ![8192, 1024]⟩
abbrev S512x2048 : Shape := ⟨2, ![512, 2048]⟩
abbrev S512x1024 : Shape := ⟨2, ![512, 1024]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x1024, .f32⟩
  | .hbm, ⟨2, _⟩ => ⟨S2x4096x2048, .f32⟩
  | .hbm, ⟨3, _⟩ => ⟨S2048, .f32⟩
  | .hbm, ⟨4, _⟩ => ⟨S8192x2048, .f32⟩
  | .hbm, ⟨5, _⟩ => ⟨S2048x1024, .bf16⟩
  | .hbm, ⟨6, _⟩ => ⟨S8192x2048, .f32⟩
  | .hbm, ⟨7, _⟩ => ⟨S1x2048, .f32⟩
  | .hbm, ⟨8, _⟩ => ⟨S8192x1024, .f32⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]
-- ==== Reference26Ideal.lean ====
abbrev S2x4096x2048 : Shape := ⟨3, ![2, 4096, 2048]⟩
abbrev S2048x1024 : Shape := ⟨2, ![2048, 1024]⟩
abbrev S2048 : Shape := ⟨1, ![2048]⟩
abbrev S_ : Shape := ⟨0, ![]⟩
abbrev S2x4096x8x256 : Shape := ⟨4, ![2, 4096, 8, 256]⟩
abbrev S8x256 : Shape := ⟨2, ![8, 256]⟩
abbrev S2x4096x8 : Shape := ⟨3, ![2, 4096, 8]⟩
abbrev S2x4096x8x1 : Shape := ⟨4, ![2, 4096, 8, 1]⟩
abbrev S1x1x8x256 : Shape := ⟨4, ![1, 1, 8, 256]⟩
abbrev S2x4096x1024 : Shape := ⟨3, ![2, 4096, 1024]⟩
abbrev S8192x1024 : Shape := ⟨2, ![8192, 1024]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x1024, .f32⟩
  | .hbm, ⟨2, _⟩ => ⟨S2x4096x2048, .f32⟩
  | .hbm, ⟨3, _⟩ => ⟨S2048, .f32⟩
  | .hbm, ⟨4, _⟩ => ⟨S2x4096x2048, .f32⟩
  | .hbm, ⟨5, _⟩ => ⟨S2x4096x2048, .f32⟩
  | .hbm, ⟨6, _⟩ => ⟨S_, .f32⟩
  | .hbm, ⟨7, _⟩ => ⟨S2x4096x2048, .f32⟩
  | .hbm, ⟨8, _⟩ => ⟨S2x4096x2048, .f32⟩
  | .hbm, ⟨9, _⟩ => ⟨S_, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x8x256, .f32⟩
  | .hbm, ⟨15, _⟩ => ⟨S8x256, .f32⟩
  | .hbm, ⟨16, _⟩ => ⟨S2x4096x8x256, .f32⟩
  | .hbm, ⟨17, _⟩ => ⟨S_, .f32⟩
  | .hbm, ⟨18, _⟩ => ⟨S2x4096x8, .f32⟩
  | .hbm, ⟨19, _⟩ => ⟨S2x4096x8x1, .f32⟩
  | .hbm, ⟨20, _⟩ => ⟨S_, .f32⟩
  | .hbm, ⟨21, _⟩ => ⟨S2x4096x8x1, .f32⟩
  | .hbm, ⟨22, _⟩ => ⟨S2x4096x8x1, .f32⟩
  | .hbm, ⟨23, _⟩ => ⟨S_, .f32⟩
  | .hbm, ⟨24, _⟩ => ⟨S2x4096x8x1, .f32⟩
  | .hbm, ⟨25, _⟩ => ⟨S2x4096x8x1, .f32⟩
  | .hbm, ⟨26, _⟩ => ⟨S2x4096x8x1, .f32⟩
  | .hbm, ⟨27, _⟩ => ⟨S2x4096x8x256, .f32⟩
  | .hbm, ⟨28, _⟩ => ⟨S2x4096x8x256, .f32⟩
  | .hbm, ⟨29, _⟩ => ⟨S1x1x8x256, .f32⟩
  | .hbm, ⟨30, _⟩ => ⟨S2x4096x8x256, .f32⟩
  | .hbm, ⟨31, _⟩ => ⟨S2x4096x8x256, .f32⟩
  | .hbm, ⟨32, _⟩ => ⟨S2x4096x2048, .f32⟩
  | .hbm, ⟨33, _⟩ => ⟨S2x4096x1024, .f32⟩
  | .hbm, ⟨34, _⟩ => ⟨S8192x1024, .f32⟩
  | .hbm, ⟨35, _⟩ => ⟨S8192x2048, .f32⟩
  | .hbm, ⟨36, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel27.lean ====
abbrev S2x4096x1024 : Shape := ⟨3, ![2, 4096, 1024]⟩
abbrev S1024x1536 : Shape := ⟨2, ![1024, 1536]⟩
abbrev S64 : Shape := ⟨1, ![64]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S_ : Shape := ⟨0, ![]⟩
abbrev S1x1536 : Shape := ⟨2, ![1, 1536]⟩
abbrev S8192x1024 : Shape := ⟨2, ![8192, 1024]⟩
abbrev S8192x1536 : Shape := ⟨2, ![8192, 1536]⟩
abbrev S1024x1024 : Shape := ⟨2, ![1024, 1024]⟩
abbrev S1024x512 : Shape := ⟨2, ![1024, 512]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 23
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S1024x1536, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S1x1x1x64, .f32⟩
  | .hbm, ⟨6, _⟩ => ⟨S1x1x8x64, .f32⟩
  | .hbm, ⟨7, _⟩ => ⟨S1x512, .f32⟩
  | .hbm, ⟨8, _⟩ => ⟨S1x64, .f32⟩
  | .hbm, ⟨9, _⟩ => ⟨S1x1x1x64, .f32⟩
  | .hbm, ⟨10, _⟩ => ⟨S1x1x8x64, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x1536, .f32⟩
  | .hbm, ⟨18, _⟩ => ⟨S8192x1024, .f32⟩
  | .hbm, ⟨19, _⟩ => ⟨S8192x1024, .bf16⟩
  | .hbm, ⟨20, _⟩ => ⟨S1024x1536, .bf16⟩
  | .hbm, ⟨21, _⟩ => ⟨S8192x1536, .f32⟩
  | .hbm, ⟨22, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1x1536, .f32⟩
  | .local _ .vmem, ⟨4, _⟩ => ⟨S1024x1536, .f32⟩
  | .local _ .vmem, ⟨5, _⟩ => ⟨S1024x1536, .f32⟩
  | .local _ .vmem, ⟨6, _⟩ => ⟨S1024x1536, .bf16⟩
  | .local _ .vmem, ⟨7, _⟩ => ⟨S1024x1536, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference27Ideal.lean ====
abbrev S2x4096x1024 : Shape := ⟨3, ![2, 4096, 1024]⟩
abbrev S1024x1536 : Shape := ⟨2, ![1024, 1536]⟩
abbrev S64 : Shape := ⟨1, ![64]⟩
abbrev S2x4096x1536 : Shape := ⟨3, ![2, 4096, 1536]⟩
abbrev S2x4096x512 : Shape := ⟨3, ![2, 4096, 512]⟩
abbrev S8192x1536 : Shape := ⟨2, ![8192, 1536]⟩
abbrev S2x4096x8x64 : Shape := ⟨4, ![2, 4096, 8, 64]⟩
abbrev S_ : Shape := ⟨0, ![]⟩
abbrev S2x4096x8 : Shape := ⟨3, ![2, 4096, 8]⟩
abbrev S2x4096x8x1 : Shape := ⟨4, ![2, 4096, 8, 1]⟩
abbrev S1x1x1x64 : Shape := ⟨4, ![1, 1, 1, 64]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1536, .f32⟩
  | .hbm, ⟨2, _⟩ => ⟨S64, .f32⟩
  | .hbm, ⟨3, _⟩ => ⟨S64, .f32⟩
  | .hbm, ⟨4, _⟩ => ⟨S2x4096x1536, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S8192x1536, .f32⟩
  | .hbm, ⟨9, _⟩ => ⟨S2x4096x8x64, .f32⟩
  | .hbm, ⟨10, _⟩ => ⟨S2x4096x8x64, .f32⟩
  | .hbm, ⟨11, _⟩ => ⟨S_, .f32⟩
  | .hbm, ⟨12, _⟩ => ⟨S2x4096x8, .f32⟩
  | .hbm, ⟨13, _⟩ => ⟨S2x4096x8x1, .f32⟩
  | .hbm, ⟨14, _⟩ => ⟨S_, .f32⟩
  | .hbm, ⟨15, _⟩ => ⟨S2x4096x8x1, .f32⟩
  | .hbm, ⟨16, _⟩ => ⟨S2x4096x8x1, .f32⟩
  | .hbm, ⟨17, _⟩ => ⟨S_, .f32⟩
  | .hbm, ⟨18, _⟩ => ⟨S2x4096x8x1, .f32⟩
  | .hbm, ⟨19, _⟩ => ⟨S2x4096x8x1, .f32⟩
  | .hbm, ⟨20, _⟩ => ⟨S2x4096x8x1, .f32⟩
  | .hbm, ⟨21, _⟩ => ⟨S2x4096x8x64, .f32⟩
  | .hbm, ⟨22, _⟩ => ⟨S2x4096x8x64, .f32⟩
  | .hbm, ⟨23, _⟩ => ⟨S1x1x1x64, .f32⟩
  | .hbm, ⟨24, _⟩ => ⟨S2x4096x8x64, .f32⟩
  | .hbm, ⟨25, _⟩ => ⟨S2x4096x8x64, .f32⟩
  | .hbm, ⟨26, _⟩ => ⟨S2x4096x512, .f32⟩
  | .hbm, ⟨27, _⟩ => ⟨S_, .f32⟩
  | .hbm, ⟨28, _⟩ => ⟨S2x4096x512, .f32⟩
  | .hbm, ⟨29, _⟩ => ⟨S2x4096x512, .f32⟩
  | .hbm, ⟨30, _⟩ => ⟨S2x4096x8x64, .f32⟩
  | .hbm, ⟨31, _⟩ => ⟨S2x4096x8x64, .f32⟩
  | .hbm, ⟨32, _⟩ => ⟨S_, .f32⟩
  | .hbm, ⟨33, _⟩ => ⟨S2x4096x8, .f32⟩
  | .hbm, ⟨34, _⟩ => ⟨S2x4096x8x1, .f32⟩
  | .hbm, ⟨35, _⟩ => ⟨S_, .f32⟩
  | .hbm, ⟨36, _⟩ => ⟨S2x4096x8x1, .f32⟩
  | .hbm, ⟨37, _⟩ => ⟨S2x4096x8x1, .f32⟩
  | .hbm, ⟨38, _⟩ => ⟨S_, .f32⟩
  | .hbm, ⟨39, _⟩ => ⟨S2x4096x8x1, .f32⟩
  | .hbm, ⟨40, _⟩ => ⟨S2x4096x8x1, .f32⟩
  | .hbm, ⟨41, _⟩ => ⟨S2x4096x8x1, .f32⟩
  | .hbm, ⟨42, _⟩ => ⟨S2x4096x8x64, .f32⟩
  | .hbm, ⟨43, _⟩ => ⟨S2x4096x8x64, .f32⟩
  | .hbm, ⟨44, _⟩ => ⟨S1x1x1x64, .f32⟩
  | .hbm, ⟨45, _⟩ => ⟨S2x4096x8x64, .f32⟩
  | .hbm, ⟨46, _⟩ => ⟨S2x4096x8x64, .f32⟩
  | .hbm, ⟨47, _⟩ => ⟨S2x4096x512, .f32⟩
  | .hbm, ⟨48, _⟩ => ⟨S2x4096x1536, .f32⟩
  | .hbm, ⟨49, _⟩ => ⟨S8192x1536, .f32⟩
  | .hbm, ⟨50, _⟩ => ⟨S8192x1536, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Rows.lean ====
module

public import Idealize.ShloMosaic.Lib.Pointwise
public import Idealize.ShloMosaic.Lib.ValueIdx

/-! Sums over rows of tokens, by sequence and by block. -/

@[expose] public section

namespace Cert.Rows

/-- A row's sequence. -/
def seq (r : Fin 8192) : Fin 2 := ⟨r.val / 4096, by omega⟩

/-- A row's place in its sequence. -/
def place (r : Fin 8192) : Fin 4096 := ⟨r.val % 4096, by omega⟩

/-- Rows named one for one by sequences and tokens: the contraction of two arrays over the rows is the one over sequences and tokens. -/
theorem contract_by (p : Fin 8192 → Fin 2 × Fin 4096) (hp : p.Bijective) {A B : Fin 8192 → EReal} {A' B' : Fin 2 → Fin 4096 → EReal}
    (ha : ∀ r, A r = A' (p r).1 (p r).2) (hb : ∀ r, B r = B' (p r).1 (p r).2) :
    ∑ k, A k * B k = ∑ b, ∑ s, B' b s * A' b s := by
  rw [← Fintype.sum_prod_type' (f := fun b s => B' b s * A' b s)]
  refine Fintype.sum_bijective p hp _ _ fun r => ?_
  rw [ha, hb, mul_comm]

/-- One-to-one names of the rows name every token. -/
theorem bijective_of_injective (p : Fin 8192 → Fin 2 × Fin 4096) (h : p.Injective) : p.Bijective :=
  (Fintype.bijective_iff_injective_and_card p).mpr ⟨h, by simp⟩

/-- The same for rows in the tokens' order. -/
theorem contract {A B : Fin 8192 → EReal} {A' B' : Fin 2 → Fin 4096 → EReal} (ha : ∀ r, A r = A' (seq r) (place r))
    (hb : ∀ r, B r = B' (seq r) (place r)) : ∑ k, A k * B k = ∑ b, ∑ s, B' b s * A' b s := by
  refine contract_by (fun r => (seq r, place r)) (bijective_of_injective _ fun r r' h => ?_) ha hb
  have h0 : r.val / 4096 = r'.val / 4096 := congrArg (fun q => q.1.val) h
  have h1 : r.val % 4096 = r'.val % 4096 := congrArg (fun q => q.2.val) h
  apply Fin.ext; omega

/-- The token of a row when the rows of each sequence are ordered by residue mod 4. -/
def res4 (r : Fin 8192) : Fin 2 × Fin 4096 := (seq r, ⟨r.val % 1024 * 4 + r.val / 1024 % 4, by omega⟩)

/-- The token of a row when the rows of each sequence are ordered by residue mod 16. -/
def res16 (r : Fin 8192) : Fin 2 × Fin 4096 := (seq r, ⟨r.val % 256 * 16 + r.val / 256 % 16, by omega⟩)

/-- A place in base `D` has one leading part and one last digit. -/
theorem digits {D i j i' j' : ℕ} (hj : j < D) (hj' : j' < D) (h : i * D + j = i' * D + j') : i = i' ∧ j = j' := by
  have e : j = j' := by
    have := congrArg (· % D) h
    simpa [Nat.mod_eq_of_lt hj, Nat.mod_eq_of_lt hj'] using this
  subst e
  exact ⟨Nat.eq_of_mul_eq_mul_right (Nat.lt_of_le_of_lt (Nat.zero_le _) hj) (Nat.add_right_cancel h), rfl⟩

/-- A row is fixed by its sequence, its residue and its place among the rows of that residue. -/
theorem row_ext {L D x x' : ℕ} (h0 : x / (L * D) = x' / (L * D)) (h1 : x / L % D = x' / L % D) (h2 : x % L = x' % L) : x = x' := by
  rw [← Nat.div_div_eq_div_mul, ← Nat.div_div_eq_div_mul] at h0
  rw [← Nat.div_add_mod x L, ← Nat.div_add_mod x' L, ← Nat.div_add_mod (x / L) D, ← Nat.div_add_mod (x' / L) D, h0, h1, h2]

theorem res4_bijective : Function.Bijective res4 := by
  refine bijective_of_injective res4 fun r r' h => ?_
  have h0 : (res4 r).1.val = (res4 r').1.val := by rw [h]
  have h1 : (res4 r).2.val = (res4 r').2.val := by rw [h]
  obtain ⟨h2, h3⟩ := digits (D := 4) (Nat.mod_lt _ (by decide)) (Nat.mod_lt _ (by decide)) h1
  exact Fin.ext (row_ext (L := 1024) (D := 4) h0 h3 h2)

theorem res16_bijective : Function.Bijective res16 := by
  refine bijective_of_injective res16 fun r r' h => ?_
  have h0 : (res16 r).1.val = (res16 r').1.val := by rw [h]
  have h1 : (res16 r).2.val = (res16 r').2.val := by rw [h]
  obtain ⟨h2, h3⟩ := digits (D := 16) (Nat.mod_lt _ (by decide)) (Nat.mod_lt _ (by decide)) h1
  exact Fin.ext (row_ext (L := 256) (D := 16) h0 h3 h2)

theorem split {q u : ℕ} (hu : u < 4096) : (q * 4096 + u) / 4096 = q ∧ (q * 4096 + u) % 4096 = u := by omega

theorem res4_fst (r : Fin 8192) (h : (r.val / 4096 * 4096 + r.val % 1024 * 4 + r.val / 1024 % 4) / 4096 < 2) :
    (⟨(r.val / 4096 * 4096 + r.val % 1024 * 4 + r.val / 1024 % 4) / 4096, h⟩ : Fin 2) = (res4 r).1 :=
  Fin.ext ((congrArg (· / 4096) (Nat.add_assoc _ _ _)).trans (split (res4 r).2.isLt).1)

theorem res4_snd (r : Fin 8192) (h : (r.val / 4096 * 4096 + r.val % 1024 * 4 + r.val / 1024 % 4) % 4096 < 4096) :
    (⟨(r.val / 4096 * 4096 + r.val % 1024 * 4 + r.val / 1024 % 4) % 4096, h⟩ : Fin 4096) = (res4 r).2 :=
  Fin.ext ((congrArg (· % 4096) (Nat.add_assoc _ _ _)).trans (split (res4 r).2.isLt).2)

theorem res16_fst (r : Fin 8192) (h : (r.val / 4096 * 4096 + r.val % 256 * 16 + r.val / 256 % 16) / 4096 < 2) :
    (⟨(r.val / 4096 * 4096 + r.val % 256 * 16 + r.val / 256 % 16) / 4096, h⟩ : Fin 2) = (res16 r).1 :=
  Fin.ext ((congrArg (· / 4096) (Nat.add_assoc _ _ _)).trans (split (res16 r).2.isLt).1)

theorem res16_snd (r : Fin 8192) (h : (r.val / 4096 * 4096 + r.val % 256 * 16 + r.val / 256 % 16) % 4096 < 4096) :
    (⟨(r.val / 4096 * 4096 + r.val % 256 * 16 + r.val / 256 % 16) % 4096, h⟩ : Fin 4096) = (res16 r).2 :=
  Fin.ext ((congrArg (· % 4096) (Nat.add_assoc _ _ _)).trans (split (res16 r).2.isLt).2)

/-- Two contractions of equal arrays are equal. -/
theorem product_congr {n : ℕ} {A B A' B' : Fin n → EReal} (ha : ∀ k, A k = A' k) (hb : ∀ k, B k = B' k) :
    ∑ k, A k * B k = ∑ k, A' k * B' k :=
  Finset.sum_congr rfl fun k _ => by rw [ha, hb]

/-- A contraction and what is added to it, in either order. -/
theorem product_add_congr {n : ℕ} {A B A' B' : Fin n → EReal} {x x' : EReal} (ha : ∀ k, A k = A' k) (hb : ∀ k, B k = B' k)
    (hx : x = x') : ∑ k, A k * B k + x = x' + ∑ k, A' k * B' k := by
  rw [product_congr ha hb, hx, add_comm]

end Cert.Rows

end
-- ==== Proof.Weights.lean ====
module

public import proofs.«01_k».proof.Proof.Gen.Kernel2Ideal.Value
public import proofs.«01_k».proof.Proof.Gen.Reference2Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel11Ideal.Value
public import proofs.«01_k».proof.Proof.Gen.Reference11Ideal.Read
public import proofs.«01_k».proof.Proof.Rows
public import Idealize.ShloMosaic.Lib.Pipeline.ValueKit
public import Idealize.ShloMosaic.Lib.Claim

/-! The gradients of the weights of five products. -/

@[expose] public section

set_option maxRecDepth 16384

noncomputable section

open Idealize.ShloMosaic Idealize.ShloMosaic.TcCoe Idealize.SL.Sem Cert.Rows

/-! ## The weights of the mixer input -/

namespace Cert.Kernel2Ideal.Product

open Cert.Kernel2Ideal Cert.Kernel2Ideal.Gen Cert.Reference2Ideal.Read

variable (m : (ℓ : Loc nD τ sig) → Buf (Elt Ideal) ℓ) (c : Dev nD)

theorem idx : ∀ t : Fin cfg0.N, win0_0.index t = ![0, t.val / 8] ∧ win0_1.index t = ![0, t.val % 8]
    ∧ win0_2.index t = ![t.val / 8, t.val % 8] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- A row of the second operand at entry: a token of the second argument. -/
theorem right (r : Fin 8192) (l : Fin 4096) : (V m c (Pipeline.arrRef spec0 1) : S8192x4096.Idx → EReal) (ix2 r l)
    = (m ((c : Thread nD τ).loc main_arg1) : S2x4096x4096.Idx → EReal) (ix3 (seq r) (place r) l) := by
  entry_read
  pointwise []
  rfl

set_option maxHeartbeats 2000000 in
/-- The array after the run is the reference's. -/
theorem final : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 16 := lt_of_lt_of_eq t.isLt N_0
  pointwise [k0_pay1, val_main_v4, val_main_v3, val_main_v2]
  refine contract (fun r => ?_) (fun r => ?_)
  · refine Eq.trans ?_ (left m c r _)
    blk_point [iblk, idx t]
  · refine Eq.trans ?_ (right m c r _)
    blk_point [iblk, idx t]

end Cert.Kernel2Ideal.Product

/-! ## The weights of the mixer gate -/

namespace Cert.Kernel6Ideal.Product

open Cert.Kernel6Ideal Cert.Kernel6Ideal.Gen Cert.Reference6Ideal.Read

variable (m : (ℓ : Loc nD τ sig) → Buf (Elt Ideal) ℓ) (c : Dev nD)

theorem idx : ∀ t : Fin cfg0.N, win0_0.index t = ![0, t.val / 4] ∧ win0_1.index t = ![0, t.val % 4]
    ∧ win0_2.index t = ![t.val / 4, t.val % 4] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- A row of the second operand at entry: a token of the second argument. -/
theorem right (r : Fin 8192) (l : Fin 2048) : (V m c (Pipeline.arrRef spec0 1) : S8192x2048.Idx → EReal) (ix2 r l)
    = (m ((c : Thread nD τ).loc main_arg1) : S2x4096x2048.Idx → EReal) (ix3 (seq r) (place r) l) := by
  entry_read
  pointwise []
  rfl

set_option maxHeartbeats 2000000 in
/-- The array after the run is the reference's. -/
theorem final : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 8 := lt_of_lt_of_eq t.isLt N_0
  pointwise [k0_pay1, val_main_v4, val_main_v3, val_main_v2]
  refine contract (fun r => ?_) (fun r => ?_)
  · refine Eq.trans ?_ (left m c r _)
    blk_point [iblk, idx t]
  · refine Eq.trans ?_ (right m c r _)
    blk_point [iblk, idx t]

end Cert.Kernel6Ideal.Product

/-! ## The weights of a merge gate, and of the output -/

namespace Cert.Kernel7Ideal.Product

open Cert.Kernel7Ideal Cert.Kernel7Ideal.Gen Cert.Reference7Ideal.Read

variable (m : (ℓ : Loc nD τ sig) → Buf (Elt Ideal) ℓ) (c : Dev nD)

theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- A row of the second operand at entry: a token of the second argument. -/
theorem right (r : Fin 8192) (l : Fin 1024) : (V m c (Pipeline.arrRef spec0 1) : S8192x1024.Idx → EReal) (ix2 r l)
    = (m ((c : Thread nD τ).loc main_arg1) : S2x4096x1024.Idx → EReal) (ix3 (seq r) (place r) l) := by
  entry_read
  pointwise []
  rfl

set_option maxHeartbeats 2000000 in
/-- The array after the run is the reference's. -/
theorem final : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 4 := lt_of_lt_of_eq t.isLt N_0
  pointwise [k0_pay1, val_main_v4, val_main_v3, val_main_v2]
  refine contract (fun r => ?_) (fun r => ?_)
  · refine Eq.trans ?_ (left m c r _)
    blk_point [iblk, idx t]
  · refine Eq.trans ?_ (right m c r _)
    blk_point [iblk, idx t]

end Cert.Kernel7Ideal.Product

/-! ## The weights of the queries, keys and values of dilation 1 -/

namespace Cert.Kernel8Ideal.Product

open Cert.Kernel8Ideal Cert.Kernel8Ideal.Gen Cert.Reference8Ideal.Read

variable (m : (ℓ : Loc nD τ sig) → Buf (Elt Ideal) ℓ) (c : Dev nD)

theorem idx : ∀ t : Fin cfg0.N, win0_0.index t = ![0, t.val / 3] ∧ win0_1.index t = ![0, t.val % 3]
    ∧ win0_2.index t = ![t.val / 3, t.val % 3] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- A row of the second operand at entry: a token of the second argument. -/
theorem right (r : Fin 8192) (l : Fin 1536) : (V m c (Pipeline.arrRef spec0 1) : S8192x1536.Idx → EReal) (ix2 r l)
    = (m ((c : Thread nD τ).loc main_arg1) : S2x4096x1536.Idx → EReal) (ix3 (seq r) (place r) l) := by
  entry_read
  pointwise []
  rfl

set_option maxHeartbeats 2000000 in
/-- The array after the run is the reference's. -/
theorem final : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 6 := lt_of_lt_of_eq t.isLt N_0
  pointwise [k0_pay1, val_main_v4, val_main_v3, val_main_v2]
  refine contract (fun r => ?_) (fun r => ?_)
  · refine Eq.trans ?_ (left m c r _)
    blk_point [iblk, idx t]
  · refine Eq.trans ?_ (right m c r _)
    blk_point [iblk, idx t]

end Cert.Kernel8Ideal.Product

/-! ## The weights of the mixer's output -/

namespace Cert.Kernel11Ideal.Product

open Cert.Kernel11Ideal Cert.Kernel11Ideal.Gen Cert.Reference11Ideal.Read

variable (m : (ℓ : Loc nD τ sig) → Buf (Elt Ideal) ℓ) (c : Dev nD)

theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- A row of the first operand at entry: a token of the first argument. -/
theorem left (r : Fin 8192) (l : Fin 2048) : (V m c (Pipeline.arrRef spec0 0) : S8192x2048.Idx → EReal) (ix2 r l)
    = (m ((c : Thread nD τ).loc main_arg0) : S2x4096x2048.Idx → EReal) (ix3 (seq r) (place r) l) := by
  entry_read
  pointwise []
  rfl

/-- A row of the second operand at entry: a token of the second argument. -/
theorem right (r : Fin 8192) (l : Fin 1024) : (V m c (Pipeline.arrRef spec0 1) : S8192x1024.Idx → EReal) (ix2 r l)
    = (m ((c : Thread nD τ).loc main_arg1) : S2x4096x1024.Idx → EReal) (ix3 (seq r) (place r) l) := by
  entry_read
  pointwise []
  rfl

set_option maxHeartbeats 2000000 in
/-- The array after the run is the reference's. -/
theorem final : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 8 := lt_of_lt_of_eq t.isLt N_0
  pointwise [k0_pay1, val_main_v4, val_main_v3, val_main_v2]
  refine contract (fun r => ?_) (fun r => ?_)
  · refine Eq.trans ?_ (left m c r _)
    blk_point [iblk, idx t]
  · refine Eq.trans ?_ (right m c r _)
    blk_point [iblk, idx t]

end Cert.Kernel11Ideal.Product

end
-- ==== Proof.WeightsRes.lean ====
module

public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Rows
public import Idealize.ShloMosaic.Lib.Pipeline.ValueKit
public import Idealize.ShloMosaic.Lib.Claim

/-! The gradients of the weights of the queries, keys and values, with the tokens' rows by residue. -/

@[expose] public section

set_option maxRecDepth 16384

noncomputable section

open Idealize.ShloMosaic Idealize.ShloMosaic.TcCoe Idealize.SL.Sem Cert.Rows

/-! ## Dilation 4 -/

namespace Cert.Kernel9Ideal.Product

open Cert.Kernel9Ideal Cert.Kernel9Ideal.Gen Cert.Reference9Ideal.Read

variable (m : (ℓ : Loc nD τ sig) → Buf (Elt Ideal) ℓ) (c : Dev nD)

theorem idx : ∀ t : Fin cfg0.N, win0_0.index t = ![0, t.val / 3] ∧ win0_1.index t = ![0, t.val % 3]
    ∧ win0_2.index t = ![t.val / 3, t.val % 3] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (res4 r).1 (res4 r).2 l) := by
  entry_read
  pointwise []
  exact congrArg₂ (fun a b => (m ((c : Thread nD τ).loc main_arg0) : S2x4096x1024.Idx → EReal) (ix3 a b l)) (res4_fst r _) (res4_snd r _)

/-- A row of the second operand at entry: a token of the second argument. -/
theorem right (r : Fin 8192) (l : Fin 1536) : (V m c (Pipeline.arrRef spec0 1) : S8192x1536.Idx → EReal) (ix2 r l)
    = (m ((c : Thread nD τ).loc main_arg1) : S2x4096x1536.Idx → EReal) (ix3 (res4 r).1 (res4 r).2 l) := by
  entry_read
  pointwise []
  exact congrArg₂ (fun a b => (m ((c : Thread nD τ).loc main_arg1) : S2x4096x1536.Idx → EReal) (ix3 a b l)) (res4_fst r _) (res4_snd r _)

set_option maxHeartbeats 2000000 in
/-- The array after the run is the reference's. -/
theorem final : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 6 := lt_of_lt_of_eq t.isLt N_0
  pointwise [k0_pay1, val_main_v4, val_main_v3, val_main_v2]
  refine contract_by res4 res4_bijective (fun r => ?_) (fun r => ?_)
  · refine Eq.trans ?_ (left m c r _)
    blk_point [iblk, idx t]
  · refine Eq.trans ?_ (right m c r _)
    blk_point [iblk, idx t]

end Cert.Kernel9Ideal.Product

/-! ## Dilation 16 -/

namespace Cert.Kernel10Ideal.Product

open Cert.Kernel10Ideal Cert.Kernel10Ideal.Gen Cert.Reference10Ideal.Read

variable (m : (ℓ : Loc nD τ sig) → Buf (Elt Ideal) ℓ) (c : Dev nD)

theorem idx : ∀ t : Fin cfg0.N, win0_0.index t = ![0, t.val / 3] ∧ win0_1.index t = ![0, t.val % 3]
    ∧ win0_2.index t = ![t.val / 3, t.val % 3] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (res16 r).1 (res16 r).2 l) := by
  entry_read
  pointwise []
  exact congrArg₂ (fun a b => (m ((c : Thread nD τ).loc main_arg0) : S2x4096x1024.Idx → EReal) (ix3 a b l)) (res16_fst r _) (res16_snd r _)

/-- A row of the second operand at entry: a token of the second argument. -/
theorem right (r : Fin 8192) (l : Fin 1536) : (V m c (Pipeline.arrRef spec0 1) : S8192x1536.Idx → EReal) (ix2 r l)
    = (m ((c : Thread nD τ).loc main_arg1) : S2x4096x1536.Idx → EReal) (ix3 (res16 r).1 (res16 r).2 l) := by
  entry_read
  pointwise []
  exact congrArg₂ (fun a b => (m ((c : Thread nD τ).loc main_arg1) : S2x4096x1536.Idx → EReal) (ix3 a b l)) (res16_fst r _) (res16_snd r _)

set_option maxHeartbeats 2000000 in
/-- The array after the run is the reference's. -/
theorem final : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 6 := lt_of_lt_of_eq t.isLt N_0
  pointwise [k0_pay1, val_main_v4, val_main_v3, val_main_v2]
  refine contract_by res16 res16_bijective (fun r => ?_) (fun r => ?_)
  · refine Eq.trans ?_ (left m c r _)
    blk_point [iblk, idx t]
  · refine Eq.trans ?_ (right m c r _)
    blk_point [iblk, idx t]

end Cert.Kernel10Ideal.Product

end
-- ==== Proof.WeightsBlocked.lean ====
module

public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Rows
public import Idealize.ShloMosaic.Lib.Pipeline.ValueKit
public import Idealize.ShloMosaic.Lib.Claim

/-! The gradients of the weights of the widening and the narrowing products, accumulated over four blocks of rows. -/

@[expose] public section

set_option maxRecDepth 16384

noncomputable section

open Idealize.ShloMosaic Idealize.ShloMosaic.TcCoe Idealize.SL.Sem Cert.Rows

/-! ## The widening product, one half -/

namespace Cert.Kernel4Ideal.Product

open Cert.Kernel4Ideal Cert.Kernel4Ideal.Gen Cert.Reference4Ideal.Read

variable (m : (ℓ : Loc nD τ sig) → Buf (Elt Ideal) ℓ) (c : Dev nD)

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The first operand's row at entry: a token's row of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The second operand's row at entry: a token's row of the second argument. -/
theorem right (r : Fin 8192) (l : Fin 2816) : (V m c (Pipeline.arrRef spec0 1) : S8192x2816.Idx → EReal) (ix2 r l)
    = (m ((c : Thread nD τ).loc main_arg1) : S2x4096x2816.Idx → EReal) (ix3 (seq r) (place r) l) := by
  entry_read
  pointwise []
  rfl

/-- The accumulator starts at zero. -/
theorem hzero (j) : k0_pay1 (F := Ideal) j = 0 := by pointwise [k0_pay1]

/-- A block of rows adds its product. -/
theorem hpay (x0 : Vec Ideal S2048x512 .bf16) (acc : Vec Ideal S512x1408 .f32) (x1 : Vec Ideal S2048x1408 .bf16) (j : S512x1408.Idx) :
    k0_pay2 x0 acc x1 j = acc j + ∑ k : Fin 2048, x0 (ix2 k (j 0)) * x1 (ix2 k (j 1)) := by pointwise [k0_pay2]

/-- The result is the accumulator. -/
theorem hout (acc : Vec Ideal S512x1408 .f32) (j : S512x1408.Idx) : k0_pay3 acc j = acc j := by pointwise [k0_pay3]

/-- What one block of rows adds to an entry. -/
def part (p : Fin cfg0.N) (j : S512x1408.Idx) : EReal :=
  ∑ k : Fin 2048, (show FVec Ideal S2048x512 .bf16 from iblk m c 0 p) (ix2 k (j 0)) * (show FVec Ideal S2048x1408 .bf16 from iblk m c 1 p) (ix2 k (j 1))

/-- After the last block of rows the accumulator holds the sum of the four parts. -/
theorem acc_last (t : Fin cfg0.N) (h : t.val % 4 = 3) (j : S512x1408.Idx) : ((outsAt0 m c t.val t.isLt).2 : S512x1408.Idx → EReal) j
    = 0 + ∑ s : Fin 4, part m c ⟨4 * (t.val / 4) + s.val, Pipeline.run_point_lt_of_flush t h s⟩ j := by
  refine Pipeline.eq_sum_fin_of_reset_step_apply_of_flush (M := EReal) (fun n h => ((outsAt0 m c n h).2 : S512x1408.Idx → EReal)) 4 (fun _ => 0)
    (part m c) (fun t h j => ?_) (fun t h j => ?_) t h j
  · rw [outsAt0_A m c t h (by omega)]; frame_out; rw [hpay, hzero]; rfl
  · rcases Nat.eq_or_lt_of_le (show t.val % 4 ≤ 3 by omega) with h3 | h3
    · rw [outsAt0_C m c t h h3]; frame_out; rw [hpay]; exact congrArg (· + part m c t j) (congrFun (Memref.IsWhole.read_unread _ _) j)
    · rw [outsAt0_B m c t h (by omega)]; frame_out; rw [hpay]; exact congrArg (· + part m c t j) (congrFun (Memref.IsWhole.read_unread _ _) j)

/-- What is written back is the accumulator. -/
theorem out_last (t : Fin cfg0.N) (h : t.val % 4 = 3) (j : S512x1408.Idx) :
    (outsAt0 m c t.val t.isLt).1 j = (outsAt0 m c t.val t.isLt).2 j := by
  rw [outsAt0_C m c t (by omega) h]; frame_out; rw [hout]

set_option maxHeartbeats 2000000 in
/-- The array after the run is the reference's. -/
theorem final : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  have ht : t.val < 16 := lt_of_lt_of_eq t.isLt N_0
  have h3 := (flush0_2 t).mp hf
  rw [after0_2, out_last m c t h3, acc_last m c t h3, zero_add]
  pointwise [val_main_v4, val_main_v3, val_main_v2]
  rw [← contract (A := fun r => V m c (Pipeline.arrRef spec0 0) (ix2 r _)) (B := fun r => V m c (Pipeline.arrRef spec0 1) (ix2 r _))
    (fun r => left m c r _) (fun r => right m c r _)]
  unfold part
  refine Fin.sum_mul_add_congr fun s k hl => ?_
  blk_point [iblk, idx ⟨_, Pipeline.run_point_lt_of_flush t h3 s⟩, idx t]

end Cert.Kernel4Ideal.Product

/-! ## The narrowing product -/

namespace Cert.Kernel5Ideal.Product

open Cert.Kernel5Ideal Cert.Kernel5Ideal.Gen Cert.Reference5Ideal.Read

variable (m : (ℓ : Loc nD τ sig) → Buf (Elt Ideal) ℓ) (c : Dev nD)

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The first operand's row at entry: a token's row of the first argument. -/
theorem left (r : Fin 8192) (l : Fin 2816) : (V m c (Pipeline.arrRef spec0 0) : S8192x2816.Idx → EReal) (ix2 r l)
    = (m ((c : Thread nD τ).loc main_arg0) : S2x4096x2816.Idx → EReal) (ix3 (seq r) (place r) l) := by
  entry_read
  pointwise []
  rfl

/-- The second operand's row at entry: a token's row of the second argument. -/
theorem right (r : Fin 8192) (l : Fin 1024) : (V m c (Pipeline.arrRef spec0 1) : S8192x1024.Idx → EReal) (ix2 r l)
    = (m ((c : Thread nD τ).loc main_arg1) : S2x4096x1024.Idx → EReal) (ix3 (seq r) (place r) l) := by
  entry_read
  pointwise []
  rfl

/-- The accumulator starts at zero. -/
theorem hzero (j) : k0_pay1 (F := Ideal) j = 0 := by pointwise [k0_pay1]

/-- A block of rows adds its product. -/
theorem hpay (x0 : Vec Ideal S2048x1408 .bf16) (acc : Vec Ideal S1408x512 .f32) (x1 : Vec Ideal S2048x512 .bf16) (j : S1408x512.Idx) :
    k0_pay2 x0 acc x1 j = acc j + ∑ k : Fin 2048, x0 (ix2 k (j 0)) * x1 (ix2 k (j 1)) := by pointwise [k0_pay2]

/-- The result is the accumulator. -/
theorem hout (acc : Vec Ideal S1408x512 .f32) (j : S1408x512.Idx) : k0_pay3 acc j = acc j := by pointwise [k0_pay3]

/-- What one block of rows adds to an entry. -/
def part (p : Fin cfg0.N) (j : S1408x512.Idx) : EReal :=
  ∑ k : Fin 2048, (show FVec Ideal S2048x1408 .bf16 from iblk m c 0 p) (ix2 k (j 0)) * (show FVec Ideal S2048x512 .bf16 from iblk m c 1 p) (ix2 k (j 1))

/-- After the last block of rows the accumulator holds the sum of the four parts. -/
theorem acc_last (t : Fin cfg0.N) (h : t.val % 4 = 3) (j : S1408x512.Idx) : ((outsAt0 m c t.val t.isLt).2 : S1408x512.Idx → EReal) j
    = 0 + ∑ s : Fin 4, part m c ⟨4 * (t.val / 4) + s.val, Pipeline.run_point_lt_of_flush t h s⟩ j := by
  refine Pipeline.eq_sum_fin_of_reset_step_apply_of_flush (M := EReal) (fun n h => ((outsAt0 m c n h).2 : S1408x512.Idx → EReal)) 4 (fun _ => 0)
    (part m c) (fun t h j => ?_) (fun t h j => ?_) t h j
  · rw [outsAt0_A m c t h (by omega)]; frame_out; rw [hpay, hzero]; rfl
  · rcases Nat.eq_or_lt_of_le (show t.val % 4 ≤ 3 by omega) with h3 | h3
    · rw [outsAt0_C m c t h h3]; frame_out; rw [hpay]; exact congrArg (· + part m c t j) (congrFun (Memref.IsWhole.read_unread _ _) j)
    · rw [outsAt0_B m c t h (by omega)]; frame_out; rw [hpay]; exact congrArg (· + part m c t j) (congrFun (Memref.IsWhole.read_unread _ _) j)

/-- What is written back is the accumulator. -/
theorem out_last (t : Fin cfg0.N) (h : t.val % 4 = 3) (j : S1408x512.Idx) :
    (outsAt0 m c t.val t.isLt).1 j = (outsAt0 m c t.val t.isLt).2 j := by
  rw [outsAt0_C m c t (by omega) h]; frame_out; rw [hout]

set_option maxHeartbeats 2000000 in
/-- The array after the run is the reference's. -/
theorem final : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  have ht : t.val < 16 := lt_of_lt_of_eq t.isLt N_0
  have h3 := (flush0_2 t).mp hf
  rw [after0_2, out_last m c t h3, acc_last m c t h3, zero_add]
  pointwise [val_main_v4, val_main_v3, val_main_v2]
  rw [← contract (A := fun r => V m c (Pipeline.arrRef spec0 0) (ix2 r _)) (B := fun r => V m c (Pipeline.arrRef spec0 1) (ix2 r _))
    (fun r => left m c r _) (fun r => right m c r _)]
  unfold part
  refine Fin.sum_mul_add_congr fun s k hl => ?_
  blk_point [iblk, idx ⟨_, Pipeline.run_point_lt_of_flush t h3 s⟩, idx t]

end Cert.Kernel5Ideal.Product

end
-- ==== Proof.Inputs.lean ====
module

public import proofs.«01_k».proof.Proof.Gen.Kernel3Ideal.Value
public import proofs.«01_k».proof.Proof.Gen.Reference3Ideal.Read
public import proofs.«01_k».proof.Proof.Gen.Kernel12Ideal.Value
public import proofs.«01_k».proof.Proof.Gen.Reference12Ideal.Read
public import proofs.«01_k».proof.Proof.Gen.Kernel19Ideal.Value
public import proofs.«01_k».proof.Proof.Gen.Reference19Ideal.Read
public import proofs.«01_k».proof.Proof.Rows
public import Idealize.ShloMosaic.Lib.Pipeline.ValueKit
public import Idealize.ShloMosaic.Lib.Claim

/-! The gradients of the inputs of three products. -/

@[expose] public section

set_option maxRecDepth 16384

noncomputable section

open Idealize.ShloMosaic Idealize.ShloMosaic.TcCoe Idealize.SL.Sem Cert.Rows

/-! ## The activations before the narrowing product -/

namespace Cert.Kernel3Ideal.Product

open Cert.Kernel3Ideal Cert.Kernel3Ideal.Gen Cert.Reference3Ideal.Read

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 2816) (l : Fin 1024) : (V m c (Pipeline.arrRef spec0 1) : S2816x1024.Idx → EReal) (ix2 r l)
    = (m ((c : Thread nD τ).loc main_arg1) : S2816x1024.Idx → EReal) (ix2 r l) := by
  entry_read
  pointwise []

set_option maxHeartbeats 2000000 in
/-- The array after the run is the reference's. -/
theorem final : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 16 := lt_of_lt_of_eq t.isLt N_0
  pointwise [k0_pay1, val_main_v3, val_main_v2]
  refine product_congr (fun k => Eq.trans ?_ (left m c _ k)) (fun k => Eq.trans ?_ (weights m c _ _))
  · blk_point [iblk, idx t]
  · blk_point [iblk, idx t]
end Cert.Kernel3Ideal.Product

/-! ## The input of the widening product, one half -/

namespace Cert.Kernel12Ideal.Product

open Cert.Kernel12Ideal Cert.Kernel12Ideal.Gen Cert.Reference12Ideal.Read

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] :=
  (by decide +kernel : ∀ t : Fin grid0.N, _)

/-- A row of the first operand at entry: a token of the first argument. -/
theorem left (r : Fin 8192) (l : Fin 2816) : (V m c (Pipeline.arrRef spec0 0) : S8192x2816.Idx → EReal) (ix2 r l)
    = (m ((c : Thread nD τ).loc main_arg0) : S2x4096x2816.Idx → EReal) (ix3 (seq r) (place r) l) := by
  entry_read
  pointwise []
  rfl

/-- The weights at entry. -/
theorem weights (r : Fin 1024) (l : Fin 2816) : (V m c (Pipeline.arrRef spec0 1) : S1024x2816.Idx → EReal) (ix2 r l)
    = (m ((c : Thread nD τ).loc main_arg1) : S1024x2816.Idx → EReal) (ix2 r l) := by
  entry_read
  pointwise []

set_option maxHeartbeats 2000000 in
/-- The array after the run is the reference's. -/
theorem final : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 8 := lt_of_lt_of_eq t.isLt N_0
  pointwise [k0_pay1, val_main_v3, val_main_v2]
  refine product_congr (fun k => Eq.trans ?_ (left m c _ k)) (fun k => Eq.trans ?_ (weights m c _ _))
  · blk_point [iblk, idx t]
  · blk_point [iblk, idx t]
end Cert.Kernel12Ideal.Product

/-! ## The input of the attention branch's projection -/

namespace Cert.Kernel19Ideal.Product

open Cert.Kernel19Ideal Cert.Kernel19Ideal.Gen Cert.Reference19Ideal.Read

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 512) (l : Fin 1024) : (V m c (Pipeline.arrRef spec0 1) : S512x1024.Idx → EReal) (ix2 r l)
    = (m ((c : Thread nD τ).loc main_arg1) : S512x1024.Idx → EReal) (ix2 r l) := by
  entry_read
  pointwise []

set_option maxHeartbeats 2000000 in
/-- The array after the run is the reference's. -/
theorem final : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 4 := lt_of_lt_of_eq t.isLt N_0
  pointwise [k0_pay1, val_main_v3, val_main_v2]
  refine product_congr (fun k => Eq.trans ?_ (left m c _ k)) (fun k => Eq.trans ?_ (weights m c _ _))
  · blk_point [iblk, idx t]
  · blk_point [iblk, idx t]
end Cert.Kernel19Ideal.Product

end
-- ==== Proof.InputsAdded.lean ====
module

public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.Rows
public import Idealize.ShloMosaic.Lib.Pipeline.ValueKit
public import Idealize.ShloMosaic.Lib.Claim

/-! The gradients of the inputs of two products, added to a gradient that came before. -/

@[expose] public section

set_option maxRecDepth 16384

noncomputable section

open Idealize.ShloMosaic Idealize.ShloMosaic.TcCoe Idealize.SL.Sem Cert.Rows

/-! ## Through a merge gate -/

namespace Cert.Kernel13Ideal.Product

open Cert.Kernel13Ideal Cert.Kernel13Ideal.Gen Cert.Reference13Ideal.Read

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 1024) (l : Fin 1024) : (V m c (Pipeline.arrRef spec0 1) : S1024x1024.Idx → EReal) (ix2 r l)
    = (m ((c : Thread nD τ).loc main_arg1) : S1024x1024.Idx → EReal) (ix2 r l) := by
  entry_read
  pointwise []

/-- A row of what is added, at entry. -/
theorem added (r : Fin 8192) (l : Fin 1024) : (V m c (Pipeline.arrRef spec0 2) : S8192x1024.Idx → EReal) (ix2 r l)
    = (m ((c : Thread nD τ).loc main_arg2) : S2x4096x1024.Idx → EReal) (ix3 (seq r) (place r) l) := by
  entry_read
  pointwise []
  rfl

set_option maxHeartbeats 2000000 in
/-- The array after the run is the reference's. -/
theorem final : (dats m 0 c).arrAt 3 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have ht : t.val < 8 := lt_of_lt_of_eq t.isLt N_0
  pointwise [k0_pay1, val_main_v4, val_main_v3, val_main_v2]
  refine product_add_congr (fun k => Eq.trans ?_ (left m c _ k)) (fun k => Eq.trans ?_ (weights m c _ _)) (Eq.trans ?_ (added m c _ _))
  · blk_point [iblk, idx t]
  · blk_point [iblk, idx t]
  · blk_point [iblk, idx t]
end Cert.Kernel13Ideal.Product

/-! ## Through the queries, keys and values -/

namespace Cert.Kernel14Ideal.Product

open Cert.Kernel14Ideal Cert.Kernel14Ideal.Gen Cert.Reference14Ideal.Read

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- A row of the first operand at entry: a token of the first argument. -/
theorem left (r : Fin 8192) (l : Fin 1536) : (V m c (Pipeline.arrRef spec0 0) : S8192x1536.Idx → EReal) (ix2 r l)
    = (m ((c : Thread nD τ).loc main_arg0) : S2x4096x1536.Idx → EReal) (ix3 (seq r) (place r) l) := by
  entry_read
  pointwise []
  rfl

/-- The weights at entry. -/
theorem weights (r : Fin 1024) (l : Fin 1536) : (V m c (Pipeline.arrRef spec0 1) : S1024x1536.Idx → EReal) (ix2 r l)
    = (m ((c : Thread nD τ).loc main_arg1) : S1024x1536.Idx → EReal) (ix2 r l) := by
  entry_read
  pointwise []

/-- A row of what is added, at entry. -/
theorem added (r : Fin 8192) (l : Fin 1024) : (V m c (Pipeline.arrRef spec0 2) : S8192x1024.Idx → EReal) (ix2 r l)
    = (m ((c : Thread nD τ).loc main_arg2) : S2x4096x1024.Idx → EReal) (ix3 (seq r) (place r) l) := by
  entry_read
  pointwise []
  rfl

set_option maxHeartbeats 2000000 in
/-- The array after the run is the reference's. -/
theorem final : (dats m 0 c).arrAt 3 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have ht : t.val < 8 := lt_of_lt_of_eq t.isLt N_0
  pointwise [k0_pay1, val_main_v4, val_main_v3, val_main_v2]
  refine product_add_congr (fun k => Eq.trans ?_ (left m c _ k)) (fun k => Eq.trans ?_ (weights m c _ _)) (Eq.trans ?_ (added m c _ _))
  · blk_point [iblk, idx t]
  · blk_point [iblk, idx t]
  · blk_point [iblk, idx t]
end Cert.Kernel14Ideal.Product

end
-- ==== Proof.Forward.lean ====
module

public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Rows
public import Idealize.ShloMosaic.Lib.Pipeline.ValueKit
public import Idealize.ShloMosaic.Lib.Claim

/-! Three products of the forward pass. -/

@[expose] public section

set_option maxRecDepth 16384

noncomputable section

open Idealize.ShloMosaic Idealize.ShloMosaic.TcCoe Idealize.SL.Sem Cert.Rows

/-! ## The mixer input -/

namespace Cert.Kernel15Ideal.Product

open Cert.Kernel15Ideal Cert.Kernel15Ideal.Gen Cert.Reference15Ideal.Read

variable (m : (ℓ : Loc nD τ sig) → Buf (Elt Ideal) ℓ) (c : Dev nD)

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 1024) (l : Fin 4096) : (V m c (Pipeline.arrRef spec0 1) : S1024x4096.Idx → EReal) (ix2 r l)
    = (m ((c : Thread nD τ).loc main_arg1) : S1024x4096.Idx → EReal) (ix2 r l) := by
  entry_read
  pointwise []

set_option maxHeartbeats 2000000 in
/-- The array after the run is the reference's. -/
theorem final : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 32 := lt_of_lt_of_eq t.isLt N_0
  pointwise [k0_pay1, val_main_v1, val_main_v0]
  refine product_congr (fun k => Eq.trans ?_ (left m c _ k)) (fun k => Eq.trans ?_ (weights m c _ _))
  · blk_point [iblk, idx t]
  · blk_point [iblk, idx t]
end Cert.Kernel15Ideal.Product

/-! ## A merge gate -/

namespace Cert.Kernel16Ideal.Product

open Cert.Kernel16Ideal Cert.Kernel16Ideal.Gen Cert.Reference16Ideal.Read

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 1024) (l : Fin 1024) : (V m c (Pipeline.arrRef spec0 1) : S1024x1024.Idx → EReal) (ix2 r l)
    = (m ((c : Thread nD τ).loc main_arg1) : S1024x1024.Idx → EReal) (ix2 r l) := by
  entry_read
  pointwise []

set_option maxHeartbeats 2000000 in
/-- The array after the run is the reference's. -/
theorem final : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 8 := lt_of_lt_of_eq t.isLt N_0
  pointwise [k0_pay1, val_main_v1, val_main_v0]
  refine product_congr (fun k => Eq.trans ?_ (left m c _ k)) (fun k => Eq.trans ?_ (weights m c _ _))
  · blk_point [iblk, idx t]
  · blk_point [iblk, idx t]
end Cert.Kernel16Ideal.Product

/-! ## One half of the widening product -/

namespace Cert.Kernel17Ideal.Product

open Cert.Kernel17Ideal Cert.Kernel17Ideal.Gen Cert.Reference17Ideal.Read

variable (m : (ℓ : Loc nD τ sig) → Buf (Elt Ideal) ℓ) (c : Dev nD)

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- A row of the first operand at entry: a token of the first argument. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 1024) (l : Fin 2816) : (V m c (Pipeline.arrRef spec0 1) : S1024x2816.Idx → EReal) (ix2 r l)
    = (m ((c : Thread nD τ).loc main_arg1) : S1024x2816.Idx → EReal) (ix2 r l) := by
  entry_read
  pointwise []

set_option maxHeartbeats 2000000 in
/-- The array after the run is the reference's. -/
theorem final : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 16 := lt_of_lt_of_eq t.isLt N_0
  pointwise [k0_pay1, val_main_v1, val_main_v0]
  refine product_congr (fun k => Eq.trans ?_ (left m c _ k)) (fun k => Eq.trans ?_ (weights m c _ _))
  · blk_point [iblk, idx t]
  · blk_point [iblk, idx t]
end Cert.Kernel17Ideal.Product

end
-- ==== Proof.Gates.lean ====
module

public import proofs.«01_k».proof.Proof.Gen.Kernel18Ideal.Value
public import proofs.«01_k».proof.Proof.Gen.Reference18Ideal.Read
public import proofs.«01_k».proof.Proof.Rows
public import Idealize.ShloMosaic.Lib.Pipeline.ValueKit
public import Idealize.ShloMosaic.Lib.Claim

/-! The gradients through the two gates of the merged branches, after the product that brings the gradient to them. -/

@[expose] public section

set_option maxRecDepth 16384

noncomputable section

open Idealize.ShloMosaic Idealize.ShloMosaic.TcCoe Idealize.SL.Sem Cert.Rows

namespace Cert.Rows

/-- The logistic function, as both sides compute it. -/
def gate (x : EReal) : EReal := Ideal.div 1 (1 + Ideal.exp (0 - x))

theorem gate_neg (x : EReal) : Ideal.div 1 (1 + Ideal.exp (-x)) = gate x := by rw [gate, zero_sub]

/-- A product under a gate, in either order. -/
theorem gate_congr {n : ℕ} {A B A' B' : Fin n → EReal} {x x' : EReal} (ha : ∀ k, A k = A' k) (hb : ∀ k, B k = B' k) (hx : x = x') :
    (∑ k, A k * B k) * Ideal.div 1 (1 + Ideal.exp (0 - x)) = Ideal.div 1 (1 + Ideal.exp (-x')) * ∑ k, A' k * B' k := by
  rw [product_congr ha hb, hx, gate_neg, mul_comm, gate]

/-- The gradient through a gate: the slope of the logistic function is itself times one minus itself. -/
theorem slope_congr {n : ℕ} {A B A' B' : Fin n → EReal} {a a' x x' : EReal} (ha : ∀ k, A k = A' k) (hb : ∀ k, B k = B' k)
    (hv : a = a') (hx : x = x') :
    (∑ k, A k * B k) * a * Ideal.div 1 (1 + Ideal.exp (0 - x)) * (1 - Ideal.div 1 (1 + Ideal.exp (0 - x)))
      = (∑ k, A' k * B' k) * a' * (Ideal.div 1 (1 + Ideal.exp (-x')) * (1 - Ideal.div 1 (1 + Ideal.exp (-x')))) := by
  rw [product_congr ha hb, hv, hx, gate_neg, ← gate, mul_assoc]

end Cert.Rows

namespace Cert.Kernel18Ideal.Gates

open Cert.Kernel18Ideal Cert.Kernel18Ideal.Gen Cert.Reference18Ideal.Read

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0] :=
  (by decide +kernel : ∀ t : Fin grid0.N, _)

/-- The weights at entry. -/
theorem weights (r : Fin 1024) (l : Fin 1024) : (V m c (Pipeline.arrRef spec0 1) : S1024x1024.Idx → EReal) (ix2 r l)
    = (m ((c : Thread nD τ).loc main_arg1) : S1024x1024.Idx → EReal) (ix2 r l) := by
  entry_read
  pointwise []

/-- A row of the gradient of the merged branches' product at entry: a token's. -/
theorem grad (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- A row of the first branch at entry: a token's. -/
theorem ssd (r : Fin 8192) (l : Fin 1024) : (V m c (Pipeline.arrRef spec0 2) : S8192x1024.Idx → EReal) (ix2 r l)
    = (m ((c : Thread nD τ).loc main_arg2) : S2x4096x1024.Idx → EReal) (ix3 (seq r) (place r) l) := by
  entry_read
  pointwise []
  rfl

/-- A row of the second branch at entry: a token's. -/
theorem att (r : Fin 8192) (l : Fin 1024) : (V m c (Pipeline.arrRef spec0 3) : S8192x1024.Idx → EReal) (ix2 r l)
    = (m ((c : Thread nD τ).loc main_arg3) : S2x4096x1024.Idx → EReal) (ix3 (seq r) (place r) l) := by
  entry_read
  pointwise []
  rfl

/-- A row of the first gate at entry: a token's. -/
theorem gateS (r : Fin 8192) (l : Fin 1024) : (V m c (Pipeline.arrRef spec0 4) : S8192x1024.Idx → EReal) (ix2 r l)
    = (m ((c : Thread nD τ).loc main_arg4) : S2x4096x1024.Idx → EReal) (ix3 (seq r) (place r) l) := by
  entry_read
  pointwise []
  rfl

/-- A row of the second gate at entry: a token's. -/
theorem gateA (r : Fin 8192) (l : Fin 1024) : (V m c (Pipeline.arrRef spec0 5) : S8192x1024.Idx → EReal) (ix2 r l)
    = (m ((c : Thread nD τ).loc main_arg5) : S2x4096x1024.Idx → EReal) (ix3 (seq r) (place r) l) := by
  entry_read
  pointwise []
  rfl

set_option maxHeartbeats 2000000 in
/-- The first branch's gradients. -/
theorem final6 : (dats m 0 c).arrAt 6 (cfgs 0).N
    = val_main_v30 (F := Ideal) (m ((c : Thread nD τ).loc main_arg0)) (m ((c : Thread nD τ).loc main_arg1)) (m ((c : Thread nD τ).loc main_arg4)) := by
  refine (dats m 0 c).arrAt_eq_of_covers 6 _ (by decide +kernel) fun t _ y => ?_
  blk_simp
  rw [after0_6]; frame_out
  have ht : t.val < 16 := lt_of_lt_of_eq t.isLt N_0
  pointwise [k0_pay1, k0_pay8, k0_pay5, k0_pay6, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  refine gate_congr (fun k => Eq.trans ?_ (grad m c _ k)) (fun k => Eq.trans ?_ (weights m c _ _)) (Eq.trans ?_ (gateS m c _ _))
  · blk_point [iblk, idx t]
  · blk_point [iblk, idx t]
  · blk_point [iblk, idx t]

set_option maxHeartbeats 2000000 in
/-- The second branch's gradients. -/
theorem final7 : (dats m 0 c).arrAt 7 (cfgs 0).N
    = val_main_v32 (F := Ideal) (m ((c : Thread nD τ).loc main_arg0)) (m ((c : Thread nD τ).loc main_arg1)) (m ((c : Thread nD τ).loc main_arg5)) := by
  refine (dats m 0 c).arrAt_eq_of_covers 7 _ (by decide +kernel) fun t _ y => ?_
  blk_simp
  rw [after0_7]; frame_out
  have ht : t.val < 16 := lt_of_lt_of_eq t.isLt N_0
  pointwise [k0_pay2, k0_pay9, k0_pay5, k0_pay7, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  refine gate_congr (fun k => Eq.trans ?_ (grad m c _ k)) (fun k => Eq.trans ?_ (weights m c _ _)) (Eq.trans ?_ (gateA m c _ _))
  · blk_point [iblk, idx t]
  · blk_point [iblk, idx t]
  · blk_point [iblk, idx t]

set_option maxHeartbeats 2000000 in
/-- The first gate's gradients. -/
theorem final8 : (dats m 0 c).arrAt 8 (cfgs 0).N
    = val_main_v34 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]; frame_out
  have ht : t.val < 16 := lt_of_lt_of_eq t.isLt N_0
  pointwise [k0_pay3, k0_pay10, k0_pay5, k0_pay6, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  refine slope_congr (fun k => Eq.trans ?_ (grad m c _ k)) (fun k => Eq.trans ?_ (weights m c _ _)) (Eq.trans ?_ (ssd m c _ _)) (Eq.trans ?_ (gateS m c _ _))
  · blk_point [iblk, idx t]
  · blk_point [iblk, idx t]
  · blk_point [iblk, idx t]
  · blk_point [iblk, idx t]

set_option maxHeartbeats 2000000 in
/-- The second gate's gradients. -/
theorem final9 : (dats m 0 c).arrAt 9 (cfgs 0).N
    = val_main_v36 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 9 _ (by decide +kernel) fun t _ y => ?_
  blk_simp
  rw [after0_9]; frame_out
  have ht : t.val < 16 := lt_of_lt_of_eq t.isLt N_0
  pointwise [k0_pay4, k0_pay11, k0_pay5, k0_pay7, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  refine slope_congr (fun k => Eq.trans ?_ (grad m c _ k)) (fun k => Eq.trans ?_ (weights m c _ _)) (Eq.trans ?_ (att m c _ _)) (Eq.trans ?_ (gateA m c _ _))
  · blk_point [iblk, idx t]
  · blk_point [iblk, idx t]
  · blk_point [iblk, idx t]
  · blk_point [iblk, idx t]

end Cert.Kernel18Ideal.Gates

end
-- ==== Proof.Model.lean ====
module

public import Mathlib.Analysis.SpecialFunctions.Log.Basic
public import Mathlib.Analysis.SpecialFunctions.Exp
public import Mathlib.Tactic.FieldSimp
public import Mathlib.Tactic.Ring

/-! The mathematics of one head of one residue sequence, over the reals: eight blocks of 128 queries, each attending
    to its own block and the one before, merged with two other groups by the softmax of the three normalisers. -/

@[expose] public section

noncomputable section

namespace Window

/-- Rows of 64 numbers, by block and position. -/
abbrev Rows := Fin 8 → Fin 128 → Fin 64 → ℝ

/-- One number for each position. -/
abbrev Marks := Fin 8 → Fin 128 → ℝ

/-- The keys of a block: the block before (zeros for the first one), then the block itself. -/
def cat (x : Rows) (n : Fin 8) (j : Fin 256) (d : Fin 64) : ℝ :=
  if h : j.val < 128 then (if n.val < 1 then 0 else x ⟨n.val - 1, by omega⟩ ⟨j.val, h⟩ d)
  else x n ⟨j.val - 128, by omega⟩ d

/-- Query `i` of block `n` sees key `j` of the 256: within the window, and not before the start. -/
def seen (n : Fin 8) (i : Fin 128) (j : Fin 256) : Prop :=
  i.val ≤ j.val ∧ j.val ≤ i.val + 128 ∧ (1 ≤ n.val ∨ 128 ≤ j.val)

instance (n : Fin 8) (i : Fin 128) (j : Fin 256) : Decidable (seen n i j) := by unfold seen; infer_instance

/-- The scaled product of a query and a key. -/
def score (q k : Rows) (n : Fin 8) (i : Fin 128) (j : Fin 256) : ℝ := (∑ d, q n i d * cat k n j d) * (1 / 8)

/-- The exponential of the score of a key that is seen, zero for the others. -/
def wt (q k : Rows) (n : Fin 8) (i : Fin 128) (j : Fin 256) : ℝ := if seen n i j then Real.exp (score q k n i j) else 0

/-- The sum of a query's exponentials. -/
def den (q k : Rows) (n : Fin 8) (i : Fin 128) : ℝ := ∑ j, wt q k n i j

/-- The attention's output. -/
def out (q k v : Rows) (n : Fin 8) (i : Fin 128) (d : Fin 64) : ℝ := ∑ j, cat v n j d * (wt q k n i j / den q k n i)

/-- The sum of the three groups' exponentials. -/
def tot (q k : Rows) (l0 l2 : Marks) (n : Fin 8) (i : Fin 128) : ℝ :=
  Real.exp (l0 n i) + den q k n i + Real.exp (l2 n i)

/-- The weight of this group in the merge. -/
def weight (q k : Rows) (l0 l2 : Marks) (n : Fin 8) (i : Fin 128) : ℝ := den q k n i / tot q k l0 l2 n i

/-- The merged output. -/
def merge (q k v o0 o2 : Rows) (l0 l2 : Marks) (n : Fin 8) (i : Fin 128) (d : Fin 64) : ℝ :=
  Real.exp (l0 n i) / tot q k l0 l2 n i * o0 n i d + weight q k l0 l2 n i * out q k v n i d
    + Real.exp (l2 n i) / tot q k l0 l2 n i * o2 n i d

/-- The product of the incoming gradient with the merged output. -/
def rowSum (q k v o0 o2 dy : Rows) (l0 l2 : Marks) (n : Fin 8) (i : Fin 128) : ℝ :=
  ∑ d, dy n i d * merge q k v o0 o2 l0 l2 n i d

/-- The gradient of a weight: the weighted incoming gradient times the value row. -/
def dweight (q k v dy : Rows) (l0 l2 : Marks) (n : Fin 8) (i : Fin 128) (j : Fin 256) : ℝ :=
  ∑ d, weight q k l0 l2 n i * dy n i d * cat v n j d

/-- The gradient of a score. -/
def dscore (q k v o0 o2 dy : Rows) (l0 l2 : Marks) (n : Fin 8) (i : Fin 128) (j : Fin 256) : ℝ :=
  wt q k n i j / den q k n i
    * (dweight q k v dy l0 l2 n i j - weight q k l0 l2 n i * rowSum q k v o0 o2 dy l0 l2 n i)

/-- Eight times the gradient of the queries. -/
def dq (q k v o0 o2 dy : Rows) (l0 l2 : Marks) (n : Fin 8) (i : Fin 128) (d : Fin 64) : ℝ :=
  ∑ j, dscore q k v o0 o2 dy l0 l2 n i j * cat k n j d

/-- What a block adds to the gradient of its keys. -/
def dkAt (q k v o0 o2 dy : Rows) (l0 l2 : Marks) (n : Fin 8) (j : Fin 256) (d : Fin 64) : ℝ :=
  ∑ i, dscore q k v o0 o2 dy l0 l2 n i j * (1 / 8) * q n i d

/-- What a block adds to the gradient of its values. -/
def dvAt (q k dy : Rows) (l0 l2 : Marks) (n : Fin 8) (j : Fin 256) (d : Fin 64) : ℝ :=
  ∑ i, weight q k l0 l2 n i * dy n i d * (wt q k n i j / den q k n i)

/-- A block's own half of `f`, and the next block's other half. -/
def gather (f : Fin 8 → Fin 256 → Fin 64 → ℝ) (n : Fin 8) (j : Fin 128) (d : Fin 64) : ℝ :=
  f n ⟨128 + j.val, by omega⟩ d + (if h : n.val < 7 then f ⟨n.val + 1, by omega⟩ ⟨j.val, by omega⟩ d else 0)

variable (q k v o0 o2 dy : Rows) (l0 l2 : Marks) (n : Fin 8) (i : Fin 128)

theorem wt_nonneg (j : Fin 256) : 0 ≤ wt q k n i j := by
  unfold wt; split
  · exact (Real.exp_pos _).le
  · exact le_rfl

/-- A query sees its own position. -/
theorem seen_self : seen n i ⟨128 + i.val, by omega⟩ :=
  ⟨Nat.le_add_left _ _, by show 128 + i.val ≤ i.val + 128; omega, Or.inr (Nat.le_add_right _ _)⟩

theorem den_pos : 0 < den q k n i := by
  unfold den
  refine Finset.sum_pos' (fun j _ => wt_nonneg q k n i j) ⟨⟨128 + i.val, by omega⟩, Finset.mem_univ _, ?_⟩
  rw [wt, if_pos (seen_self n i)]; exact Real.exp_pos _

theorem tot_pos : 0 < tot q k l0 l2 n i := by
  have := den_pos q k n i; unfold tot; positivity

/-- The gradients of the weights, averaged with the weights, are the weighted product with the output. -/
theorem sum_dweight : ∑ j, dweight q k v dy l0 l2 n i j * (wt q k n i j / den q k n i)
    = weight q k l0 l2 n i * ∑ d, dy n i d * out q k v n i d := by
  simp only [dweight, out, Finset.mul_sum, Finset.sum_mul]
  rw [Finset.sum_comm]
  exact Finset.sum_congr rfl fun d _ => Finset.sum_congr rfl fun j _ => by ring

/-- The three products with the groups' outputs, weighted, are the product with the merged output. -/
theorem rowSum_eq : rowSum q k v o0 o2 dy l0 l2 n i =
    (∑ d, dy n i d * o0 n i d) * (Real.exp (l0 n i) / tot q k l0 l2 n i)
      + (∑ d, dy n i d * out q k v n i d) * weight q k l0 l2 n i
      + (∑ d, dy n i d * o2 n i d) * (Real.exp (l2 n i) / tot q k l0 l2 n i) := by
  simp only [rowSum, merge, Finset.sum_mul, ← Finset.sum_add_distrib]
  exact Finset.sum_congr rfl fun d _ => by ring

/-- The average weight is one. -/
theorem sum_wt : ∑ j, wt q k n i j / den q k n i = 1 := by
  simp only [div_eq_mul_inv]
  rw [← Finset.sum_mul]; exact mul_inv_cancel₀ (den_pos q k n i).ne'

/-- The gradients of a query's scores add up to what reaches its normaliser. -/
theorem sum_dscore : ∑ j, dscore q k v o0 o2 dy l0 l2 n i j
    = weight q k l0 l2 n i * ((∑ d, dy n i d * out q k v n i d) - rowSum q k v o0 o2 dy l0 l2 n i) := by
  have h := sum_dweight q k v dy l0 l2 n i
  have h1 := sum_wt q k n i
  calc _ = (∑ j, dweight q k v dy l0 l2 n i j * (wt q k n i j / den q k n i))
        - weight q k l0 l2 n i * rowSum q k v o0 o2 dy l0 l2 n i * ∑ j, wt q k n i j / den q k n i := by
        rw [Finset.mul_sum, ← Finset.sum_sub_distrib]
        exact Finset.sum_congr rfl fun j _ => by rw [dscore]; ring
    _ = _ := by rw [h, h1]; ring

end Window

end
-- ==== Proof.Lift.lean ====
module

public import proofs.«01_k».proof.Proof.Model
public import Idealize.ShloMosaic.Lib.Pipeline.ValueKit
public import Idealize.ShloMosaic.Lib.Pointwise
public import Idealize.ShloMosaic.Lib.IdealHost

/-! Extended-real arithmetic on reals, and the places of a residue sequence in the arrays. -/

@[expose] public section

noncomputable section

namespace Window

open Idealize.ShloMosaic

/-- An array of reals as an array of extended reals. -/
abbrev up {s : Shape} (f : s.Idx → ℝ) : s.Idx → EReal := fun i => ((f i : ℝ) : EReal)

/-- A sum of reals. -/
theorem sum_up {ι : Type} [Fintype ι] (f : ι → ℝ) : ∑ k, ((f k : ℝ) : EReal) = ((∑ k, f k : ℝ) : EReal) :=
  (map_sum (⟨⟨Real.toEReal, EReal.coe_zero⟩, EReal.coe_add⟩ : ℝ →+ EReal) f Finset.univ).symm

/-- A quotient of reals. -/
theorem div_up (x y : ℝ) (h : y ≠ 0) : Ideal.div (x : EReal) (y : EReal) = ((x / y : ℝ) : EReal) := by
  rw [Ideal.div_coe h, ← EReal.coe_mul, mul_one_div]

/-- The logarithm of a positive real. -/
theorem log_up (x : ℝ) (h : 0 < x) : Ideal.log (x : EReal) = ((Real.log x : ℝ) : EReal) := by
  rw [Ideal.log_coe, if_neg (not_le.2 h)]

theorem eighth_bits : Ideal.ofBits .f32 0x3E000000#32 = (((1 / 8 : ℝ)) : EReal) := by
  simp [Ideal.ofBits, Ideal.ieee, -EReal.coe_mul]; norm_num

theorem eight_bits : Ideal.ofBits .f32 0x41000000#32 = ((8 : ℝ) : EReal) := by
  simp [Ideal.ofBits, Ideal.ieee, -EReal.coe_mul]; norm_num

theorem bot_bits : Ideal.ofBits .f32 0xFF800000#32 = ⊥ := by
  simp [Ideal.ofBits, Ideal.ieee, -EReal.coe_mul]

theorem top_bits : Ideal.ofBits .f32 0x7F800000#32 = ⊤ := by
  simp [Ideal.ofBits, Ideal.ieee, -EReal.coe_mul]

/-- The largest of finitely many extended reals, each real or minus infinity and one of them real, is real, and is
    reached. -/
theorem fold_max {ι : Type} [Fintype ι] (f : ι → EReal) (ht : ∀ k, f k ≠ ⊤) (k0 : ι) (h0 : f k0 ≠ ⊥) :
    ∃ r : ℝ, Finset.univ.fold max ⊥ f = (r : EReal) ∧ ∃ k, f k = (r : EReal) := by
  classical
  obtain ⟨k, -, hk⟩ := Finset.exists_max_image Finset.univ f ⟨k0, Finset.mem_univ _⟩
  have hb : f k ≠ ⊥ := fun h => h0 (le_bot_iff.1 (h ▸ hk k0 (Finset.mem_univ _)))
  refine ⟨(f k).toReal, ?_, k, (EReal.coe_toReal (ht k) hb).symm⟩
  rw [EReal.coe_toReal (ht k) hb]
  refine le_antisymm ?_ ?_
  · exact Finset.fold_max_le (c := f k) |>.2 ⟨bot_le, hk⟩
  · exact Finset.le_fold_max (c := f k) |>.2 (Or.inr ⟨k, Finset.mem_univ _, le_rfl⟩)

/-- The position in the original sequence of query `i` of block `n` of sequence `z`. -/
def pos (z n : Fin 8) (i : Fin 128) : Fin 4096 := ⟨(n.val * 128 + i.val) * 4 + z.val % 4, by omega⟩

/-- The batch row of sequence `z`. -/
def bat (z : Fin 8) : Fin 2 := ⟨z.val / 4, by omega⟩

/-- The row of the arrays ordered by residue. -/
def row (z n : Fin 8) (i : Fin 128) : Fin 8192 := ⟨(z.val * 8 + n.val) * 128 + i.val, by omega⟩

/-- The column of lane `d` of head `h`. -/
def lane (h : Fin 8) (d : Fin 64) : Fin 512 := ⟨h.val * 64 + d.val, by omega⟩

theorem seq_pos (z n : Fin 8) (i : Fin 128) (H : (bat z).val * 4 + (pos z n i).val % 4 < 8) :
    (⟨(bat z).val * 4 + (pos z n i).val % 4, H⟩ : Fin 8) = z := by
  apply Fin.ext; simp only [bat, pos]; omega

theorem blk_pos (z n : Fin 8) (i : Fin 128) (H : (pos z n i).val / 4 / 128 < 8) :
    (⟨(pos z n i).val / 4 / 128, H⟩ : Fin 8) = n := by
  apply Fin.ext; simp only [pos]; omega

theorem off_pos (z n : Fin 8) (i : Fin 128) (H : (pos z n i).val / 4 % 128 < 128) :
    (⟨(pos z n i).val / 4 % 128, H⟩ : Fin 128) = i := by
  apply Fin.ext; simp only [pos]; omega

theorem row_seq (z n : Fin 8) (i : Fin 128) (H : (row z n i).val / 4096 * 4 + (row z n i).val / 1024 % 4 < 8) :
    (⟨(row z n i).val / 4096 * 4 + (row z n i).val / 1024 % 4, H⟩ : Fin 8) = z := by
  apply Fin.ext; simp only [row]; omega

theorem row_blk (z n : Fin 8) (i : Fin 128) (H : (row z n i).val % 1024 / 128 < 8) :
    (⟨(row z n i).val % 1024 / 128, H⟩ : Fin 8) = n := by
  apply Fin.ext; simp only [row]; omega

theorem row_off (z n : Fin 8) (i : Fin 128) (H : (row z n i).val % 1024 % 128 < 128) :
    (⟨(row z n i).val % 1024 % 128, H⟩ : Fin 128) = i := by
  apply Fin.ext; simp only [row]; omega

theorem lane_head (h : Fin 8) (d : Fin 64) (H : (lane h d).val / 64 < 8) : (⟨(lane h d).val / 64, H⟩ : Fin 8) = h := by
  apply Fin.ext; simp only [lane]; omega

theorem lane_off (h : Fin 8) (d : Fin 64) (H : (lane h d).val % 64 < 64) : (⟨(lane h d).val % 64, H⟩ : Fin 64) = d := by
  apply Fin.ext; simp only [lane]; omega

/-- One head of one residue sequence of an array of rows. -/
def sub (x : (⟨4, ![2, 4096, 8, 64]⟩ : Shape).Idx → ℝ) (z h : Fin 8) : Rows := fun n i d => x (ix4 (bat z) (pos z n i) h d)

/-- One head of one residue sequence of an array of marks. -/
def subM (x : (⟨3, ![2, 4096, 8]⟩ : Shape).Idx → ℝ) (z h : Fin 8) : Marks := fun n i => x (ix3 (bat z) (pos z n i) h)

end Window

end
-- ==== Proof.Norm.lean ====
module

public import proofs.«01_k».proof.Proof.Gen.Kernel20Ideal.Value
public import proofs.«01_k».proof.Proof.Gen.Reference20Ideal.Read
public import proofs.«01_k».proof.Proof.Rows
public import proofs.«01_k».proof.Proof.Lift
public import Idealize.ShloMosaic.Lib.Pipeline.ValueKit
public import Idealize.ShloMosaic.Lib.Claim

/-! The gradients through the second norm, after the product that brings the gradient to it. -/

@[expose] public section

set_option maxRecDepth 16384

noncomputable section

open Idealize.ShloMosaic Idealize.ShloMosaic.TcCoe Idealize.SL.Sem Cert.Rows

namespace Cert.NormRow

/-- A sum over the two leading axes of an array. -/
theorem reduce_leading {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ b : Fin n0, ∑ s : Fin n1, v (ix3 b s j) := by
  refine congrArg (init + ·) ((Finset.sum_filter_eq_sum_of_fiber _ (fun k : Fin n0 × Fin n1 => ix3 k.1 k.2 j)
    (fun _ _ e => Prod.ext (congrFun e 0) (congrFun e 1)) (fun i => ⟨fun e => ⟨(i 0, i 1), ?_⟩, ?_⟩) v).trans (Fintype.sum_prod_type _))
  · funext a
    match a with
    | 0 => rfl
    | 1 => rfl
    | 2 => exact Fin.ext (congrArg Fin.val (congrFun e 0)).symm
  · rintro ⟨k, rfl⟩
    funext b
    match b with
    | 0 => rfl

/-- One over the root of the mean square of a row, the mean and its shift as given. -/
def root {n : ℕ} (N e : EReal) (X : Fin n → EReal) : EReal := Ideal.rsqrt (Ideal.div (∑ l, X l * X l) N + e)

/-- The gradient of a row through its norm as the kernel writes it, from the gradient `Y` of the row over its root. -/
def kernelRow {n : ℕ} (N e : EReal) (X Y : Fin n → EReal) (j : Fin n) : EReal :=
  root N e X * (Y j - X j * root N e X * Ideal.div (∑ l, Y l * (X l * root N e X)) N)

/-- The gradient through the root of the mean square, for one entry, over the entry. -/
def slope {n : ℕ} (N e H : EReal) (X Y : Fin n → EReal) : EReal :=
  Ideal.div ((∑ l, X l * Y l) * (H * Ideal.div (root N e X) (Ideal.div (∑ l, X l * X l) N + e))) N

theorem n1024_bits : Ideal.ofBits .f32 0x44800000#32 = ((1024 : ℝ) : EReal) := by
  simp [Ideal.ofBits, Ideal.ieee, -EReal.coe_mul]; norm_num

theorem half_bits : Ideal.ofBits .f32 0xBF000000#32 = ((-1 / 2 : ℝ) : EReal) := by
  simp [Ideal.ofBits, Ideal.ieee, -EReal.coe_mul]; norm_num

theorem eps_bits : ∃ e : ℝ, 0 < e ∧ Ideal.ofBits .f32 0x358637BD#32 = (e : EReal) := by
  refine ⟨_, ?_, by simp [Ideal.ofBits, Ideal.ieee, -EReal.coe_mul]; rfl⟩
  norm_num

section
variable {n : ℕ} {N e : ℝ} (x y : Fin n → ℝ)

/-- The mean square of a row of reals, shifted. -/
def shifted (N e : ℝ) (x : Fin n → ℝ) : ℝ := (∑ l, x l * x l) / N + e

theorem shifted_pos (hN : 0 < N) (he : 0 < e) : 0 < shifted N e x :=
  add_pos_of_nonneg_of_pos (div_nonneg (Finset.sum_nonneg fun l _ => mul_self_nonneg _) hN.le) he

theorem shifted_up (hN : 0 < N) :
    Ideal.div (∑ l, (x l : EReal) * (x l : EReal)) (N : EReal) + (e : EReal) = ((shifted N e x : ℝ) : EReal) := by
  simp only [← EReal.coe_mul]
  rw [Window.sum_up, Window.div_up _ _ hN.ne', ← EReal.coe_add, shifted]

theorem root_up (hN : 0 < N) (he : 0 < e) : root (N : EReal) (e : EReal) (fun l => (x l : EReal)) = (((√(shifted N e x))⁻¹ : ℝ) : EReal) := by
  rw [root, shifted_up x hN, Ideal.rsqrt_coe, if_neg (shifted_pos x hN he).not_gt, if_neg (shifted_pos x hN he).ne']

/-- A positive real comes out of a sum. -/
theorem sum_mul_pos {r : ℝ} (hr : 0 ≤ r) (f : Fin n → EReal) : ∑ l, f l * (r : EReal) = (∑ l, f l) * (r : EReal) :=
  (map_sum (⟨⟨fun z : EReal => z * (r : EReal), zero_mul _⟩,
    fun y z => EReal.right_distrib_of_nonneg_of_ne_top (EReal.coe_nonneg.2 hr) (EReal.coe_ne_top r) y z⟩ : EReal →+ EReal) f Finset.univ).symm

/-- Twice a number. -/
theorem twice (z : EReal) : z + z = z * ((2 : ℝ) : EReal) := by
  induction z using EReal.rec with
  | bot => rw [EReal.bot_mul_coe_of_pos (by norm_num)]; rfl
  | top => rw [EReal.top_mul_coe_of_pos (by norm_num)]; rfl
  | coe a => rw [← EReal.coe_add, ← EReal.coe_mul, mul_two]

/-- The two ways of writing the gradient through the norm agree on a row of reals. -/
theorem row_real (hN : 0 < N) (he : 0 < e) (d : EReal) (Y : Fin n → EReal) (j : Fin n) :
    d + kernelRow (N : EReal) (e : EReal) (fun l => (x l : EReal)) Y j
      = d + Y j * root (N : EReal) (e : EReal) (fun l => (x l : EReal))
        + (x j : EReal) * slope (N : EReal) (e : EReal) ((-1 / 2 : ℝ) : EReal) (fun l => (x l : EReal)) Y
        + slope (N : EReal) (e : EReal) ((-1 / 2 : ℝ) : EReal) (fun l => (x l : EReal)) Y * (x j : EReal) := by
  have hs := shifted_pos (N := N) (e := e) x hN he
  simp only [kernelRow, slope, shifted_up x hN, root_up x hN he]
  have hr : (shifted N e x)⁻¹ = (√(shifted N e x))⁻¹ * (√(shifted N e x))⁻¹ := by
    rw [← mul_inv, Real.mul_self_sqrt hs.le]
  have hp : 0 ≤ (√(shifted N e x))⁻¹ := inv_nonneg.2 (Real.sqrt_nonneg _)
  rw [Window.div_up _ _ hs.ne', div_eq_mul_inv _ (shifted N e x), hr]
  generalize (√(shifted N e x))⁻¹ = r at hp
  have hd : ∑ l, Y l * ((x l : EReal) * (r : EReal)) = (∑ l, (x l : EReal) * Y l) * (r : EReal) := by
    rw [← sum_mul_pos hp]; exact Finset.sum_congr rfl fun l _ => by ac_rfl
  rw [hd, Ideal.div_coe hN.ne', Ideal.div_coe hN.ne']
  generalize ∑ l, (x l : EReal) * Y l = S
  rw [sub_eq_add_neg, EReal.left_distrib_of_nonneg_of_ne_top (EReal.coe_nonneg.2 hp) (EReal.coe_ne_top r), add_assoc, add_assoc,
    mul_comm (r : EReal) (Y j), mul_comm _ (x j : EReal), twice]
  refine congrArg (d + ·) (congrArg (Y j * (r : EReal) + ·) ?_)
  have hl : (r : EReal) * -((x j : EReal) * r * (S * r * ((1 / N : ℝ) : EReal))) = S * ((-(r * x j * r * r * (1 / N)) : ℝ) : EReal) := by
    rw [EReal.coe_neg, mul_neg, mul_neg]
    simp only [EReal.coe_mul]
    exact congrArg Neg.neg (by ac_rfl)
  rw [hl, mul_left_comm, mul_assoc (S * _)]
  rw [mul_assoc S]
  simp only [← EReal.coe_mul]
  exact congrArg (fun z : ℝ => S * (z : EReal)) (by ring)

/-- A square is not negative. -/
theorem square_nonneg (z : EReal) : 0 ≤ z * z := by
  induction z using EReal.rec with
  | bot => rw [EReal.bot_mul_bot]; exact le_top
  | top => rw [EReal.top_mul_top]; exact le_top
  | coe a => rw [← EReal.coe_mul]; exact EReal.coe_nonneg.2 (mul_self_nonneg a)

/-- The mean square of a row with an infinite entry. -/
theorem mean_inf (hN : 0 < N) (X : Fin n → EReal) (l : Fin n) (h : ∀ r : ℝ, X l ≠ (r : EReal)) :
    Ideal.div (∑ l, X l * X l) (N : EReal) + (e : EReal) = ⊤ := by
  have hl : X l * X l = ⊤ := by
    generalize X l = z at h
    induction z using EReal.rec with
    | bot => exact EReal.bot_mul_bot
    | top => exact EReal.top_mul_top
    | coe a => exact absurd rfl (h a)
  have hS : ∑ l, X l * X l = ⊤ := by
    rw [← Finset.add_sum_erase _ _ (Finset.mem_univ l), hl]
    exact EReal.top_add_of_ne_bot (ne_bot_of_le_ne_bot EReal.zero_ne_bot (Finset.sum_nonneg fun k _ => square_nonneg _))
  rw [hS, Ideal.div_coe hN.ne', EReal.top_mul_coe_of_pos (by positivity), EReal.top_add_coe]

/-- The two ways of writing the gradient through the norm agree. -/
theorem row_eq (hN : 0 < N) (he : 0 < e) (d : EReal) (X Y : Fin n → EReal) (j : Fin n) :
    d + kernelRow (N : EReal) (e : EReal) X Y j
      = d + Y j * root (N : EReal) (e : EReal) X
        + X j * slope (N : EReal) (e : EReal) ((-1 / 2 : ℝ) : EReal) X Y
        + slope (N : EReal) (e : EReal) ((-1 / 2 : ℝ) : EReal) X Y * X j := by
  by_cases h : ∀ l, ∃ r : ℝ, X l = (r : EReal)
  · choose g hg using h
    obtain rfl : X = fun l => (g l : EReal) := funext hg
    exact row_real g hN he d Y j
  · obtain ⟨l, hl⟩ := not_forall.1 h
    have h0 := mean_inf (e := e) hN X l fun r hr => hl ⟨r, hr⟩
    have hz : Ideal.div 0 ⊤ = 0 := by simp [Ideal.div]
    have hn : Ideal.div 0 (N : EReal) = 0 := by rw [Ideal.div_coe hN.ne', zero_mul]
    simp only [kernelRow, slope, root, h0, Ideal.rsqrt_top, hz, hn, mul_zero, zero_mul, add_zero]

end

end Cert.NormRow

namespace Cert.Kernel20Ideal.Norm

open Cert.Kernel20Ideal Cert.Kernel20Ideal.Gen Cert.Reference20Ideal.Read

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![0, 0]
    ∧ win0_6.index t = ![t.val, 0] ∧ win0_7.index t = ![t.val, 0] ∧ win0_8.index t = ![0, 0] :=
  (by decide +kernel : ∀ t : Fin grid0.N, _)

/-- The weights at entry. -/
theorem weights (r : Fin 1024) (l : Fin 2816) : (V m c (Pipeline.arrRef spec0 1) : S1024x2816.Idx → EReal) (ix2 r l)
    = (m ((c : Thread nD τ).loc main_arg1) : S1024x2816.Idx → EReal) (ix2 r l) := by
  entry_read
  pointwise []

/-- The norm's scale at entry. -/
theorem scale (l : Fin 1024) : (V m c (Pipeline.arrRef spec0 5) : S1x1024.Idx → EReal) (ix2 0 l)
    = (m ((c : Thread nD τ).loc main_arg5) : S1024.Idx → EReal) (ix1 l) := by
  entry_read
  pointwise []

/-- A row of the gradient of the product at entry: a token's. -/
theorem grad (r : Fin 8192) (l : Fin 2816) : (V m c (Pipeline.arrRef spec0 0) : S8192x2816.Idx → EReal) (ix2 r l)
    = (m ((c : Thread nD τ).loc main_arg0) : S2x4096x2816.Idx → EReal) (ix3 (seq r) (place r) l) := by
  entry_read
  pointwise []
  rfl

/-- A row of the gradient from elsewhere at entry: a token's. -/
theorem added (r : Fin 8192) (l : Fin 1024) : (V m c (Pipeline.arrRef spec0 2) : S8192x1024.Idx → EReal) (ix2 r l)
    = (m ((c : Thread nD τ).loc main_arg2) : S2x4096x1024.Idx → EReal) (ix3 (seq r) (place r) l) := by
  entry_read
  pointwise []
  rfl

/-- A row of the norm's input at entry: a token's. -/
theorem value (r : Fin 8192) (l : Fin 1024) : (V m c (Pipeline.arrRef spec0 3) : S8192x1024.Idx → EReal) (ix2 r l)
    = (m ((c : Thread nD τ).loc main_arg3) : S2x4096x1024.Idx → EReal) (ix3 (seq r) (place r) l) := by
  entry_read
  pointwise []
  rfl

/-- A row of the gradient past the norm at entry: a token's. -/
theorem rest (r : Fin 8192) (l : Fin 1024) : (V m c (Pipeline.arrRef spec0 4) : S8192x1024.Idx → EReal) (ix2 r l)
    = (m ((c : Thread nD τ).loc main_arg4) : S2x4096x1024.Idx → EReal) (ix3 (seq r) (place r) l) := by
  entry_read
  pointwise []
  rfl

/-- The gradient that reaches the norm. -/
def reach (x0 : FVec Ideal S2x4096x2816 .f32) (x1 : FVec Ideal S1024x2816 .f32) (x2 : FVec Ideal S2x4096x1024 .f32) (b : Fin 2) (s : Fin 4096)
    (l : Fin 1024) : EReal :=
  x2 (ix3 b s l) + ∑ k : Fin 2816, x0 (ix3 b s k) * x1 (ix2 l k)

open Cert.NormRow

/-- The kernel's block at a point: the gradient past the norm and the one through it. -/
theorem block_point (x0 : FVec Ideal S256x2816 .bf16) (x1 : FVec Ideal S1024x2816 .bf16) (x2 x3 x4 : FVec Ideal S256x1024 .f32)
    (x5 : FVec Ideal S1x1024 .f32) (i : Fin 256) (j : Fin 1024) :
    k0_pay2 (k0_pay7 x4) (k0_pay10 x0 x1 x2 x3 x5) (ix2 i j)
      = x4 (ix2 i j) + kernelRow (Ideal.ofBits .f32 0x44800000#32) (Ideal.ofBits .f32 0x358637BD#32) (fun l => x3 (ix2 i l))
          (fun l => (∑ k : Fin 2816, x0 (ix2 i k) * x1 (ix2 l k) + x2 (ix2 i l)) * x5 (ix2 0 l)) j := by
  pointwise [k0_pay2, k0_pay5, k0_pay6, k0_pay7, k0_pay8, k0_pay9, k0_pay10]
  rfl

variable (x0 : FVec Ideal S2x4096x2816 .f32) (x1 : FVec Ideal S1024x2816 .f32) (x2 x3 x4 : FVec Ideal S2x4096x1024 .f32) (x5 : FVec Ideal S1024 .f32)

set_option maxHeartbeats 1000000 in
/-- The reference at a point. -/
theorem ref_point (b : Fin 2) (s : Fin 4096) (j : Fin 1024) : val_main_v39 (F := Ideal) x0 x1 x2 x3 x4 x5 (ix3 b s j)
      = x4 (ix3 b s j) + reach x0 x1 x2 b s j * x5 (ix1 j) * root (Ideal.ofBits .f32 0x44800000#32) (Ideal.ofBits .f32 0x358637BD#32) (fun l => x3 (ix3 b s l))
        + x3 (ix3 b s j) * slope (Ideal.ofBits .f32 0x44800000#32) (Ideal.ofBits .f32 0x358637BD#32) (Ideal.ofBits .f32 0xBF000000#32)
            (fun l => x3 (ix3 b s l)) (fun l => reach x0 x1 x2 b s l * x5 (ix1 l))
        + slope (Ideal.ofBits .f32 0x44800000#32) (Ideal.ofBits .f32 0x358637BD#32) (Ideal.ofBits .f32 0xBF000000#32)
            (fun l => x3 (ix3 b s l)) (fun l => reach x0 x1 x2 b s l * x5 (ix1 l)) * x3 (ix3 b s j) := by
  pointwise [val_main_v39, val_main_v38, val_main_v37, val_main_v36, val_main_v35, val_main_v34, val_main_v33, val_main_v32, val_main_v31, val_main_v30, val_main_v29, val_main_v28, val_main_v27, val_main_v26, val_main_v25, val_main_v23, val_main_v22, val_main_v18, val_main_v17, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]
  rfl

set_option maxHeartbeats 1000000 in
/-- The gradient of the scale, as the reference reads it. -/
theorem scale_point (l : Fin 1024) : val_main_v43 (F := Ideal) x0 x1 x2 x3 (ix2 0 l)
    = ∑ b : Fin 2, ∑ s : Fin 4096, x3 (ix3 b s l) * root (Ideal.ofBits .f32 0x44800000#32) (Ideal.ofBits .f32 0x358637BD#32) (fun l => x3 (ix3 b s l))
        * reach x0 x1 x2 b s l := by
  pointwise [val_main_v43, val_main_v24, val_main_cst_4]
  rw [reduce_leading]
  simp only [Fin.sum_univ_one]
  pointwise [val_main_v21, val_main_v20, val_main_cst_3]
  rw [reduce_leading, zero_add]
  refine Finset.sum_congr rfl fun b _ => Finset.sum_congr rfl fun s _ => ?_
  pointwise [val_main_v19, val_main_v18, val_main_v17, val_main_v12, val_main_v11, val_main_v7, val_main_v6, val_main_v5, val_main_v4, val_main_v3, val_main_v2, val_main_v1, val_main_v0, val_main_cst, val_main_cst_0, val_main_cst_1]
  rfl

/-- A block of rows' share of the gradient of the scale, as the kernel writes it. -/
theorem share_point (y0 : FVec Ideal S256x2816 .bf16) (y1 : FVec Ideal S1024x2816 .bf16) (y2 y3 : FVec Ideal S256x1024 .f32) (l : Fin 1024) :
    k0_pay1 (F := Ideal) (k0_pay11 y0 y1 y2 y3) (ix2 0 l)
      = ∑ i : Fin 256, (∑ k : Fin 2816, y0 (ix2 i k) * y1 (ix2 l k) + y2 (ix2 i l))
          * (y3 (ix2 i l) * root (Ideal.ofBits .f32 0x44800000#32) (Ideal.ofBits .f32 0x358637BD#32) (fun l => y3 (ix2 i l))) := by
  pointwise [k0_pay1, k0_pay11, k0_pay5, k0_pay6, k0_pay8, k0_pay9]
  rfl

/-- What a point writes of the gradient, at every point. -/
theorem outs6 (t : Fin cfg0.N) : (outsAt0 m c t.val t.isLt).1
    = k0_pay2 (k0_pay7 (iblk m c 4 t)) (k0_pay10 (iblk m c 0 t) (iblk m c 1 t) (iblk m c 2 t) (iblk m c 3 t) (iblk m c 5 t)) := by
  have ht : t.val < 32 := lt_of_lt_of_eq t.isLt N_0
  by_cases h : t.val % 32 = 0
  · rw [outsAt0_A m c t h (by omega)]; funext y; frame_out
  · rw [outsAt0_B m c t h (by omega)]; funext y; frame_out

/-- Its copy is the same. -/
theorem outs7 (t : Fin cfg0.N) (y : S256x1024.Idx) : (outsAt0 m c t.val t.isLt).2.1 y
    = k0_pay2 (k0_pay7 (iblk m c 4 t)) (k0_pay10 (iblk m c 0 t) (iblk m c 1 t) (iblk m c 2 t) (iblk m c 3 t) (iblk m c 5 t)) y := by
  have ht : t.val < 32 := lt_of_lt_of_eq t.isLt N_0
  by_cases h : t.val % 32 = 0
  · rw [outsAt0_A m c t h (by omega)]; frame_out; pointwise [k0_pay3]
  · rw [outsAt0_B m c t h (by omega)]; frame_out; pointwise [k0_pay3]

theorem split (y : S256x1024.Idx) : ∃ i j, y = ix2 i j := ⟨y 0, y 1, by funext a; match a with | 0 => rfl | 1 => rfl⟩

theorem block0 (t : Fin cfg0.N) (i : Fin 256) (r : Fin 8192) (hr : r.val = 256 * t.val + i.val) (k : Fin 2816) :
    (iblk m c 0 t : S256x2816.Idx → EReal) (ix2 i k) = (m ((c : Thread nD τ).loc main_arg0) : S2x4096x2816.Idx → EReal) (ix3 (seq r) (place r) k) := by
  refine Eq.trans ?_ (grad m c r k)
  have ht : t.val < 32 := lt_of_lt_of_eq t.isLt N_0
  blk_point [iblk, idx t]

theorem block2 (t : Fin cfg0.N) (i : Fin 256) (r : Fin 8192) (hr : r.val = 256 * t.val + i.val) (k : Fin 1024) :
    (iblk m c 2 t : S256x1024.Idx → EReal) (ix2 i k) = (m ((c : Thread nD τ).loc main_arg2) : S2x4096x1024.Idx → EReal) (ix3 (seq r) (place r) k) := by
  refine Eq.trans ?_ (added m c r k)
  have ht : t.val < 32 := lt_of_lt_of_eq t.isLt N_0
  blk_point [iblk, idx t]

theorem block3 (t : Fin cfg0.N) (i : Fin 256) (r : Fin 8192) (hr : r.val = 256 * t.val + i.val) (k : Fin 1024) :
    (iblk m c 3 t : S256x1024.Idx → EReal) (ix2 i k) = (m ((c : Thread nD τ).loc main_arg3) : S2x4096x1024.Idx → EReal) (ix3 (seq r) (place r) k) := by
  refine Eq.trans ?_ (value m c r k)
  have ht : t.val < 32 := lt_of_lt_of_eq t.isLt N_0
  blk_point [iblk, idx t]

theorem block4 (t : Fin cfg0.N) (i : Fin 256) (r : Fin 8192) (hr : r.val = 256 * t.val + i.val) (k : Fin 1024) :
    (iblk m c 4 t : S256x1024.Idx → EReal) (ix2 i k) = (m ((c : Thread nD τ).loc main_arg4) : S2x4096x1024.Idx → EReal) (ix3 (seq r) (place r) k) := by
  refine Eq.trans ?_ (rest m c r k)
  have ht : t.val < 32 := lt_of_lt_of_eq t.isLt N_0
  blk_point [iblk, idx t]

theorem block1 (t : Fin cfg0.N) (j : Fin 1024) (k : Fin 2816) :
    (iblk m c 1 t : S1024x2816.Idx → EReal) (ix2 j k) = (m ((c : Thread nD τ).loc main_arg1) : S1024x2816.Idx → EReal) (ix2 j k) := by
  refine Eq.trans ?_ (weights m c j k)
  blk_point [iblk, idx t]

theorem block5 (t : Fin cfg0.N) (k : Fin 1024) :
    (iblk m c 5 t : S1x1024.Idx → EReal) (ix2 0 k) = (m ((c : Thread nD τ).loc main_arg5) : S1024.Idx → EReal) (ix1 k) := by
  refine Eq.trans ?_ (scale m c k)
  blk_point [iblk, idx t]

/-- The gradient that reaches the norm, in a block. -/
theorem block_reach (t : Fin cfg0.N) (i : Fin 256) (r : Fin 8192) (hr : r.val = 256 * t.val + i.val) (l : Fin 1024) :
    ∑ k : Fin 2816, (show FVec Ideal S256x2816 .bf16 from iblk m c 0 t) (ix2 i k) * (show FVec Ideal S1024x2816 .bf16 from iblk m c 1 t) (ix2 l k)
        + (show FVec Ideal S256x1024 .f32 from iblk m c 2 t) (ix2 i l)
      = reach (m ((c : Thread nD τ).loc main_arg0)) (m ((c : Thread nD τ).loc main_arg1)) (m ((c : Thread nD τ).loc main_arg2)) (seq r) (place r) l := by
  rw [add_comm, reach]
  exact congrArg₂ (· + ·) (block2 m c t i r hr l) (Finset.sum_congr rfl fun k _ => congrArg₂ (· * ·) (block0 m c t i r hr k) (block1 m c t l k))

/-- A block's row of the gradient is the reference's. -/
theorem row (t : Fin cfg0.N) (i : Fin 256) (j : Fin 1024) (r : Fin 8192) (hr : r.val = 256 * t.val + i.val) :
    k0_pay2 (k0_pay7 (iblk m c 4 t)) (k0_pay10 (iblk m c 0 t) (iblk m c 1 t) (iblk m c 2 t) (iblk m c 3 t) (iblk m c 5 t)) (ix2 i j)
      = val_main_v39 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix3 (seq r) (place r) j) := by
  obtain ⟨e, he, hb⟩ := eps_bits
  rw [block_point, ref_point, n1024_bits, half_bits, hb, row_eq (by norm_num) he, block4 m c t i r hr]
  have hx := funext (block3 m c t i r hr)
  have hy : (fun l => _) = fun l => reach (m ((c : Thread nD τ).loc main_arg0)) (m ((c : Thread nD τ).loc main_arg1)) (m ((c : Thread nD τ).loc main_arg2)) (seq r) (place r) l * _ :=
    funext fun l => congrArg₂ (· * ·) (block_reach m c t i r hr l) (block5 m c t l)
  rw [hx, hy, congrFun hx j, congrFun hy j]

set_option maxHeartbeats 2000000 in
/-- The gradient after the run is the reference's. -/
theorem final6 : (dats m 0 c).arrAt 6 (cfgs 0).N = val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  have ht : t.val < 32 := lt_of_lt_of_eq t.isLt N_0
  obtain ⟨i, j, rfl⟩ := split y
  rw [after0_6, outs6]
  pointwise [val_main_v40]
  refine (row m c t i j ⟨256 * t.val + i.val, by omega⟩ rfl).trans ?_
  blk_point [idx t, seq, place]

set_option maxHeartbeats 2000000 in
/-- So is its copy. -/
theorem final7 : (dats m 0 c).arrAt 7 (cfgs 0).N = val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  have ht : t.val < 32 := lt_of_lt_of_eq t.isLt N_0
  obtain ⟨i, j, rfl⟩ := split y
  rw [after0_7, outs7]
  pointwise [val_main_v42, val_main_v41]
  refine (row m c t i j ⟨256 * t.val + i.val, by omega⟩ rfl).trans ?_
  blk_point [idx t, seq, place]

/-- What one block of rows adds to the gradient of the scale. -/
def share (p : Fin cfg0.N) (j : S1x1024.Idx) : EReal :=
  (show FVec Ideal S1x1024 .f32 from k0_pay1 (k0_pay11 (iblk m c 0 p) (iblk m c 1 p) (iblk m c 2 p) (iblk m c 3 p))) j

/-- A row of a block of rows. -/
def rowOf (p : Fin cfg0.N) (i : Fin 256) : Fin 8192 := ⟨256 * p.val + i.val, by have : p.val < 32 := lt_of_lt_of_eq p.isLt N_0; omega⟩

theorem share_sum (p : Fin cfg0.N) (l : Fin 1024) : share m c p (ix2 0 l)
    = ∑ i : Fin 256, reach (m ((c : Thread nD τ).loc main_arg0)) (m ((c : Thread nD τ).loc main_arg1)) (m ((c : Thread nD τ).loc main_arg2)) (seq (rowOf p i)) (place (rowOf p i)) l
        * ((show FVec Ideal S2x4096x1024 .f32 from (m ((c : Thread nD τ).loc main_arg3))) (ix3 (seq (rowOf p i)) (place (rowOf p i)) l)
          * root (Ideal.ofBits .f32 0x44800000#32) (Ideal.ofBits .f32 0x358637BD#32)
              fun l => (show FVec Ideal S2x4096x1024 .f32 from (m ((c : Thread nD τ).loc main_arg3))) (ix3 (seq (rowOf p i)) (place (rowOf p i)) l)) := by
  refine (share_point _ _ _ _ l).trans (Finset.sum_congr rfl fun i _ => ?_)
  have hx := block3 m c p i (rowOf p i) rfl
  exact congrArg₂ (· * ·) (block_reach m c p i (rowOf p i) rfl l) (congrArg₂ (· * ·) (hx l) (congrArg (root _ _) (funext hx)))

/-- A later block adds its share. -/
theorem add_share (y0 : FVec Ideal S256x2816 .bf16) (y1 : FVec Ideal S1024x2816 .bf16) (y2 y3 : FVec Ideal S256x1024 .f32) (acc : FVec Ideal S1x1024 .f32)
    (j : S1x1024.Idx) : k0_pay4 (k0_pay11 y0 y1 y2 y3) acc j = acc j + k0_pay1 (k0_pay11 y0 y1 y2 y3) j := by
  pointwise [k0_pay4, k0_pay1]

/-- After the last block the array holds the sum of the shares. -/
theorem acc_last (t : Fin cfg0.N) (h : t.val % 32 = 31) (j : S1x1024.Idx) : ((outsAt0 m c t.val t.isLt).2.2 : S1x1024.Idx → EReal) j
    = 0 + ∑ s : Fin 32, share m c ⟨32 * (t.val / 32) + s.val, Pipeline.run_point_lt_of_flush t h s⟩ j := by
  refine Pipeline.eq_sum_fin_of_reset_step_apply_of_flush (M := EReal) (fun n h => ((outsAt0 m c n h).2.2 : S1x1024.Idx → EReal)) 32 (fun _ => 0)
    (share m c) (fun t h j => ?_) (fun t h j => ?_) t h j
  · have ht : t.val < 32 := lt_of_lt_of_eq t.isLt N_0
    rw [outsAt0_A m c t h (by omega)]; frame_out; exact (zero_add _).symm
  · rw [outsAt0_B m c t h (by omega)]; frame_out; rw [add_share]; rfl

set_option maxHeartbeats 2000000 in
/-- The gradient of the scale after the run is the reference's. -/
theorem final8 : (dats m 0 c).arrAt 8 (cfgs 0).N = val_main_v43 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t hf y => ?_
  blk_simp
  have ht : t.val < 32 := lt_of_lt_of_eq t.isLt N_0
  have h3 := (flush0_8 t).mp hf
  obtain ⟨l, rfl⟩ : ∃ l, y = ix2 0 l := ⟨y 1, by funext a; match a with | 0 => exact Subsingleton.elim (α := Fin 1) _ _ | 1 => rfl⟩
  rw [after0_8, acc_last m c t h3, zero_add]
  refine Eq.trans ?_ ((scale_point (m ((c : Thread nD τ).loc main_arg0)) (m ((c : Thread nD τ).loc main_arg1)) (m ((c : Thread nD τ).loc main_arg2)) (m ((c : Thread nD τ).loc main_arg3)) l).symm.trans ?_)
  · rw [← contract (A := fun r => reach (m ((c : Thread nD τ).loc main_arg0)) (m ((c : Thread nD τ).loc main_arg1)) (m ((c : Thread nD τ).loc main_arg2)) (seq r) (place r) l)
      (B := fun r => (show FVec Ideal S2x4096x1024 .f32 from (m ((c : Thread nD τ).loc main_arg3))) (ix3 (seq r) (place r) l)
        * root _ _ fun l => (show FVec Ideal S2x4096x1024 .f32 from (m ((c : Thread nD τ).loc main_arg3))) (ix3 (seq r) (place r) l))
      (fun _ => rfl) (fun _ => rfl)]
    simp only [share_sum]
    refine Fin.sum_mul_add_congr fun s i hl => ?_
    have hr : rowOf ⟨32 * (t.val / 32) + s.val, Pipeline.run_point_lt_of_flush t h3 s⟩ i = ⟨s.val * 256 + i.val, hl⟩ :=
      Fin.ext (show 256 * (32 * (t.val / 32) + s.val) + i.val = s.val * 256 + i.val by omega)
    rw [hr]
  · generalize val_main_v43 (F := Ideal) _ _ _ _ = f
    blk_ext! [idx t]

end Cert.Kernel20Ideal.Norm

end
-- ==== Proof.WeightsProjection.lean ====
module

public import proofs.«01_k».proof.Proof.Gen.Kernel21Ideal.Value
public import proofs.«01_k».proof.Proof.Gen.Reference21Ideal.Read
public import proofs.«01_k».proof.Proof.Rows
public import Idealize.ShloMosaic.Lib.Pipeline.ValueKit
public import Idealize.ShloMosaic.Lib.Claim

/-! The gradient of the weights after the attention branch, accumulated over four blocks of rows. -/

@[expose] public section

set_option maxRecDepth 16384

noncomputable section

open Idealize.ShloMosaic Idealize.ShloMosaic.TcCoe Idealize.SL.Sem Cert.Rows

namespace Cert.Kernel21Ideal.Product

open Cert.Kernel21Ideal Cert.Kernel21Ideal.Gen Cert.Reference21Ideal.Read

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![0, 0] :=
  (by decide +kernel : ∀ t : Fin grid0.N, _)

/-- The first operand's row at entry: a token's row of the first argument. -/
theorem left (r : Fin 8192) (l : Fin 512) : (V m c (Pipeline.arrRef spec0 0) : S8192x512.Idx → EReal) (ix2 r l)
    = (m ((c : Thread nD τ).loc main_arg0) : S2x4096x512.Idx → EReal) (ix3 (seq r) (place r) l) := by
  entry_read
  pointwise []
  rfl

/-- The second operand's row at entry: a token's row of the second argument. -/
theorem right (r : Fin 8192) (l : Fin 1024) : (V m c (Pipeline.arrRef spec0 1) : S8192x1024.Idx → EReal) (ix2 r l)
    = (m ((c : Thread nD τ).loc main_arg1) : S2x4096x1024.Idx → EReal) (ix3 (seq r) (place r) l) := by
  entry_read
  pointwise []
  rfl

/-- The accumulator starts at zero. -/
theorem hzero (j) : k0_pay1 (F := Ideal) j = 0 := by pointwise [k0_pay1]

/-- A block of rows adds its product. -/
theorem hpay (x0 : Vec Ideal S2048x512 .f32) (acc : Vec Ideal S512x1024 .f32) (x1 : Vec Ideal S2048x1024 .bf16) (j : S512x1024.Idx) :
    k0_pay2 x0 acc x1 j = acc j + ∑ k : Fin 2048, x0 (ix2 k (j 0)) * x1 (ix2 k (j 1)) := by pointwise [k0_pay2]

/-- The result is the accumulator. -/
theorem hout (acc : Vec Ideal S512x1024 .f32) (j : S512x1024.Idx) : k0_pay3 acc j = acc j := by pointwise [k0_pay3]

/-- What one block of rows adds to an entry. -/
def part (p : Fin cfg0.N) (j : S512x1024.Idx) : EReal :=
  ∑ k : Fin 2048, (show FVec Ideal S2048x512 .f32 from iblk m c 0 p) (ix2 k (j 0)) * (show FVec Ideal S2048x1024 .bf16 from iblk m c 1 p) (ix2 k (j 1))

/-- After the last block of rows the accumulator holds the sum of the four parts. -/
theorem acc_last (t : Fin cfg0.N) (h : t.val % 4 = 3) (j : S512x1024.Idx) : ((outsAt0 m c t.val t.isLt).2 : S512x1024.Idx → EReal) j
    = 0 + ∑ s : Fin 4, part m c ⟨4 * (t.val / 4) + s.val, Pipeline.run_point_lt_of_flush t h s⟩ j := by
  refine Pipeline.eq_sum_fin_of_reset_step_apply_of_flush (M := EReal) (fun n h => ((outsAt0 m c n h).2 : S512x1024.Idx → EReal)) 4 (fun _ => 0)
    (part m c) (fun t h j => ?_) (fun t h j => ?_) t h j
  · rw [outsAt0_A m c t h (by omega)]; frame_out; rw [hpay, hzero]; rfl
  · rcases Nat.eq_or_lt_of_le (show t.val % 4 ≤ 3 by omega) with h3 | h3
    · rw [outsAt0_C m c t h h3]; frame_out; rw [hpay]; exact congrArg (· + part m c t j) (congrFun (Memref.IsWhole.read_unread _ _) j)
    · rw [outsAt0_B m c t h (by omega)]; frame_out; rw [hpay]; exact congrArg (· + part m c t j) (congrFun (Memref.IsWhole.read_unread _ _) j)

/-- What is written back is the accumulator. -/
theorem out_last (t : Fin cfg0.N) (h : t.val % 4 = 3) (j : S512x1024.Idx) :
    (outsAt0 m c t.val t.isLt).1 j = (outsAt0 m c t.val t.isLt).2 j := by
  rw [outsAt0_C m c t (by omega) h]; frame_out; rw [hout]

set_option maxHeartbeats 2000000 in
/-- The array after the run is the reference's. -/
theorem final : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  have ht : t.val < 4 := lt_of_lt_of_eq t.isLt N_0
  have h3 := (flush0_2 t).mp hf
  rw [after0_2, out_last m c t h3, acc_last m c t h3, zero_add]
  pointwise [val_main_v4, val_main_v3, val_main_v2]
  rw [← contract (A := fun r => V m c (Pipeline.arrRef spec0 0) (ix2 r _)) (B := fun r => V m c (Pipeline.arrRef spec0 1) (ix2 r _))
    (fun r => left m c r _) (fun r => right m c r _)]
  unfold part
  refine Fin.sum_mul_add_congr fun s k hl => ?_
  blk_point [iblk, idx ⟨_, Pipeline.run_point_lt_of_flush t h3 s⟩, idx t]

end Cert.Kernel21Ideal.Product

end
-- ==== Proof.BlockPoint.lean ====
module

public import Idealize.ShloMosaic.Lib.Pointwise
public import Idealize.ShloMosaic.Lib.ValueIdx

/-! Points of a block. -/

@[expose] public section

open Idealize.ShloMosaic

namespace Cert.Rows

/-- A point of a matrix is a row and a column. -/
theorem ix2_split {a b : ℕ} (y : (⟨2, ![a, b]⟩ : Shape).Idx) : ∃ i j, y = ix2 i j :=
  ⟨y 0, y 1, by funext q; match q with | 0 => rfl | 1 => rfl⟩

end Cert.Rows
-- ==== Proof.Loss.lean ====
module

public import proofs.«01_k».proof.Proof.Gen.Kernel22Ideal.Value
public import proofs.«01_k».proof.Proof.Gen.Reference22Ideal.Read
public import proofs.«01_k».proof.Proof.Rows
public import proofs.«01_k».proof.Proof.BlockPoint
public import proofs.«01_k».proof.Proof.Norm
public import Idealize.ShloMosaic.Lib.Pipeline.ValueKit
public import Idealize.ShloMosaic.Lib.Claim

/-! The last product, and the gradient of the loss at the result. -/

@[expose] public section

set_option maxRecDepth 16384

noncomputable section

open Idealize.ShloMosaic Idealize.ShloMosaic.TcCoe Idealize.SL.Sem Cert.Rows

namespace Cert.Kernel22Ideal.Loss

open Cert.Kernel22Ideal Cert.Kernel22Ideal.Gen Cert.Reference22Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] :=
  (by decide +kernel : ∀ t : Fin grid0.N, _)

/-- A row of the first operand at entry: a token's. -/
theorem left (r : Fin 8192) (l : Fin 2816) : (V m c (Pipeline.arrRef spec0 0) : S8192x2816.Idx → EReal) (ix2 r l)
    = (m ((c : Thread nD τ).loc main_arg0) : S2x4096x2816.Idx → EReal) (ix3 (seq r) (place r) l) := by
  entry_read
  pointwise []
  rfl

/-- The weights at entry. -/
theorem weights (r : Fin 2816) (l : Fin 1024) : (V m c (Pipeline.arrRef spec0 1) : S2816x1024.Idx → EReal) (ix2 r l)
    = (m ((c : Thread nD τ).loc main_arg1) : S2816x1024.Idx → EReal) (ix2 r l) := by
  entry_read
  pointwise []

/-- A row of the residual at entry: a token's. -/
theorem added (r : Fin 8192) (l : Fin 1024) : (V m c (Pipeline.arrRef spec0 2) : S8192x1024.Idx → EReal) (ix2 r l)
    = (m ((c : Thread nD τ).loc main_arg2) : S2x4096x1024.Idx → EReal) (ix3 (seq r) (place r) l) := by
  entry_read
  pointwise []
  rfl

/-- A row of the target at entry: a token's. -/
theorem target (r : Fin 8192) (l : Fin 1024) : (V m c (Pipeline.arrRef spec0 3) : S8192x1024.Idx → EReal) (ix2 r l)
    = (m ((c : Thread nD τ).loc main_arg3) : S2x4096x1024.Idx → EReal) (ix3 (seq r) (place r) l) := by
  entry_read
  pointwise []
  rfl

/-- The row of the whole array that row `i` of block `t` is. -/
def row (t : Fin cfg0.N) (i : Fin 512) : Fin 8192 := ⟨512 * t.val + i.val, by
  have : t.val < 16 := lt_of_lt_of_eq t.isLt N_0
  omega⟩

theorem block0 (t : Fin cfg0.N) (i : Fin 512) (k : Fin 2816) :
    (iblk m c 0 t : S512x2816.Idx → EReal) (ix2 i k) = (m ((c : Thread nD τ).loc main_arg0) : S2x4096x2816.Idx → EReal) (ix3 (seq (row t i)) (place (row t i)) k) := by
  refine Eq.trans ?_ (left m c (row t i) k)
  have ht : t.val < 16 := lt_of_lt_of_eq t.isLt N_0
  unfold row
  blk_point [iblk, idx t]

theorem block1 (t : Fin cfg0.N) (j : Fin 2816) (k : Fin 1024) :
    (iblk m c 1 t : S2816x1024.Idx → EReal) (ix2 j k) = (m ((c : Thread nD τ).loc main_arg1) : S2816x1024.Idx → EReal) (ix2 j k) := by
  refine Eq.trans ?_ (weights m c j k)
  blk_point [iblk, idx t]

theorem block2 (t : Fin cfg0.N) (i : Fin 512) (k : Fin 1024) :
    (iblk m c 2 t : S512x1024.Idx → EReal) (ix2 i k) = (m ((c : Thread nD τ).loc main_arg2) : S2x4096x1024.Idx → EReal) (ix3 (seq (row t i)) (place (row t i)) k) := by
  refine Eq.trans ?_ (added m c (row t i) k)
  have ht : t.val < 16 := lt_of_lt_of_eq t.isLt N_0
  unfold row
  blk_point [iblk, idx t]

theorem block3 (t : Fin cfg0.N) (i : Fin 512) (k : Fin 1024) :
    (iblk m c 3 t : S512x1024.Idx → EReal) (ix2 i k) = (m ((c : Thread nD τ).loc main_arg3) : S2x4096x1024.Idx → EReal) (ix3 (seq (row t i)) (place (row t i)) k) := by
  refine Eq.trans ?_ (target m c (row t i) k)
  have ht : t.val < 16 := lt_of_lt_of_eq t.isLt N_0
  unfold row
  blk_point [iblk, idx t]

/-- The mean's factor times twice the error is the error over the width. -/
theorem factor (d : EReal) : Ideal.div (Ideal.ofBits .f32 0x3F000000#32) (Ideal.ofBits .f32 0x44800000#32) * (Ideal.ofBits .f32 0x40000000#32 * d)
    = d * Ideal.ofBits .f32 0x3A800000#32 := by
  have h2 : Ideal.ofBits .f32 0x40000000#32 = ((2 : ℝ) : EReal) := by simp [Ideal.ofBits, Ideal.ieee, -EReal.coe_mul]; norm_num
  have hh : Ideal.ofBits .f32 0x3F000000#32 = ((1 / 2 : ℝ) : EReal) := by simp [Ideal.ofBits, Ideal.ieee, -EReal.coe_mul]; norm_num
  have hn : Ideal.ofBits .f32 0x3A800000#32 = ((1 / 1024 : ℝ) : EReal) := by simp [Ideal.ofBits, Ideal.ieee, -EReal.coe_mul]; norm_num
  rw [Cert.NormRow.n1024_bits, h2, hh, hn, Ideal.div_coe (by norm_num), ← EReal.coe_mul, ← mul_assoc, ← EReal.coe_mul, mul_comm]
  norm_num

variable (x0 : FVec Ideal S2x4096x2816 .f32) (x1 : FVec Ideal S2816x1024 .f32) (x2 x3 : FVec Ideal S2x4096x1024 .f32)

/-- The error at a point. -/
def err (r : Fin 8192) (j : Fin 1024) : EReal :=
  x2 (ix3 (seq r) (place r) j) + ∑ k : Fin 2816, x0 (ix3 (seq r) (place r) k) * x1 (ix2 k j) - x3 (ix3 (seq r) (place r) j)

/-- The gradient, as the reference reads it. -/
theorem ref_point (r : Fin 8192) (j : Fin 1024) : val_main_v17 (F := Ideal) x0 x1 x2 x3 (ix2 r j)
    = err x0 x1 x2 x3 r j * Ideal.ofBits .f32 0x3A800000#32 := by
  pointwise [val_main_v0, val_main_v1, val_main_v2, val_main_v3, val_main_cst, val_main_v4, val_main_v5, val_main_cst_0, val_main_v6, val_main_cst_1, val_main_v7, val_main_v8, val_main_cst_2, val_main_v9, val_main_cst_3, val_main_v10, val_main_cst_4, val_main_cst_5, val_main_v11, val_main_v12, val_main_cst_6, val_main_v13, val_main_v14, val_main_v15, val_main_v16, val_main_v17, val_main_v18, val_main_v19, val_main_cst_7, val_main_v20, val_main_v21]
  rw [factor]
  rfl

/-- The squared errors' column sums, as the reference reads them. -/
theorem sum_point (j : Fin 1024) : val_main_v21 (F := Ideal) x0 x1 x2 x3 (ix2 0 j)
    = ∑ r, err x0 x1 x2 x3 r j * err x0 x1 x2 x3 r j := by
  rw [contract (A := fun r => err x0 x1 x2 x3 r j) (B := fun r => err x0 x1 x2 x3 r j)
    (A' := fun b s => x2 (ix3 b s j) + ∑ k : Fin 2816, x0 (ix3 b s k) * x1 (ix2 k j) - x3 (ix3 b s j))
    (B' := fun b s => x2 (ix3 b s j) + ∑ k : Fin 2816, x0 (ix3 b s k) * x1 (ix2 k j) - x3 (ix3 b s j)) (fun _ => rfl) (fun _ => rfl)]
  pointwise [val_main_v0, val_main_v1, val_main_v2, val_main_v3, val_main_cst, val_main_v4, val_main_v5, val_main_cst_0, val_main_v6, val_main_cst_1, val_main_v7, val_main_v8, val_main_cst_2, val_main_v9, val_main_cst_3, val_main_v10, val_main_cst_4, val_main_cst_5, val_main_v11, val_main_v12, val_main_cst_6, val_main_v13, val_main_v14, val_main_v15, val_main_v16, val_main_v17, val_main_v18, val_main_v19, val_main_cst_7, val_main_v20, val_main_v21]
  rw [Cert.NormRow.reduce_leading, zero_add]
  refine Finset.sum_congr rfl fun b _ => Finset.sum_congr rfl fun s _ => ?_
  pointwise []

/-- A block's errors are the reference's. -/
theorem block_err (t : Fin cfg0.N) (i : Fin 512) (j : Fin 1024) :
    k0_pay1 (iblk m c 0 t) (iblk m c 1 t) (iblk m c 2 t) (iblk m c 3 t) (ix2 i j) = err (m ((c : Thread nD τ).loc main_arg0)) (m ((c : Thread nD τ).loc main_arg1)) (m ((c : Thread nD τ).loc main_arg2)) (m ((c : Thread nD τ).loc main_arg3)) (row t i) j := by
  pointwise [k0_pay1]
  simp only [block0, block1, block2, block3]
  rw [add_comm]
  rfl

/-- What a point writes of the gradient, at every point. -/
theorem outs4 (t : Fin cfg0.N) : (outsAt0 m c t.val t.isLt).1 = k0_pay2 (iblk m c 0 t) (iblk m c 1 t) (iblk m c 2 t) (iblk m c 3 t) := by
  have ht : t.val < 16 := lt_of_lt_of_eq t.isLt N_0
  by_cases h : t.val % 16 = 0
  · rw [outsAt0_A m c t h (by omega)]; funext y; frame_out
  · rw [outsAt0_B m c t h (by omega)]; funext y; frame_out

/-- Its copy is the same. -/
theorem outs5 (t : Fin cfg0.N) (y : S512x1024.Idx) : (outsAt0 m c t.val t.isLt).2.1 y = k0_pay2 (iblk m c 0 t) (iblk m c 1 t) (iblk m c 2 t) (iblk m c 3 t) y := by
  have ht : t.val < 16 := lt_of_lt_of_eq t.isLt N_0
  by_cases h : t.val % 16 = 0
  · rw [outsAt0_A m c t h (by omega)]; frame_out; pointwise [k0_pay4]
  · rw [outsAt0_B m c t h (by omega)]; frame_out; pointwise [k0_pay4]

/-- A block's row of the gradient is the reference's. -/
theorem grad_row (t : Fin cfg0.N) (i : Fin 512) (j : Fin 1024) : k0_pay2 (iblk m c 0 t) (iblk m c 1 t) (iblk m c 2 t) (iblk m c 3 t) (ix2 i j)
    = val_main_v17 (F := Ideal) (m ((c : Thread nD τ).loc main_arg0)) (m ((c : Thread nD τ).loc main_arg1)) (m ((c : Thread nD τ).loc main_arg2)) (m ((c : Thread nD τ).loc main_arg3)) (ix2 (row t i) j) := by
  rw [ref_point, ← block_err]
  pointwise [k0_pay2]

set_option maxHeartbeats 2000000 in
/-- The gradient after the run is the reference's. -/
theorem final4 : (dats m 0 c).arrAt 4 (cfgs 0).N = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have ht : t.val < 16 := lt_of_lt_of_eq t.isLt N_0
  obtain ⟨i, j, rfl⟩ := ix2_split (a := 512) (b := 1024) y
  rw [after0_4, outs4]
  refine (grad_row m c t i j).trans ?_
  generalize val_main_v17 (F := Ideal) _ _ _ _ = f
  unfold row
  blk_ext! [idx t]

set_option maxHeartbeats 2000000 in
/-- So is its copy. -/
theorem final5 : (dats m 0 c).arrAt 5 (cfgs 0).N = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have ht : t.val < 16 := lt_of_lt_of_eq t.isLt N_0
  obtain ⟨i, j, rfl⟩ := ix2_split (a := 512) (b := 1024) y
  rw [after0_5, outs5]
  refine (grad_row m c t i j).trans ?_
  have hc : val_main_v17 (F := Ideal) (m ((c : Thread nD τ).loc main_arg0)) (m ((c : Thread nD τ).loc main_arg1)) (m ((c : Thread nD τ).loc main_arg2)) (m ((c : Thread nD τ).loc main_arg3)) = val_main_v19 (F := Ideal) (m ((c : Thread nD τ).loc main_arg0)) (m ((c : Thread nD τ).loc main_arg1)) (m ((c : Thread nD τ).loc main_arg2)) (m ((c : Thread nD τ).loc main_arg3)) := rfl
  rw [hc]
  generalize val_main_v19 (F := Ideal) _ _ _ _ = f
  unfold row
  blk_ext! [idx t]

/-- What one block of rows adds to the squared errors' sums. -/
def share (t : Fin cfg0.N) (j : S1x1024.Idx) : EReal := (show FVec Ideal S1x1024 .f32 from k0_pay3 (iblk m c 0 t) (iblk m c 1 t) (iblk m c 2 t) (iblk m c 3 t)) j

theorem share_sum (t : Fin cfg0.N) (l : Fin 1024) : share m c t (ix2 0 l)
    = ∑ i : Fin 512, err (m ((c : Thread nD τ).loc main_arg0)) (m ((c : Thread nD τ).loc main_arg1)) (m ((c : Thread nD τ).loc main_arg2)) (m ((c : Thread nD τ).loc main_arg3)) (row t i) l * err (m ((c : Thread nD τ).loc main_arg0)) (m ((c : Thread nD τ).loc main_arg1)) (m ((c : Thread nD τ).loc main_arg2)) (m ((c : Thread nD τ).loc main_arg3)) (row t i) l := by
  simp only [← block_err]
  unfold share
  pointwise [k0_pay3, k0_pay1]

/-- A later block adds its share. -/
theorem add_share (y0 : FVec Ideal S512x2816 .bf16) (y1 : FVec Ideal S2816x1024 .bf16) (y2 y3 : FVec Ideal S512x1024 .f32) (acc : FVec Ideal S1x1024 .f32)
    (j : S1x1024.Idx) : k0_pay5 y0 y1 y2 y3 acc j = acc j + k0_pay3 y0 y1 y2 y3 j := by
  pointwise [k0_pay5, k0_pay3]

/-- After the last block the array holds the sum of the shares. -/
theorem acc_last (t : Fin cfg0.N) (h : t.val % 16 = 15) (j : S1x1024.Idx) : ((outsAt0 m c t.val t.isLt).2.2 : S1x1024.Idx → EReal) j
    = 0 + ∑ s : Fin 16, share m c ⟨16 * (t.val / 16) + s.val, Pipeline.run_point_lt_of_flush t h s⟩ j := by
  refine Pipeline.eq_sum_fin_of_reset_step_apply_of_flush (M := EReal) (fun n h => ((outsAt0 m c n h).2.2 : S1x1024.Idx → EReal)) 16 (fun _ => 0)
    (share m c) (fun t h j => ?_) (fun t h j => ?_) t h j
  · have ht : t.val < 16 := lt_of_lt_of_eq t.isLt N_0
    rw [outsAt0_A m c t h (by omega)]; frame_out; exact (zero_add _).symm
  · rw [outsAt0_B m c t h (by omega)]; frame_out; rw [add_share]; rfl

set_option maxHeartbeats 2000000 in
/-- The squared errors' sums after the run are the reference's. -/
theorem final6 : (dats m 0 c).arrAt 6 (cfgs 0).N = val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  have ht : t.val < 16 := lt_of_lt_of_eq t.isLt N_0
  have h3 := (flush0_6 t).mp hf
  obtain ⟨l, rfl⟩ : ∃ l, y = ix2 0 l := ⟨y 1, by funext a; match a with | 0 => exact Subsingleton.elim (α := Fin 1) _ _ | 1 => rfl⟩
  rw [after0_6, acc_last m c t h3, zero_add]
  refine Eq.trans ?_ ((sum_point (m ((c : Thread nD τ).loc main_arg0)) (m ((c : Thread nD τ).loc main_arg1)) (m ((c : Thread nD τ).loc main_arg2)) (m ((c : Thread nD τ).loc main_arg3)) l).symm.trans ?_)
  · simp only [share_sum]
    refine Fin.sum_mul_add_congr fun s i hl => ?_
    have hr : row ⟨16 * (t.val / 16) + s.val, Pipeline.run_point_lt_of_flush t h3 s⟩ i = ⟨s.val * 512 + i.val, hl⟩ :=
      Fin.ext (show 512 * (16 * (t.val / 16) + s.val) + i.val = s.val * 512 + i.val by omega)
    rw [hr]
  · generalize val_main_v21 (F := Ideal) _ _ _ _ = f
    blk_ext! [idx t]

end Cert.Kernel22Ideal.Loss

end
-- ==== Proof.Merge.lean ====
module

public import proofs.«01_k».proof.Proof.Gen.Kernel23Ideal.Value
public import proofs.«01_k».proof.Proof.Gen.Reference23Ideal.Read
public import proofs.«01_k».proof.Proof.Rows
public import proofs.«01_k».proof.Proof.BlockPoint
public import proofs.«01_k».proof.Proof.Gates
public import Idealize.ShloMosaic.Lib.Pipeline.ValueKit
public import Idealize.ShloMosaic.Lib.Claim

/-! The product after the attention branch, and the merge of the two branches. -/

@[expose] public section

set_option maxRecDepth 16384

noncomputable section

open Idealize.ShloMosaic Idealize.ShloMosaic.TcCoe Idealize.SL.Sem Cert.Rows

namespace Cert.Kernel23Ideal.Merge

open Cert.Kernel23Ideal Cert.Kernel23Ideal.Gen Cert.Reference23Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- A row of the attention branch at entry: a token's. -/
theorem branch (r : Fin 8192) (l : Fin 512) : (V m c (Pipeline.arrRef spec0 0) : S8192x512.Idx → EReal) (ix2 r l)
    = (m ((c : Thread nD τ).loc main_arg0) : S2x4096x512.Idx → EReal) (ix3 (seq r) (place r) l) := by
  entry_read
  pointwise []
  rfl

/-- The weights at entry. -/
theorem weights (r : Fin 512) (l : Fin 1024) : (V m c (Pipeline.arrRef spec0 1) : S512x1024.Idx → EReal) (ix2 r l)
    = (m ((c : Thread nD τ).loc main_arg1) : S512x1024.Idx → EReal) (ix2 r l) := by
  entry_read
  pointwise []

/-- A row of the other branch's product at entry: a token's. -/
theorem other (r : Fin 8192) (l : Fin 1024) : (V m c (Pipeline.arrRef spec0 2) : S8192x1024.Idx → EReal) (ix2 r l)
    = (m ((c : Thread nD τ).loc main_arg2) : S2x4096x1024.Idx → EReal) (ix3 (seq r) (place r) l) := by
  entry_read
  pointwise []
  rfl

/-- A row of the first gate at entry: a token's. -/
theorem gateS (r : Fin 8192) (l : Fin 1024) : (V m c (Pipeline.arrRef spec0 3) : S8192x1024.Idx → EReal) (ix2 r l)
    = (m ((c : Thread nD τ).loc main_arg3) : S2x4096x1024.Idx → EReal) (ix3 (seq r) (place r) l) := by
  entry_read
  pointwise []
  rfl

/-- A row of the second gate at entry: a token's. -/
theorem gateA (r : Fin 8192) (l : Fin 1024) : (V m c (Pipeline.arrRef spec0 4) : S8192x1024.Idx → EReal) (ix2 r l)
    = (m ((c : Thread nD τ).loc main_arg4) : S2x4096x1024.Idx → EReal) (ix3 (seq r) (place r) l) := by
  entry_read
  pointwise []
  rfl

/-- The row of the whole array that row `i` of block `t` is. -/
def row (t : Fin cfg0.N) (i : Fin 512) : Fin 8192 := ⟨512 * t.val + i.val, by
  have : t.val < 16 := lt_of_lt_of_eq t.isLt N_0
  omega⟩

theorem block0 (t : Fin cfg0.N) (i : Fin 512) (k : Fin 512) :
    (iblk m c 0 t : S512x512.Idx → EReal) (ix2 i k) = (m ((c : Thread nD τ).loc main_arg0) : S2x4096x512.Idx → EReal) (ix3 (seq (row t i)) (place (row t i)) k) := by
  refine Eq.trans ?_ (branch m c (row t i) k)
  have ht : t.val < 16 := lt_of_lt_of_eq t.isLt N_0
  unfold row
  blk_point [iblk, idx t]

theorem block1 (t : Fin cfg0.N) (j : Fin 512) (k : Fin 1024) :
    (iblk m c 1 t : S512x1024.Idx → EReal) (ix2 j k) = (m ((c : Thread nD τ).loc main_arg1) : S512x1024.Idx → EReal) (ix2 j k) := by
  refine Eq.trans ?_ (weights m c j k)
  blk_point [iblk, idx t]

theorem block2 (t : Fin cfg0.N) (i : Fin 512) (k : Fin 1024) :
    (iblk m c 2 t : S512x1024.Idx → EReal) (ix2 i k) = (m ((c : Thread nD τ).loc main_arg2) : S2x4096x1024.Idx → EReal) (ix3 (seq (row t i)) (place (row t i)) k) := by
  refine Eq.trans ?_ (other m c (row t i) k)
  have ht : t.val < 16 := lt_of_lt_of_eq t.isLt N_0
  unfold row
  blk_point [iblk, idx t]

theorem block3 (t : Fin cfg0.N) (i : Fin 512) (k : Fin 1024) :
    (iblk m c 3 t : S512x1024.Idx → EReal) (ix2 i k) = (m ((c : Thread nD τ).loc main_arg3) : S2x4096x1024.Idx → EReal) (ix3 (seq (row t i)) (place (row t i)) k) := by
  refine Eq.trans ?_ (gateS m c (row t i) k)
  have ht : t.val < 16 := lt_of_lt_of_eq t.isLt N_0
  unfold row
  blk_point [iblk, idx t]

theorem block4 (t : Fin cfg0.N) (i : Fin 512) (k : Fin 1024) :
    (iblk m c 4 t : S512x1024.Idx → EReal) (ix2 i k) = (m ((c : Thread nD τ).loc main_arg4) : S2x4096x1024.Idx → EReal) (ix3 (seq (row t i)) (place (row t i)) k) := by
  refine Eq.trans ?_ (gateA m c (row t i) k)
  have ht : t.val < 16 := lt_of_lt_of_eq t.isLt N_0
  unfold row
  blk_point [iblk, idx t]

set_option maxHeartbeats 2000000 in
/-- The product. -/
theorem final5 : (dats m 0 c).arrAt 5 (cfgs 0).N = val_main_v1 (F := Ideal) (m ((c : Thread nD τ).loc main_arg0)) (m ((c : Thread nD τ).loc main_arg1)) := by
  refine (dats m 0 c).arrAt_eq_of_covers 5 _ (by decide +kernel) fun t hf y => ?_
  blk_simp
  obtain ⟨i, j, rfl⟩ := ix2_split (a := 512) (b := 1024) y
  rw [after0_5]; frame_out
  refine Eq.trans (b := val_main_v1 (F := Ideal) (m ((c : Thread nD τ).loc main_arg0)) (m ((c : Thread nD τ).loc main_arg1)) (ix2 (row t i) j)) ?_ ?_
  · pointwise [k0_pay1, val_main_v0, val_main_v1, val_main_v2, val_main_v3, val_main_cst, val_main_v4, val_main_v5, val_main_cst_0, val_main_v6, val_main_v7, val_main_v8, val_main_v9, val_main_v10, val_main_cst_1, val_main_v11, val_main_v12, val_main_cst_2, val_main_v13, val_main_v14, val_main_v15, val_main_v16, val_main_v17, val_main_v18]
    simp only [block0, block1, seq, place]

  · generalize val_main_v1 (F := Ideal) _ _ = f
    have ht : t.val < 16 := lt_of_lt_of_eq t.isLt N_0
    unfold row
    blk_ext! [idx t]

set_option maxHeartbeats 2000000 in
/-- The merge. -/
theorem final6 : (dats m 0 c).arrAt 6 (cfgs 0).N = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  obtain ⟨i, j, rfl⟩ := ix2_split (a := 512) (b := 1024) y
  rw [after0_6]; frame_out
  refine Eq.trans (b := val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i) j)) ?_ ?_
  · pointwise [k0_pay1, k0_pay2, val_main_v0, val_main_v1, val_main_v2, val_main_v3, val_main_cst, val_main_v4, val_main_v5, val_main_cst_0, val_main_v6, val_main_v7, val_main_v8, val_main_v9, val_main_v10, val_main_cst_1, val_main_v11, val_main_v12, val_main_cst_2, val_main_v13, val_main_v14, val_main_v15, val_main_v16, val_main_v17, val_main_v18]
    simp only [block0, block1, block2, block3, block4, seq, place]
    simp only [gate_neg]
    rfl
  · generalize val_main_v18 (F := Ideal) _ _ _ _ _ = f
    have ht : t.val < 16 := lt_of_lt_of_eq t.isLt N_0
    unfold row
    blk_ext! [idx t]

end Cert.Kernel23Ideal.Merge

end
-- ==== Proof.NormForward.lean ====
module

public import proofs.«01_k».proof.Proof.Gen.Kernel24Ideal.Value
public import proofs.«01_k».proof.Proof.Gen.Reference24Ideal.Read
public import proofs.«01_k».proof.Proof.Gen.Kernel25Ideal.Value
public import proofs.«01_k».proof.Proof.Gen.Reference25Ideal.Read
public import proofs.«01_k».proof.Proof.Rows
public import proofs.«01_k».proof.Proof.BlockPoint
public import Idealize.ShloMosaic.Lib.Pipeline.ValueKit
public import Idealize.ShloMosaic.Lib.Claim

/-! The products beside a norm: one whose result is normalised, one whose operand is. -/

@[expose] public section

set_option maxRecDepth 16384

noncomputable section

open Idealize.ShloMosaic Idealize.ShloMosaic.TcCoe Idealize.SL.Sem Cert.Rows

namespace Cert.Kernel24Ideal.After

open Cert.Kernel24Ideal Cert.Kernel24Ideal.Gen Cert.Reference24Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- A row of the first operand at entry: a token's. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 1024) (l : Fin 1024) : (V m c (Pipeline.arrRef spec0 1) : S1024x1024.Idx → EReal) (ix2 r l)
    = (m ((c : Thread nD τ).loc main_arg1) : S1024x1024.Idx → EReal) (ix2 r l) := by
  entry_read
  pointwise []

/-- A row of the residual at entry: a token's. -/
theorem added (r : Fin 8192) (l : Fin 1024) : (V m c (Pipeline.arrRef spec0 2) : S8192x1024.Idx → EReal) (ix2 r l)
    = (m ((c : Thread nD τ).loc main_arg2) : S2x4096x1024.Idx → EReal) (ix3 (seq r) (place r) l) := by
  entry_read
  pointwise []
  rfl

/-- The norm's scale at entry. -/
theorem scale (l : Fin 1024) : (V m c (Pipeline.arrRef spec0 3) : S1x1024.Idx → EReal) (ix2 0 l)
    = (m ((c : Thread nD τ).loc main_arg3) : S1024.Idx → EReal) (ix1 l) := by
  entry_read
  pointwise []

/-- The row of the whole array that row `i` of block `t` is. -/
def row (t : Fin cfg0.N) (i : Fin 1024) : Fin 8192 := ⟨1024 * t.val + i.val, by
  have : t.val < 8 := lt_of_lt_of_eq t.isLt N_0
  omega⟩

theorem block0 (t : Fin cfg0.N) (i : Fin 1024) (k : Fin 1024) :
    (iblk m c 0 t : S1024x1024.Idx → EReal) (ix2 i k) = (m ((c : Thread nD τ).loc main_arg0) : S2x4096x1024.Idx → EReal) (ix3 (seq (row t i)) (place (row t i)) k) := by
  refine Eq.trans ?_ (left m c (row t i) k)
  have ht : t.val < 8 := lt_of_lt_of_eq t.isLt N_0
  unfold row
  blk_point [iblk, idx t]

theorem block1 (t : Fin cfg0.N) (j : Fin 1024) (k : Fin 1024) :
    (iblk m c 1 t : S1024x1024.Idx → EReal) (ix2 j k) = (m ((c : Thread nD τ).loc main_arg1) : S1024x1024.Idx → EReal) (ix2 j k) := by
  refine Eq.trans ?_ (weights m c j k)
  blk_point [iblk, idx t]

theorem block2 (t : Fin cfg0.N) (i : Fin 1024) (k : Fin 1024) :
    (iblk m c 2 t : S1024x1024.Idx → EReal) (ix2 i k) = (m ((c : Thread nD τ).loc main_arg2) : S2x4096x1024.Idx → EReal) (ix3 (seq (row t i)) (place (row t i)) k) := by
  refine Eq.trans ?_ (added m c (row t i) k)
  have ht : t.val < 8 := lt_of_lt_of_eq t.isLt N_0
  unfold row
  blk_point [iblk, idx t]

theorem block3 (t : Fin cfg0.N) (k : Fin 1024) :
    (iblk m c 3 t : S1x1024.Idx → EReal) (ix2 0 k) = (m ((c : Thread nD τ).loc main_arg3) : S1024.Idx → EReal) (ix1 k) := by
  refine Eq.trans ?_ (scale m c k)
  blk_point [iblk, idx t]

set_option maxHeartbeats 2000000 in
/-- The residual. -/
theorem final4 : (dats m 0 c).arrAt 4 (cfgs 0).N = val_main_v2 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  obtain ⟨i, j, rfl⟩ := ix2_split (a := 1024) (b := 1024) y
  rw [after0_4]; frame_out
  refine Eq.trans (b := val_main_v2 (F := Ideal) (m ((c : Thread nD τ).loc main_arg0)) (m ((c : Thread nD τ).loc main_arg1)) (m ((c : Thread nD τ).loc main_arg2)) (ix2 (row t i) j)) ?_ ?_
  · pointwise [k0_pay1, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17]
    simp only [block0, block1, block2, seq, place]
    rw [add_comm]
  · generalize val_main_v2 (F := Ideal) _ _ _ = f
    have ht : t.val < 8 := lt_of_lt_of_eq t.isLt N_0
    unfold row
    blk_ext! [idx t]

/-- The norm of a block's row, the residual first. -/
theorem pay_point (y0 : FVec Ideal S1024x1024 .bf16) (y1 : FVec Ideal S1024x1024 .bf16) (y2 : FVec Ideal S1024x1024 .f32) (y3 : FVec Ideal S1x1024 .f32)
    (i : Fin 1024) (j : Fin 1024) : (show FVec Ideal S1024x1024 .bf16 from k0_pay2 y0 y1 y2 y3) (ix2 i j)
    = (y2 (ix2 i j) + ∑ k : Fin 1024, y0 (ix2 i k) * y1 (ix2 k j))
      * Ideal.rsqrt (Ideal.div (∑ l : Fin 1024, (y2 (ix2 i l) + ∑ k : Fin 1024, y0 (ix2 i k) * y1 (ix2 k l))
          * (y2 (ix2 i l) + ∑ k : Fin 1024, y0 (ix2 i k) * y1 (ix2 k l))) (Ideal.ofBits .f32 0x44800000#32) + Ideal.ofBits .f32 0x358637BD#32)
      * y3 (ix2 0 j) := by
  pointwise [k0_pay1, k0_pay2]
  simp only [add_comm (Finset.sum _ _) (y2 _)]

set_option maxHeartbeats 2000000 in
/-- Its norm. -/
theorem final5 : (dats m 0 c).arrAt 5 (cfgs 0).N = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, j, rfl⟩ := ix2_split (a := 1024) (b := 1024) y
  rw [after0_5]; frame_out
  refine Eq.trans (b := val_main_v17 (F := Ideal) (m ((c : Thread nD τ).loc main_arg0)) (m ((c : Thread nD τ).loc main_arg1)) (m ((c : Thread nD τ).loc main_arg2)) (m ((c : Thread nD τ).loc main_arg3)) (ix2 (row t i) j)) ?_ ?_
  · refine (pay_point _ _ _ _ i j).trans ?_
    pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17]
    simp only [block0, block1, block2, block3, seq, place]

  · generalize val_main_v17 (F := Ideal) _ _ _ _ = f
    have ht : t.val < 8 := lt_of_lt_of_eq t.isLt N_0
    unfold row
    blk_ext! [idx t]

end Cert.Kernel24Ideal.After

namespace Cert.Kernel25Ideal.Before

open Cert.Kernel25Ideal Cert.Kernel25Ideal.Gen Cert.Reference25Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- A row of the first operand at entry: a token's. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 1024) (l : Fin 2048) : (V m c (Pipeline.arrRef spec0 1) : S1024x2048.Idx → EReal) (ix2 r l)
    = (m ((c : Thread nD τ).loc main_arg1) : S1024x2048.Idx → EReal) (ix2 r l) := by
  entry_read
  pointwise []

/-- The norm's scale at entry. -/
theorem scale (l : Fin 1024) : (V m c (Pipeline.arrRef spec0 2) : S1x1024.Idx → EReal) (ix2 0 l)
    = (m ((c : Thread nD τ).loc main_arg2) : S1024.Idx → EReal) (ix1 l) := by
  entry_read
  pointwise []

/-- The row of the whole array that row `i` of block `t` is. -/
def row (t : Fin cfg0.N) (i : Fin 512) : Fin 8192 := ⟨512 * t.val + i.val, by
  have : t.val < 16 := lt_of_lt_of_eq t.isLt N_0
  omega⟩

theorem block0 (t : Fin cfg0.N) (i : Fin 512) (k : Fin 1024) :
    (iblk m c 0 t : S512x1024.Idx → EReal) (ix2 i k) = (m ((c : Thread nD τ).loc main_arg0) : S2x4096x1024.Idx → EReal) (ix3 (seq (row t i)) (place (row t i)) k) := by
  refine Eq.trans ?_ (left m c (row t i) k)
  have ht : t.val < 16 := lt_of_lt_of_eq t.isLt N_0
  unfold row
  blk_point [iblk, idx t]

theorem block1 (t : Fin cfg0.N) (j : Fin 1024) (k : Fin 2048) :
    (iblk m c 1 t : S1024x2048.Idx → EReal) (ix2 j k) = (m ((c : Thread nD τ).loc main_arg1) : S1024x2048.Idx → EReal) (ix2 j k) := by
  refine Eq.trans ?_ (weights m c j k)
  blk_point [iblk, idx t]

theorem block2 (t : Fin cfg0.N) (k : Fin 1024) :
    (iblk m c 2 t : S1x1024.Idx → EReal) (ix2 0 k) = (m ((c : Thread nD τ).loc main_arg2) : S1024.Idx → EReal) (ix1 k) := by
  refine Eq.trans ?_ (scale m c k)
  blk_point [iblk, idx t]

set_option maxHeartbeats 2000000 in
/-- The product. -/
theorem final3 : (dats m 0 c).arrAt 3 (cfgs 0).N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨i, j, rfl⟩ := ix2_split (a := 512) (b := 2048) y
  rw [after0_3]; frame_out
  refine Eq.trans (b := val_main_v14 (F := Ideal) (m ((c : Thread nD τ).loc main_arg0)) (m ((c : Thread nD τ).loc main_arg1)) (m ((c : Thread nD τ).loc main_arg2)) (ix2 (row t i) j)) ?_ ?_
  · pointwise [k0_pay1, k0_pay2, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16]
    simp only [block0, block1, block2, seq, place]

  · generalize val_main_v14 (F := Ideal) _ _ _ = f
    have ht : t.val < 16 := lt_of_lt_of_eq t.isLt N_0
    unfold row
    blk_ext! [idx t]

set_option maxHeartbeats 2000000 in
/-- The normalised operand. -/
theorem final4 : (dats m 0 c).arrAt 4 (cfgs 0).N = val_main_v16 (F := Ideal) (m ((c : Thread nD τ).loc main_arg0)) (m ((c : Thread nD τ).loc main_arg2)) := by
  refine (dats m 0 c).arrAt_eq_of_covers 4 _ (by decide +kernel) fun t hf y => ?_
  blk_simp
  obtain ⟨i, j, rfl⟩ := ix2_split (a := 512) (b := 1024) y
  rw [after0_4]; frame_out
  refine Eq.trans (b := val_main_v16 (F := Ideal) (m ((c : Thread nD τ).loc main_arg0)) (m ((c : Thread nD τ).loc main_arg2)) (ix2 (row t i) j)) ?_ ?_
  · pointwise [k0_pay1, k0_pay2, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16]
    simp only [block0, block2, seq, place]

  · generalize val_main_v16 (F := Ideal) _ _ = f
    have ht : t.val < 16 := lt_of_lt_of_eq t.isLt N_0
    unfold row
    blk_ext! [idx t]

end Cert.Kernel25Ideal.Before

end
-- ==== Proof.Gated.lean ====
module

public import proofs.«01_k».proof.Proof.Gen.Kernel26Ideal.Value
public import proofs.«01_k».proof.Proof.Gen.Reference26Ideal.Read
public import proofs.«01_k».proof.Proof.Rows
public import proofs.«01_k».proof.Proof.BlockPoint
public import proofs.«01_k».proof.Proof.Gates
public import Idealize.ShloMosaic.Lib.Pipeline.ValueKit
public import Idealize.ShloMosaic.Lib.Claim

/-! The product after the gated norm. -/

@[expose] public section

set_option maxRecDepth 16384

noncomputable section

open Idealize.ShloMosaic Idealize.ShloMosaic.TcCoe Idealize.SL.Sem Cert.Rows

namespace Cert.Kernel26Ideal.Gated

open Cert.Kernel26Ideal Cert.Kernel26Ideal.Gen Cert.Reference26Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- A row of the scan's result at entry: a token's. -/
theorem left (r : Fin 8192) (l : Fin 2048) : (V m c (Pipeline.arrRef spec0 0) : S8192x2048.Idx → EReal) (ix2 r l)
    = (m ((c : Thread nD τ).loc main_arg0) : S2x4096x2048.Idx → EReal) (ix3 (seq r) (place r) l) := by
  entry_read
  pointwise []
  rfl

/-- The weights at entry. -/
theorem weights (r : Fin 2048) (l : Fin 1024) : (V m c (Pipeline.arrRef spec0 1) : S2048x1024.Idx → EReal) (ix2 r l)
    = (m ((c : Thread nD τ).loc main_arg1) : S2048x1024.Idx → EReal) (ix2 r l) := by
  entry_read
  pointwise []

/-- A row of the gate at entry: a token's. -/
theorem gates (r : Fin 8192) (l : Fin 2048) : (V m c (Pipeline.arrRef spec0 2) : S8192x2048.Idx → EReal) (ix2 r l)
    = (m ((c : Thread nD τ).loc main_arg2) : S2x4096x2048.Idx → EReal) (ix3 (seq r) (place r) l) := by
  entry_read
  pointwise []
  rfl

/-- The norm's scale at entry. -/
theorem scale (l : Fin 2048) : (V m c (Pipeline.arrRef spec0 3) : S1x2048.Idx → EReal) (ix2 0 l)
    = (m ((c : Thread nD τ).loc main_arg3) : S2048.Idx → EReal) (ix1 l) := by
  entry_read
  pointwise []

/-- The row of the whole array that row `i` of block `t` is. -/
def row (t : Fin cfg0.N) (i : Fin 512) : Fin 8192 := ⟨512 * t.val + i.val, by
  have : t.val < 16 := lt_of_lt_of_eq t.isLt N_0
  omega⟩

theorem block0 (t : Fin cfg0.N) (i : Fin 512) (k : Fin 2048) :
    (iblk m c 0 t : S512x2048.Idx → EReal) (ix2 i k) = (m ((c : Thread nD τ).loc main_arg0) : S2x4096x2048.Idx → EReal) (ix3 (seq (row t i)) (place (row t i)) k) := by
  refine Eq.trans ?_ (left m c (row t i) k)
  have ht : t.val < 16 := lt_of_lt_of_eq t.isLt N_0
  unfold row
  blk_point [iblk, idx t]

theorem block1 (t : Fin cfg0.N) (j : Fin 2048) (k : Fin 1024) :
    (iblk m c 1 t : S2048x1024.Idx → EReal) (ix2 j k) = (m ((c : Thread nD τ).loc main_arg1) : S2048x1024.Idx → EReal) (ix2 j k) := by
  refine Eq.trans ?_ (weights m c j k)
  blk_point [iblk, idx t]

theorem block2 (t : Fin cfg0.N) (i : Fin 512) (k : Fin 2048) :
    (iblk m c 2 t : S512x2048.Idx → EReal) (ix2 i k) = (m ((c : Thread nD τ).loc main_arg2) : S2x4096x2048.Idx → EReal) (ix3 (seq (row t i)) (place (row t i)) k) := by
  refine Eq.trans ?_ (gates m c (row t i) k)
  have ht : t.val < 16 := lt_of_lt_of_eq t.isLt N_0
  unfold row
  blk_point [iblk, idx t]

theorem block3 (t : Fin cfg0.N) (k : Fin 2048) :
    (iblk m c 3 t : S1x2048.Idx → EReal) (ix2 0 k) = (m ((c : Thread nD τ).loc main_arg3) : S2048.Idx → EReal) (ix1 k) := by
  refine Eq.trans ?_ (scale m c k)
  blk_point [iblk, idx t]

/-- The columns of a column's group. -/
def mate (j : Fin 2048) (x : Fin 256) : Fin 2048 := ⟨j.val / 256 * 256 + x.val, by omega⟩

/-- A row normed by groups of 256 columns, at a column. -/
def normed (v : Fin 2048 → EReal) (g : Fin 2048 → EReal) (j : Fin 2048) : EReal :=
  v j * Ideal.rsqrt (Ideal.div (∑ x, v (mate j x) * v (mate j x)) (Ideal.ofBits .f32 0x43800000#32) + Ideal.ofBits .f32 0x358637BD#32) * g j

/-- The same with the column and its group's columns named otherwise. -/
theorem normed_eq {v : FVec Ideal S512x2048 .f32} {g : FVec Ideal S1x2048 .f32} {i : Fin 512} {j j' : Fin 2048} {f : Fin 256 → Fin 2048}
    (hj : j' = j) (hf : ∀ x, f x = mate j x) :
    v (ix2 i j') * Ideal.rsqrt (Ideal.div (∑ x, v (ix2 i (f x)) * v (ix2 i (f x))) (Ideal.ofBits .f32 0x43800000#32) + Ideal.ofBits .f32 0x358637BD#32)
      * g (ix2 0 j') = normed (fun l => v (ix2 i l)) (fun l => g (ix2 0 l)) j := by
  rw [hj, funext hf, normed]

/-- The eight groups side by side. -/
theorem groups (y0 : FVec Ideal S512x2048 .f32) (y1 : FVec Ideal S2048x1024 .bf16) (y2 : FVec Ideal S512x2048 .f32) (y3 : FVec Ideal S1x2048 .f32)
    (i : Fin 512) (j : Fin 2048) : (show FVec Ideal S512x2048 .bf16 from k0_pay14 (k0_pay16 y0 y1 y2 y3) (k0_pay17 y0 y1 y2 y3) (k0_pay18 y0 y1 y2 y3) (k0_pay19 y0 y1 y2 y3) (k0_pay20 y0 y1 y2 y3) (k0_pay21 y0 y1 y2 y3) (k0_pay22 y0 y1 y2 y3) (k0_pay23 y0 y1 y2 y3) (k0_pay24 y0 y1 y2 y3) (k0_pay25 y0 y1 y2 y3) (k0_pay26 y0 y1 y2 y3)) (ix2 i j)
    = normed (fun l => (show FVec Ideal S512x2048 .f32 from (k0_pay17 y0 y1 y2 y3)) (ix2 i l)) (fun l => (show FVec Ideal S1x2048 .f32 from (k0_pay16 y0 y1 y2 y3)) (ix2 0 l)) j := by
  pointwise [k0_pay3, k0_pay4, k0_pay5, k0_pay6, k0_pay7, k0_pay8, k0_pay9, k0_pay10, k0_pay11, k0_pay12, k0_pay13, k0_pay14, k0_pay16, k0_pay17, k0_pay18, k0_pay19, k0_pay20, k0_pay21, k0_pay22, k0_pay23, k0_pay24, k0_pay25, k0_pay26]
  split_ifs
  all_goals refine normed_eq (v := k0_pay2 (View.ld y0 r0_0) (View.ld y2 r0_0)) (g := k0_pay1 (View.ld y3 r0_1)) (Fin.ext ?_) fun x => Fin.ext ?_
  all_goals simp only [mate]
  all_goals omega

/-- A block's gated row is the reference's. -/
theorem block_gate (t : Fin cfg0.N) (i : Fin 512) (l : Fin 2048) : (show FVec Ideal S512x2048 .f32 from (k0_pay17 (iblk m c 0 t) (iblk m c 1 t) (iblk m c 2 t) (iblk m c 3 t))) (ix2 i l)
    = val_main_v1 (F := Ideal) (m ((c : Thread nD τ).loc main_arg0)) (m ((c : Thread nD τ).loc main_arg2)) (ix3 (seq (row t i)) (place (row t i)) l) := by
  pointwise [k0_pay17, k0_pay2, val_main_call0_v0, val_main_call0_v1, val_main_call0_cst, val_main_call0_v2, val_main_call0_v3, val_main_call0_cst_0, val_main_call0_v4, val_main_call0_v5, val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, val_main_v18, val_main_v19, val_main_v20, val_main_v21]
  simp only [block0, block2, zero_sub]

/-- A block's scale is the argument. -/
theorem block_scale (t : Fin cfg0.N) (l : Fin 2048) : (show FVec Ideal S1x2048 .f32 from (k0_pay16 (iblk m c 0 t) (iblk m c 1 t) (iblk m c 2 t) (iblk m c 3 t))) (ix2 0 l) = (m ((c : Thread nD τ).loc main_arg3)) (ix1 l) := by
  pointwise [k0_pay16, k0_pay1]
  exact block3 m c t l

/-- The normed row, as the reference reads it. -/
theorem ref_point (x0 x2 : FVec Ideal S2x4096x2048 .f32) (x3 : FVec Ideal S2048 .f32) (r : Fin 8192) (j : Fin 2048) :
    val_main_v21 (F := Ideal) x0 x2 x3 (ix2 r j)
      = normed (fun l => (val_main_v1 (F := Ideal) x0 x2 : S2x4096x2048.Idx → EReal) (ix3 (seq r) (place r) l)) (fun l => x3 (ix1 l)) j := by
  pointwise [val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, val_main_v18, val_main_v19, val_main_v20, val_main_v21]
  rfl

/-- The product, as the reference reads it. -/
theorem product_point (x0 : FVec Ideal S2x4096x2048 .f32) (x1 : FVec Ideal S2048x1024 .f32) (x2 : FVec Ideal S2x4096x2048 .f32) (x3 : FVec Ideal S2048 .f32)
    (r : Fin 8192) (j : Fin 1024) : val_main_v19 (F := Ideal) x0 x1 x2 x3 (ix2 r j)
      = ∑ k : Fin 2048, (val_main_v21 (F := Ideal) x0 x2 x3 : S8192x2048.Idx → EReal) (ix2 r k) * x1 (ix2 k j) := by
  simp only [ref_point]
  pointwise [val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, val_main_v18, val_main_v19, val_main_v20, val_main_v21]
  rfl

/-- A block's normed row is the reference's. -/
theorem block_normed (t : Fin cfg0.N) (i : Fin 512) (j : Fin 2048) : (show FVec Ideal S512x2048 .bf16 from k0_pay14 (k0_pay16 (iblk m c 0 t) (iblk m c 1 t) (iblk m c 2 t) (iblk m c 3 t)) (k0_pay17 (iblk m c 0 t) (iblk m c 1 t) (iblk m c 2 t) (iblk m c 3 t)) (k0_pay18 (iblk m c 0 t) (iblk m c 1 t) (iblk m c 2 t) (iblk m c 3 t)) (k0_pay19 (iblk m c 0 t) (iblk m c 1 t) (iblk m c 2 t) (iblk m c 3 t)) (k0_pay20 (iblk m c 0 t) (iblk m c 1 t) (iblk m c 2 t) (iblk m c 3 t)) (k0_pay21 (iblk m c 0 t) (iblk m c 1 t) (iblk m c 2 t) (iblk m c 3 t)) (k0_pay22 (iblk m c 0 t) (iblk m c 1 t) (iblk m c 2 t) (iblk m c 3 t)) (k0_pay23 (iblk m c 0 t) (iblk m c 1 t) (iblk m c 2 t) (iblk m c 3 t)) (k0_pay24 (iblk m c 0 t) (iblk m c 1 t) (iblk m c 2 t) (iblk m c 3 t)) (k0_pay25 (iblk m c 0 t) (iblk m c 1 t) (iblk m c 2 t) (iblk m c 3 t)) (k0_pay26 (iblk m c 0 t) (iblk m c 1 t) (iblk m c 2 t) (iblk m c 3 t))) (ix2 i j)
    = (val_main_v21 (F := Ideal) (m ((c : Thread nD τ).loc main_arg0)) (m ((c : Thread nD τ).loc main_arg2)) (m ((c : Thread nD τ).loc main_arg3)) : S8192x2048.Idx → EReal) (ix2 (row t i) j) := by
  rw [ref_point]
  refine (groups _ _ _ _ i j).trans ?_
  exact congrArg₂ (normed · · j) (funext fun l => block_gate m c t i l) (funext fun l => block_scale m c t l)

set_option maxHeartbeats 2000000 in
/-- The product after the run is the reference's. -/
theorem final4 : (dats m 0 c).arrAt 4 (cfgs 0).N = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨i, j, rfl⟩ := ix2_split (a := 512) (b := 1024) y
  rw [after0_4]; frame_out
  refine Eq.trans (b := val_main_v19 (F := Ideal) (m ((c : Thread nD τ).loc main_arg0)) (m ((c : Thread nD τ).loc main_arg1)) (m ((c : Thread nD τ).loc main_arg2)) (m ((c : Thread nD τ).loc main_arg3)) (ix2 (row t i) j)) ?_ ?_
  · rw [product_point]
    refine Eq.trans (b := ∑ k : Fin 2048, (show FVec Ideal S512x2048 .bf16 from k0_pay14 (k0_pay16 (iblk m c 0 t) (iblk m c 1 t) (iblk m c 2 t) (iblk m c 3 t)) (k0_pay17 (iblk m c 0 t) (iblk m c 1 t) (iblk m c 2 t) (iblk m c 3 t)) (k0_pay18 (iblk m c 0 t) (iblk m c 1 t) (iblk m c 2 t) (iblk m c 3 t)) (k0_pay19 (iblk m c 0 t) (iblk m c 1 t) (iblk m c 2 t) (iblk m c 3 t)) (k0_pay20 (iblk m c 0 t) (iblk m c 1 t) (iblk m c 2 t) (iblk m c 3 t)) (k0_pay21 (iblk m c 0 t) (iblk m c 1 t) (iblk m c 2 t) (iblk m c 3 t)) (k0_pay22 (iblk m c 0 t) (iblk m c 1 t) (iblk m c 2 t) (iblk m c 3 t)) (k0_pay23 (iblk m c 0 t) (iblk m c 1 t) (iblk m c 2 t) (iblk m c 3 t)) (k0_pay24 (iblk m c 0 t) (iblk m c 1 t) (iblk m c 2 t) (iblk m c 3 t)) (k0_pay25 (iblk m c 0 t) (iblk m c 1 t) (iblk m c 2 t) (iblk m c 3 t)) (k0_pay26 (iblk m c 0 t) (iblk m c 1 t) (iblk m c 2 t) (iblk m c 3 t))) (ix2 i k)
      * (show FVec Ideal S2048x1024 .bf16 from iblk m c 1 t) (ix2 k j)) ?_ (Finset.sum_congr rfl fun k _ => congrArg₂ (· * ·) (block_normed m c t i k) (block1 m c t k j))
    pointwise [k0_pay15]
  · generalize val_main_v19 (F := Ideal) _ _ _ _ = f
    have ht : t.val < 16 := lt_of_lt_of_eq t.isLt N_0
    unfold row
    blk_ext! [idx t]

set_option maxHeartbeats 2000000 in
/-- The normed rows after the run are the reference's. -/
theorem final5 : (dats m 0 c).arrAt 5 (cfgs 0).N = val_main_v21 (F := Ideal) (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  obtain ⟨i, j, rfl⟩ := ix2_split (a := 512) (b := 2048) y
  rw [after0_5]; frame_out
  refine Eq.trans (b := val_main_v21 (F := Ideal) (m ((c : Thread nD τ).loc main_arg0)) (m ((c : Thread nD τ).loc main_arg2)) (m ((c : Thread nD τ).loc main_arg3)) (ix2 (row t i) j)) ?_ ?_
  · exact block_normed m c t i j
  · generalize val_main_v21 (F := Ideal) _ _ _ = f
    have ht : t.val < 16 := lt_of_lt_of_eq t.isLt N_0
    unfold row
    blk_ext! [idx t]

end Cert.Kernel26Ideal.Gated

end
-- ==== Proof.Heads.lean ====
module

public import proofs.«01_k».proof.Proof.Gen.Kernel27Ideal.Value
public import proofs.«01_k».proof.Proof.Gen.Reference27Ideal.Read
public import proofs.«01_k».proof.Proof.Rows
public import proofs.«01_k».proof.Proof.BlockPoint
public import Idealize.ShloMosaic.Lib.Pipeline.ValueKit
public import Idealize.ShloMosaic.Lib.Claim

/-! The product before the attention, its queries' and keys' heads normed. -/

@[expose] public section

set_option maxRecDepth 16384

noncomputable section

open Idealize.ShloMosaic Idealize.ShloMosaic.TcCoe Idealize.SL.Sem Cert.Rows

namespace Cert.Kernel27Ideal.Heads

open Cert.Kernel27Ideal Cert.Kernel27Ideal.Gen Cert.Reference27Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- A row of the first operand at entry: a token's. -/
theorem left (r : Fin 8192) (l : Fin 1024) : (V m c (Pipeline.arrRef spec0 0) : S8192x1024.Idx → EReal) (ix2 r l)
    = (m ((c : Thread nD τ).loc main_arg0) : S2x4096x1024.Idx → EReal) (ix3 (seq r) (place r) l) := by
  entry_read
  pointwise []
  rfl

/-- The weights at entry. -/
theorem weights (r : Fin 1024) (l : Fin 1536) : (V m c (Pipeline.arrRef spec0 1) : S1024x1536.Idx → EReal) (ix2 r l)
    = (m ((c : Thread nD τ).loc main_arg1) : S1024x1536.Idx → EReal) (ix2 r l) := by
  entry_read
  pointwise []

/-- The row of the whole array that row `i` of block `t` is. -/
def row (t : Fin cfg0.N) (i : Fin 1024) : Fin 8192 := ⟨1024 * t.val + i.val, by
  have : t.val < 8 := lt_of_lt_of_eq t.isLt N_0
  omega⟩

theorem block0 (t : Fin cfg0.N) (i : Fin 1024) (k : Fin 1024) :
    (iblk m c 0 t : S1024x1024.Idx → EReal) (ix2 i k) = (m ((c : Thread nD τ).loc main_arg0) : S2x4096x1024.Idx → EReal) (ix3 (seq (row t i)) (place (row t i)) k) := by
  refine Eq.trans ?_ (left m c (row t i) k)
  have ht : t.val < 8 := lt_of_lt_of_eq t.isLt N_0
  unfold row
  blk_point [iblk, idx t]

theorem block1 (t : Fin cfg0.N) (j : Fin 1024) (k : Fin 1536) :
    (iblk m c 1 t : S1024x1536.Idx → EReal) (ix2 j k) = (m ((c : Thread nD τ).loc main_arg1) : S1024x1536.Idx → EReal) (ix2 j k) := by
  refine Eq.trans ?_ (weights m c j k)
  blk_point [iblk, idx t]

/-- Lanes of the first head of a slab. -/
def First (M : IVec S1x128 1) : Prop := ∀ l : Fin 128, M (ix2 0 l) = if l.val < 64 then 1#1 else 0#1

theorem first_bits : ∀ l : Fin 128, IntOp.xori (IntOp.cmpi CmpIPredicate.sge (BitVec.ofNat 32 l.val) 64#32) 1#1 = if l.val < 64 then 1#1 else 0#1 := by
  decide +kernel

theorem first_q : First k0_pay7 := fun l => by
  pointwise [k0_pay7]
  exact first_bits l

theorem first_k : First k0_pay19 := fun l => by
  pointwise [k0_pay19]
  exact first_bits l

/-- The lanes of a lane's head. -/
def mate (j : Fin 1536) (x : Fin 64) : Fin 1536 := ⟨j.val / 64 * 64 + x.val, by omega⟩

/-- A lane over the root of its head's mean square. -/
def headed (v : Fin 1536 → EReal) (j : Fin 1536) : EReal :=
  v j * Ideal.rsqrt (Ideal.div (∑ x, v (mate j x) * v (mate j x)) (Ideal.ofBits .f32 0x42800000#32) + Ideal.ofBits .f32 0x358637BD#32)

/-- A slab's lanes are those of its two heads. -/
theorem sum_slab (g : Fin 128 → EReal) : ∑ x, g x = ∑ x : Fin 64, g ⟨x.val, by omega⟩ + ∑ x : Fin 64, g ⟨64 + x.val, by omega⟩ :=
  Fin.sum_univ_add (a := 64) (b := 64) g

/-- The mean over a head's lanes, as a product and as a quotient. -/
theorem mean_eq (z : EReal) : z * Ideal.ofBits .f32 0x3C800000#32 = Ideal.div z (Ideal.ofBits .f32 0x42800000#32) := by
  have h64 : Ideal.ofBits .f32 0x42800000#32 = ((64 : ℝ) : EReal) := by simp [Ideal.ofBits, Ideal.ieee, -EReal.coe_mul]; norm_num
  have hc : Ideal.ofBits .f32 0x3C800000#32 = ((1 / 64 : ℝ) : EReal) := by simp [Ideal.ofBits, Ideal.ieee, -EReal.coe_mul]; norm_num
  rw [h64, hc, Ideal.div_coe (by norm_num)]

/-- Of a slab with one head's lanes zeroed the sum is the other head's. -/
theorem slab_eq {M : IVec S1x128 1} (hM : First M) {v : FVec Ideal S1024x1536 .f32} {i : Fin 1024} {j j' : Fin 1536} {l : Fin 128} {f : Fin 128 → Fin 1536}
    {g : EReal} (hj : j' = j) (hl : l.val = j.val % 128) (hf : ∀ x, (f x).val = j.val / 128 * 128 + x.val) :
    v (ix2 i j') * Scalar.select (M (ix2 0 l)) (Ideal.rsqrt ((∑ x : Fin 128, Scalar.select (M (ix2 0 x)) (v (ix2 i (f x)) * v (ix2 i (f x))) 0) * Ideal.ofBits .f32 0x3C800000#32 + Ideal.ofBits .f32 0x358637BD#32))
      (Ideal.rsqrt ((∑ x : Fin 128, Scalar.select (M (ix2 0 x)) 0 (v (ix2 i (f x)) * v (ix2 i (f x)))) * Ideal.ofBits .f32 0x3C800000#32 + Ideal.ofBits .f32 0x358637BD#32)) * g
      = headed (fun l => v (ix2 i l)) j * g := by
  have h1 : ∀ x : Fin 64, (⟨x.val, by omega⟩ : Fin 128).val < 64 := fun x => x.isLt
  have h2 : ∀ x : Fin 64, ¬ (⟨64 + x.val, by omega⟩ : Fin 128).val < 64 := fun x => by simp
  rw [hj, headed, hM l, sum_slab, sum_slab]
  simp only [hM _, h1, h2, if_true, if_false]
  by_cases h : l.val < 64
  · have hx : ∀ x : Fin 64, f ⟨x.val, by omega⟩ = mate j x := fun x => Fin.ext ((hf _).trans (by simp only [mate]; omega))
    simp only [h, if_true, Scalar.select, hx]
    simp [mean_eq]
  · have hx : ∀ x : Fin 64, f ⟨64 + x.val, by omega⟩ = mate j x := fun x => Fin.ext ((hf _).trans (by simp only [mate]; omega))
    simp only [h, if_false, Scalar.select, hx]
    simp [mean_eq]

set_option maxHeartbeats 2000000 in
/-- A lane of the queries or keys, as the kernel writes it. -/
theorem head_point (y0 : FVec Ideal S1024x1024 .bf16) (y1 : FVec Ideal S1024x1536 .bf16) (y2 : FVec Ideal S1x1536 .f32) (i : Fin 1024) (j : Fin 1536)
    (h : j.val < 1024) : (show FVec Ideal S1024x1536 .bf16 from k0_pay1 (k0_pay2 y0 y1) (k0_pay3 y2) (k0_pay5 y0 y1) (k0_pay17 (k0_pay4 y0 y1) (k0_pay6 y0 y1) k0_pay7 (k0_pay12 (k0_pay9 y0 y1) k0_pay10 (k0_pay11 y0 y1)) (k0_pay13 (k0_pay6 y0 y1) k0_pay7) (k0_pay14 (k0_pay6 y0 y1)) (k0_pay15 (k0_pay6 y0 y1) k0_pay7) (FloatOps.ofBits FTy.f32 0#32) (k0_pay16 k0_pay7)) (k0_pay18 (k0_pay5 y0 y1)) k0_pay19 (k0_pay20 (k0_pay5 y0 y1)) (k0_pay23 k0_pay19 (k0_pay21 (k0_pay5 y0 y1)) (k0_pay22 (k0_pay5 y0 y1))) (k0_pay25 k0_pay19) (k0_pay26 (k0_pay18 (k0_pay5 y0 y1)) k0_pay19) (k0_pay27 (k0_pay18 (k0_pay5 y0 y1)) k0_pay19)) (ix2 i j)
      = headed (fun l => (show FVec Ideal S1024x1536 .f32 from k0_pay2 y0 y1) (ix2 i l)) j * (show FVec Ideal S1x1536 .f32 from k0_pay3 y2) (ix2 0 j) := by
  pointwise [k0_pay1, k0_pay4, k0_pay5, k0_pay6, k0_pay8, k0_pay9, k0_pay10, k0_pay11, k0_pay12, k0_pay13, k0_pay14, k0_pay15, k0_pay16, k0_pay17, k0_pay18, k0_pay20, k0_pay21, k0_pay22, k0_pay23, k0_pay24, k0_pay25, k0_pay26, k0_pay27]
  repeat' split
  all_goals first
    | (exfalso; omega)
    | refine slab_eq first_q (v := k0_pay2 y0 y1) (Fin.ext ?_) ?_ fun x => ?_
    | refine slab_eq first_k (v := k0_pay2 y0 y1) (Fin.ext ?_) ?_ fun x => ?_
  all_goals try simp only
  all_goals omega

set_option maxHeartbeats 2000000 in
/-- A lane of the values, as the kernel writes it. -/
theorem value_point (y0 : FVec Ideal S1024x1024 .bf16) (y1 : FVec Ideal S1024x1536 .bf16) (y2 : FVec Ideal S1x1536 .f32) (i : Fin 1024) (j : Fin 1536)
    (h : 1024 ≤ j.val) : (show FVec Ideal S1024x1536 .bf16 from k0_pay1 (k0_pay2 y0 y1) (k0_pay3 y2) (k0_pay5 y0 y1) (k0_pay17 (k0_pay4 y0 y1) (k0_pay6 y0 y1) k0_pay7 (k0_pay12 (k0_pay9 y0 y1) k0_pay10 (k0_pay11 y0 y1)) (k0_pay13 (k0_pay6 y0 y1) k0_pay7) (k0_pay14 (k0_pay6 y0 y1)) (k0_pay15 (k0_pay6 y0 y1) k0_pay7) (FloatOps.ofBits FTy.f32 0#32) (k0_pay16 k0_pay7)) (k0_pay18 (k0_pay5 y0 y1)) k0_pay19 (k0_pay20 (k0_pay5 y0 y1)) (k0_pay23 k0_pay19 (k0_pay21 (k0_pay5 y0 y1)) (k0_pay22 (k0_pay5 y0 y1))) (k0_pay25 k0_pay19) (k0_pay26 (k0_pay18 (k0_pay5 y0 y1)) k0_pay19) (k0_pay27 (k0_pay18 (k0_pay5 y0 y1)) k0_pay19)) (ix2 i j)
      = (show FVec Ideal S1024x1536 .f32 from k0_pay2 y0 y1) (ix2 i j) * (show FVec Ideal S1x1536 .f32 from k0_pay3 y2) (ix2 0 j) := by
  have hj : (⟨1024 + (j.val - 512 - 512), by omega⟩ : Fin 1536) = j := Fin.ext (show 1024 + (j.val - 512 - 512) = j.val by omega)
  pointwise [k0_pay1, k0_pay4, k0_pay5, k0_pay6, k0_pay8, k0_pay9, k0_pay10, k0_pay11, k0_pay12, k0_pay13, k0_pay14, k0_pay15, k0_pay16, k0_pay17, k0_pay18, k0_pay20, k0_pay21, k0_pay22, k0_pay23, k0_pay24, k0_pay25, k0_pay26, k0_pay27]
  rw [dif_neg (by omega), dif_neg (by omega), hj]

end Cert.Kernel27Ideal.Heads
end
-- ==== Proof.Gains.lean ====
module

public import proofs.«01_k».proof.Proof.Heads
public import Idealize.ShloMosaic.Lib.StableHlo.ReadAt

/-! The row of gains the product before the attention starts from. -/

@[expose] public section

set_option maxRecDepth 16384

noncomputable section

open Idealize.ShloMosaic Idealize.ShloMosaic.TcCoe Idealize.SL.Sem Cert.Rows

namespace Cert.Kernel27Ideal.Heads

open Cert.Kernel27Ideal Cert.Kernel27Ideal.Gen Cert.Reference27Ideal.Read

open StableHlo (after upto)

/-- The gain of a lane: the queries' scale times 1/8, the keys' scale, and one on the values. -/
def gain (gq gk : S64.Idx → EReal) (j : Fin 1536) : EReal :=
  if j.val < 512 then gq (ix1 ⟨j.val % 64, by omega⟩) * Ideal.ofBits .f32 0x3E000000#32
  else if j.val < 1024 then gk (ix1 ⟨(j.val - 512) % 64, by omega⟩) else Ideal.ofBits .f32 0x3F800000#32

section Row

variable (W : Valuation τ sig (Elt Ideal)) (gq gk : S64.Idx → EReal)

theorem tiled_q (h : W (Proc.devRef .tc main_arg2) = gq) (l : Fin 512) :
    (upto hostOps0 W 13 (Proc.devRef .tc main_v9) : S1x512.Idx → EReal) (ix2 0 l) = gq (ix1 ⟨l.val % 64, by omega⟩) * Ideal.ofBits .f32 0x3E000000#32 := by
  after_reads_simp
  rw [h]
  pointwise []

theorem tiled_k (h : W (Proc.devRef .tc main_arg3) = gk) (l : Fin 512) :
    (upto hostOps0 W 13 (Proc.devRef .tc main_v7) : S1x512.Idx → EReal) (ix2 0 l) = gk (ix1 ⟨l.val % 64, by omega⟩) := by
  after_reads_simp
  rw [h]
  pointwise []

theorem tiled_v (l : Fin 512) :
    (upto hostOps0 W 13 (Proc.devRef .tc main_v10) : S1x512.Idx → EReal) (ix2 0 l) = Ideal.ofBits .f32 0x3F800000#32 := by
  after_reads_simp
  pointwise []

/-- The gains, lane by lane. -/
theorem gains (hq : W (Proc.devRef .tc main_arg2) = gq) (hk : W (Proc.devRef .tc main_arg3) = gk) (j : Fin 1536) :
    (after hostOps0 W (Proc.devRef .tc main_v11) : S1x1536.Idx → EReal) (ix2 0 j) = gain gq gk j := by
  have a := tiled_q W gq hq
  have b := tiled_k W gk hk
  have d := tiled_v W
  after_reads_simp
  change concatenate S1x1536 1 [⟨S1x512, (upto hostOps0 W 13 (Proc.devRef .tc main_v9) : S1x512.Idx → EReal)⟩,
    ⟨S1x512, (upto hostOps0 W 13 (Proc.devRef .tc main_v7) : S1x512.Idx → EReal)⟩,
    ⟨S1x512, (upto hostOps0 W 13 (Proc.devRef .tc main_v10) : S1x512.Idx → EReal)⟩] _ (ix2 0 j) = _
  generalize (upto hostOps0 W 13 (Proc.devRef .tc main_v9) : S1x512.Idx → EReal) = A at a ⊢
  generalize (upto hostOps0 W 13 (Proc.devRef .tc main_v7) : S1x512.Idx → EReal) = B at b ⊢
  generalize (upto hostOps0 W 13 (Proc.devRef .tc main_v10) : S1x512.Idx → EReal) = D at d ⊢
  pointwise []
  simp only [a, b, d, gain]
  repeat' split
  all_goals first | rfl | (exfalso; omega)

end Row

variable (m : (ℓ : Loc nD τ sig) → Buf (Elt Ideal) ℓ) (c : Dev nD)

/-- The gains at entry. -/
theorem gains_entry (j : Fin 1536) : (V m c (Pipeline.arrRef spec0 2) : S1x1536.Idx → EReal) (ix2 0 j)
    = gain (m ((c : Thread nD τ).loc main_arg2)) (m ((c : Thread nD τ).loc main_arg3)) j :=
  gains (fun b => m (c, b)) _ _ rfl rfl j

theorem block2 (t : Fin cfg0.N) (j : Fin 1536) : (iblk m c 2 t : S1x1536.Idx → EReal) (ix2 0 j)
    = gain (m ((c : Thread nD τ).loc main_arg2)) (m ((c : Thread nD τ).loc main_arg3)) j := by
  refine Eq.trans ?_ (gains_entry m c j)
  blk_point [iblk, idx t]

end Cert.Kernel27Ideal.Heads

end
-- ==== Proof.HeadsReference.lean ====
module

public import proofs.«01_k».proof.Proof.Gains

/-! The references of the product before the attention and of its normed heads, lane by lane. -/

@[expose] public section

set_option maxRecDepth 16384

noncomputable section

open Idealize.ShloMosaic Idealize.ShloMosaic.TcCoe Idealize.SL.Sem Cert.Rows

namespace Cert.Kernel27Ideal.Heads

open Cert.Kernel27Ideal Cert.Kernel27Ideal.Gen Cert.Reference27Ideal.Read

/-- A lane of a head over its root, in the reference's order. -/
theorem headed_eq {v : Fin 1536 → EReal} {j j' : Fin 1536} {f : Fin 64 → Fin 1536} (hj : j' = j) (hf : ∀ x, f x = mate j x) :
    v j' * Ideal.rsqrt (Ideal.div (∑ x, v (f x) * v (f x)) (Ideal.ofBits .f32 0x42800000#32) + Ideal.ofBits .f32 0x358637BD#32) = headed v j := by
  simp only [headed, hj, hf]

variable (x0 : FVec Ideal S2x4096x1024 .f32) (x1 : FVec Ideal S1024x1536 .f32) (x2 x3 : FVec Ideal S64 .f32) (r : Fin 8192) (j : Fin 1536)

/-- A token's row of the product. -/
def token (l : Fin 1536) : EReal := (val_main_v0 (F := Ideal) x0 x1 : Cert.Reference27Ideal.S2x4096x1536.Idx → EReal) (ix3 (seq r) (place r) l)

set_option maxHeartbeats 2000000 in
/-- The normed heads, as the reference reads them. -/
theorem ref_point : val_main_v39 (F := Ideal) x0 x1 x2 x3 (ix2 r j)
    = if j.val < 1024 then headed (token x0 x1 r) j * gain x2 x3 j else token x0 x1 r j := by
  by_cases h : j.val < 512
  · have h' : j.val < 1024 := by omega
    rw [if_pos h', gain, if_pos h, ← mul_assoc]
    pointwise [val_main_cst, val_main_cst_0, val_main_cst_1, val_main_cst_2, val_main_cst_3, val_main_cst_4, val_main_cst_5, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v5, val_main_v6, val_main_v7, val_main_v8, val_main_v9]
    refine (dif_pos h).trans ?_
    refine congrArg (fun z : EReal => z * _ * _) (headed_eq (v := token x0 x1 r) (Fin.ext ?_) fun x => Fin.ext ?_)
    all_goals simp only [mate]
    all_goals omega
  · by_cases h' : j.val < 1024
    · rw [if_pos h', gain, if_neg h, if_pos h']
      pointwise [val_main_cst, val_main_cst_0, val_main_cst_1, val_main_cst_2, val_main_cst_3, val_main_cst_4, val_main_cst_5, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v5, val_main_v6, val_main_v7, val_main_v8, val_main_v9]
      refine (dif_neg h).trans ((dif_pos (show j.val - 512 < 512 by omega)).trans ?_)
      refine congrArg (fun z : EReal => z * _) (headed_eq (v := token x0 x1 r) (Fin.ext ?_) fun x => Fin.ext ?_)
      all_goals simp only [mate]
      all_goals omega
    · rw [if_neg h']
      pointwise [val_main_cst, val_main_cst_0, val_main_cst_1, val_main_cst_2, val_main_cst_3, val_main_cst_4, val_main_cst_5, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v5, val_main_v6, val_main_v7, val_main_v8, val_main_v9]
      refine (dif_neg h).trans ((dif_neg (show ¬ j.val - 512 < 512 by omega)).trans ?_)
      exact congrArg (token x0 x1 r) (Fin.ext (show 1024 + (j.val - 512 - 512) = j.val by omega))

end Cert.Kernel27Ideal.Heads

end
-- ==== Proof.HeadsEqual.lean ====
module

public import proofs.«01_k».proof.Proof.HeadsReference

/-! The product before the attention and its normed heads after the run are the reference's. -/

@[expose] public section

set_option maxRecDepth 16384

noncomputable section

open Idealize.ShloMosaic Idealize.ShloMosaic.TcCoe Idealize.SL.Sem Cert.Rows

namespace Cert.Kernel27Ideal.Heads

open Cert.Kernel27Ideal Cert.Kernel27Ideal.Gen Cert.Reference27Ideal.Read

section Names

variable (y0 : Vec Ideal S1024x1024 .bf16) (y1 : Vec Ideal S1024x1536 .bf16) (y2 : Vec Ideal S1x1536 .f32)

theorem pay28 : k0_pay28 (F := Ideal) y0 y1 y2 = k0_pay2 y0 y1 := by
  funext z
  idx_vars z
  pointwise [k0_pay28, k0_pay2]

theorem pay29 : k0_pay29 (F := Ideal) y0 y1 y2 = k0_pay5 y0 y1 := by
  funext z
  idx_vars z
  pointwise [k0_pay29, k0_pay5, k0_pay2]

theorem pay30 : k0_pay30 (F := Ideal) y0 y1 y2 = k0_pay6 y0 y1 := by
  funext z
  idx_vars z
  pointwise [k0_pay30, k0_pay6, k0_pay4, k0_pay2]

theorem pay32 : k0_pay32 (F := Ideal) y0 y1 y2 = k0_pay18 (k0_pay5 y0 y1) := by
  funext z
  idx_vars z
  pointwise [k0_pay32, k0_pay29, k0_pay18, k0_pay5, k0_pay2]

theorem pay31 : k0_pay31 (F := Ideal) y0 y1 y2 = k0_pay7 := rfl

theorem pay33 : k0_pay33 (F := Ideal) y0 y1 y2 = k0_pay19 := rfl

end Names

variable (m : (ℓ : Loc nD τ sig) → Buf (Elt Ideal) ℓ) (c : Dev nD)

/-- A block of the product: a token's row. -/
theorem block_product (t : Fin cfg0.N) (i : Fin 1024) (l : Fin 1536) : (show FVec Ideal S1024x1536 .f32 from k0_pay2 (iblk m c 0 t) (iblk m c 1 t)) (ix2 i l)
    = token (m ((c : Thread nD τ).loc main_arg0)) (m ((c : Thread nD τ).loc main_arg1)) (row t i) l := by
  pointwise [k0_pay2, token, val_main_v0]
  simp only [block0, block1]

theorem block_gain (t : Fin cfg0.N) (l : Fin 1536) : (show FVec Ideal S1x1536 .f32 from k0_pay3 (iblk m c 2 t)) (ix2 0 l)
    = gain (m ((c : Thread nD τ).loc main_arg2)) (m ((c : Thread nD τ).loc main_arg3)) l := by
  pointwise [k0_pay3]
  exact block2 m c t l

set_option maxHeartbeats 2000000 in
/-- The product after the run is the reference's. -/
theorem final3 : (dats m 0 c).arrAt 3 (cfgs 0).N = val_main_v4 (F := Ideal) (m ((c : Thread nD τ).loc main_arg0)) (m ((c : Thread nD τ).loc main_arg1)) := by
  refine (dats m 0 c).arrAt_eq_of_covers 3 _ (by decide +kernel) fun t hf y => ?_
  blk_simp
  obtain ⟨i, j, rfl⟩ := ix2_split (a := 1024) (b := 1536) y
  rw [after0_3]; frame_out
  refine Eq.trans (b := val_main_v4 (F := Ideal) (m ((c : Thread nD τ).loc main_arg0)) (m ((c : Thread nD τ).loc main_arg1)) (ix2 (row t i) j)) ?_ ?_
  · refine Eq.trans ?_ ((block_product m c t i j).trans ?_)
    · rw [pay28]
    · pointwise [val_main_v4]
      rfl
  · generalize val_main_v4 (F := Ideal) _ _ = f
    have ht : t.val < 8 := lt_of_lt_of_eq t.isLt N_0
    unfold row
    blk_ext! [idx t]

/-- A lane of the normed heads. -/
theorem block_heads (t : Fin cfg0.N) (i : Fin 1024) (j : Fin 1536) : (show FVec Ideal S1024x1536 .bf16 from k0_pay1 (k0_pay2 (iblk m c 0 t) (iblk m c 1 t)) (k0_pay3 (iblk m c 2 t)) (k0_pay5 (iblk m c 0 t) (iblk m c 1 t)) (k0_pay17 (k0_pay4 (iblk m c 0 t) (iblk m c 1 t)) (k0_pay6 (iblk m c 0 t) (iblk m c 1 t)) k0_pay7 (k0_pay12 (k0_pay9 (iblk m c 0 t) (iblk m c 1 t)) k0_pay10 (k0_pay11 (iblk m c 0 t) (iblk m c 1 t))) (k0_pay13 (k0_pay6 (iblk m c 0 t) (iblk m c 1 t)) k0_pay7) (k0_pay14 (k0_pay6 (iblk m c 0 t) (iblk m c 1 t))) (k0_pay15 (k0_pay6 (iblk m c 0 t) (iblk m c 1 t)) k0_pay7) (FloatOps.ofBits FTy.f32 0#32) (k0_pay16 k0_pay7)) (k0_pay18 (k0_pay5 (iblk m c 0 t) (iblk m c 1 t))) k0_pay19 (k0_pay20 (k0_pay5 (iblk m c 0 t) (iblk m c 1 t))) (k0_pay23 k0_pay19 (k0_pay21 (k0_pay5 (iblk m c 0 t) (iblk m c 1 t))) (k0_pay22 (k0_pay5 (iblk m c 0 t) (iblk m c 1 t)))) (k0_pay25 k0_pay19) (k0_pay26 (k0_pay18 (k0_pay5 (iblk m c 0 t) (iblk m c 1 t))) k0_pay19) (k0_pay27 (k0_pay18 (k0_pay5 (iblk m c 0 t) (iblk m c 1 t))) k0_pay19)) (ix2 i j)
    = val_main_v39 (F := Ideal) (m ((c : Thread nD τ).loc main_arg0)) (m ((c : Thread nD τ).loc main_arg1)) (m ((c : Thread nD τ).loc main_arg2)) (m ((c : Thread nD τ).loc main_arg3)) (ix2 (row t i) j) := by
  rw [ref_point]
  by_cases h : j.val < 1024
  · refine (head_point _ _ _ i j h).trans ?_
    rw [if_pos h]
    exact congrArg₂ (· * ·) (congrArg (headed · j) (funext fun l => block_product m c t i l)) (block_gain m c t j)
  · refine (value_point _ _ _ i j (by omega)).trans ?_
    rw [if_neg h]
    refine (congrArg₂ (· * ·) (block_product m c t i j) (block_gain m c t j)).trans ?_
    rw [gain, if_neg (by omega), if_neg h]
    have h1 : Ideal.ofBits .f32 0x3F800000#32 = ((1 : ℝ) : EReal) := by simp [Ideal.ofBits, Ideal.ieee, -EReal.coe_mul]; norm_num
    rw [h1, EReal.coe_one, mul_one]

set_option maxHeartbeats 2000000 in
/-- The normed heads after the run are the reference's. -/
theorem final4 : (dats m 0 c).arrAt 4 (cfgs 0).N = val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨i, j, rfl⟩ := ix2_split (a := 1024) (b := 1536) y
  rw [after0_4]; frame_out
  rw [pay28, pay29, pay30, pay31, pay32, pay33]
  refine Eq.trans (b := val_main_v39 (F := Ideal) (m ((c : Thread nD τ).loc main_arg0)) (m ((c : Thread nD τ).loc main_arg1)) (m ((c : Thread nD τ).loc main_arg2)) (m ((c : Thread nD τ).loc main_arg3)) (ix2 (row t i) j)) ?_ ?_
  · exact block_heads m c t i j
  · generalize val_main_v39 (F := Ideal) _ _ _ _ = f
    have ht : t.val < 8 := lt_of_lt_of_eq t.isLt N_0
    unfold row
    blk_ext! [idx t]

end Cert.Kernel27Ideal.Heads

end
-- ==== Proof.Products.lean ====
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Weights
public import proofs.«01_k».proof.Proof.WeightsRes
public import proofs.«01_k».proof.Proof.WeightsBlocked
public import proofs.«01_k».proof.Proof.Inputs
public import proofs.«01_k».proof.Proof.InputsAdded
public import proofs.«01_k».proof.Proof.Forward
public import proofs.«01_k».proof.Proof.Gates
public import proofs.«01_k».proof.Proof.Norm
public import proofs.«01_k».proof.Proof.WeightsProjection
public import proofs.«01_k».proof.Proof.Loss
public import proofs.«01_k».proof.Proof.Merge
public import proofs.«01_k».proof.Proof.NormForward
public import proofs.«01_k».proof.Proof.Gated
public import proofs.«01_k».proof.Proof.HeadsEqual
public import Idealize.ShloMosaic.Adequacy
public import Idealize.ShloMosaic.Lib.Quiescent

/-! The claims about the products: each reference runs and keeps its arguments, and each kernel's array is its reference's. -/

@[expose] public section

noncomputable section

namespace Cert.Products

open Idealize.ShloMosaic Idealize.SL.Sem

theorem reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run m g)

theorem value2 : Cert.algebraic_Kernel2Ideal_Reference2Ideal (hKernel2Ideal := Cert.Kernel2Ideal.Gen.facts)
    (hReference2Ideal := Cert.Reference2Ideal.Gen.facts) := fun m g m' g' _ h =>
  ⟨fun c => (Cert.Kernel2Ideal.Gen.dats m 0 c).arrAt 2 (Cert.Kernel2Ideal.cfgs 0).N, Cert.Kernel2Ideal.Value.run_blocks m g,
    (θ_run Cert.Reference2Ideal.defs _ _).mono (fun r k c => ⟨(k c).1.trans <|
      (Cert.Reference2Ideal.Read.val_main_v4_eq _ _).trans <| by
        rw [(h c).1, (h c).2]
        exact (Cert.Kernel2Ideal.Product.final m c).symm, (k c).2⟩) (Cert.Reference2Ideal.Value.run m' g')⟩

theorem reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run m g)

theorem value3 : Cert.algebraic_Kernel3Ideal_Reference3Ideal (hKernel3Ideal := Cert.Kernel3Ideal.Gen.facts)
    (hReference3Ideal := Cert.Reference3Ideal.Gen.facts) := fun m g m' g' _ h =>
  ⟨fun c => (Cert.Kernel3Ideal.Gen.dats m 0 c).arrAt 2 (Cert.Kernel3Ideal.cfgs 0).N, Cert.Kernel3Ideal.Value.run_blocks m g,
    (θ_run Cert.Reference3Ideal.defs _ _).mono (fun r k c => ⟨(k c).1.trans <|
      (Cert.Reference3Ideal.Read.val_main_v3_eq _ _).trans <| by
        rw [(h c).1, (h c).2]
        exact (Cert.Kernel3Ideal.Product.final m c).symm, (k c).2⟩) (Cert.Reference3Ideal.Value.run m' g')⟩

theorem reference4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run m g)

theorem value4 : Cert.algebraic_Kernel4Ideal_Reference4Ideal (hKernel4Ideal := Cert.Kernel4Ideal.Gen.facts)
    (hReference4Ideal := Cert.Reference4Ideal.Gen.facts) := fun m g m' g' _ h =>
  ⟨fun c => (Cert.Kernel4Ideal.Gen.dats m 0 c).arrAt 2 (Cert.Kernel4Ideal.cfgs 0).N, Cert.Kernel4Ideal.Value.run_blocks m g,
    (θ_run Cert.Reference4Ideal.defs _ _).mono (fun r k c => ⟨(k c).1.trans <|
      (Cert.Reference4Ideal.Read.val_main_v4_eq _ _).trans <| by
        rw [(h c).1, (h c).2]
        exact (Cert.Kernel4Ideal.Product.final m c).symm, (k c).2⟩) (Cert.Reference4Ideal.Value.run m' g')⟩

theorem reference5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run m g)

theorem value5 : Cert.algebraic_Kernel5Ideal_Reference5Ideal (hKernel5Ideal := Cert.Kernel5Ideal.Gen.facts)
    (hReference5Ideal := Cert.Reference5Ideal.Gen.facts) := fun m g m' g' _ h =>
  ⟨fun c => (Cert.Kernel5Ideal.Gen.dats m 0 c).arrAt 2 (Cert.Kernel5Ideal.cfgs 0).N, Cert.Kernel5Ideal.Value.run_blocks m g,
    (θ_run Cert.Reference5Ideal.defs _ _).mono (fun r k c => ⟨(k c).1.trans <|
      (Cert.Reference5Ideal.Read.val_main_v4_eq _ _).trans <| by
        rw [(h c).1, (h c).2]
        exact (Cert.Kernel5Ideal.Product.final m c).symm, (k c).2⟩) (Cert.Reference5Ideal.Value.run m' g')⟩

theorem reference6 : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run m g)

theorem value6 : Cert.algebraic_Kernel6Ideal_Reference6Ideal (hKernel6Ideal := Cert.Kernel6Ideal.Gen.facts)
    (hReference6Ideal := Cert.Reference6Ideal.Gen.facts) := fun m g m' g' _ h =>
  ⟨fun c => (Cert.Kernel6Ideal.Gen.dats m 0 c).arrAt 2 (Cert.Kernel6Ideal.cfgs 0).N, Cert.Kernel6Ideal.Value.run_blocks m g,
    (θ_run Cert.Reference6Ideal.defs _ _).mono (fun r k c => ⟨(k c).1.trans <|
      (Cert.Reference6Ideal.Read.val_main_v4_eq _ _).trans <| by
        rw [(h c).1, (h c).2]
        exact (Cert.Kernel6Ideal.Product.final m c).symm, (k c).2⟩) (Cert.Reference6Ideal.Value.run m' g')⟩

theorem reference7 : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run m g)

theorem value7 : Cert.algebraic_Kernel7Ideal_Reference7Ideal (hKernel7Ideal := Cert.Kernel7Ideal.Gen.facts)
    (hReference7Ideal := Cert.Reference7Ideal.Gen.facts) := fun m g m' g' _ h =>
  ⟨fun c => (Cert.Kernel7Ideal.Gen.dats m 0 c).arrAt 2 (Cert.Kernel7Ideal.cfgs 0).N, Cert.Kernel7Ideal.Value.run_blocks m g,
    (θ_run Cert.Reference7Ideal.defs _ _).mono (fun r k c => ⟨(k c).1.trans <|
      (Cert.Reference7Ideal.Read.val_main_v4_eq _ _).trans <| by
        rw [(h c).1, (h c).2]
        exact (Cert.Kernel7Ideal.Product.final m c).symm, (k c).2⟩) (Cert.Reference7Ideal.Value.run m' g')⟩

theorem reference8 : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run m g)

theorem value8 : Cert.algebraic_Kernel8Ideal_Reference8Ideal (hKernel8Ideal := Cert.Kernel8Ideal.Gen.facts)
    (hReference8Ideal := Cert.Reference8Ideal.Gen.facts) := fun m g m' g' _ h =>
  ⟨fun c => (Cert.Kernel8Ideal.Gen.dats m 0 c).arrAt 2 (Cert.Kernel8Ideal.cfgs 0).N, Cert.Kernel8Ideal.Value.run_blocks m g,
    (θ_run Cert.Reference8Ideal.defs _ _).mono (fun r k c => ⟨(k c).1.trans <|
      (Cert.Reference8Ideal.Read.val_main_v4_eq _ _).trans <| by
        rw [(h c).1, (h c).2]
        exact (Cert.Kernel8Ideal.Product.final m c).symm, (k c).2⟩) (Cert.Reference8Ideal.Value.run m' g')⟩

theorem reference9 : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run m g)

theorem value9 : Cert.algebraic_Kernel9Ideal_Reference9Ideal (hKernel9Ideal := Cert.Kernel9Ideal.Gen.facts)
    (hReference9Ideal := Cert.Reference9Ideal.Gen.facts) := fun m g m' g' _ h =>
  ⟨fun c => (Cert.Kernel9Ideal.Gen.dats m 0 c).arrAt 2 (Cert.Kernel9Ideal.cfgs 0).N, Cert.Kernel9Ideal.Value.run_blocks m g,
    (θ_run Cert.Reference9Ideal.defs _ _).mono (fun r k c => ⟨(k c).1.trans <|
      (Cert.Reference9Ideal.Read.val_main_v4_eq _ _).trans <| by
        rw [(h c).1, (h c).2]
        exact (Cert.Kernel9Ideal.Product.final m c).symm, (k c).2⟩) (Cert.Reference9Ideal.Value.run m' g')⟩

theorem reference10 : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run m g)

theorem value10 : Cert.algebraic_Kernel10Ideal_Reference10Ideal (hKernel10Ideal := Cert.Kernel10Ideal.Gen.facts)
    (hReference10Ideal := Cert.Reference10Ideal.Gen.facts) := fun m g m' g' _ h =>
  ⟨fun c => (Cert.Kernel10Ideal.Gen.dats m 0 c).arrAt 2 (Cert.Kernel10Ideal.cfgs 0).N, Cert.Kernel10Ideal.Value.run_blocks m g,
    (θ_run Cert.Reference10Ideal.defs _ _).mono (fun r k c => ⟨(k c).1.trans <|
      (Cert.Reference10Ideal.Read.val_main_v4_eq _ _).trans <| by
        rw [(h c).1, (h c).2]
        exact (Cert.Kernel10Ideal.Product.final m c).symm, (k c).2⟩) (Cert.Reference10Ideal.Value.run m' g')⟩

theorem reference11 : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run m g)

theorem value11 : Cert.algebraic_Kernel11Ideal_Reference11Ideal (hKernel11Ideal := Cert.Kernel11Ideal.Gen.facts)
    (hReference11Ideal := Cert.Reference11Ideal.Gen.facts) := fun m g m' g' _ h =>
  ⟨fun c => (Cert.Kernel11Ideal.Gen.dats m 0 c).arrAt 2 (Cert.Kernel11Ideal.cfgs 0).N, Cert.Kernel11Ideal.Value.run_blocks m g,
    (θ_run Cert.Reference11Ideal.defs _ _).mono (fun r k c => ⟨(k c).1.trans <|
      (Cert.Reference11Ideal.Read.val_main_v4_eq _ _).trans <| by
        rw [(h c).1, (h c).2]
        exact (Cert.Kernel11Ideal.Product.final m c).symm, (k c).2⟩) (Cert.Reference11Ideal.Value.run m' g')⟩

theorem reference12 : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run m g)

theorem value12 : Cert.algebraic_Kernel12Ideal_Reference12Ideal (hKernel12Ideal := Cert.Kernel12Ideal.Gen.facts)
    (hReference12Ideal := Cert.Reference12Ideal.Gen.facts) := fun m g m' g' _ h =>
  ⟨fun c => (Cert.Kernel12Ideal.Gen.dats m 0 c).arrAt 2 (Cert.Kernel12Ideal.cfgs 0).N, Cert.Kernel12Ideal.Value.run_blocks m g,
    (θ_run Cert.Reference12Ideal.defs _ _).mono (fun r k c => ⟨(k c).1.trans <|
      (Cert.Reference12Ideal.Read.val_main_v3_eq _ _).trans <| by
        rw [(h c).1, (h c).2]
        exact (Cert.Kernel12Ideal.Product.final m c).symm, (k c).2⟩) (Cert.Reference12Ideal.Value.run m' g')⟩

theorem reference13 : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩)
    (Cert.Reference13Ideal.Value.run m g)

theorem value13 : Cert.algebraic_Kernel13Ideal_Reference13Ideal (hKernel13Ideal := Cert.Kernel13Ideal.Gen.facts)
    (hReference13Ideal := Cert.Reference13Ideal.Gen.facts) := fun m g m' g' _ h =>
  ⟨fun c => (Cert.Kernel13Ideal.Gen.dats m 0 c).arrAt 3 (Cert.Kernel13Ideal.cfgs 0).N, Cert.Kernel13Ideal.Value.run_blocks m g,
    (θ_run Cert.Reference13Ideal.defs _ _).mono (fun r k c => ⟨(k c).1.trans <|
      (Cert.Reference13Ideal.Read.val_main_v4_eq _ _ _).trans <| by
        rw [(h c).1, (h c).2.1, (h c).2.2]
        exact (Cert.Kernel13Ideal.Product.final m c).symm, (k c).2⟩) (Cert.Reference13Ideal.Value.run m' g')⟩

theorem reference14 : Cert.quiescent_Reference14Ideal (hReference14Ideal := Cert.Reference14Ideal.Gen.facts) := fun m g _ =>
  (θ_run Cert.Reference14Ideal.defs _ _).mono (fun r h => ⟨fun c => (h c).2, sem_eq_zero_of_no_sems (by decide) r.2⟩)
    (Cert.Reference14Ideal.Value.run m g)

theorem value14 : Cert.algebraic_Kernel14Ideal_Reference14Ideal (hKernel14Ideal := Cert.Kernel14Ideal.Gen.facts)
    (hReference14Ideal := Cert.Reference14Ideal.Gen.facts) := fun m g m' g' _ h =>
  ⟨fun c => (Cert.Kernel14Ideal.Gen.dats m 0 c).arrAt 3 (Cert.Kernel14Ideal.cfgs 0).N, Cert.Kernel14Ideal.Value.run_blocks m g,
    (θ_run Cert.Reference14Ideal.defs _ _).mono (fun r k c => ⟨(k c).1.trans <|
      (Cert.Reference14Ideal.Read.val_main_v4_eq _ _ _).trans <| by
        rw [(h c).1, (h c).2.1, (h c).2.2]
        exact (Cert.Kernel14Ideal.Product.final m c).symm, (k c).2⟩) (Cert.Reference14Ideal.Value.run m' g')⟩

theorem reference15 : Cert.quiescent_Reference15Ideal (hReference15Ideal := Cert.Reference15Ideal.Gen.facts) := fun m g _ =>
  (θ_run Cert.Reference15Ideal.defs _ _).mono (fun r h => ⟨fun c => (h c).2, sem_eq_zero_of_no_sems (by decide) r.2⟩)
    (Cert.Reference15Ideal.Value.run m g)

theorem value15 : Cert.algebraic_Kernel15Ideal_Reference15Ideal (hKernel15Ideal := Cert.Kernel15Ideal.Gen.facts)
    (hReference15Ideal := Cert.Reference15Ideal.Gen.facts) := fun m g m' g' _ h =>
  ⟨fun c => (Cert.Kernel15Ideal.Gen.dats m 0 c).arrAt 2 (Cert.Kernel15Ideal.cfgs 0).N, Cert.Kernel15Ideal.Value.run_blocks m g,
    (θ_run Cert.Reference15Ideal.defs _ _).mono (fun r k c => ⟨(k c).1.trans <|
      (Cert.Reference15Ideal.Read.val_main_v1_eq _ _).trans <| by
        rw [(h c).1, (h c).2]
        exact (Cert.Kernel15Ideal.Product.final m c).symm, (k c).2⟩) (Cert.Reference15Ideal.Value.run m' g')⟩

theorem reference16 : Cert.quiescent_Reference16Ideal (hReference16Ideal := Cert.Reference16Ideal.Gen.facts) := fun m g _ =>
  (θ_run Cert.Reference16Ideal.defs _ _).mono (fun r h => ⟨fun c => (h c).2, sem_eq_zero_of_no_sems (by decide) r.2⟩)
    (Cert.Reference16Ideal.Value.run m g)

theorem value16 : Cert.algebraic_Kernel16Ideal_Reference16Ideal (hKernel16Ideal := Cert.Kernel16Ideal.Gen.facts)
    (hReference16Ideal := Cert.Reference16Ideal.Gen.facts) := fun m g m' g' _ h =>
  ⟨fun c => (Cert.Kernel16Ideal.Gen.dats m 0 c).arrAt 2 (Cert.Kernel16Ideal.cfgs 0).N, Cert.Kernel16Ideal.Value.run_blocks m g,
    (θ_run Cert.Reference16Ideal.defs _ _).mono (fun r k c => ⟨(k c).1.trans <|
      (Cert.Reference16Ideal.Read.val_main_v1_eq _ _).trans <| by
        rw [(h c).1, (h c).2]
        exact (Cert.Kernel16Ideal.Product.final m c).symm, (k c).2⟩) (Cert.Reference16Ideal.Value.run m' g')⟩

theorem reference17 : Cert.quiescent_Reference17Ideal (hReference17Ideal := Cert.Reference17Ideal.Gen.facts) := fun m g _ =>
  (θ_run Cert.Reference17Ideal.defs _ _).mono (fun r h => ⟨fun c => (h c).2, sem_eq_zero_of_no_sems (by decide) r.2⟩)
    (Cert.Reference17Ideal.Value.run m g)

theorem value17 : Cert.algebraic_Kernel17Ideal_Reference17Ideal (hKernel17Ideal := Cert.Kernel17Ideal.Gen.facts)
    (hReference17Ideal := Cert.Reference17Ideal.Gen.facts) := fun m g m' g' _ h =>
  ⟨fun c => (Cert.Kernel17Ideal.Gen.dats m 0 c).arrAt 2 (Cert.Kernel17Ideal.cfgs 0).N, Cert.Kernel17Ideal.Value.run_blocks m g,
    (θ_run Cert.Reference17Ideal.defs _ _).mono (fun r k c => ⟨(k c).1.trans <|
      (Cert.Reference17Ideal.Read.val_main_v1_eq _ _).trans <| by
        rw [(h c).1, (h c).2]
        exact (Cert.Kernel17Ideal.Product.final m c).symm, (k c).2⟩) (Cert.Reference17Ideal.Value.run m' g')⟩

theorem reference19 : Cert.quiescent_Reference19Ideal (hReference19Ideal := Cert.Reference19Ideal.Gen.facts) := fun m g _ =>
  (θ_run Cert.Reference19Ideal.defs _ _).mono (fun r h => ⟨fun c => (h c).2, sem_eq_zero_of_no_sems (by decide) r.2⟩)
    (Cert.Reference19Ideal.Value.run m g)

theorem value19 : Cert.algebraic_Kernel19Ideal_Reference19Ideal (hKernel19Ideal := Cert.Kernel19Ideal.Gen.facts)
    (hReference19Ideal := Cert.Reference19Ideal.Gen.facts) := fun m g m' g' _ h =>
  ⟨fun c => (Cert.Kernel19Ideal.Gen.dats m 0 c).arrAt 2 (Cert.Kernel19Ideal.cfgs 0).N, Cert.Kernel19Ideal.Value.run_blocks m g,
    (θ_run Cert.Reference19Ideal.defs _ _).mono (fun r k c => ⟨(k c).1.trans <|
      (Cert.Reference19Ideal.Read.val_main_v3_eq _ _).trans <| by
        rw [(h c).1, (h c).2]
        exact (Cert.Kernel19Ideal.Product.final m c).symm, (k c).2⟩) (Cert.Reference19Ideal.Value.run m' g')⟩

theorem reference21 : Cert.quiescent_Reference21Ideal (hReference21Ideal := Cert.Reference21Ideal.Gen.facts) := fun m g _ =>
  (θ_run Cert.Reference21Ideal.defs _ _).mono (fun r h => ⟨fun c => (h c).2, sem_eq_zero_of_no_sems (by decide) r.2⟩)
    (Cert.Reference21Ideal.Value.run m g)

theorem value21 : Cert.algebraic_Kernel21Ideal_Reference21Ideal (hKernel21Ideal := Cert.Kernel21Ideal.Gen.facts)
    (hReference21Ideal := Cert.Reference21Ideal.Gen.facts) := fun m g m' g' _ h =>
  ⟨fun c => (Cert.Kernel21Ideal.Gen.dats m 0 c).arrAt 2 (Cert.Kernel21Ideal.cfgs 0).N, Cert.Kernel21Ideal.Value.run_blocks m g,
    (θ_run Cert.Reference21Ideal.defs _ _).mono (fun r k c => ⟨(k c).1.trans <|
      (Cert.Reference21Ideal.Read.val_main_v4_eq _ _).trans <| by
        rw [(h c).1, (h c).2]
        exact (Cert.Kernel21Ideal.Product.final m c).symm, (k c).2⟩) (Cert.Reference21Ideal.Value.run m' g')⟩

theorem reference18 : Cert.quiescent_Reference18Ideal (hReference18Ideal := Cert.Reference18Ideal.Gen.facts) := fun m g _ =>
  (θ_run Cert.Reference18Ideal.defs _ _).mono (fun r h => ⟨fun c => (h c).2.2.2.2, sem_eq_zero_of_no_sems (by decide) r.2⟩)
    (Cert.Reference18Ideal.Value.run m g)

theorem value18 : Cert.algebraic_Kernel18Ideal_Reference18Ideal (hKernel18Ideal := Cert.Kernel18Ideal.Gen.facts)
    (hReference18Ideal := Cert.Reference18Ideal.Gen.facts) := fun m g m' g' _ h =>
  ⟨fun c => (Cert.Kernel18Ideal.Gen.dats m 0 c).arrAt 6 (Cert.Kernel18Ideal.cfgs 0).N, fun c => (Cert.Kernel18Ideal.Gen.dats m 0 c).arrAt 7 (Cert.Kernel18Ideal.cfgs 0).N, fun c => (Cert.Kernel18Ideal.Gen.dats m 0 c).arrAt 8 (Cert.Kernel18Ideal.cfgs 0).N, fun c => (Cert.Kernel18Ideal.Gen.dats m 0 c).arrAt 9 (Cert.Kernel18Ideal.cfgs 0).N,
    Cert.Kernel18Ideal.Value.run_blocks m g,
    (θ_run Cert.Reference18Ideal.defs _ _).mono (fun r k c => ⟨
      ((k c).1).trans <| (Cert.Reference18Ideal.Read.val_main_v30_eq _ _ _).trans <| by
        rw [(h c).1, (h c).2.1, (h c).2.2.2.2.1]
        exact (Cert.Kernel18Ideal.Gates.final6 m c).symm,
      ((k c).2.1).trans <| (Cert.Reference18Ideal.Read.val_main_v32_eq _ _ _).trans <| by
        rw [(h c).1, (h c).2.1, (h c).2.2.2.2.2]
        exact (Cert.Kernel18Ideal.Gates.final7 m c).symm,
      ((k c).2.2.1).trans <| (Cert.Reference18Ideal.Read.val_main_v34_eq _ _ _ _).trans <| by
        rw [(h c).1, (h c).2.1, (h c).2.2.1, (h c).2.2.2.2.1]
        exact (Cert.Kernel18Ideal.Gates.final8 m c).symm,
      ((k c).2.2.2.1).trans <| (Cert.Reference18Ideal.Read.val_main_v36_eq _ _ _ _).trans <| by
        rw [(h c).1, (h c).2.1, (h c).2.2.2.1, (h c).2.2.2.2.2]
        exact (Cert.Kernel18Ideal.Gates.final9 m c).symm,
      (k c).2.2.2.2⟩) (Cert.Reference18Ideal.Value.run m' g')⟩

theorem reference20 : Cert.quiescent_Reference20Ideal (hReference20Ideal := Cert.Reference20Ideal.Gen.facts) := fun m g _ =>
  (θ_run Cert.Reference20Ideal.defs _ _).mono (fun r h => ⟨fun c => (h c).2.2.2, sem_eq_zero_of_no_sems (by decide) r.2⟩)
    (Cert.Reference20Ideal.Value.run m g)

theorem value20 : Cert.algebraic_Kernel20Ideal_Reference20Ideal (hKernel20Ideal := Cert.Kernel20Ideal.Gen.facts)
    (hReference20Ideal := Cert.Reference20Ideal.Gen.facts) := fun m g m' g' _ h =>
  ⟨fun c => (Cert.Kernel20Ideal.Gen.dats m 0 c).arrAt 6 (Cert.Kernel20Ideal.cfgs 0).N, fun c => (Cert.Kernel20Ideal.Gen.dats m 0 c).arrAt 7 (Cert.Kernel20Ideal.cfgs 0).N, fun c => (Cert.Kernel20Ideal.Gen.dats m 0 c).arrAt 8 (Cert.Kernel20Ideal.cfgs 0).N,
    Cert.Kernel20Ideal.Value.run_blocks m g,
    (θ_run Cert.Reference20Ideal.defs _ _).mono (fun r k c => ⟨
      ((k c).1).trans <| (Cert.Reference20Ideal.Read.val_main_v40_eq m' c).trans <| by
        rw [(h c).1, (h c).2.1, (h c).2.2.1, (h c).2.2.2.1, (h c).2.2.2.2.1, (h c).2.2.2.2.2]
        exact (Cert.Kernel20Ideal.Norm.final6 m c).symm,
      ((k c).2.1).trans <| (Cert.Reference20Ideal.Read.val_main_v42_eq m' c).trans <| by
        rw [(h c).1, (h c).2.1, (h c).2.2.1, (h c).2.2.2.1, (h c).2.2.2.2.1, (h c).2.2.2.2.2]
        exact (Cert.Kernel20Ideal.Norm.final7 m c).symm,
      ((k c).2.2.1).trans <| (Cert.Reference20Ideal.Read.val_main_v43_eq _ _ _ _).trans <| by
        rw [(h c).1, (h c).2.1, (h c).2.2.1, (h c).2.2.2.1]
        exact (Cert.Kernel20Ideal.Norm.final8 m c).symm,
      (k c).2.2.2⟩) (Cert.Reference20Ideal.Value.run m' g')⟩

theorem reference22 : Cert.quiescent_Reference22Ideal (hReference22Ideal := Cert.Reference22Ideal.Gen.facts) := fun m g _ =>
  (θ_run Cert.Reference22Ideal.defs _ _).mono (fun r h => ⟨fun c => (h c).2.2.2, sem_eq_zero_of_no_sems (by decide) r.2⟩)
    (Cert.Reference22Ideal.Value.run m g)

theorem value22 : Cert.algebraic_Kernel22Ideal_Reference22Ideal (hKernel22Ideal := Cert.Kernel22Ideal.Gen.facts)
    (hReference22Ideal := Cert.Reference22Ideal.Gen.facts) := fun m g m' g' _ h =>
  ⟨fun c => (Cert.Kernel22Ideal.Gen.dats m 0 c).arrAt 4 (Cert.Kernel22Ideal.cfgs 0).N, fun c => (Cert.Kernel22Ideal.Gen.dats m 0 c).arrAt 5 (Cert.Kernel22Ideal.cfgs 0).N, fun c => (Cert.Kernel22Ideal.Gen.dats m 0 c).arrAt 6 (Cert.Kernel22Ideal.cfgs 0).N,
    Cert.Kernel22Ideal.Value.run_blocks m g,
    (θ_run Cert.Reference22Ideal.defs _ _).mono (fun r k c => ⟨
      ((k c).1).trans <| (Cert.Reference22Ideal.Read.val_main_v17_eq _ _ _ _).trans <| by
        rw [(h c).1, (h c).2.1, (h c).2.2.1, (h c).2.2.2]
        exact (Cert.Kernel22Ideal.Loss.final4 m c).symm,
      ((k c).2.1).trans <| (Cert.Reference22Ideal.Read.val_main_v19_eq _ _ _ _).trans <| by
        rw [(h c).1, (h c).2.1, (h c).2.2.1, (h c).2.2.2]
        exact (Cert.Kernel22Ideal.Loss.final5 m c).symm,
      ((k c).2.2.1).trans <| (Cert.Reference22Ideal.Read.val_main_v21_eq _ _ _ _).trans <| by
        rw [(h c).1, (h c).2.1, (h c).2.2.1, (h c).2.2.2]
        exact (Cert.Kernel22Ideal.Loss.final6 m c).symm,
      (k c).2.2.2⟩) (Cert.Reference22Ideal.Value.run m' g')⟩

theorem reference23 : Cert.quiescent_Reference23Ideal (hReference23Ideal := Cert.Reference23Ideal.Gen.facts) := fun m g _ =>
  (θ_run Cert.Reference23Ideal.defs _ _).mono (fun r h => ⟨fun c => (h c).2.2, sem_eq_zero_of_no_sems (by decide) r.2⟩)
    (Cert.Reference23Ideal.Value.run m g)

theorem value23 : Cert.algebraic_Kernel23Ideal_Reference23Ideal (hKernel23Ideal := Cert.Kernel23Ideal.Gen.facts)
    (hReference23Ideal := Cert.Reference23Ideal.Gen.facts) := fun m g m' g' _ h =>
  ⟨fun c => (Cert.Kernel23Ideal.Gen.dats m 0 c).arrAt 5 (Cert.Kernel23Ideal.cfgs 0).N, fun c => (Cert.Kernel23Ideal.Gen.dats m 0 c).arrAt 6 (Cert.Kernel23Ideal.cfgs 0).N,
    Cert.Kernel23Ideal.Value.run_blocks m g,
    (θ_run Cert.Reference23Ideal.defs _ _).mono (fun r k c => ⟨
      ((k c).1).trans <| (Cert.Reference23Ideal.Read.val_main_v1_eq _ _).trans <| by
        rw [(h c).1, (h c).2.1]
        exact (Cert.Kernel23Ideal.Merge.final5 m c).symm,
      ((k c).2.1).trans <| (Cert.Reference23Ideal.Read.val_main_v18_eq _ _ _ _ _).trans <| by
        rw [(h c).1, (h c).2.1, (h c).2.2.1, (h c).2.2.2.1, (h c).2.2.2.2]
        exact (Cert.Kernel23Ideal.Merge.final6 m c).symm,
      (k c).2.2⟩) (Cert.Reference23Ideal.Value.run m' g')⟩

theorem reference24 : Cert.quiescent_Reference24Ideal (hReference24Ideal := Cert.Reference24Ideal.Gen.facts) := fun m g _ =>
  (θ_run Cert.Reference24Ideal.defs _ _).mono (fun r h => ⟨fun c => (h c).2.2, sem_eq_zero_of_no_sems (by decide) r.2⟩)
    (Cert.Reference24Ideal.Value.run m g)

theorem value24 : Cert.algebraic_Kernel24Ideal_Reference24Ideal (hKernel24Ideal := Cert.Kernel24Ideal.Gen.facts)
    (hReference24Ideal := Cert.Reference24Ideal.Gen.facts) := fun m g m' g' _ h =>
  ⟨fun c => (Cert.Kernel24Ideal.Gen.dats m 0 c).arrAt 4 (Cert.Kernel24Ideal.cfgs 0).N, fun c => (Cert.Kernel24Ideal.Gen.dats m 0 c).arrAt 5 (Cert.Kernel24Ideal.cfgs 0).N,
    Cert.Kernel24Ideal.Value.run_blocks m g,
    (θ_run Cert.Reference24Ideal.defs _ _).mono (fun r k c => ⟨
      ((k c).1).trans <| (Cert.Reference24Ideal.Read.val_main_v2_eq _ _ _).trans <| by
        rw [(h c).1, (h c).2.1, (h c).2.2.1]
        exact (Cert.Kernel24Ideal.After.final4 m c).symm,
      ((k c).2.1).trans <| (Cert.Reference24Ideal.Read.val_main_v17_eq _ _ _ _).trans <| by
        rw [(h c).1, (h c).2.1, (h c).2.2.1, (h c).2.2.2]
        exact (Cert.Kernel24Ideal.After.final5 m c).symm,
      (k c).2.2⟩) (Cert.Reference24Ideal.Value.run m' g')⟩

theorem reference25 : Cert.quiescent_Reference25Ideal (hReference25Ideal := Cert.Reference25Ideal.Gen.facts) := fun m g _ =>
  (θ_run Cert.Reference25Ideal.defs _ _).mono (fun r h => ⟨fun c => (h c).2.2, sem_eq_zero_of_no_sems (by decide) r.2⟩)
    (Cert.Reference25Ideal.Value.run m g)

theorem value25 : Cert.algebraic_Kernel25Ideal_Reference25Ideal (hKernel25Ideal := Cert.Kernel25Ideal.Gen.facts)
    (hReference25Ideal := Cert.Reference25Ideal.Gen.facts) := fun m g m' g' _ h =>
  ⟨fun c => (Cert.Kernel25Ideal.Gen.dats m 0 c).arrAt 3 (Cert.Kernel25Ideal.cfgs 0).N, fun c => (Cert.Kernel25Ideal.Gen.dats m 0 c).arrAt 4 (Cert.Kernel25Ideal.cfgs 0).N,
    Cert.Kernel25Ideal.Value.run_blocks m g,
    (θ_run Cert.Reference25Ideal.defs _ _).mono (fun r k c => ⟨
      ((k c).1).trans <| (Cert.Reference25Ideal.Read.val_main_v14_eq _ _ _).trans <| by
        rw [(h c).1, (h c).2.1, (h c).2.2]
        exact (Cert.Kernel25Ideal.Before.final3 m c).symm,
      ((k c).2.1).trans <| (Cert.Reference25Ideal.Read.val_main_v16_eq _ _).trans <| by
        rw [(h c).1, (h c).2.2]
        exact (Cert.Kernel25Ideal.Before.final4 m c).symm,
      (k c).2.2⟩) (Cert.Reference25Ideal.Value.run m' g')⟩

theorem reference27 : Cert.quiescent_Reference27Ideal (hReference27Ideal := Cert.Reference27Ideal.Gen.facts) := fun m g _ =>
  (θ_run Cert.Reference27Ideal.defs _ _).mono (fun r h => ⟨fun c => (h c).2.2, sem_eq_zero_of_no_sems (by decide) r.2⟩)
    (Cert.Reference27Ideal.Value.run m g)

theorem value27 : Cert.algebraic_Kernel27Ideal_Reference27Ideal (hKernel27Ideal := Cert.Kernel27Ideal.Gen.facts)
    (hReference27Ideal := Cert.Reference27Ideal.Gen.facts) := fun m g m' g' _ h =>
  ⟨fun c => (Cert.Kernel27Ideal.Gen.dats m 0 c).arrAt 3 (Cert.Kernel27Ideal.cfgs 0).N, fun c => (Cert.Kernel27Ideal.Gen.dats m 0 c).arrAt 4 (Cert.Kernel27Ideal.cfgs 0).N,
    Cert.Kernel27Ideal.Value.run_blocks m g,
    (θ_run Cert.Reference27Ideal.defs _ _).mono (fun r k c => ⟨
      ((k c).1).trans <| (Cert.Reference27Ideal.Read.val_main_v4_eq _ _).trans <| by
        rw [(h c).1, (h c).2.1]
        exact (Cert.Kernel27Ideal.Heads.final3 m c).symm,
      ((k c).2.1).trans <| (Cert.Reference27Ideal.Read.val_main_v39_eq _ _ _ _).trans <| by
        rw [(h c).1, (h c).2.1, (h c).2.2.1, (h c).2.2.2]
        exact (Cert.Kernel27Ideal.Heads.final4 m c).symm,
      (k c).2.2⟩) (Cert.Reference27Ideal.Value.run m' g')⟩

theorem reference26 : Cert.quiescent_Reference26Ideal (hReference26Ideal := Cert.Reference26Ideal.Gen.facts) := fun m g _ =>
  (θ_run Cert.Reference26Ideal.defs _ _).mono (fun r h => ⟨fun c => (h c).2.2, sem_eq_zero_of_no_sems (by decide) r.2⟩)
    (Cert.Reference26Ideal.Value.run m g)

theorem value26 : Cert.algebraic_Kernel26Ideal_Reference26Ideal (hKernel26Ideal := Cert.Kernel26Ideal.Gen.facts)
    (hReference26Ideal := Cert.Reference26Ideal.Gen.facts) := fun m g m' g' _ h =>
  ⟨fun c => (Cert.Kernel26Ideal.Gen.dats m 0 c).arrAt 4 (Cert.Kernel26Ideal.cfgs 0).N, fun c => (Cert.Kernel26Ideal.Gen.dats m 0 c).arrAt 5 (Cert.Kernel26Ideal.cfgs 0).N,
    Cert.Kernel26Ideal.Value.run_blocks m g,
    (θ_run Cert.Reference26Ideal.defs _ _).mono (fun r k c => ⟨
      ((k c).1).trans <| (Cert.Reference26Ideal.Read.val_main_v19_eq _ _ _ _).trans <| by
        rw [(h c).1, (h c).2.1, (h c).2.2.1, (h c).2.2.2]
        exact (Cert.Kernel26Ideal.Gated.final4 m c).symm,
      ((k c).2.1).trans <| (Cert.Reference26Ideal.Read.val_main_v21_eq _ _ _).trans <| by
        rw [(h c).1, (h c).2.2.1, (h c).2.2.2]
        exact (Cert.Kernel26Ideal.Gated.final5 m c).symm,
      (k c).2.2⟩) (Cert.Reference26Ideal.Value.run m' g')⟩

end Cert.Products

end
-- ==== Proof.Finite.lean ====
module

public import proofs.«01_k».proof.Proof.Gen.Pre_finite
public import proofs.«01_k».proof.Proof.Lift

/-! The precondition says that every argument array holds real numbers. -/

@[expose] public section

set_option maxRecDepth 16384

noncomputable section

namespace Cert.Proof

open Idealize.ShloMosaic Window Cert.Pre_finite

/-- An array of real numbers. -/
def Reals {s : Shape} (f : s.Idx → EReal) : Prop := ∃ g : s.Idx → ℝ, f = up g

theorem both {x y : BitVec 1} (h : IntOp.andi x y = 1#1) : x = 1#1 ∧ y = 1#1 := by
  revert x y; decide

/-- A number whose size is below plus infinity is real. -/
theorem real_of {x : EReal} (h : BitVec.ofBool (decide (FloatOps.absf (F := Ideal) (φ := .f32) x < Ideal.ofBits .f32 0x7F800000#32)) = 1#1) :
    ∃ r : ℝ, x = (r : EReal) := by
  rw [top_bits] at h
  have h' : FloatOps.absf (F := Ideal) (φ := .f32) x < (⊤ : EReal) := by
    by_contra n
    rw [decide_eq_false n] at h
    exact absurd h (by decide)
  induction x using EReal.rec with
  | bot => exact absurd h' (by simp [FloatOps.absf])
  | top => exact absurd h' (by simp [FloatOps.absf])
  | coe r => exact ⟨r, rfl⟩

theorem reals_of {s : Shape} {f : s.Idx → EReal} (h : ∀ i, ∃ r : ℝ, f i = (r : EReal)) : Reals f := by
  choose g hg using h
  exact ⟨g, funext hg⟩

variable {a0 a1 a2 a3 a5 a7 : FVec Ideal S2x4096x8x64 .f32} {a4 a6 : FVec Ideal S2x4096x8 .f32}

/-- What the precondition says at one index. -/
theorem fn_at (a : Fin 2) (b : Fin 4096) (c : Fin 8) (d : Fin 64) :
    Cert.Pre_finite.fn (F := Ideal) a0 a1 a2 a3 a4 a5 a6 a7 (ix4 a b c d) = 1#1 →
    ((∃ r : ℝ, a0 (ix4 a b c d) = (r : EReal)) ∧ (∃ r : ℝ, a1 (ix4 a b c d) = (r : EReal)) ∧ (∃ r : ℝ, a2 (ix4 a b c d) = (r : EReal))
    ∧ (∃ r : ℝ, a3 (ix4 a b c d) = (r : EReal)) ∧ (∃ r : ℝ, a5 (ix4 a b c d) = (r : EReal)) ∧ (∃ r : ℝ, a7 (ix4 a b c d) = (r : EReal)))
    ∧ (∃ r : ℝ, a4 (ix3 a b c) = (r : EReal)) ∧ (∃ r : ℝ, a6 (ix3 a b c) = (r : EReal)) := by
  pointwise [Cert.Pre_finite.fn, Cert.Pre_finite.fn_part1]
  intro h
  obtain ⟨h, h46⟩ := both h
  obtain ⟨h4, h6⟩ := both h46
  obtain ⟨h, h7⟩ := both h
  obtain ⟨h, h5⟩ := both h
  obtain ⟨h, h3⟩ := both h
  obtain ⟨h, h2⟩ := both h
  obtain ⟨h0, h1⟩ := both h
  exact ⟨⟨real_of h0, real_of h1, real_of h2, real_of h3, real_of h5, real_of h7⟩, real_of h4, real_of h6⟩

/-- Under the precondition every argument array is an array of real numbers. -/
theorem reals (h : Cert.Pre_finite.fn (F := Ideal) a0 a1 a2 a3 a4 a5 a6 a7 = fun _ => 1#1) :
    (Reals a0 ∧ Reals a1 ∧ Reals a2 ∧ Reals a3 ∧ Reals a5 ∧ Reals a7) ∧ Reals a4 ∧ Reals a6 := by
  have e4 : ∀ i : S2x4096x8x64.Idx, i = ix4 (i 0) (i 1) (i 2) (i 3) := fun i => by funext a; fin_cases a <;> rfl
  have e3 : ∀ i : S2x4096x8.Idx, i = ix3 (i 0) (i 1) (i 2) := fun i => by funext a; fin_cases a <;> rfl
  have k4 := fun i : S2x4096x8x64.Idx => fn_at (i 0) (i 1) (i 2) (i 3) (congrFun h _)
  have k3 := fun i : S2x4096x8.Idx => (fn_at (i 0) (i 1) (i 2) (0 : Fin 64) (congrFun h _)).2
  exact ⟨⟨reals_of fun i => by rw [e4 i]; exact (k4 i).1.1, reals_of fun i => by rw [e4 i]; exact (k4 i).1.2.1,
    reals_of fun i => by rw [e4 i]; exact (k4 i).1.2.2.1, reals_of fun i => by rw [e4 i]; exact (k4 i).1.2.2.2.1,
    reals_of fun i => by rw [e4 i]; exact (k4 i).1.2.2.2.2.1, reals_of fun i => by rw [e4 i]; exact (k4 i).1.2.2.2.2.2⟩,
    reals_of fun i => by rw [e3 i]; exact (k3 i).1, reals_of fun i => by rw [e3 i]; exact (k3 i).2⟩

end Cert.Proof

end
-- ==== Proof.Mask.lean ====
module

public import proofs.«01_k».proof.Proof.Lift
public import Idealize.ShloMosaic.Lib.Tactic.WordOmega

/-! The bits of the three masks: which keys a query sees, computed on 32-bit words. -/

@[expose] public section

noncomputable section

namespace Window

open Idealize.ShloMosaic

/-- A small integer is its own balanced remainder. -/
theorem bmod_small (x : Int) (h1 : -100000 ≤ x) (h2 : x ≤ 100000) : x.bmod (2 ^ 32) = x := by
  rw [Int.bmod_def]; omega

/-- A small number as a word, read as an integer. -/
theorem small_toInt (a : Nat) (ha : a < 1000) : (BitVec.ofNat 32 a).toInt = (a : Int) := by
  rw [BitVec.toInt_ofNat', bmod_small] <;> omega

/-- The reference's mask. -/
theorem ref_mask (n : Fin 8) (i : Fin 128) (j : Fin 256) :
    IntOp.andi
        (IntOp.andi
          (IntOp.cmpi CmpIPredicate.sge (IntOp.subi (IntOp.addi (128#32) (BitVec.ofNat 32 i.val)) (BitVec.ofNat 32 j.val)) 0#32)
          (IntOp.cmpi CmpIPredicate.sle (IntOp.subi (IntOp.addi (128#32) (BitVec.ofNat 32 i.val)) (BitVec.ofNat 32 j.val)) 128#32))
        (IntOp.cmpi CmpIPredicate.sge
          (IntOp.addi (IntOp.muli (IntOp.subi (BitVec.ofNat 32 n.val) 1#32) 128#32) (BitVec.ofNat 32 j.val)) 0#32)
      = if seen n i j then 1#1 else 0#1 := by
  have z0 : (0#32).toInt = 0 := by decide
  have z1 : (128#32).toInt = 128 := by decide
  have z2 : (1#32).toInt = 1 := by decide
  have t1 : (IntOp.subi (IntOp.addi (128#32) (BitVec.ofNat 32 i.val)) (BitVec.ofNat 32 j.val)).toInt
      = (128 + i.val : Int) - j.val := by
    simp only [IntOp.subi, IntOp.addi]
    rw [BitVec.toInt_sub, BitVec.toInt_add, z1, small_toInt _ (by omega), small_toInt _ (by omega),
      bmod_small (128 + i.val) (by omega) (by omega), bmod_small _ (by omega) (by omega)]
  have t2 : (IntOp.addi (IntOp.muli (IntOp.subi (BitVec.ofNat 32 n.val) 1#32) 128#32) (BitVec.ofNat 32 j.val)).toInt
      = ((n.val : Int) - 1) * 128 + j.val := by
    simp only [IntOp.subi, IntOp.addi, IntOp.muli]
    rw [BitVec.toInt_add, BitVec.toInt_mul, BitVec.toInt_sub, z1, z2, small_toInt _ (by omega), small_toInt _ (by omega),
      bmod_small ((n.val : Int) - 1) (by omega) (by omega), bmod_small (((n.val : Int) - 1) * 128) (by omega) (by omega),
      bmod_small _ (by omega) (by omega)]
  simp only [IntOp.cmpi, BitVec.sle, t1, t2, z0, z1, seen]
  by_cases a : i.val ≤ j.val <;> by_cases b : j.val ≤ i.val + 128 <;> by_cases c : 1 ≤ n.val ∨ 128 ≤ j.val <;>
  · have e1 : decide ((0 : Int) ≤ 128 + i.val - j.val) = decide (j.val ≤ i.val + 128) := by
      rw [decide_eq_decide]; omega
    have e2 : decide ((128 : Int) + i.val - j.val ≤ 128) = decide (i.val ≤ j.val) := by
      rw [decide_eq_decide]; omega
    have e3 : decide ((0 : Int) ≤ ((n.val : Int) - 1) * 128 + j.val) = decide (1 ≤ n.val ∨ 128 ≤ j.val) := by
      rw [decide_eq_decide]; omega
    simp only [e1, e2, e3, a, b, c]
    decide

end Window

end
-- ==== Proof.RefFwd.lean ====
module

public import proofs.«01_k».proof.Proof.Mask
public import proofs.«01_k».proof.Proof.Gen.ReferenceIdeal.Read

/-! The reference's forward pass, read at a position: the values of the model. -/

@[expose] public section

set_option maxRecDepth 16384

noncomputable section

namespace Cert.ReferenceIdeal.Fwd

open Idealize.ShloMosaic Idealize.ShloMosaic.TcCoe Idealize.SL.Sem Cert.ReferenceIdeal Cert.ReferenceIdeal.Gen
open Cert.ReferenceIdeal.Read Window

variable (q k v o0 o2 dy : S2x4096x8x64.Idx → ℝ) (l0 l2 : S2x4096x8.Idx → ℝ)
variable (z n : Fin 8) (i : Fin 128) (h : Fin 8) (j : Fin 256) (d : Fin 64)

/-- The queries, by sequence and block. -/
theorem v3_at : val_main_v3 (F := Ideal) (up q) (ix5 z n i h d) = ((sub q z h n i d : ℝ) : EReal) := by
  pointwise [val_main_v3, val_main_v2, val_main_v1, val_main_v0]
  rfl

/-- The keys, by sequence and block. -/
theorem v7_at : val_main_v7 (F := Ideal) (up k) (ix5 z n i h d) = ((sub k z h n i d : ℝ) : EReal) := v3_at k z n i h d

/-- Keys with the block before. -/
theorem v13_at : val_main_v13 (F := Ideal) (up k) (ix5 z n j h d) = ((cat (sub k z h) n j d : ℝ) : EReal) := by
  pointwise [val_main_v13, val_main_v11, val_main_v10, val_main_v9, val_main_cst, v7_at]
  unfold cat
  split
  · split
    · rfl
    · rfl
  · rfl

/-- Values with the block before. -/
theorem v23_at : val_main_v23 (F := Ideal) (up v) (ix5 z n j h d) = ((cat (sub v z h) n j d : ℝ) : EReal) :=
  v13_at v z n h j d

/-- The scaled scores. -/
theorem v26_at : val_main_v26 (F := Ideal) (up q) (up k) (ix5 z n h i j)
    = ((score (sub q z h) (sub k z h) n i j : ℝ) : EReal) := by
  pointwise [val_main_v26, val_main_v25, val_main_cst_3, val_main_v24, v3_at, v13_at]
  simp only [← EReal.coe_mul, sum_up, eighth_bits]
  rfl

/-- The bit of a mask chooses. -/
theorem select_ite {α : Type} (c : Prop) [Decidable c] (x y : α) :
    Scalar.select (if c then 1#1 else 0#1) x y = if c then x else y := by
  split <;> rfl

/-- The mask. -/
theorem v58_1_at : val_main_v58_1 (F := Ideal) (ix5 z n h i j) = if seen n i j then 1#1 else 0#1 := by
  rw [← ref_mask]
  pointwise [val_main_v58_1, val_main_v57, val_main_v56, val_main_v55, val_main_v54, val_main_v53, val_main_v52,
    val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, val_main_v31, val_main_v30, val_main_v29, val_main_v28,
    val_main_v27, val_main_c, val_main_c_4, val_main_c_5, val_main_c_6, val_main_c_7, val_main_c_8]

/-- The masked scores. -/
theorem v58_at : val_main_v58_0 (F := Ideal) (up q) (up k) (ix5 z n h i j)
    = if seen n i j then ((score (sub q z h) (sub k z h) n i j : ℝ) : EReal) else ⊥ := by
  pointwise [val_main_v58_0, val_main_call0_v2, v26_at, v58_1_at]
  rw [select_ite]
  show (if _ then _ else Ideal.ofBits .f32 0xFF800000#32) = _
  rw [bot_bits]

/-- The largest masked score of a query, a real. -/
def top : ℝ := (show EReal from val_main_v59 (F := Ideal) (up q) (up k) (ix4 z n h i)).toReal

theorem v59_top : val_main_v59 (F := Ideal) (up q) (up k) (ix4 z n h i) = ((top q k z n i h : ℝ) : EReal)
    ∧ ∃ j, val_main_v58_0 (F := Ideal) (up q) (up k) (ix5 z n h i j) = ((top q k z n i h : ℝ) : EReal) := by
  have e : val_main_v59 (F := Ideal) (up q) (up k) (ix4 z n h i)
      = Finset.univ.fold max ⊥ fun j : Fin 256 => val_main_v58_0 (F := Ideal) (up q) (up k) (ix5 z n h i j) := by
    pointwise [val_main_v59, val_main_cst_10]
    rw [bot_bits]
  obtain ⟨r, hr, j, hj⟩ := fold_max (fun j : Fin 256 => (show EReal from val_main_v58_0 (F := Ideal) (up q) (up k) (ix5 z n h i j)))
    (fun j => by
      show val_main_v58_0 (F := Ideal) (up q) (up k) (ix5 z n h i j) ≠ _
      rw [v58_at]; split
      · exact EReal.coe_ne_top _
      · exact bot_ne_top) ⟨128 + i.val, by omega⟩ (by
      show val_main_v58_0 (F := Ideal) (up q) (up k) (ix5 z n h i _) ≠ _
      rw [v58_at, if_pos (seen_self n i)]; exact EReal.coe_ne_bot _)
  have ht : top q k z n i h = r := by
    unfold top; rw [e]
    show (Finset.univ.fold max ⊥ _ : EReal).toReal = r
    rw [hr]; rfl
  rw [ht]
  exact ⟨e.trans hr, j, hj⟩

/-- The exponentials, less the largest score. -/
theorem v68_at : val_main_v68 (F := Ideal) (up q) (up k) (ix5 z n h i j)
    = ((wt (sub q z h) (sub k z h) n i j * Real.exp (-top q k z n i h) : ℝ) : EReal) := by
  pointwise [val_main_v68, val_main_v67, val_main_v66, val_main_v65, v58_at]
  rw [(v59_top q k z n i h).1]
  unfold wt
  split
  · rw [← EReal.coe_sub, Ideal.exp_coe, sub_eq_add_neg, Real.exp_add]
  · rw [EReal.bot_sub, Ideal.exp_bot, zero_mul]; rfl

/-- Their sum. -/
theorem v70_at : val_main_v70 (F := Ideal) (up q) (up k) (ix5 z n h i 0)
    = ((den (sub q z h) (sub k z h) n i * Real.exp (-top q k z n i h) : ℝ) : EReal) := by
  pointwise [val_main_v70, val_main_v69, val_main_cst_12, v68_at]
  rw [sum_up, ← Finset.sum_mul]; rfl

theorem scale_ne : den (sub q z h) (sub k z h) n i * Real.exp (-top q k z n i h) ≠ 0 :=
  mul_ne_zero (den_pos _ _ n i).ne' (Real.exp_ne_zero _)

/-- The normalised weights. -/
theorem v72_at : val_main_v72 (F := Ideal) (up q) (up k) (ix5 z n h i j)
    = ((wt (sub q z h) (sub k z h) n i j / den (sub q z h) (sub k z h) n i : ℝ) : EReal) := by
  pointwise [val_main_v72, val_main_v71, v68_at, v70_at]
  rw [div_up _ _ (scale_ne q k z n i h), mul_div_mul_right _ _ (Real.exp_ne_zero _)]

/-- The attention's output. -/
theorem v77_at : val_main_v77 (F := Ideal) (up q) (up k) (up v) (ix5 z n i h d)
    = ((out (sub q z h) (sub k z h) (sub v z h) n i d : ℝ) : EReal) := by
  pointwise [val_main_v77, val_main_v76, v72_at, v23_at]
  simp only [← EReal.coe_mul, sum_up]
  rfl

end Cert.ReferenceIdeal.Fwd

end
-- ==== Proof.RefMerge.lean ====
module

public import proofs.«01_k».proof.Proof.RefFwd

/-! The reference's normalisers and merge, read at a position: the values of the model. -/

@[expose] public section

set_option maxRecDepth 16384

noncomputable section

namespace Cert.ReferenceIdeal.Fwd

open Idealize.ShloMosaic Idealize.ShloMosaic.TcCoe Idealize.SL.Sem Cert.ReferenceIdeal Cert.ReferenceIdeal.Gen
open Cert.ReferenceIdeal.Read Window

variable (q k v o0 o2 dy : S2x4096x8x64.Idx → ℝ) (l0 l2 : S2x4096x8.Idx → ℝ)
variable (z n : Fin 8) (i : Fin 128) (h : Fin 8) (j : Fin 256) (d : Fin 64)

/-- The largest score, the unit axis kept. -/
theorem v65_at : val_main_v65 (F := Ideal) (up q) (up k) (ix5 z n h i 0) = ((top q k z n i h : ℝ) : EReal) := by
  rw [← (v59_top q k z n i h).1]
  pointwise [val_main_v65]

/-- The logarithm of the scaled sum. -/
theorem v78_at : val_main_v78 (F := Ideal) (up q) (up k) (ix5 z n h i 0)
    = ((Real.log (den (sub q z h) (sub k z h) n i) + -top q k z n i h : ℝ) : EReal) := by
  rw [val_main_v78_apply, v70_at]
  exact (log_up _ (mul_pos (den_pos _ _ n i) (Real.exp_pos _))).trans (congrArg _ (by
    rw [Real.log_mul (den_pos _ _ n i).ne' (Real.exp_ne_zero _), Real.log_exp]))

/-- The normaliser, the unit axis kept. -/
theorem v79_at : val_main_v79 (F := Ideal) (up q) (up k) (ix5 z n h i 0)
    = ((Real.log (den (sub q z h) (sub k z h) n i) : ℝ) : EReal) := by
  rw [val_main_v79_apply, v65_at, v78_at]
  exact (EReal.coe_add _ _).symm.trans (congrArg _ (by ring))

/-- Dropping the unit axis. -/
theorem drop_unit (x : FVec Ideal S8x8x8x128x1 .f32) :
    shapeCast S8x8x8x128 x shapeCasts_S8x8x8x128x1_S8x8x8x128 (ix4 z n h i) = x (ix5 z n h i 0) :=
  shapeCast_apply x shapeCasts_S8x8x8x128x1_S8x8x8x128 (ix4 z n h i) (ix5 z n h i 0) (by
    rewrite [Shape.rowMajor_val_five, Shape.rowMajor_val_four]
    show (((z.val * 8 + n.val) * 8 + h.val) * 128 + i.val) * 1 + 0 = ((z.val * 8 + n.val) * 8 + h.val) * 128 + i.val
    omega)

/-- The normaliser. -/
theorem v80_at : val_main_v80 (F := Ideal) (up q) (up k) (ix4 z n h i)
    = ((Real.log (den (sub q z h) (sub k z h) n i) : ℝ) : EReal) := by
  unfold val_main_v80
  exact (drop_unit z n i h _).trans (v79_at q k z n i h)

/-- The output in the order of the sequence. -/
theorem v83_at : val_main_v83 (F := Ideal) (up q) (up k) (up v) (ix4 (bat z) (pos z n i) h d)
    = ((out (sub q z h) (sub k z h) (sub v z h) n i d : ℝ) : EReal) := by
  rw [← v77_at]
  pointwise [val_main_v83, val_main_v82, val_main_v81]
  simp only [seq_pos, blk_pos, off_pos]

/-- The normaliser in the order of the sequence. -/
theorem v87_at : val_main_v87 (F := Ideal) (up q) (up k) (ix3 (bat z) (pos z n i) h)
    = ((Real.log (den (sub q z h) (sub k z h) n i) : ℝ) : EReal) := by
  rw [← v80_at]
  pointwise [val_main_v87, val_main_v86, val_main_v85, val_main_v84]
  simp only [seq_pos, blk_pos, off_pos]

/-- The three normalisers of a position. -/
def three (g : Fin 3) : ℝ :=
  if g.val < 1 then subM l0 z h n i else if g.val - 1 < 1 then Real.log (den (sub q z h) (sub k z h) n i)
  else subM l2 z h n i

/-- The stacked normalisers. -/
theorem v91_at (g : Fin 3) : val_main_v91 (F := Ideal) (up q) (up k) (up l0) (up l2) (ix4 g (bat z) (pos z n i) h)
    = ((three q k l0 l2 z n i h g : ℝ) : EReal) := by
  pointwise [val_main_v91, val_main_v88, val_main_v89, val_main_v90, v87_at]
  unfold three
  split
  · rfl
  · split <;> rfl

/-- The largest of the three. -/
def top3 : ℝ :=
  (show EReal from val_main_v94 (F := Ideal) (up q) (up k) (up l0) (up l2) (ix3 (bat z) (pos z n i) h)).toReal

theorem v94_at : val_main_v94 (F := Ideal) (up q) (up k) (up l0) (up l2) (ix3 (bat z) (pos z n i) h)
    = ((top3 q k l0 l2 z n i h : ℝ) : EReal) := by
  have e : val_main_v94 (F := Ideal) (up q) (up k) (up l0) (up l2) (ix3 (bat z) (pos z n i) h)
      = Finset.univ.fold max ⊥ fun g : Fin 3 => ((three q k l0 l2 z n i h g : ℝ) : EReal) := by
    pointwise [val_main_v94, val_main_cst_16, v91_at]
    rw [bot_bits]
  obtain ⟨r, hr, -⟩ := fold_max (fun g : Fin 3 => ((three q k l0 l2 z n i h g : ℝ) : EReal))
    (fun g => EReal.coe_ne_top _) 0 (EReal.coe_ne_bot _)
  have ht : top3 q k l0 l2 z n i h = r := by
    unfold top3; rw [e]
    show (Finset.univ.fold max ⊥ _ : EReal).toReal = r
    rw [hr]; rfl
  rw [ht]
  exact e.trans hr

/-- The largest of the three, above minus infinity. -/
theorem v101_at : val_main_v101 (F := Ideal) (up q) (up k) (up l0) (up l2) (ix3 (bat z) (pos z n i) h)
    = ((top3 q k l0 l2 z n i h : ℝ) : EReal) := by
  pointwise [val_main_v101, val_main_v100, val_main_cst_18, v94_at]
  rw [bot_bits]
  exact max_eq_right bot_le

/-- The exponentials of the three, less the largest. -/
theorem v114_at (g : Fin 3) : val_main_v114 (F := Ideal) (up q) (up k) (up l0) (up l2) (ix4 g (bat z) (pos z n i) h)
    = ((Real.exp (three q k l0 l2 z n i h g) * Real.exp (-top3 q k l0 l2 z n i h) : ℝ) : EReal) := by
  pointwise [val_main_v114, val_main_v113, val_main_v112, val_main_v111, v91_at, v101_at]
  rw [← EReal.coe_sub, Ideal.exp_coe, sub_eq_add_neg, Real.exp_add]

theorem sum_three : ∑ g, Real.exp (three q k l0 l2 z n i h g)
    = tot (sub q z h) (sub k z h) (subM l0 z h) (subM l2 z h) n i := by
  rw [Fin.sum_univ_three]
  show Real.exp (subM l0 z h n i) + Real.exp (Real.log (den (sub q z h) (sub k z h) n i)) + Real.exp (subM l2 z h n i) = _
  rw [Real.exp_log (den_pos _ _ n i)]; rfl

/-- Their sum. -/
theorem v116_at : val_main_v116 (F := Ideal) (up q) (up k) (up l0) (up l2) (ix4 0 (bat z) (pos z n i) h)
    = ((tot (sub q z h) (sub k z h) (subM l0 z h) (subM l2 z h) n i * Real.exp (-top3 q k l0 l2 z n i h) : ℝ) : EReal) := by
  pointwise [val_main_v116, val_main_v115, val_main_cst_24, v114_at]
  rw [sum_up, ← Finset.sum_mul, sum_three]

theorem scale3_ne : tot (sub q z h) (sub k z h) (subM l0 z h) (subM l2 z h) n i * Real.exp (-top3 q k l0 l2 z n i h) ≠ 0 :=
  mul_ne_zero (tot_pos _ _ _ _ n i).ne' (Real.exp_ne_zero _)

/-- The weights of the merge. -/
theorem v118_at (g : Fin 3) : val_main_v118 (F := Ideal) (up q) (up k) (up l0) (up l2) (ix4 g (bat z) (pos z n i) h)
    = ((Real.exp (three q k l0 l2 z n i h g) / tot (sub q z h) (sub k z h) (subM l0 z h) (subM l2 z h) n i : ℝ) : EReal) := by
  pointwise [val_main_v118, val_main_v117, v114_at, v116_at]
  rw [div_up _ _ (scale3_ne q k l0 l2 z n i h), mul_div_mul_right _ _ (Real.exp_ne_zero _)]

/-- The weight of the first group. -/
theorem v123_at : val_main_v123 (F := Ideal) (up q) (up k) (up l0) (up l2) (ix3 (bat z) (pos z n i) h)
    = ((Real.exp (subM l0 z h n i) / tot (sub q z h) (sub k z h) (subM l0 z h) (subM l2 z h) n i : ℝ) : EReal) := by
  rw [show subM l0 z h n i = three q k l0 l2 z n i h 0 from rfl, ← v118_at]
  pointwise [val_main_v123, val_main_v122]

/-- The weight of this group. -/
theorem v128_at : val_main_v128 (F := Ideal) (up q) (up k) (up l0) (up l2) (ix3 (bat z) (pos z n i) h)
    = ((weight (sub q z h) (sub k z h) (subM l0 z h) (subM l2 z h) n i : ℝ) : EReal) := by
  have e : weight (sub q z h) (sub k z h) (subM l0 z h) (subM l2 z h) n i
      = Real.exp (three q k l0 l2 z n i h 1) / tot (sub q z h) (sub k z h) (subM l0 z h) (subM l2 z h) n i := by
    rw [show three q k l0 l2 z n i h 1 = Real.log (den (sub q z h) (sub k z h) n i) from rfl, Real.exp_log (den_pos _ _ n i)]
    rfl
  rw [e, ← v118_at]
  pointwise [val_main_v128, val_main_v127]

/-- The weight of the third group. -/
theorem v134_at : val_main_v134 (F := Ideal) (up q) (up k) (up l0) (up l2) (ix3 (bat z) (pos z n i) h)
    = ((Real.exp (subM l2 z h n i) / tot (sub q z h) (sub k z h) (subM l0 z h) (subM l2 z h) n i : ℝ) : EReal) := by
  rw [show subM l2 z h n i = three q k l0 l2 z n i h 2 from rfl, ← v118_at]
  pointwise [val_main_v134, val_main_v133]

/-- The merged output. -/
theorem v138_at : val_main_v138 (F := Ideal) (up q) (up k) (up v) (up o0) (up l0) (up o2) (up l2) (ix4 (bat z) (pos z n i) h d)
    = ((merge (sub q z h) (sub k z h) (sub v z h) (sub o0 z h) (sub o2 z h) (subM l0 z h) (subM l2 z h) n i d : ℝ) : EReal) := by
  pointwise [val_main_v138, val_main_v137, val_main_v136, val_main_v135, val_main_v132, val_main_v131, val_main_v130,
    val_main_v129, val_main_v126, val_main_v125, val_main_v124, v123_at, v128_at, v134_at, v83_at]
  simp only [← EReal.coe_mul, ← EReal.coe_add]
  rfl

end Cert.ReferenceIdeal.Fwd

end
-- ==== Proof.Host.lean ====
module

public import proofs.«01_k».proof.Proof.RefMerge
public import proofs.«01_k».proof.Proof.Gen.KernelIdeal.Frame
public import Idealize.ShloMosaic.Lib.StableHlo.ReadAt

/-! The kernel program's host lines that redo the forward pass: each array they leave is an array of the reference's. -/

@[expose] public section

set_option maxRecDepth 16384

noncomputable section

namespace Cert.KernelIdeal.HostRead

open Idealize.ShloMosaic Idealize.ShloMosaic.TcCoe Idealize.SL.Sem Cert.KernelIdeal Cert.KernelIdeal.Gen
open Window Cert.ReferenceIdeal.Read Cert.ReferenceIdeal.Fwd
open StableHlo (after upto)

variable (W : Valuation τ sig (Elt Ideal))

section First

variable (X : Cert.ReferenceIdeal.S2x4096x8x64.Idx → EReal)

/-- The queries, by sequence and block. -/
theorem queries (h : W (Proc.devRef .tc main_arg0) = X) :
    after hostOps0 W (Proc.devRef .tc main_v32) = val_main_v3 (F := Ideal) X := by
  after_reads_simp
  rw [h]
  rfl

/-- Keys with the block before. -/
theorem keys (h : W (Proc.devRef .tc main_arg1) = X) :
    after hostOps0 W (Proc.devRef .tc main_v41) = val_main_v13 (F := Ideal) X := by
  have own : upto hostOps0 W 45 (Proc.devRef .tc main_v36) = val_main_v7 (F := Ideal) X := by
    after_reads_simp; rw [h]; rfl
  have zero : upto hostOps0 W 44 (Proc.devRef .tc main_v38) = val_main_v9 (F := Ideal) := by
    after_reads_simp; rfl
  have prev : upto hostOps0 W 44 (Proc.devRef .tc main_v39) = val_main_v10 (F := Ideal) X := by
    after_reads_simp; rw [h]; rfl
  have cut : upto hostOps0 W 45 (Proc.devRef .tc main_v40) = val_main_v11 (F := Ideal) X := by
    after_reads_simp; rw [zero, prev]; rfl
  after_reads_simp
  rw [own, cut]
  rfl

/-- Values with the block before. -/
theorem values (h : W (Proc.devRef .tc main_arg2) = X) :
    after hostOps0 W (Proc.devRef .tc main_v50) = val_main_v23 (F := Ideal) X := by
  have own : upto hostOps0 W 55 (Proc.devRef .tc main_v45) = val_main_v17 (F := Ideal) X := by
    after_reads_simp; rw [h]; rfl
  have zero : upto hostOps0 W 54 (Proc.devRef .tc main_v47) = val_main_v19 (F := Ideal) := by
    after_reads_simp; rfl
  have prev : upto hostOps0 W 54 (Proc.devRef .tc main_v48) = val_main_v20 (F := Ideal) X := by
    after_reads_simp; rw [h]; rfl
  have cut : upto hostOps0 W 55 (Proc.devRef .tc main_v49) = val_main_v21 (F := Ideal) X := by
    after_reads_simp; rw [zero, prev]; rfl
  after_reads_simp
  rw [own, cut]
  rfl

/-- The mask. -/
theorem marks : after hostOps0 W (Proc.devRef .tc main_v91) = val_main_v57 (F := Ideal) := by
  after_reads_simp
  rfl

end First

/-- A sum over the last of six axes. -/
theorem sum_last (x : S8x8x8x128x256x64.Idx → EReal) (e : EReal) (z n h : Fin 8) (i : Fin 128) (j : Fin 256) :
    Ideal.hostReduceAdd reducesTo_S8x8x8x128x256x64_S8x8x8x128x256_d5 x e (ix5 z n h i j)
      = e + ∑ d : Fin 64, x (ix6 z n h i j d) := by
  rw [Ideal.hostReduceAdd_single _ (by decide : S8x8x8x128x256x64.Reduces [5] S8x8x8x128x256)]
  refine congrArg (e + ·) (Finset.sum_congr rfl fun d _ => congrArg x (funext fun c => ?_))
  match c with
  | ⟨0, _⟩ => rfl | ⟨1, _⟩ => rfl | ⟨2, _⟩ => rfl | ⟨3, _⟩ => rfl | ⟨4, _⟩ => rfl | ⟨5, _⟩ => rfl

/-- A sum over the last but one of six axes. -/
theorem sum_fifth (x : S8x8x8x128x256x64.Idx → EReal) (e : EReal) (z n h : Fin 8) (i : Fin 128) (d : Fin 64) :
    Ideal.hostReduceAdd reducesTo_S8x8x8x128x256x64_S8x8x8x128x64_d4 x e (ix5 z n h i d)
      = e + ∑ j : Fin 256, x (ix6 z n h i j d) := by
  rw [Ideal.hostReduceAdd_single _ (by decide : S8x8x8x128x256x64.Reduces [4] S8x8x8x128x64)]
  refine congrArg (e + ·) (Finset.sum_congr rfl fun j _ => congrArg x (funext fun c => ?_))
  match c with
  | ⟨0, _⟩ => rfl | ⟨1, _⟩ => rfl | ⟨2, _⟩ => rfl | ⟨3, _⟩ => rfl | ⟨4, _⟩ => rfl | ⟨5, _⟩ => rfl

/-- The scaled scores, before the mask. -/
theorem scores (q k : Cert.ReferenceIdeal.S2x4096x8x64.Idx → ℝ) (hq : W (Proc.devRef .tc main_arg0) = up q)
    (hk : W (Proc.devRef .tc main_arg1) = up k) :
    after hostOps0 W (Proc.devRef .tc main_v60) = val_main_v26 (F := Ideal) (up q) (up k) := by
  have eq : upto hostOps0 W 58 (Proc.devRef .tc main_v32) = val_main_v3 (F := Ideal) (up q) := by
    after_reads_simp; rw [hq]; rfl
  have ek : upto hostOps0 W 56 (Proc.devRef .tc main_v41) = val_main_v13 (F := Ideal) (up k) := by
    rw [← keys W _ hk]; after_reads_simp
  have e (z n i h j) : after hostOps0 W (Proc.devRef .tc main_v60) (ix5 z n h i j)
      = val_main_v26 (F := Ideal) (up q) (up k) (ix5 z n h i j) := by
    rw [v26_at]
    after_reads_simp [eq, ek]
    pointwise [sum_last, v3_at, v13_at]
    simp only [← EReal.coe_mul, sum_up, eighth_bits]
    rfl
  funext x
  idx_vars x
  exact e _ _ _ _ _

/-- The masked scores. -/
theorem masked (q k : Cert.ReferenceIdeal.S2x4096x8x64.Idx → ℝ) (hs : W (Proc.devRef .tc main_v60) = val_main_v26 (F := Ideal) (up q) (up k))
    (hm : W (Proc.devRef .tc main_v91) = val_main_v57 (F := Ideal))
    (hc : W (Proc.devRef .tc main_cst_11) = constant (F := Ideal) S_ .f32 0xFF800000#32) :
    after hostOps0_1 W (Proc.devRef .tc main_v92) = val_main_v58_0 (F := Ideal) (up q) (up k) := by
  after_reads_simp
  rw [hs, hm, hc]
  rfl

section Second

variable (q k v : Cert.ReferenceIdeal.S2x4096x8x64.Idx → ℝ) (o0 o2 dy : Cert.ReferenceIdeal.S2x4096x8x64.Idx → EReal)
  (l0 l2 : Cert.ReferenceIdeal.S2x4096x8.Idx → EReal)
  (hs : W (Proc.devRef .tc main_v92) = val_main_v58_0 (F := Ideal) (up q) (up k))
  (hv : W (Proc.devRef .tc main_v50) = val_main_v23 (F := Ideal) (up v))
  (h4 : W (Proc.devRef .tc main_arg4) = l0) (h6 : W (Proc.devRef .tc main_arg6) = l2)
  (h3 : W (Proc.devRef .tc main_arg3) = o0) (h5 : W (Proc.devRef .tc main_arg5) = o2)
  (h7 : W (Proc.devRef .tc main_arg7) = dy)

include hs

/-- The normalisers, in the order of the sequence. -/
theorem lse_line : after hostOps0_2 W (Proc.devRef .tc main_v119) = val_main_v87 (F := Ideal) (up q) (up k) := by
  after_reads_simp
  rw [hs]
  rfl

include hv in
/-- The attention's output, by sequence and block. -/
theorem out_line : upto hostOps0_2 W 23 (Proc.devRef .tc main_v109) = val_main_v77 (F := Ideal) (up q) (up k) (up v) := by
  have ew : upto hostOps0_2 W 13 (Proc.devRef .tc main_v101) = val_main_v72 (F := Ideal) (up q) (up k) := by
    after_reads_simp; rw [hs]; rfl
  have ev : upto hostOps0_2 W 11 (Proc.devRef .tc main_v50) = val_main_v23 (F := Ideal) (up v) := by
    after_reads_simp; rw [hv]
  have e (z n i h d) : upto hostOps0_2 W 23 (Proc.devRef .tc main_v109) (ix5 z n i h d)
      = val_main_v77 (F := Ideal) (up q) (up k) (up v) (ix5 z n i h d) := by
    rw [v77_at]
    after_reads_simp [ew, ev]
    pointwise [sum_fifth, v72_at, v23_at]
    simp only [← EReal.coe_mul, sum_up]
    exact congrArg _ (Finset.sum_congr rfl fun j _ => mul_comm _ _)
  funext x
  idx_vars x
  exact e _ _ _ _ _

include h4 h6 in
/-- The three groups' normalisers, stacked. -/
theorem stacked : upto hostOps0_2 W 34 (Proc.devRef .tc main_v123)
    = val_main_v91 (F := Ideal) (up q) (up k) l0 l2 := by
  have e0 : upto hostOps0_2 W 33 (Proc.devRef .tc main_v120) = val_main_v88 (F := Ideal) l0 := by
    after_reads_simp; rw [h4]; rfl
  have e1 : upto hostOps0_2 W 33 (Proc.devRef .tc main_v121) = val_main_v89 (F := Ideal) (up q) (up k) := by
    after_reads_simp; rw [hs]; rfl
  have e2 : upto hostOps0_2 W 33 (Proc.devRef .tc main_v122) = val_main_v90 (F := Ideal) l2 := by
    after_reads_simp; rw [h6]; rfl
  after_reads_simp
  change concatenate S3x2x4096x8 0 [⟨S1x2x4096x8, (upto hostOps0_2 W 33 (Proc.devRef .tc main_v120) : S1x2x4096x8.Idx → EReal)⟩,
    ⟨S1x2x4096x8, (upto hostOps0_2 W 33 (Proc.devRef .tc main_v121) : S1x2x4096x8.Idx → EReal)⟩,
    ⟨S1x2x4096x8, (upto hostOps0_2 W 33 (Proc.devRef .tc main_v122) : S1x2x4096x8.Idx → EReal)⟩] _ = _
  rw [e0, e1, e2]
  rfl

include h4 h6 in
/-- The weights of the three groups. -/
theorem weights_line : after hostOps0_2 W (Proc.devRef .tc main_v134) = val_main_v118 (F := Ideal) (up q) (up k) l0 l2 := by
  have c35 : upto hostOps0_2 W 35 (no_index (Proc.devRef .tc main_v123)) = val_main_v91 (F := Ideal) (up q) (up k) l0 l2 := by
    rw [← stacked W q k l0 l2 hs h4 h6]; after_reads_simp
  have c41 : upto hostOps0_2 W 41 (no_index (Proc.devRef .tc main_v123)) = val_main_v91 (F := Ideal) (up q) (up k) l0 l2 := by
    rw [← stacked W q k l0 l2 hs h4 h6]; after_reads_simp
  after_reads_simp [c35, c41]
  rfl

include h4 h6 in
/-- The weight of this group. -/
theorem weight_line : after hostOps0_2 W (Proc.devRef .tc main_v153) = val_main_v128 (F := Ideal) (up q) (up k) l0 l2 := by
  have c35 : upto hostOps0_2 W 35 (no_index (Proc.devRef .tc main_v123)) = val_main_v91 (F := Ideal) (up q) (up k) l0 l2 := by
    rw [← stacked W q k l0 l2 hs h4 h6]; after_reads_simp
  have c41 : upto hostOps0_2 W 41 (no_index (Proc.devRef .tc main_v123)) = val_main_v91 (F := Ideal) (up q) (up k) l0 l2 := by
    rw [← stacked W q k l0 l2 hs h4 h6]; after_reads_simp
  after_reads_simp [c35, c41]
  rfl

include h4 h6 h3 h5 hv in
/-- The merged output. -/
theorem merge_line : upto hostOps0_2 W 67 (Proc.devRef .tc main_v151)
    = val_main_v138 (F := Ideal) (up q) (up k) (up v) o0 l0 o2 l2 := by
  have c35 : upto hostOps0_2 W 35 (no_index (Proc.devRef .tc main_v123)) = val_main_v91 (F := Ideal) (up q) (up k) l0 l2 := by
    rw [← stacked W q k l0 l2 hs h4 h6]; after_reads_simp
  have c41 : upto hostOps0_2 W 41 (no_index (Proc.devRef .tc main_v123)) = val_main_v91 (F := Ideal) (up q) (up k) l0 l2 := by
    rw [← stacked W q k l0 l2 hs h4 h6]; after_reads_simp
  have co : upto hostOps0_2 W 23 (no_index (Proc.devRef .tc main_v109)) = val_main_v77 (F := Ideal) (up q) (up k) (up v) :=
    out_line W q k v hs hv
  after_reads_simp [c35, c41, co]
  rw [h3, h5]
  rfl

include h4 h6 h3 h5 h7 hv in
/-- The products of the incoming gradient with the merged output, summed. -/
theorem rsum_line : after hostOps0_2 W (Proc.devRef .tc main_v155)
    = Host.reduceAdd (F := Ideal) (mulf (F := Ideal) dy (val_main_v138 (F := Ideal) (up q) (up k) (up v) o0 l0 o2 l2)) (constant (F := Ideal) S_ .f32 0x00000000#32)
        reducesTo_S2x4096x8x64_S2x4096x8_d3 h_S_ := by
  have cm : upto hostOps0_2 W 67 (no_index (Proc.devRef .tc main_v151))
    = val_main_v138 (F := Ideal) (up q) (up k) (up v) o0 l0 o2 l2 := merge_line W q k v o0 o2 l0 l2 hs hv h4 h6 h3 h5
  after_reads_simp [cm]
  rw [h7]

end Second

end Cert.KernelIdeal.HostRead
end
-- ==== Proof.HostArr.lean ====
module

public import proofs.«01_k».proof.Proof.Host

/-! The arrays the gradient kernel reads, at their positions. -/

@[expose] public section

set_option maxRecDepth 16384

noncomputable section

namespace Cert.KernelIdeal.HostRead

open Idealize.ShloMosaic Idealize.ShloMosaic.TcCoe Idealize.SL.Sem Cert.KernelIdeal Cert.KernelIdeal.Gen
open Window Cert.ReferenceIdeal.Read Cert.ReferenceIdeal.Fwd
open StableHlo (after upto)

section Places

variable (z n : Fin 8) (i : Fin 128) (h : Fin 8) (d : Fin 64)

theorem row_div : (row z n i).val / 1024 = z.val := by simp only [row]; omega

theorem row_mod : (row z n i).val % 1024 = n.val * 128 + i.val := by simp only [row]; omega

theorem row_quot : (row z n i).val / 4096 = z.val / 4 := by
  have e : (row z n i).val / 4096 = (row z n i).val / 1024 / 4 := by omega
  rw [e, row_div]

/-- The place of a row in the array of sequences. -/
theorem row_place : (row z n i).val / 4096 * 4096 + (row z n i).val % 1024 * 4 + (row z n i).val / 1024 % 4
    = z.val / 4 * 4096 + (pos z n i).val := by
  rw [row_quot, row_div, row_mod]; simp only [pos]; omega

theorem row_bat (H : (row z n i).val / 4096 < 2) : (⟨(row z n i).val / 4096, H⟩ : Fin 2) = bat z :=
  Fin.ext (row_quot z n i)

theorem row_pos (H : (row z n i).val % 1024 * 4 + (row z n i).val / 1024 % 4 < 4096) :
    (⟨(row z n i).val % 1024 * 4 + (row z n i).val / 1024 % 4, H⟩ : Fin 4096) = pos z n i := by
  apply Fin.ext; show _ + _ = _; rw [row_div, row_mod]; rfl

theorem place_bat (H : ((row z n i).val / 4096 * 4096 + (row z n i).val % 1024 * 4 + (row z n i).val / 1024 % 4) / 4096 < 2) :
    (⟨((row z n i).val / 4096 * 4096 + (row z n i).val % 1024 * 4 + (row z n i).val / 1024 % 4) / 4096, H⟩ : Fin 2) = bat z := by
  apply Fin.ext; show _ / _ = z.val / 4; rw [row_place]; omega

theorem place_pos (H : ((row z n i).val / 4096 * 4096 + (row z n i).val % 1024 * 4 + (row z n i).val / 1024 % 4) % 4096 < 4096) :
    (⟨((row z n i).val / 4096 * 4096 + (row z n i).val % 1024 * 4 + (row z n i).val / 1024 % 4) % 4096, H⟩ : Fin 4096) = pos z n i := by
  apply Fin.ext; show _ % _ = (pos z n i).val; rw [row_place]; omega

/-- Marks laid out by residue and padded to a full row of lanes, at a head's lane: the mark at its position. -/
theorem lanes_at (x : FVec Ideal S2x4096x8 .f32) (e : FVec Ideal S_ .f32) :
    shapeCast S8192x128 (transpose S2x4x1024x128 [0, 2, 1, 3] (shapeCast S2x1024x4x128
      (pad S8192x128 ![0, 0] ![0, 120] ![0, 0] (shapeCast S8192x8 x shapeCasts_S2x4096x8_S8192x8) e pads_S8192x8_S8192x128_000_01200 h_S_)
      shapeCasts_S8192x128_S2x1024x4x128) transposes_S2x1024x4x128_S2x4x1024x128_0_2_1_3) shapeCasts_S2x4x1024x128_S8192x128
      (ix2 (row z n i) ⟨h.val, by omega⟩) = x (ix3 (bat z) (pos z n i) h) := by
  pointwise []
  rw [dif_pos (by rw [row_place]; omega)]
  simp only [place_bat, place_pos]

/-- Rows of all heads laid out by residue, at a lane of a head: the number at its position. -/
theorem wide_at (x : FVec Ideal S2x4096x8x64 .f32) :
    shapeCast S8192x512 (transpose S2x4x1024x512 [0, 2, 1, 3] (shapeCast S2x1024x4x512
      (shapeCast S8192x512 x shapeCasts_S2x4096x8x64_S8192x512)
      shapeCasts_S8192x512_S2x1024x4x512) transposes_S2x1024x4x512_S2x4x1024x512_0_2_1_3) shapeCasts_S2x4x1024x512_S8192x512
      (ix2 (row z n i) (lane h d)) = x (ix4 (bat z) (pos z n i) h d) := by
  pointwise []
  simp only [row_bat, row_pos, lane_head, lane_off]

/-- The same for rows times a gain. -/
theorem gained_at (x : FVec Ideal S2x4096x8x64 .f32) (g : FVec Ideal S_ .f32) :
    shapeCast S8192x512 (transpose S2x4x1024x512 [0, 2, 1, 3] (shapeCast S2x1024x4x512
      (truncf .bf16 (mulf (shapeCast S8192x512 (shapeCast S2x4096x512 x shapeCasts_S2x4096x8x64_S2x4096x512) shapeCasts_S2x4096x512_S8192x512)
        (broadcastInDim S8192x512 ![] bcast_S_S8192x512 g)) bitsLt_bf16_f32)
      shapeCasts_S8192x512_S2x1024x4x512) transposes_S2x1024x4x512_S2x4x1024x512_0_2_1_3) shapeCasts_S2x4x1024x512_S8192x512
      (ix2 (row z n i) (lane h d)) = (x (ix4 (bat z) (pos z n i) h d) * g ix0 : EReal) := by
  pointwise []
  simp only [place_bat, place_pos, lane_head, lane_off]

end Places

section Tail

variable (W : Valuation τ sig (Elt Ideal))

/-- The host lines after the merge. -/
abbrev tail : List (HloOp τ sig (Elt Ideal)) :=
  hostOps0_3 ++ (hostOps0_4 ++ (hostOps0_5 ++ (hostOps0_6 ++ (hostOps0_7 ++ hostOps0_8))))

/-- Marks laid out by residue, padded to a full row of lanes. -/
def lanes (x : FVec Ideal S8192x8 .f32) (e : FVec Ideal S_ .f32) : FVec Ideal S8192x128 .f32 :=
  shapeCast S8192x128 (transpose S2x4x1024x128 [0, 2, 1, 3] (shapeCast S2x1024x4x128
      (pad S8192x128 ![0, 0] ![0, 120] ![0, 0] x e pads_S8192x8_S8192x128_000_01200 h_S_)
      shapeCasts_S8192x128_S2x1024x4x128) transposes_S2x1024x4x128_S2x4x1024x128_0_2_1_3) shapeCasts_S2x4x1024x128_S8192x128

theorem tail160 : ∃ e, after tail W (Proc.devRef .tc main_v160) = lanes (W (Proc.devRef .tc main_v156)) e := by
  after_reads_simp
  simp -implicitDefEqProofs only [StableHlo.TRef.toBuf, StableHlo.TRef.ofBuf, cast_cast, cast_eq]
  exact ⟨_, rfl⟩

theorem tail165 : ∃ e, after tail W (Proc.devRef .tc main_v165)
    = lanes (shapeCast S8192x8 (W (Proc.devRef .tc main_v153)) shapeCasts_S2x4096x8_S8192x8) e := by
  after_reads_simp
  simp -implicitDefEqProofs only [StableHlo.TRef.toBuf, StableHlo.TRef.ofBuf, cast_cast, cast_eq]
  exact ⟨_, rfl⟩

theorem tail170 : ∃ e, after tail W (Proc.devRef .tc main_v170)
    = lanes (shapeCast S8192x8 (W (Proc.devRef .tc main_v155)) shapeCasts_S2x4096x8_S8192x8) e := by
  after_reads_simp
  simp -implicitDefEqProofs only [StableHlo.TRef.toBuf, StableHlo.TRef.ofBuf, cast_cast, cast_eq]
  exact ⟨_, rfl⟩

/-- The line that prepares the normalisers' rows. -/
theorem rows156 : after hostOps0_2 W (Proc.devRef .tc main_v156)
    = shapeCast S8192x8 (after hostOps0_2 W (Proc.devRef .tc main_v119)) shapeCasts_S2x4096x8_S8192x8 := by
  after_reads_simp
  rfl

theorem kept24 : after tail (after hostOps0_2 (after hostOps0_1 (after hostOps0 W))) (Proc.devRef .tc main_v24)
    = after hostOps0 W (Proc.devRef .tc main_v24) := by
  generalize after hostOps0 W = X
  after_reads_simp

theorem kept28 : after tail (after hostOps0_2 (after hostOps0_1 (after hostOps0 W))) (Proc.devRef .tc main_v28)
    = after hostOps0 W (Proc.devRef .tc main_v28) := by
  generalize after hostOps0 W = X
  after_reads_simp

end Tail

section Packed

variable (W : Valuation τ sig (Elt Ideal)) (x : Cert.ReferenceIdeal.S2x4096x8x64.Idx → ℝ)
variable (z n : Fin 8) (i : Fin 128) (h : Fin 8) (d : Fin 64)

/-- Rows of reals times a gain, laid out by residue. -/
theorem packed_at (g : FVec Ideal S_ .f32) (r : ℝ) (hg : g ix0 = (r : EReal)) (X : FVec Ideal S2x4096x8x64 .f32) (hX : X = up x) :
    shapeCast S8192x512 (transpose S2x4x1024x512 [0, 2, 1, 3] (shapeCast S2x1024x4x512
      (truncf .bf16 (mulf (shapeCast S8192x512 (shapeCast S2x4096x512 X shapeCasts_S2x4096x8x64_S2x4096x512) shapeCasts_S2x4096x512_S8192x512)
        (broadcastInDim S8192x512 ![] bcast_S_S8192x512 g)) bitsLt_bf16_f32)
      shapeCasts_S8192x512_S2x1024x4x512) transposes_S2x1024x4x512_S2x4x1024x512_0_2_1_3) shapeCasts_S2x4x1024x512_S8192x512
      (ix2 (row z n i) (lane h d)) = ((sub x z h n i d * r : ℝ) : EReal) := by
  refine (gained_at z n i h d X g).trans ?_
  rw [hg, hX]; exact (EReal.coe_mul _ _).symm

theorem v7_gain (hx : W (Proc.devRef .tc main_arg0) = up x) :
    upto hostOps0 W 27 (Proc.devRef .tc main_v7) (ix2 (row z n i) (lane h d)) = ((sub x z h n i d * (1 / 8) : ℝ) : EReal) := by
  after_reads_simp
  exact packed_at x z n i h d _ (1 / 8) eighth_bits _ hx

theorem v15_gain (hx : W (Proc.devRef .tc main_arg1) = up x) :
    upto hostOps0 W 27 (Proc.devRef .tc main_v15) (ix2 (row z n i) (lane h d)) = ((sub x z h n i d : ℝ) : EReal) := by
  after_reads_simp
  exact (packed_at x z n i h d _ 1 ((Ideal.ofBits_one_f32).trans EReal.coe_one.symm) _ hx).trans (by rw [mul_one])

theorem v23_gain (hx : W (Proc.devRef .tc main_arg2) = up x) :
    upto hostOps0 W 27 (Proc.devRef .tc main_v23) (ix2 (row z n i) (lane h d)) = ((sub x z h n i d : ℝ) : EReal) := by
  after_reads_simp
  exact (packed_at x z n i h d _ 1 ((Ideal.ofBits_one_f32).trans EReal.coe_one.symm) _ hx).trans (by rw [mul_one])

/-- The packed array: queries, keys, values. -/
theorem packed : after hostOps0 W (Proc.devRef .tc main_v24) = concatenate S8192x1536 1
    [⟨S8192x512, (upto hostOps0 W 27 (Proc.devRef .tc main_v7) : S8192x512.Idx → EReal)⟩,
     ⟨S8192x512, (upto hostOps0 W 27 (Proc.devRef .tc main_v15) : S8192x512.Idx → EReal)⟩,
     ⟨S8192x512, (upto hostOps0 W 27 (Proc.devRef .tc main_v23) : S8192x512.Idx → EReal)⟩]
    concatenates_S8192x512_S8192x512_S8192x512_S8192x1536_d1 := by
  after_reads_simp
  rfl

theorem v28_line (hx : W (Proc.devRef .tc main_arg7) = up x) :
    after hostOps0 W (Proc.devRef .tc main_v28) (ix2 (row z n i) (lane h d)) = ((sub x z h n i d : ℝ) : EReal) := by
  after_reads_simp
  refine (wide_at z n i h d _).trans ?_
  rw [hx]; rfl

/-- Three arrays side by side. -/
theorem beside_at (A B C : FVec Ideal S8192x512 .bf16) (r : Fin 8192) (l : Fin 512) :
    let X : FVec Ideal S8192x1536 .bf16 := concatenate S8192x1536 1 [⟨S8192x512, A⟩, ⟨S8192x512, B⟩, ⟨S8192x512, C⟩]
      concatenates_S8192x512_S8192x512_S8192x512_S8192x1536_d1
    X (ix2 r ⟨l.val, by omega⟩) = A (ix2 r l) ∧ X (ix2 r ⟨512 + l.val, by omega⟩) = B (ix2 r l)
      ∧ X (ix2 r ⟨1024 + l.val, by omega⟩) = C (ix2 r l) := by
  refine ⟨?_, ?_, ?_⟩ <;> pointwise []
  rw [dif_neg (by omega), dif_neg (by omega)]
  exact congrArg C (congrArg (ix2 r) (Fin.ext (by show 1024 + l.val - 512 - 512 = l.val; omega)))

end Packed

section Entry

variable (m : (ℓ : Loc nD τ sig) → Buf (Elt Ideal) ℓ) (c : Dev nD)

/-- The buffers the kernel finds, in stages. -/
theorem V_stages (b : Ref sig .tc) : V m c b
    = after tail (after hostOps0_2 (after hostOps0_1 (after hostOps0 (fun b => m (c, b))))) b := by
  show after _ _ _ = _
  simp only [List.flatten_cons, List.flatten_nil, List.append_nil, StableHlo.after_append]

variable (q k v o0 o2 dy : Cert.ReferenceIdeal.S2x4096x8x64.Idx → ℝ) (l0 l2 : Cert.ReferenceIdeal.S2x4096x8.Idx → ℝ)

/-- The arguments are arrays of reals. -/
structure Args : Prop where
  hq : m (c, Proc.devRef .tc main_arg0) = up q
  hk : m (c, Proc.devRef .tc main_arg1) = up k
  hv : m (c, Proc.devRef .tc main_arg2) = up v
  ho0 : m (c, Proc.devRef .tc main_arg3) = up o0
  hl0 : m (c, Proc.devRef .tc main_arg4) = up l0
  ho2 : m (c, Proc.devRef .tc main_arg5) = up o2
  hl2 : m (c, Proc.devRef .tc main_arg6) = up l2
  hdy : m (c, Proc.devRef .tc main_arg7) = up dy

variable {m c q k v o0 o2 dy l0 l2}
variable (A : Args m c q k v o0 o2 dy l0 l2) (z n : Fin 8) (i : Fin 128) (h : Fin 8) (d : Fin 64)

include A

theorem at_scores : after hostOps0_1 (after hostOps0 (fun b => m (c, b))) (Proc.devRef .tc main_v92)
    = val_main_v58_0 (F := Ideal) (up q) (up k) :=
  masked _ q k (scores _ q k A.hq A.hk) (marks _) (by after_reads_simp)

theorem at_values : after hostOps0_1 (after hostOps0 (fun b => m (c, b))) (Proc.devRef .tc main_v50)
    = val_main_v23 (F := Ideal) (up v) := by
  rw [← values (fun b => m (c, b)) _ A.hv]
  generalize after hostOps0 (fun b => m (c, b)) = X
  after_reads_simp

theorem at_l0 : after hostOps0_1 (after hostOps0 (fun b => m (c, b))) (Proc.devRef .tc main_arg4) = up l0 := by
  rw [← A.hl0]; after_reads_simp

theorem at_l2 : after hostOps0_1 (after hostOps0 (fun b => m (c, b))) (Proc.devRef .tc main_arg6) = up l2 := by
  rw [← A.hl2]; after_reads_simp

theorem at_o0 : after hostOps0_1 (after hostOps0 (fun b => m (c, b))) (Proc.devRef .tc main_arg3) = up o0 := by
  rw [← A.ho0]; after_reads_simp

theorem at_o2 : after hostOps0_1 (after hostOps0 (fun b => m (c, b))) (Proc.devRef .tc main_arg5) = up o2 := by
  rw [← A.ho2]; after_reads_simp

theorem at_dy : after hostOps0_1 (after hostOps0 (fun b => m (c, b))) (Proc.devRef .tc main_arg7) = up dy := by
  rw [← A.hdy]; after_reads_simp

/-- The packed array's query columns. -/
theorem nq_q : V m c main_v24 (ix2 (row z n i) ⟨(lane h d).val, by omega⟩) = ((sub q z h n i d * (1 / 8) : ℝ) : EReal) := by
  rw [V_stages, kept24, packed]
  exact (beside_at _ _ _ _ _).1.trans (v7_gain _ q z n i h d A.hq)

/-- The packed array's key columns. -/
theorem nq_k : V m c main_v24 (ix2 (row z n i) ⟨512 + (lane h d).val, by omega⟩) = ((sub k z h n i d : ℝ) : EReal) := by
  rw [V_stages, kept24, packed]
  exact (beside_at _ _ _ _ _).2.1.trans (v15_gain _ k z n i h d A.hk)

/-- The packed array's value columns. -/
theorem nq_v : V m c main_v24 (ix2 (row z n i) ⟨1024 + (lane h d).val, by omega⟩) = ((sub v z h n i d : ℝ) : EReal) := by
  rw [V_stages, kept24, packed]
  exact (beside_at _ _ _ _ _).2.2.trans (v23_gain _ v z n i h d A.hv)

/-- The incoming gradient. -/
theorem do_at : V m c main_v28 (ix2 (row z n i) (lane h d)) = ((sub dy z h n i d : ℝ) : EReal) := by
  rw [V_stages, kept28]
  exact v28_line _ dy z n i h d A.hdy

/-- The normalisers. -/
theorem lse_at : V m c main_v160 (ix2 (row z n i) ⟨h.val, by omega⟩)
    = ((Real.log (den (sub q z h) (sub k z h) n i) : ℝ) : EReal) := by
  obtain ⟨e, he⟩ := tail160 (after hostOps0_2 (after hostOps0_1 (after hostOps0 (fun b => m (c, b)))))
  rw [V_stages, he, rows156, lse_line _ q k (at_scores A)]
  exact (lanes_at z n i h _ e).trans (v87_at q k z n i h)

/-- The weights of this group. -/
theorem wts_at : V m c main_v165 (ix2 (row z n i) ⟨h.val, by omega⟩)
    = ((weight (sub q z h) (sub k z h) (subM l0 z h) (subM l2 z h) n i : ℝ) : EReal) := by
  obtain ⟨e, he⟩ := tail165 (after hostOps0_2 (after hostOps0_1 (after hostOps0 (fun b => m (c, b)))))
  rw [V_stages, he, weight_line _ q k _ _ (at_scores A) (at_l0 A) (at_l2 A)]
  exact (lanes_at z n i h _ e).trans (v128_at q k l0 l2 z n i h)

omit A in
/-- The products of the incoming gradient with the merged output, summed over a head's lanes. -/
theorem sum_at : (Host.reduceAdd (F := Ideal) (mulf (F := Ideal) (φ := .f32) (up dy)
      (val_main_v138 (F := Ideal) (up q) (up k) (up v) (up o0) (up l0) (up o2) (up l2))) (constant (F := Ideal) S_ .f32 0x00000000#32)
        reducesTo_S2x4096x8x64_S2x4096x8_d3 h_S_ : S2x4096x8.Idx → EReal) (ix3 (bat z) (pos z n i) h)
    = ((rowSum (sub q z h) (sub k z h) (sub v z h) (sub o0 z h) (sub o2 z h) (sub dy z h) (subM l0 z h) (subM l2 z h) n i : ℝ) : EReal) := by
  pointwise [v138_at]
  simp only [← EReal.coe_mul, sum_up]
  rfl

/-- The row sums. -/
theorem rsum_at : V m c main_v170 (ix2 (row z n i) ⟨h.val, by omega⟩)
    = ((rowSum (sub q z h) (sub k z h) (sub v z h) (sub o0 z h) (sub o2 z h) (sub dy z h) (subM l0 z h) (subM l2 z h) n i : ℝ) : EReal) := by
  obtain ⟨e, he⟩ := tail170 (after hostOps0_2 (after hostOps0_1 (after hostOps0 (fun b => m (c, b)))))
  rw [V_stages, he, rsum_line _ q k v _ _ _ _ _ (at_scores A) (at_values A) (at_l0 A) (at_l2 A) (at_o0 A) (at_o2 A) (at_dy A)]
  exact (lanes_at z n i h _ e).trans (sum_at z n i h)

end Entry

end Cert.KernelIdeal.HostRead
end
-- ==== Proof.Tiles.lean ====
module

public import proofs.«01_k».proof.Proof.Gen.KernelIdeal.Frame
public import Idealize.ShloMosaic.Lib.Pipeline.ValueKit
public import Idealize.ShloMosaic.Lib.Pointwise

/-! The body of the gradient kernel as a function of the vectors it loads: one pair of heads at a time, the three
    128-column tiles it stores for a pair (the gradients of q, k and v), and the fact that the twelve stored tiles are
    these functions of the loads. -/

@[expose] public section

set_option maxRecDepth 16384

noncomputable section

namespace Cert.KernelIdeal.Tiles

open Idealize.ShloMosaic Idealize.ShloMosaic.TcCoe Idealize.SL.Sem Cert.KernelIdeal Cert.KernelIdeal.Gen

/-- The lanes of a pair's second head. -/
def hiLanes : IVec S1x128 1 := cmpi .sge (iota .tc S1x128 32 [1] iota_S1x128_d1_w32) (broadcast S1x128 64#32)

/-- The lanes of a pair's first head. -/
def loLanes : IVec S1x128 1 := xori hiLanes (constantI S1x128 1 1#1)

/-- A row of lane flags, repeated over the rows of a slab. -/
def spread (keep : IVec S1x128 1) : IVec S128x128 1 :=
  broadcastTo S128x128 (shapeCast S1x128 keep shapeCasts_S1x128_S1x128) broadcasts_S1x128_S128x128

/-- A slab with the lanes of the other head set to zero. -/
def only (keep : IVec S1x128 1) (x : FVec Ideal S128x128 .bf16) : FVec Ideal S128x128 .bf16 :=
  select (spread keep) x (broadcast S128x128 (Scalar.ofBits .bf16 0x0000#16))

/-- A loaded slab. -/
abbrev slab (x : Vec Ideal S128x128 .bf16) : FVec Ideal S128x128 .bf16 :=
  shapeCast S128x128 x shapeCasts_S128x128_S128x128

/-- A loaded slab at single precision. -/
abbrev slabF (x : Vec Ideal S128x128 .f32) : FVec Ideal S128x128 .f32 :=
  shapeCast S128x128 x shapeCasts_S128x128_S128x128

/-- A loaded column. -/
abbrev col (x : Vec Ideal S128x1 .f32) : FVec Ideal S128x1 .f32 := shapeCast S128x1 x shapeCasts_S128x1_S128x1

/-- Two slabs, one above the other. -/
def over (a b : FVec Ideal S128x128 .bf16) : FVec Ideal S256x128 .bf16 :=
  concatenate S256x128 0 [⟨S128x128, a⟩, ⟨S128x128, b⟩] concatenates_S128x128_S128x128_S256x128_d0

/-- The incoming gradient of a slab, each head's lanes scaled by that head's weight. -/
def weighted (g : Vec Ideal S128x128 .f32) (wo we : Vec Ideal S128x1 .f32) : FVec Ideal S128x128 .f32 :=
  mulf (slabF g) (select (spread hiLanes) (broadcastTo S128x128 (col (col wo)) broadcasts_S128x1_S128x128)
    (broadcastTo S128x128 (col (col we)) broadcasts_S128x1_S128x128))

/-- The weighted gradients of the current block and of the next one. -/
def weighted2 (gc gx : Vec Ideal S128x128 .f32) (wo we wxo wxe : Vec Ideal S128x1 .f32) : FVec Ideal S256x128 .bf16 :=
  truncf .bf16 (concatenate S256x128 0 [⟨S128x128, weighted gc wo we⟩, ⟨S128x128, weighted gx wxo wxe⟩]
    concatenates_S128x128_S128x128_S256x128_d0) bitsLt_bf16_f32

/-- Rows of one slab against rows of a double slab, over one head's lanes. -/
def against (keep : IVec S1x128 1) (a : FVec Ideal S128x128 .bf16) (b : FVec Ideal S256x128 .bf16) : FVec Ideal S128x256 .f32 :=
  matmul dot_S128x128_S256x128_S128x256_1_1_0_0_n_n none (only keep a) b (constant S128x256 .f32 0x00000000#32)

/-- Weights by queries: the exponentials of the masked scores less the row's normaliser. -/
def pQ (mask : IVec S128x256 1) (keep : IVec S1x128 1) (q : FVec Ideal S128x128 .bf16) (kk : FVec Ideal S256x128 .bf16)
    (l : Vec Ideal S128x1 .f32) : FVec Ideal S128x256 .f32 :=
  exp (select mask (subf (against keep q kk) (broadcastTo S128x256 (col l) broadcasts_S128x1_S128x256))
    (broadcast S128x256 (Named.named (F := Ideal) κ "mask" 0xF149F2CA#32)))

/-- The gradient of the scores by queries. -/
def dsQ (p : FVec Ideal S128x256 .f32) (keep : IVec S1x128 1) (g : FVec Ideal S256x128 .bf16) (vv : FVec Ideal S256x128 .bf16)
    (w r : Vec Ideal S128x1 .f32) : FVec Ideal S128x256 .f32 :=
  mulf p (addf (against keep (extractStridedSlice S128x128 ![0, 0] g slices_S256x128_o0_0_S128x128) vv)
    (broadcastTo S128x256 (mulf (subf (broadcast S128x1 (Scalar.ofBits (F := Ideal) .f32 0x00000000#32)) (col w)) (col r)) broadcasts_S128x1_S128x256))

/-- Weights by keys. -/
def pK (mask : IVec S128x256 1) (keep : IVec S1x128 1) (k : FVec Ideal S128x128 .bf16) (qq : FVec Ideal S256x128 .bf16)
    (l : FVec Ideal S1x256 .f32) : FVec Ideal S128x256 .f32 :=
  exp (select mask (subf (against keep k qq) (broadcastTo S128x256 l broadcasts_S1x256_S128x256))
    (broadcast S128x256 (Named.named (F := Ideal) κ "mask" 0xF149F2CA#32)))

/-- The gradient of the scores by keys. -/
def dsK (p : FVec Ideal S128x256 .f32) (keep : IVec S1x128 1) (v : FVec Ideal S128x128 .bf16) (g : FVec Ideal S256x128 .bf16)
    (r : FVec Ideal S1x256 .f32) : FVec Ideal S128x256 .f32 :=
  mulf p (addf (against keep v g) (broadcastTo S128x256 r broadcasts_S1x256_S128x256))

/-- A product with a double slab. -/
def prod (a : FVec Ideal S128x256 .f32) (b : FVec Ideal S256x128 .bf16) : FVec Ideal S128x128 .f32 :=
  matmul dot_S128x256_S256x128_S128x128_1_0_0_1_n_n none (truncf .bf16 a bitsLt_bf16_f32) b (constant S128x128 .f32 0x00000000#32)

/-- Each head's lanes from its own product. -/
def pick (odd even : FVec Ideal S128x128 .f32) : FVec Ideal S128x128 .f32 := select (spread hiLanes) odd even

/-- The stored tile of the gradient of the queries. -/
def tileQ (mask : IVec S128x256 1) (q k v kp vp : Vec Ideal S128x128 .bf16) (gc gx : Vec Ideal S128x128 .f32)
    (wo we wxo wxe lo le ro re : Vec Ideal S128x1 .f32) : FVec Ideal S128x128 .f32 :=
  pick (prod (dsQ (pQ mask hiLanes (slab q) (over (slab kp) (slab k)) lo) hiLanes (weighted2 gc gx wo we wxo wxe) (over (slab vp) (slab v)) wo ro) (over (slab kp) (slab k)))
    (prod (dsQ (pQ mask loLanes (slab q) (over (slab kp) (slab k)) le) loLanes (weighted2 gc gx wo we wxo wxe) (over (slab vp) (slab v)) we re) (over (slab kp) (slab k)))

/-- The stored tile of the gradient of the keys. -/
def tileK (mask : IVec S128x256 1) (q k v qn : Vec Ideal S128x128 .bf16) (gc gx : Vec Ideal S128x128 .f32)
    (wo we wxo wxe : Vec Ideal S128x1 .f32) (lo le ro re : FVec Ideal S1x256 .f32) : FVec Ideal S128x128 .f32 :=
  pick (prod (dsK (pK mask hiLanes (slab k) (over (slab q) (slab qn)) lo) hiLanes (slab v) (weighted2 gc gx wo we wxo wxe) ro) (over (slab q) (slab qn)))
    (prod (dsK (pK mask loLanes (slab k) (over (slab q) (slab qn)) le) loLanes (slab v) (weighted2 gc gx wo we wxo wxe) re) (over (slab q) (slab qn)))

/-- The stored tile of the gradient of the values. -/
def tileV (mask : IVec S128x256 1) (q k qn : Vec Ideal S128x128 .bf16) (gc gx : Vec Ideal S128x128 .f32)
    (wo we wxo wxe : Vec Ideal S128x1 .f32) (lo le : FVec Ideal S1x256 .f32) : FVec Ideal S128x128 .f32 :=
  pick (prod (pK mask hiLanes (slab k) (over (slab q) (slab qn)) lo) (weighted2 gc gx wo we wxo wxe))
    (prod (pK mask loLanes (slab k) (over (slab q) (slab qn)) le) (weighted2 gc gx wo we wxo wxe))

/-- The normalisers of the current block and of the next one, heads by rows. -/
def lseT (x5 x6 : Vec Ideal S128x128 .f32) : FVec Ideal S128x256 .f32 :=
  concatenate S128x256 1 [⟨S128x128, transpose S128x128 [1, 0] (slabF x5) transposes_S128x128_p1_0_S128x128⟩,
    ⟨S128x128, transpose S128x128 [1, 0] (slabF x6) transposes_S128x128_p1_0_S128x128⟩] concatenates_S128x128_S128x128_S128x256_d1

/-- Less the weight times the row sum. -/
def negProd (w r : Vec Ideal S128x128 .f32) : FVec Ideal S128x128 .f32 :=
  mulf (subf (broadcast S128x128 (Scalar.ofBits (F := Ideal) .f32 0x00000000#32)) (slabF w)) (slabF r)

/-- Less the weight times the row sum, heads by rows. -/
def dlT (x7 x8 x9 x10 : Vec Ideal S128x128 .f32) : FVec Ideal S128x256 .f32 :=
  concatenate S128x256 1 [⟨S128x128, transpose S128x128 [1, 0] (negProd x7 x9) transposes_S128x128_p1_0_S128x128⟩,
    ⟨S128x128, transpose S128x128 [1, 0] (negProd x8 x10) transposes_S128x128_p1_0_S128x128⟩] concatenates_S128x128_S128x128_S128x256_d1

set_option maxHeartbeats 4000000 in
/-- The block the body stores is the twelve tiles. -/
theorem out_tiles (i : grid0.Coords) (x0 x1 x2 : Vec Ideal S128x1536 .bf16) (x3 x4 : Vec Ideal S128x512 .f32)
    (x5 x6 x7 x8 x9 x10 : Vec Ideal S128x128 .f32) :
    out0_11 (F := Ideal) i x0 x1 x2 x3 x4 x5 x6 x7 x8 x9 x10 = View.canon [
      ⟨r0_21, tileV (k0_pay3 i) (View.ld x1 r0_19) (View.ld x1 r0_20) (View.ld x2 r0_19) (View.ld x3 r0_22) (View.ld x4 r0_22)
        (View.ld x7 r0_23) (View.ld x7 r0_24) (View.ld x8 r0_23) (View.ld x8 r0_24)
        (extractStridedSlice S1x256 ![7, 0] (lseT (View.ld x5 r0_0) (View.ld x6 r0_0)) slices_S128x256_o7_0_S1x256)
        (extractStridedSlice S1x256 ![6, 0] (lseT (View.ld x5 r0_0) (View.ld x6 r0_0)) slices_S128x256_o6_0_S1x256)⟩,
      ⟨r0_20, tileK (k0_pay3 i) (View.ld x1 r0_19) (View.ld x1 r0_20) (View.ld x1 r0_21) (View.ld x2 r0_19) (View.ld x3 r0_22) (View.ld x4 r0_22)
        (View.ld x7 r0_23) (View.ld x7 r0_24) (View.ld x8 r0_23) (View.ld x8 r0_24)
        (extractStridedSlice S1x256 ![7, 0] (lseT (View.ld x5 r0_0) (View.ld x6 r0_0)) slices_S128x256_o7_0_S1x256)
        (extractStridedSlice S1x256 ![6, 0] (lseT (View.ld x5 r0_0) (View.ld x6 r0_0)) slices_S128x256_o6_0_S1x256)
        (extractStridedSlice S1x256 ![7, 0] (dlT (View.ld x7 r0_0) (View.ld x8 r0_0) (View.ld x9 r0_0) (View.ld x10 r0_0)) slices_S128x256_o7_0_S1x256)
        (extractStridedSlice S1x256 ![6, 0] (dlT (View.ld x7 r0_0) (View.ld x8 r0_0) (View.ld x9 r0_0) (View.ld x10 r0_0)) slices_S128x256_o6_0_S1x256)⟩,
      ⟨r0_19, tileQ (k0_pay2 i) (View.ld x1 r0_19) (View.ld x1 r0_20) (View.ld x1 r0_21) (View.ld x0 r0_20) (View.ld x0 r0_21) (View.ld x3 r0_22) (View.ld x4 r0_22)
        (View.ld x7 r0_23) (View.ld x7 r0_24) (View.ld x8 r0_23) (View.ld x8 r0_24) (View.ld x5 r0_23) (View.ld x5 r0_24) (View.ld x9 r0_23) (View.ld x9 r0_24)⟩,
      ⟨r0_15, tileV (k0_pay3 i) (View.ld x1 r0_13) (View.ld x1 r0_14) (View.ld x2 r0_13) (View.ld x3 r0_16) (View.ld x4 r0_16)
        (View.ld x7 r0_17) (View.ld x7 r0_18) (View.ld x8 r0_17) (View.ld x8 r0_18)
        (extractStridedSlice S1x256 ![5, 0] (lseT (View.ld x5 r0_0) (View.ld x6 r0_0)) slices_S128x256_o5_0_S1x256)
        (extractStridedSlice S1x256 ![4, 0] (lseT (View.ld x5 r0_0) (View.ld x6 r0_0)) slices_S128x256_o4_0_S1x256)⟩,
      ⟨r0_14, tileK (k0_pay3 i) (View.ld x1 r0_13) (View.ld x1 r0_14) (View.ld x1 r0_15) (View.ld x2 r0_13) (View.ld x3 r0_16) (View.ld x4 r0_16)
        (View.ld x7 r0_17) (View.ld x7 r0_18) (View.ld x8 r0_17) (View.ld x8 r0_18)
        (extractStridedSlice S1x256 ![5, 0] (lseT (View.ld x5 r0_0) (View.ld x6 r0_0)) slices_S128x256_o5_0_S1x256)
        (extractStridedSlice S1x256 ![4, 0] (lseT (View.ld x5 r0_0) (View.ld x6 r0_0)) slices_S128x256_o4_0_S1x256)
        (extractStridedSlice S1x256 ![5, 0] (dlT (View.ld x7 r0_0) (View.ld x8 r0_0) (View.ld x9 r0_0) (View.ld x10 r0_0)) slices_S128x256_o5_0_S1x256)
        (extractStridedSlice S1x256 ![4, 0] (dlT (View.ld x7 r0_0) (View.ld x8 r0_0) (View.ld x9 r0_0) (View.ld x10 r0_0)) slices_S128x256_o4_0_S1x256)⟩,
      ⟨r0_13, tileQ (k0_pay2 i) (View.ld x1 r0_13) (View.ld x1 r0_14) (View.ld x1 r0_15) (View.ld x0 r0_14) (View.ld x0 r0_15) (View.ld x3 r0_16) (View.ld x4 r0_16)
        (View.ld x7 r0_17) (View.ld x7 r0_18) (View.ld x8 r0_17) (View.ld x8 r0_18) (View.ld x5 r0_17) (View.ld x5 r0_18) (View.ld x9 r0_17) (View.ld x9 r0_18)⟩,
      ⟨r0_9, tileV (k0_pay3 i) (View.ld x1 r0_7) (View.ld x1 r0_8) (View.ld x2 r0_7) (View.ld x3 r0_10) (View.ld x4 r0_10)
        (View.ld x7 r0_11) (View.ld x7 r0_12) (View.ld x8 r0_11) (View.ld x8 r0_12)
        (extractStridedSlice S1x256 ![3, 0] (lseT (View.ld x5 r0_0) (View.ld x6 r0_0)) slices_S128x256_o3_0_S1x256)
        (extractStridedSlice S1x256 ![2, 0] (lseT (View.ld x5 r0_0) (View.ld x6 r0_0)) slices_S128x256_o2_0_S1x256)⟩,
      ⟨r0_8, tileK (k0_pay3 i) (View.ld x1 r0_7) (View.ld x1 r0_8) (View.ld x1 r0_9) (View.ld x2 r0_7) (View.ld x3 r0_10) (View.ld x4 r0_10)
        (View.ld x7 r0_11) (View.ld x7 r0_12) (View.ld x8 r0_11) (View.ld x8 r0_12)
        (extractStridedSlice S1x256 ![3, 0] (lseT (View.ld x5 r0_0) (View.ld x6 r0_0)) slices_S128x256_o3_0_S1x256)
        (extractStridedSlice S1x256 ![2, 0] (lseT (View.ld x5 r0_0) (View.ld x6 r0_0)) slices_S128x256_o2_0_S1x256)
        (extractStridedSlice S1x256 ![3, 0] (dlT (View.ld x7 r0_0) (View.ld x8 r0_0) (View.ld x9 r0_0) (View.ld x10 r0_0)) slices_S128x256_o3_0_S1x256)
        (extractStridedSlice S1x256 ![2, 0] (dlT (View.ld x7 r0_0) (View.ld x8 r0_0) (View.ld x9 r0_0) (View.ld x10 r0_0)) slices_S128x256_o2_0_S1x256)⟩,
      ⟨r0_7, tileQ (k0_pay2 i) (View.ld x1 r0_7) (View.ld x1 r0_8) (View.ld x1 r0_9) (View.ld x0 r0_8) (View.ld x0 r0_9) (View.ld x3 r0_10) (View.ld x4 r0_10)
        (View.ld x7 r0_11) (View.ld x7 r0_12) (View.ld x8 r0_11) (View.ld x8 r0_12) (View.ld x5 r0_11) (View.ld x5 r0_12) (View.ld x9 r0_11) (View.ld x9 r0_12)⟩,
      ⟨r0_3, tileV (k0_pay3 i) (View.ld x1 r0_1) (View.ld x1 r0_2) (View.ld x2 r0_1) (View.ld x3 r0_4) (View.ld x4 r0_4)
        (View.ld x7 r0_5) (View.ld x7 r0_6) (View.ld x8 r0_5) (View.ld x8 r0_6)
        (extractStridedSlice S1x256 ![1, 0] (lseT (View.ld x5 r0_0) (View.ld x6 r0_0)) slices_S128x256_o1_0_S1x256)
        (extractStridedSlice S1x256 ![0, 0] (lseT (View.ld x5 r0_0) (View.ld x6 r0_0)) slices_S128x256_o0_0_S1x256)⟩,
      ⟨r0_2, tileK (k0_pay3 i) (View.ld x1 r0_1) (View.ld x1 r0_2) (View.ld x1 r0_3) (View.ld x2 r0_1) (View.ld x3 r0_4) (View.ld x4 r0_4)
        (View.ld x7 r0_5) (View.ld x7 r0_6) (View.ld x8 r0_5) (View.ld x8 r0_6)
        (extractStridedSlice S1x256 ![1, 0] (lseT (View.ld x5 r0_0) (View.ld x6 r0_0)) slices_S128x256_o1_0_S1x256)
        (extractStridedSlice S1x256 ![0, 0] (lseT (View.ld x5 r0_0) (View.ld x6 r0_0)) slices_S128x256_o0_0_S1x256)
        (extractStridedSlice S1x256 ![1, 0] (dlT (View.ld x7 r0_0) (View.ld x8 r0_0) (View.ld x9 r0_0) (View.ld x10 r0_0)) slices_S128x256_o1_0_S1x256)
        (extractStridedSlice S1x256 ![0, 0] (dlT (View.ld x7 r0_0) (View.ld x8 r0_0) (View.ld x9 r0_0) (View.ld x10 r0_0)) slices_S128x256_o0_0_S1x256)⟩,
      ⟨r0_1, tileQ (k0_pay2 i) (View.ld x1 r0_1) (View.ld x1 r0_2) (View.ld x1 r0_3) (View.ld x0 r0_2) (View.ld x0 r0_3) (View.ld x3 r0_4) (View.ld x4 r0_4)
        (View.ld x7 r0_5) (View.ld x7 r0_6) (View.ld x8 r0_5) (View.ld x8 r0_6) (View.ld x5 r0_5) (View.ld x5 r0_6) (View.ld x9 r0_5) (View.ld x9 r0_6)⟩] := by
  rfl

end Cert.KernelIdeal.Tiles

end
-- ==== Proof.Body.lean ====
module

public import proofs.«01_k».proof.Proof.Tiles
public import proofs.«01_k».proof.Proof.Mask

/-! The pieces of the body, read at a position, over slabs of reals. -/

@[expose] public section

set_option maxRecDepth 16384

noncomputable section

namespace Cert.KernelIdeal.Tiles

open Idealize.ShloMosaic Idealize.ShloMosaic.TcCoe Idealize.SL.Sem Cert.KernelIdeal Cert.KernelIdeal.Gen Window

/-- The head of a lane within its pair. -/
def half (c : Fin 128) : Fin 2 := ⟨c.val / 64, by omega⟩

/-- The lane within the head. -/
def off (c : Fin 128) : Fin 64 := ⟨c.val % 64, by omega⟩

/-- Rows of a pair of heads. -/
abbrev Pair (r : Nat) := Fin r → Fin 2 → Fin 64 → ℝ

/-- The flags choose one head's lanes. -/
def Keeps (keep : IVec S1x128 1) (b : Fin 2) : Prop :=
  ∀ (i : Fin 128) (c : Fin 128), spread keep (ix2 i c) = if half c = b then 1#1 else 0#1

/-- The slab holds these rows. -/
def Holds (a : FVec Ideal S128x128 .bf16) (A : Pair 128) : Prop := ∀ i c, a (ix2 i c) = ((A i (half c) (off c) : ℝ) : EReal)

/-- The double slab holds these rows. -/
def Holds2 (a : FVec Ideal S256x128 .bf16) (A : Pair 256) : Prop := ∀ i c, a (ix2 i c) = ((A i (half c) (off c) : ℝ) : EReal)

/-- Two pieces one above the other. -/
def stack (A B : Pair 128) : Pair 256 := fun j b d => if h : j.val < 128 then A ⟨j.val, h⟩ b d else B ⟨j.val - 128, by omega⟩ b d

theorem sge_64 (c : Fin 128) : IntOp.cmpi CmpIPredicate.sge (BitVec.ofNat 32 c.val) 64#32 = if half c = 1 then 1#1 else 0#1 := by
  have z1 : (64#32).toInt = 64 := by decide
  simp only [IntOp.cmpi, BitVec.sle, small_toInt c.val (by omega), z1]
  have e : half c = 1 ↔ (64 : Int) ≤ c.val := by
    rw [Fin.ext_iff]; show c.val / 64 = 1 ↔ _; omega
  by_cases a : (64 : Int) ≤ c.val
  · rw [if_pos (e.2 a), decide_eq_true a]; rfl
  · rw [if_neg (fun x => a (e.1 x)), decide_eq_false a]; rfl

theorem hi_keeps : Keeps hiLanes 1 := by
  intro i c
  pointwise [spread, hiLanes]
  exact sge_64 c

theorem lo_keeps : Keeps loLanes 0 := by
  intro i c
  pointwise [spread, loLanes, hiLanes]
  rw [sge_64]
  have e : half c = 0 ↔ ¬ half c = 1 := by
    rw [Fin.ext_iff, Fin.ext_iff]; show c.val / 64 = 0 ↔ ¬ c.val / 64 = 1; omega
  by_cases a : half c = 1
  · rw [if_pos a, if_neg (fun x => e.1 x a)]; rfl
  · rw [if_neg a, if_pos (e.2 a)]; rfl

theorem sum_lanes (f : Fin 2 → Fin 64 → ℝ) (b : Fin 2) :
    ∑ c : Fin 128, (if half c = b then f (half c) (off c) else 0) = ∑ d, f b d := by
  have key (g : Fin 128 → ℝ) : ∑ c, g c = (∑ d : Fin 64, g ⟨d.val, by omega⟩) + ∑ d : Fin 64, g ⟨64 + d.val, by omega⟩ :=
    Fin.sum_univ_add (a := 64) (b := 64) g
  have h0 (d : Fin 64) : half ⟨d.val, by omega⟩ = 0 := by
    apply Fin.ext; show d.val / 64 = 0; omega
  have h1 (d : Fin 64) : half ⟨64 + d.val, by omega⟩ = 1 := by
    apply Fin.ext; show (64 + d.val) / 64 = 1; omega
  have o0 (d : Fin 64) : off ⟨d.val, by omega⟩ = d := by
    apply Fin.ext; show d.val % 64 = d.val; omega
  have o1 (d : Fin 64) : off ⟨64 + d.val, by omega⟩ = d := by
    apply Fin.ext; show (64 + d.val) % 64 = d.val; omega
  rw [key]
  simp only [h0, h1, o0, o1]
  fin_cases b
  · simp
  · simp

theorem over_holds (a b : FVec Ideal S128x128 .bf16) (A B : Pair 128) (ha : Holds a A) (hb : Holds b B) :
    Holds2 (over a b) (stack A B) := by
  intro j c
  pointwise [over, ha _ _, hb _ _]
  unfold stack
  split
  · rfl
  · rfl

theorem against_at (keep : IVec S1x128 1) (b : Fin 2) (hk : Keeps keep b) (x : FVec Ideal S128x128 .bf16)
    (y : FVec Ideal S256x128 .bf16) (X : Pair 128) (Y : Pair 256) (hx : Holds x X) (hy : Holds2 y Y) (i : Fin 128) (j : Fin 256) :
    against keep x y (ix2 i j) = ((∑ d, X i b d * Y j b d : ℝ) : EReal) := by
  pointwise [against, only, hk _ _, hx _ _, hy _ _]
  rw [← sum_lanes (fun b d => X i b d * Y j b d), ← sum_up]
  refine Finset.sum_congr rfl fun c _ => ?_
  by_cases a : half c = b
  · rw [if_pos a, if_pos a, ← EReal.coe_mul]; rfl
  · rw [if_neg a, if_neg a, EReal.coe_zero]; rfl

theorem prod_at (p : FVec Ideal S128x256 .f32) (y : FVec Ideal S256x128 .bf16) (P : Fin 128 → Fin 256 → ℝ) (Y : Pair 256)
    (hp : ∀ i j, p (ix2 i j) = ((P i j : ℝ) : EReal)) (hy : Holds2 y Y) (i c : Fin 128) :
    prod p y (ix2 i c) = ((∑ j, P i j * Y j (half c) (off c) : ℝ) : EReal) := by
  pointwise [prod, hp _ _, hy _ _]
  simp only [← EReal.coe_mul, sum_up]

theorem pick_at (o e : FVec Ideal S128x128 .f32) (i c : Fin 128) :
    pick o e (ix2 i c) = if half c = 1 then o (ix2 i c) else e (ix2 i c) := by
  pointwise [pick]
  rw [hi_keeps i c]
  split
  · rfl
  · rfl

theorem mask_q (i : grid0.Coords) (n : Fin 8) (hn : (i 1).val = n.val) (r : Fin 128) (j : Fin 256) :
    k0_pay2 i (ix2 r j) = if seen n r j then 1#1 else 0#1 := by
  pointwise [k0_pay2]
  have z0 : (0#32).toInt = 0 := by decide
  have z1 : (128#32).toInt = 128 := by decide
  have t : (IntOp.subi (BitVec.ofNat 32 j.val) 128#32).toInt = (j.val : Int) - 128 := by
    simp only [IntOp.subi]
    rw [BitVec.toInt_sub, z1, small_toInt _ (by omega), bmod_small _ (by omega) (by omega)]
  rw [hn]
  simp only [Scalar.cmpi, IntOp.cmpi, BitVec.sle, BitVec.slt, t, z0, z1, small_toInt j.val (by omega), small_toInt r.val (by omega),
    small_toInt n.val (by omega)]
  have e : seen n r j ↔ ((j.val : Int) < 128 ∧ (r.val : Int) ≤ j.val ∧ (0 : Int) < n.val) ∨ (¬ (j.val : Int) < 128 ∧ (j.val : Int) - 128 ≤ r.val) := by
    unfold seen; omega
  by_cases a : (j.val : Int) < 128 <;> by_cases b : (r.val : Int) ≤ j.val <;> by_cases c : (0 : Int) < n.val <;>
    by_cases d : (j.val : Int) - 128 ≤ r.val <;>
  · simp only [e, a, b, c, d]
    decide

/-- A loaded column of reals, and a row of reals. -/
def Col (a : Vec Ideal S128x1 .f32) (A : Fin 128 → ℝ) : Prop := ∀ i, a (ix2 i 0) = ((A i : ℝ) : EReal)

def Row (a : FVec Ideal S1x256 .f32) (A : Fin 256 → ℝ) : Prop := ∀ j, a (ix2 0 j) = ((A j : ℝ) : EReal)

/-- The weights by queries. -/
theorem pQ_at (mask : IVec S128x256 1) (M : Fin 128 → Fin 256 → Prop) [∀ i j, Decidable (M i j)]
    (hm : ∀ i j, mask (ix2 i j) = if M i j then 1#1 else 0#1)
    (keep : IVec S1x128 1) (b : Fin 2) (hk : Keeps keep b) (x : FVec Ideal S128x128 .bf16)
    (y : FVec Ideal S256x128 .bf16) (X : Pair 128) (Y : Pair 256) (hx : Holds x X) (hy : Holds2 y Y)
    (l : Vec Ideal S128x1 .f32) (L : Fin 128 → ℝ) (hl : Col l L) (i : Fin 128) (j : Fin 256) :
    pQ mask keep x y l (ix2 i j) = ((if M i j then Real.exp ((∑ d, X i b d * Y j b d) - L i) else 0 : ℝ) : EReal) := by
  have e := against_at keep b hk x y X Y hx hy
  have e0 : l (ix2 i 0) = ((L i : ℝ) : EReal) := hl i
  have e1 : Named.named (F := Ideal) (φ := .f32) κ "mask" 0xF149F2CA#32 = (⊥ : EReal) := rfl
  pointwise [pQ, e, hm, e0, e1]
  by_cases a : M i j
  · rw [if_pos a, if_pos a]
    show Ideal.exp (_ - _) = _
    rw [← EReal.coe_sub, Ideal.exp_coe]
  · rw [if_neg a, if_neg a]
    show Ideal.exp ⊥ = _
    rw [Ideal.exp_bot]; rfl

/-- The weights by keys. -/
theorem pK_at (mask : IVec S128x256 1) (M : Fin 128 → Fin 256 → Prop) [∀ i j, Decidable (M i j)]
    (hm : ∀ i j, mask (ix2 i j) = if M i j then 1#1 else 0#1)
    (keep : IVec S1x128 1) (b : Fin 2) (hk : Keeps keep b) (x : FVec Ideal S128x128 .bf16)
    (y : FVec Ideal S256x128 .bf16) (X : Pair 128) (Y : Pair 256) (hx : Holds x X) (hy : Holds2 y Y)
    (l : FVec Ideal S1x256 .f32) (L : Fin 256 → ℝ) (hl : Row l L) (i : Fin 128) (j : Fin 256) :
    pK mask keep x y l (ix2 i j) = ((if M i j then Real.exp ((∑ d, X i b d * Y j b d) - L j) else 0 : ℝ) : EReal) := by
  have e := against_at keep b hk x y X Y hx hy
  have e0 : l (ix2 0 j) = ((L j : ℝ) : EReal) := hl j
  have e1 : Named.named (F := Ideal) (φ := .f32) κ "mask" 0xF149F2CA#32 = (⊥ : EReal) := rfl
  pointwise [pK, e, hm, e0, e1]
  by_cases a : M i j
  · rw [if_pos a, if_pos a]
    show Ideal.exp (_ - _) = _
    rw [← EReal.coe_sub, Ideal.exp_coe]
  · rw [if_neg a, if_neg a]
    show Ideal.exp ⊥ = _
    rw [Ideal.exp_bot]; rfl

/-- The weighted incoming gradients. -/
theorem weighted2_holds (gc gx : Vec Ideal S128x128 .f32) (wo we wxo wxe : Vec Ideal S128x1 .f32) (Gc Gx : Pair 128)
    (hc : ∀ i c, gc (ix2 i c) = ((Gc i (half c) (off c) : ℝ) : EReal)) (hx : ∀ i c, gx (ix2 i c) = ((Gx i (half c) (off c) : ℝ) : EReal))
    (W Wx : Fin 2 → Fin 128 → ℝ) (ho : Col wo (W 1)) (he : Col we (W 0)) (hxo : Col wxo (Wx 1)) (hxe : Col wxe (Wx 0)) :
    Holds2 (weighted2 gc gx wo we wxo wxe) (stack (fun i b d => W b i * Gc i b d) (fun i b d => Wx b i * Gx i b d)) := by
  intro j c
  have k := hi_keeps
  pointwise [weighted2, weighted, k _ _, hc _ _, hx _ _, ho _, he _, hxo _, hxe _]
  have hc2 : half c = 1 ∨ half c = 0 := by
    rw [Fin.ext_iff, Fin.ext_iff]; show c.val / 64 = 1 ∨ c.val / 64 = 0; omega
  have s1 (x y : EReal) : Scalar.select (1#1) x y = x := rfl
  have s0 (x y : EReal) : Scalar.select (0#1) x y = y := rfl
  unfold stack
  rcases hc2 with a | a
  · rw [a, if_pos rfl]; simp only [s1]
    split <;> rw [← EReal.coe_mul, mul_comm]
  · rw [a, if_neg (by decide)]; simp only [s0]
    split <;> rw [← EReal.coe_mul, mul_comm]

/-- The gradient of the scores by queries. -/
theorem dsQ_at (p : FVec Ideal S128x256 .f32) (P : Fin 128 → Fin 256 → ℝ) (hp : ∀ i j, p (ix2 i j) = ((P i j : ℝ) : EReal))
    (keep : IVec S1x128 1) (b : Fin 2) (hk : Keeps keep b) (g y : FVec Ideal S256x128 .bf16) (G H : Pair 128) (Y : Pair 256)
    (hg : Holds2 g (stack G H)) (hy : Holds2 y Y)
    (w r : Vec Ideal S128x1 .f32) (W R : Fin 128 → ℝ) (hw : Col w W) (hr : Col r R) (i : Fin 128) (j : Fin 256) :
    dsQ p keep g y w r (ix2 i j) = ((P i j * ((∑ d, G i b d * Y j b d) + (0 - W i) * R i) : ℝ) : EReal) := by
  have hG : Holds (extractStridedSlice S128x128 ![0, 0] g slices_S256x128_o0_0_S128x128) G := by
    intro i c
    pointwise [hg _ _]
    refine congrArg _ ?_
    unfold stack
    rw [dif_pos i.isLt]
  have e := against_at keep b hk _ y G Y hG hy
  have e0 : w (ix2 i 0) = ((W i : ℝ) : EReal) := hw i
  have e1 : r (ix2 i 0) = ((R i : ℝ) : EReal) := hr i
  pointwise [dsQ, e, hp, e0, e1]
  rw [← EReal.coe_zero, ← EReal.coe_sub, ← EReal.coe_mul, ← EReal.coe_add, ← EReal.coe_mul]

/-- The gradient of the scores by keys. -/
theorem dsK_at (p : FVec Ideal S128x256 .f32) (P : Fin 128 → Fin 256 → ℝ) (hp : ∀ i j, p (ix2 i j) = ((P i j : ℝ) : EReal))
    (keep : IVec S1x128 1) (b : Fin 2) (hk : Keeps keep b) (x : FVec Ideal S128x128 .bf16) (y : FVec Ideal S256x128 .bf16)
    (X : Pair 128) (Y : Pair 256) (hx : Holds x X) (hy : Holds2 y Y)
    (r : FVec Ideal S1x256 .f32) (R : Fin 256 → ℝ) (hr : Row r R) (i : Fin 128) (j : Fin 256) :
    dsK p keep x y r (ix2 i j) = ((P i j * ((∑ d, X i b d * Y j b d) + R j) : ℝ) : EReal) := by
  have e := against_at keep b hk x y X Y hx hy
  have e1 : r (ix2 0 j) = ((R j : ℝ) : EReal) := hr j
  pointwise [dsK, e, hp, e1]
  rw [← EReal.coe_add, ← EReal.coe_mul]

/-- Key `r` of a block is seen by query `j` of the 256: the block's own queries, then the next block's. -/
def kept (n : Fin 8) (r : Fin 128) (j : Fin 256) : Prop :=
  (j.val < 128 ∧ r.val ≤ j.val) ∨ (128 ≤ j.val ∧ j.val - 128 ≤ r.val ∧ n.val < 7)

instance (n : Fin 8) (r : Fin 128) (j : Fin 256) : Decidable (kept n r j) := by unfold kept; infer_instance

theorem mask_k (i : grid0.Coords) (n : Fin 8) (hn : (i 1).val = n.val) (r : Fin 128) (j : Fin 256) :
    k0_pay3 i (ix2 r j) = if kept n r j then 1#1 else 0#1 := by
  pointwise [k0_pay3]
  have z0 : (7#32).toInt = 7 := by decide
  have z1 : (128#32).toInt = 128 := by decide
  have t : (IntOp.subi (BitVec.ofNat 32 j.val) 128#32).toInt = (j.val : Int) - 128 := by
    simp only [IntOp.subi]
    rw [BitVec.toInt_sub, z1, small_toInt _ (by omega), bmod_small _ (by omega) (by omega)]
  rw [hn]
  simp only [Scalar.cmpi, IntOp.cmpi, BitVec.sle, BitVec.slt, t, z0, z1, small_toInt j.val (by omega), small_toInt r.val (by omega),
    small_toInt n.val (by omega)]
  have e : kept n r j ↔ ((j.val : Int) < 128 ∧ (r.val : Int) ≤ j.val) ∨ (¬ (j.val : Int) < 128 ∧ (j.val : Int) - 128 ≤ r.val ∧ (n.val : Int) < 7) := by
    unfold kept; omega
  by_cases a : (j.val : Int) < 128 <;> by_cases b : (r.val : Int) ≤ j.val <;> by_cases c : (n.val : Int) < 7 <;>
    by_cases d : (j.val : Int) - 128 ≤ r.val <;>
  · simp only [e, a, b, c, d]
    decide

end Cert.KernelIdeal.Tiles

end
-- ==== Proof.TileVal.lean ====
module

public import proofs.«01_k».proof.Proof.Body

/-! The three stored tiles, read at a position, over slabs of reals. -/

@[expose] public section

set_option maxRecDepth 16384

noncomputable section

namespace Cert.KernelIdeal.Tiles

open Idealize.ShloMosaic Idealize.ShloMosaic.TcCoe Idealize.SL.Sem Cert.KernelIdeal Cert.KernelIdeal.Gen Window

theorem slab_holds (a : Vec Ideal S128x128 .bf16) (A : Pair 128) (ha : Holds a A) : Holds (slab a) A := by
  intro i c
  pointwise [slab, ha _ _]

/-- Each half of the lanes comes from its own head. -/
theorem pick_heads (o e : FVec Ideal S128x128 .f32) (A : Fin 2 → Fin 128 → Fin 64 → ℝ)
    (ho : ∀ i c, half c = 1 → o (ix2 i c) = ((A 1 i (off c) : ℝ) : EReal))
    (he : ∀ i c, half c = 0 → e (ix2 i c) = ((A 0 i (off c) : ℝ) : EReal)) (i c : Fin 128) :
    pick o e (ix2 i c) = ((A (half c) i (off c) : ℝ) : EReal) := by
  have hc2 : half c = 1 ∨ half c = 0 := by
    rw [Fin.ext_iff, Fin.ext_iff]; show c.val / 64 = 1 ∨ c.val / 64 = 0; omega
  rw [pick_at]
  rcases hc2 with a | a
  · rw [if_pos a, ho i c a, a]
  · rw [if_neg (by rw [a]; decide), he i c a, a]

variable (q k v kp vp qn : Vec Ideal S128x128 .bf16) (gc gx : Vec Ideal S128x128 .f32)
variable (Q K V Kp Vp Qn Gc Gx : Pair 128)
variable (wo we wxo wxe : Vec Ideal S128x1 .f32) (W Wx : Fin 2 → Fin 128 → ℝ)

/-- What the queries' tile holds. -/
def valQ (M : Fin 128 → Fin 256 → Prop) [∀ i j, Decidable (M i j)] (L R : Fin 2 → Fin 128 → ℝ) (b : Fin 2) (i : Fin 128) (d' : Fin 64) : ℝ :=
  ∑ j, ((if M i j then Real.exp ((∑ d, Q i b d * stack Kp K j b d) - L b i) else 0)
    * ((∑ d, W b i * Gc i b d * stack Vp V j b d) + (0 - W b i) * R b i)) * stack Kp K j b d'

theorem tileQ_at (mask : IVec S128x256 1) (M : Fin 128 → Fin 256 → Prop) [∀ i j, Decidable (M i j)]
    (hm : ∀ i j, mask (ix2 i j) = if M i j then 1#1 else 0#1)
    (hq : Holds q Q) (hk : Holds k K) (hv : Holds v V) (hkp : Holds kp Kp) (hvp : Holds vp Vp)
    (hc : ∀ i c, gc (ix2 i c) = ((Gc i (half c) (off c) : ℝ) : EReal)) (hx : ∀ i c, gx (ix2 i c) = ((Gx i (half c) (off c) : ℝ) : EReal))
    (ho : Col wo (W 1)) (he : Col we (W 0)) (hxo : Col wxo (Wx 1)) (hxe : Col wxe (Wx 0))
    (lo le ro re : Vec Ideal S128x1 .f32) (L R : Fin 2 → Fin 128 → ℝ) (hlo : Col lo (L 1)) (hle : Col le (L 0))
    (hro : Col ro (R 1)) (hre : Col re (R 0)) (i c : Fin 128) :
    tileQ mask q k v kp vp gc gx wo we wxo wxe lo le ro re (ix2 i c)
      = ((valQ Q K V Kp Vp Gc W M L R (half c) i (off c) : ℝ) : EReal) := by
  have hKK := over_holds _ _ Kp K (slab_holds _ _ hkp) (slab_holds _ _ hk)
  have hVV := over_holds _ _ Vp V (slab_holds _ _ hvp) (slab_holds _ _ hv)
  have hGG := weighted2_holds gc gx wo we wxo wxe Gc Gx hc hx W Wx ho he hxo hxe
  have hQ := slab_holds _ _ hq
  refine pick_heads _ _ (valQ Q K V Kp Vp Gc W M L R) (fun i c a => ?_) (fun i c a => ?_) i c
  · refine (prod_at _ _ _ _ (dsQ_at _ _ (pQ_at mask M hm hiLanes 1 hi_keeps _ _ Q _ hQ hKK lo _ hlo) hiLanes 1 hi_keeps
      _ _ _ _ _ hGG hVV wo ro _ _ ho hro) hKK i c).trans ?_
    rw [a]; rfl
  · refine (prod_at _ _ _ _ (dsQ_at _ _ (pQ_at mask M hm loLanes 0 lo_keeps _ _ Q _ hQ hKK le _ hle) loLanes 0 lo_keeps
      _ _ _ _ _ hGG hVV we re _ _ he hre) hKK i c).trans ?_
    rw [a]; rfl

/-- The weights by keys. -/
def valP (M : Fin 128 → Fin 256 → Prop) [∀ i j, Decidable (M i j)] (L : Fin 2 → Fin 256 → ℝ) (b : Fin 2) (i : Fin 128) (j : Fin 256) : ℝ :=
  if M i j then Real.exp ((∑ d, K i b d * stack Q Qn j b d) - L b j) else 0

/-- The weighted incoming gradients of the block and the next. -/
def valG : Pair 256 := stack (fun i b d => W b i * Gc i b d) (fun i b d => Wx b i * Gx i b d)

/-- What the keys' tile holds. -/
def valK (M : Fin 128 → Fin 256 → Prop) [∀ i j, Decidable (M i j)] (L D : Fin 2 → Fin 256 → ℝ) (b : Fin 2) (i : Fin 128) (d' : Fin 64) : ℝ :=
  ∑ j, (valP Q K Qn M L b i j * ((∑ d, V i b d * valG Gc Gx W Wx j b d) + D b j)) * stack Q Qn j b d'

/-- What the values' tile holds. -/
def valV (M : Fin 128 → Fin 256 → Prop) [∀ i j, Decidable (M i j)] (L : Fin 2 → Fin 256 → ℝ) (b : Fin 2) (i : Fin 128) (d' : Fin 64) : ℝ :=
  ∑ j, valP Q K Qn M L b i j * valG Gc Gx W Wx j b d'

theorem tileK_at (mask : IVec S128x256 1) (M : Fin 128 → Fin 256 → Prop) [∀ i j, Decidable (M i j)]
    (hm : ∀ i j, mask (ix2 i j) = if M i j then 1#1 else 0#1)
    (hq : Holds q Q) (hk : Holds k K) (hv : Holds v V) (hqn : Holds qn Qn)
    (hc : ∀ i c, gc (ix2 i c) = ((Gc i (half c) (off c) : ℝ) : EReal)) (hx : ∀ i c, gx (ix2 i c) = ((Gx i (half c) (off c) : ℝ) : EReal))
    (ho : Col wo (W 1)) (he : Col we (W 0)) (hxo : Col wxo (Wx 1)) (hxe : Col wxe (Wx 0))
    (lo le ro re : FVec Ideal S1x256 .f32) (L D : Fin 2 → Fin 256 → ℝ) (hlo : Row lo (L 1)) (hle : Row le (L 0))
    (hro : Row ro (D 1)) (hre : Row re (D 0)) (i c : Fin 128) :
    tileK mask q k v qn gc gx wo we wxo wxe lo le ro re (ix2 i c)
      = ((valK Q K V Qn Gc Gx W Wx M L D (half c) i (off c) : ℝ) : EReal) := by
  have hQQ := over_holds _ _ Q Qn (slab_holds _ _ hq) (slab_holds _ _ hqn)
  have hGG := weighted2_holds gc gx wo we wxo wxe Gc Gx hc hx W Wx ho he hxo hxe
  have hK := slab_holds _ _ hk
  have hV := slab_holds _ _ hv
  refine pick_heads _ _ (valK Q K V Qn Gc Gx W Wx M L D) (fun i c a => ?_) (fun i c a => ?_) i c
  · refine (prod_at _ _ _ _ (dsK_at _ _ (pK_at mask M hm hiLanes 1 hi_keeps _ _ K _ hK hQQ lo _ hlo) hiLanes 1 hi_keeps
      _ _ _ _ hV hGG ro _ hro) hQQ i c).trans ?_
    rw [a]; rfl
  · refine (prod_at _ _ _ _ (dsK_at _ _ (pK_at mask M hm loLanes 0 lo_keeps _ _ K _ hK hQQ le _ hle) loLanes 0 lo_keeps
      _ _ _ _ hV hGG re _ hre) hQQ i c).trans ?_
    rw [a]; rfl

theorem tileV_at (mask : IVec S128x256 1) (M : Fin 128 → Fin 256 → Prop) [∀ i j, Decidable (M i j)]
    (hm : ∀ i j, mask (ix2 i j) = if M i j then 1#1 else 0#1)
    (hq : Holds q Q) (hk : Holds k K) (hqn : Holds qn Qn)
    (hc : ∀ i c, gc (ix2 i c) = ((Gc i (half c) (off c) : ℝ) : EReal)) (hx : ∀ i c, gx (ix2 i c) = ((Gx i (half c) (off c) : ℝ) : EReal))
    (ho : Col wo (W 1)) (he : Col we (W 0)) (hxo : Col wxo (Wx 1)) (hxe : Col wxe (Wx 0))
    (lo le : FVec Ideal S1x256 .f32) (L : Fin 2 → Fin 256 → ℝ) (hlo : Row lo (L 1)) (hle : Row le (L 0)) (i c : Fin 128) :
    tileV mask q k qn gc gx wo we wxo wxe lo le (ix2 i c)
      = ((valV Q K Qn Gc Gx W Wx M L (half c) i (off c) : ℝ) : EReal) := by
  have hQQ := over_holds _ _ Q Qn (slab_holds _ _ hq) (slab_holds _ _ hqn)
  have hGG := weighted2_holds gc gx wo we wxo wxe Gc Gx hc hx W Wx ho he hxo hxe
  have hK := slab_holds _ _ hk
  refine pick_heads _ _ (valV Q K Qn Gc Gx W Wx M L) (fun i c a => ?_) (fun i c a => ?_) i c
  · refine (prod_at _ _ _ _ (pK_at mask M hm hiLanes 1 hi_keeps _ _ K _ hK hQQ lo _ hlo) hGG i c).trans ?_
    rw [a]; rfl
  · refine (prod_at _ _ _ _ (pK_at mask M hm loLanes 0 lo_keeps _ _ K _ hK hQQ le _ hle) hGG i c).trans ?_
    rw [a]; rfl

end Cert.KernelIdeal.Tiles

end
-- ==== Proof.TileModel.lean ====
module

public import proofs.«01_k».proof.Proof.TileVal

/-! What the three stored tiles hold, over the model's values: the gradients of queries, keys and values. -/

@[expose] public section

noncomputable section

namespace Cert.KernelIdeal.Tiles

open Window

/-- The block before, the first one for the first. -/
def prv (n : Fin 8) : Fin 8 := ⟨n.val - 1, by omega⟩

/-- The block after, the last one for the last. -/
def nxt (n : Fin 8) : Fin 8 := ⟨min (n.val + 1) 7, by omega⟩

variable (q k v o0 o2 dy : Fin 2 → Rows) (l0 l2 : Fin 2 → Marks) (n : Fin 8)

/-- A block's queries, scaled. -/
def blkQ (n : Fin 8) : Pair 128 := fun i b d => q b n i d * (1 / 8)

/-- A block's rows. -/
def blk (x : Fin 2 → Rows) (n : Fin 8) : Pair 128 := fun i b d => x b n i d

/-- A block's weights, normalisers and row sums. -/
def blkW (n : Fin 8) : Fin 2 → Fin 128 → ℝ := fun b i => weight (q b) (k b) (l0 b) (l2 b) n i
def blkL (n : Fin 8) : Fin 2 → Fin 128 → ℝ := fun b i => Real.log (den (q b) (k b) n i)
def blkR (n : Fin 8) : Fin 2 → Fin 128 → ℝ := fun b i => rowSum (q b) (k b) (v b) (o0 b) (o2 b) (dy b) (l0 b) (l2 b) n i

/-- One number for each row of the block, then of the next one. -/
def two (f : Fin 8 → Fin 2 → Fin 128 → ℝ) (n : Fin 8) (b : Fin 2) (j : Fin 256) : ℝ :=
  if h : j.val < 128 then f n b ⟨j.val, h⟩ else f (nxt n) b ⟨j.val - 128, by omega⟩

theorem cat_blk (x : Fin 2 → Rows) (b : Fin 2) (j : Fin 256) (d : Fin 64) (h : 1 ≤ n.val ∨ 128 ≤ j.val) :
    stack (blk x (prv n)) (blk x n) j b d = cat (x b) n j d := by
  unfold stack cat
  by_cases a : j.val < 128
  · rw [dif_pos a, dif_pos a, if_neg (by omega)]; rfl
  · rw [dif_neg a, dif_neg a]; rfl

/-- A normalised weight. -/
theorem exp_wt (q k : Rows) (n : Fin 8) (i : Fin 128) (j : Fin 256) (h : seen n i j) (s : ℝ) (hs : s = score q k n i j) :
    Real.exp (s - Real.log (den q k n i)) = wt q k n i j / den q k n i := by
  rw [Real.exp_sub, Real.exp_log (den_pos q k n i), wt, if_pos h, hs]

theorem valQ_eq (b : Fin 2) (i : Fin 128) (d' : Fin 64) :
    valQ (blkQ q n) (blk k n) (blk v n) (blk k (prv n)) (blk v (prv n)) (blk dy n) (blkW q k l0 l2 n) (seen n)
      (blkL q k n) (blkR q k v o0 o2 dy l0 l2 n) b i d'
    = dq (q b) (k b) (v b) (o0 b) (o2 b) (dy b) (l0 b) (l2 b) n i d' := by
  unfold valQ dq
  refine Finset.sum_congr rfl fun j _ => ?_
  by_cases h : seen n i j
  · simp only [cat_blk n _ b j _ h.2.2]
    rw [if_pos h]
    unfold blkL
    rw [exp_wt (q b) (k b) n i j h _ (by
      unfold score blkQ
      rw [Finset.sum_mul]; exact Finset.sum_congr rfl fun d _ => by ring)]
    unfold dscore dweight blkW blkR blk
    ring
  · rw [if_neg h, dscore, wt, if_neg h]
    simp

theorem sum_two (f : Fin 256 → ℝ) : ∑ j, f j = (∑ j : Fin 128, f ⟨j.val, by omega⟩) + ∑ j : Fin 128, f ⟨128 + j.val, by omega⟩ :=
  Fin.sum_univ_add (a := 128) (b := 128) f

theorem stack_lo (A B : Pair 128) (j : Fin 128) (b : Fin 2) (d : Fin 64) : stack A B ⟨j.val, by omega⟩ b d = A j b d := by
  unfold stack; rw [dif_pos j.isLt]

theorem stack_hi (A B : Pair 128) (j : Fin 128) (b : Fin 2) (d : Fin 64) : stack A B ⟨128 + j.val, by omega⟩ b d = B j b d := by
  unfold stack
  rw [dif_neg (by show ¬ 128 + j.val < 128; omega)]
  exact congrArg (fun x => B x b d) (Fin.ext (by show 128 + j.val - 128 = j.val; omega))

theorem two_lo (f : Fin 8 → Fin 2 → Fin 128 → ℝ) (b : Fin 2) (j : Fin 128) : two f n b ⟨j.val, by omega⟩ = f n b j := by
  unfold two; rw [dif_pos j.isLt]

theorem two_hi (f : Fin 8 → Fin 2 → Fin 128 → ℝ) (b : Fin 2) (j : Fin 128) : two f n b ⟨128 + j.val, by omega⟩ = f (nxt n) b j := by
  unfold two
  rw [dif_neg (by show ¬ 128 + j.val < 128; omega)]
  exact congrArg (f (nxt n) b) (Fin.ext (by show 128 + j.val - 128 = j.val; omega))

/-- The block's own keys. -/
theorem cat_own (x : Rows) (i : Fin 128) (d : Fin 64) : cat x n ⟨128 + i.val, by omega⟩ d = x n i d := by
  unfold cat
  rw [dif_neg (by show ¬ 128 + i.val < 128; omega)]
  exact congrArg (fun y => x n y d) (Fin.ext (by show 128 + i.val - 128 = i.val; omega))

/-- The block before, seen from the next. -/
theorem cat_next (x : Rows) (hn : n.val < 7) (i : Fin 128) (d : Fin 64) :
    cat x ⟨n.val + 1, by omega⟩ ⟨i.val, by omega⟩ d = x n i d := by
  unfold cat
  rw [dif_pos i.isLt, if_neg (by show ¬ n.val + 1 < 1; omega)]
  exact congrArg (fun y => x y i d) (Fin.ext (by show n.val + 1 - 1 = n.val; omega))

theorem nxt_eq (hn : n.val < 7) : nxt n = ⟨n.val + 1, by omega⟩ := Fin.ext (by show min (n.val + 1) 7 = n.val + 1; omega)

/-- The weights by keys are the normalised weights: a block's own queries, -/
theorem valP_lo (b : Fin 2) (i j : Fin 128) :
    valP (blkQ q n) (blk k n) (blkQ q (nxt n)) (kept n) (two (blkL q k) n) b i ⟨j.val, by omega⟩
    = wt (q b) (k b) n j ⟨128 + i.val, by omega⟩ / den (q b) (k b) n j := by
  unfold valP
  simp only [stack_lo, two_lo]
  have e : kept n i ⟨j.val, by omega⟩ ↔ seen n j ⟨128 + i.val, by omega⟩ := by
    show (j.val < 128 ∧ i.val ≤ j.val ∨ 128 ≤ j.val ∧ j.val - 128 ≤ i.val ∧ n.val < 7) ↔ (j.val ≤ 128 + i.val ∧ 128 + i.val ≤ j.val + 128 ∧ (1 ≤ n.val ∨ 128 ≤ 128 + i.val))
    omega
  by_cases h : seen n j ⟨128 + i.val, by omega⟩
  · rw [if_pos (e.2 h)]
    refine exp_wt (q b) (k b) n j _ h _ ?_
    unfold score blkQ blk
    rw [Finset.sum_mul]
    exact Finset.sum_congr rfl fun d _ => by rw [cat_own]; ring
  · rw [if_neg (fun x => h (e.1 x)), wt, if_neg h, zero_div]

/-- and the next block's. -/
theorem valP_hi (hn : n.val < 7) (b : Fin 2) (i j : Fin 128) :
    valP (blkQ q n) (blk k n) (blkQ q (nxt n)) (kept n) (two (blkL q k) n) b i ⟨128 + j.val, by omega⟩
    = wt (q b) (k b) ⟨n.val + 1, by omega⟩ j ⟨i.val, by omega⟩ / den (q b) (k b) ⟨n.val + 1, by omega⟩ j := by
  unfold valP
  simp only [stack_hi, two_hi, nxt_eq n hn]
  have e : kept n i ⟨128 + j.val, by omega⟩ ↔ seen ⟨n.val + 1, by omega⟩ j ⟨i.val, by omega⟩ := by
    show (128 + j.val < 128 ∧ i.val ≤ 128 + j.val ∨ 128 ≤ 128 + j.val ∧ 128 + j.val - 128 ≤ i.val ∧ n.val < 7) ↔ (j.val ≤ i.val ∧ i.val ≤ j.val + 128 ∧ (1 ≤ n.val + 1 ∨ 128 ≤ i.val))
    omega
  by_cases h : seen ⟨n.val + 1, by omega⟩ j ⟨i.val, by omega⟩
  · rw [if_pos (e.2 h)]
    refine exp_wt (q b) (k b) ⟨n.val + 1, by omega⟩ j _ h _ ?_
    unfold score blkQ blk
    rw [Finset.sum_mul]
    exact Finset.sum_congr rfl fun d _ => by rw [cat_next n _ hn]; ring
  · rw [if_neg (fun x => h (e.1 x)), wt, if_neg h, zero_div]

/-- After the last block there is nothing. -/
theorem valP_last (hn : ¬ n.val < 7) (b : Fin 2) (i j : Fin 128) :
    valP (blkQ q n) (blk k n) (blkQ q (nxt n)) (kept n) (two (blkL q k) n) b i ⟨128 + j.val, by omega⟩ = 0 := by
  unfold valP
  rw [if_neg]
  show ¬ (128 + j.val < 128 ∧ i.val ≤ 128 + j.val ∨ 128 ≤ 128 + j.val ∧ 128 + j.val - 128 ≤ i.val ∧ n.val < 7)
  omega

theorem valV_eq (b : Fin 2) (i : Fin 128) (d' : Fin 64) :
    valV (blkQ q n) (blk k n) (blkQ q (nxt n)) (blk dy n) (blk dy (nxt n)) (blkW q k l0 l2 n) (blkW q k l0 l2 (nxt n)) (kept n)
      (two (blkL q k) n) b i d'
    = gather (dvAt (q b) (k b) (dy b) (l0 b) (l2 b)) n i d' := by
  unfold valV gather valG
  rw [sum_two]
  refine congrArg₂ _ ?_ ?_
  · refine Finset.sum_congr rfl fun j _ => ?_
    rw [valP_lo, stack_lo]
    unfold blkW blk
    ring
  · by_cases hn : n.val < 7
    · rw [dif_pos hn]
      refine Finset.sum_congr rfl fun j _ => ?_
      rw [valP_hi q k n hn, stack_hi, nxt_eq n hn]
      unfold blkW blk
      ring
    · rw [dif_neg hn]
      exact Finset.sum_eq_zero fun j _ => by rw [valP_last q k n hn, zero_mul]

/-- Less the weight times the row sum. -/
def blkD (n : Fin 8) : Fin 2 → Fin 128 → ℝ := fun b i => (0 - blkW q k l0 l2 n b i) * blkR q k v o0 o2 dy l0 l2 n b i

theorem valK_eq (b : Fin 2) (i : Fin 128) (d' : Fin 64) :
    valK (blkQ q n) (blk k n) (blk v n) (blkQ q (nxt n)) (blk dy n) (blk dy (nxt n)) (blkW q k l0 l2 n) (blkW q k l0 l2 (nxt n)) (kept n)
      (two (blkL q k) n) (two (blkD q k v o0 o2 dy l0 l2) n) b i d'
    = gather (dkAt (q b) (k b) (v b) (o0 b) (o2 b) (dy b) (l0 b) (l2 b)) n i d' := by
  unfold valK gather valG
  rw [sum_two]
  refine congrArg₂ _ ?_ ?_
  · refine Finset.sum_congr rfl fun j _ => ?_
    rw [valP_lo, two_lo]
    simp only [stack_lo]
    have e : (∑ d, blk v n i b d * (blkW q k l0 l2 n b j * blk dy n j b d))
        = dweight (q b) (k b) (v b) (dy b) (l0 b) (l2 b) n j ⟨128 + i.val, by omega⟩ :=
      Finset.sum_congr rfl fun d _ => by rw [cat_own]; unfold blkW blk; ring
    rw [e]
    unfold dscore blkD blkR blkW blkQ
    ring
  · by_cases hn : n.val < 7
    · rw [dif_pos hn]
      refine Finset.sum_congr rfl fun j _ => ?_
      rw [valP_hi q k n hn, two_hi]
      simp only [stack_hi, nxt_eq n hn]
      have e : (∑ d, blk v n i b d * (blkW q k l0 l2 ⟨n.val + 1, by omega⟩ b j * blk dy ⟨n.val + 1, by omega⟩ j b d))
          = dweight (q b) (k b) (v b) (dy b) (l0 b) (l2 b) ⟨n.val + 1, by omega⟩ j ⟨i.val, by omega⟩ :=
        Finset.sum_congr rfl fun d _ => by rw [cat_next n _ hn]; unfold blkW blk; ring
      rw [e]
      unfold dscore blkD blkR blkW blkQ
      ring
    · rw [dif_neg hn]
      exact Finset.sum_eq_zero fun j _ => by rw [valP_last q k n hn, zero_mul, zero_mul]

end Cert.KernelIdeal.Tiles

end
-- ==== Proof.Blocks.lean ====
module

public import proofs.«01_k».proof.Proof.HostArr
public import proofs.«01_k».proof.Proof.TileModel
public import proofs.«01_k».proof.Proof.Gen.KernelIdeal.Value

/-! The blocks a grid point reads, at their positions. -/

@[expose] public section

set_option maxRecDepth 16384

noncomputable section

namespace Cert.KernelIdeal.Blocks

open Idealize.ShloMosaic Idealize.ShloMosaic.TcCoe Idealize.SL.Sem Cert.KernelIdeal Cert.KernelIdeal.Gen
open Window Cert.KernelIdeal.HostRead Cert.KernelIdeal.Tiles

/-- The rows of blocks each window reads or writes at a point. -/
theorem idx : ∀ t : Fin cfg0.N, win0_0.index t = ![t.val / 8 * 8 + (t.val % 8 - 1), 0] ∧ win0_1.index t = ![t.val, 0]
    ∧ win0_2.index t = ![t.val / 8 * 8 + min (t.val % 8 + 1) 7, 0]
    ∧ win0_3.index t = ![t.val, 0] ∧ win0_4.index t = ![t.val / 8 * 8 + min (t.val % 8 + 1) 7, 0]
    ∧ win0_5.index t = ![t.val, 0] ∧ win0_6.index t = ![t.val / 8 * 8 + min (t.val % 8 + 1) 7, 0]
    ∧ win0_7.index t = ![t.val, 0] ∧ win0_8.index t = ![t.val / 8 * 8 + min (t.val % 8 + 1) 7, 0]
    ∧ win0_9.index t = ![t.val, 0] ∧ win0_10.index t = ![t.val / 8 * 8 + min (t.val % 8 + 1) 7, 0]
    ∧ win0_11.index t = ![t.val, 0] :=
  (by decide +kernel : ∀ t : Fin grid0.N, _)

/-- A point's sequence and block. -/
def zz (t : Fin cfg0.N) : Fin 8 := ⟨t.val / 8, by have := lt_of_lt_of_eq t.isLt N_0; omega⟩
def nn (t : Fin cfg0.N) : Fin 8 := ⟨t.val % 8, by omega⟩

variable (t : Fin cfg0.N) (i : Fin 128)

theorem read0 (A : S8192x1536.Idx → EReal) (l : Fin 1536) :
    (show S128x1536.Idx → EReal from ((cfg0.win 0).blk t).view.read (Elt Ideal) A) (ix2 i l)
      = A (ix2 (row (zz t) (prv (nn t)) i) l) := by
  have ht : t.val < 64 := lt_of_lt_of_eq t.isLt N_0
  blk_point [idx t, row, zz, nn, prv, nxt]

theorem read1 (A : S8192x1536.Idx → EReal) (l : Fin 1536) :
    (show S128x1536.Idx → EReal from ((cfg0.win 1).blk t).view.read (Elt Ideal) A) (ix2 i l)
      = A (ix2 (row (zz t) (nn t) i) l) := by
  have ht : t.val < 64 := lt_of_lt_of_eq t.isLt N_0
  blk_point [idx t, row, zz, nn, prv, nxt]

theorem read2 (A : S8192x1536.Idx → EReal) (l : Fin 1536) :
    (show S128x1536.Idx → EReal from ((cfg0.win 2).blk t).view.read (Elt Ideal) A) (ix2 i l)
      = A (ix2 (row (zz t) (nxt (nn t)) i) l) := by
  have ht : t.val < 64 := lt_of_lt_of_eq t.isLt N_0
  blk_point [idx t, row, zz, nn, prv, nxt]

theorem read3 (A : S8192x512.Idx → EReal) (l : Fin 512) :
    (show S128x512.Idx → EReal from ((cfg0.win 3).blk t).view.read (Elt Ideal) A) (ix2 i l)
      = A (ix2 (row (zz t) (nn t) i) l) := by
  have ht : t.val < 64 := lt_of_lt_of_eq t.isLt N_0
  blk_point [idx t, row, zz, nn, prv, nxt]

theorem read4 (A : S8192x512.Idx → EReal) (l : Fin 512) :
    (show S128x512.Idx → EReal from ((cfg0.win 4).blk t).view.read (Elt Ideal) A) (ix2 i l)
      = A (ix2 (row (zz t) (nxt (nn t)) i) l) := by
  have ht : t.val < 64 := lt_of_lt_of_eq t.isLt N_0
  blk_point [idx t, row, zz, nn, prv, nxt]

theorem read5 (A : S8192x128.Idx → EReal) (l : Fin 128) :
    (show S128x128.Idx → EReal from ((cfg0.win 5).blk t).view.read (Elt Ideal) A) (ix2 i l)
      = A (ix2 (row (zz t) (nn t) i) l) := by
  have ht : t.val < 64 := lt_of_lt_of_eq t.isLt N_0
  blk_point [idx t, row, zz, nn, prv, nxt]

theorem read6 (A : S8192x128.Idx → EReal) (l : Fin 128) :
    (show S128x128.Idx → EReal from ((cfg0.win 6).blk t).view.read (Elt Ideal) A) (ix2 i l)
      = A (ix2 (row (zz t) (nxt (nn t)) i) l) := by
  have ht : t.val < 64 := lt_of_lt_of_eq t.isLt N_0
  blk_point [idx t, row, zz, nn, prv, nxt]

theorem read7 (A : S8192x128.Idx → EReal) (l : Fin 128) :
    (show S128x128.Idx → EReal from ((cfg0.win 7).blk t).view.read (Elt Ideal) A) (ix2 i l)
      = A (ix2 (row (zz t) (nn t) i) l) := by
  have ht : t.val < 64 := lt_of_lt_of_eq t.isLt N_0
  blk_point [idx t, row, zz, nn, prv, nxt]

theorem read8 (A : S8192x128.Idx → EReal) (l : Fin 128) :
    (show S128x128.Idx → EReal from ((cfg0.win 8).blk t).view.read (Elt Ideal) A) (ix2 i l)
      = A (ix2 (row (zz t) (nxt (nn t)) i) l) := by
  have ht : t.val < 64 := lt_of_lt_of_eq t.isLt N_0
  blk_point [idx t, row, zz, nn, prv, nxt]

theorem read9 (A : S8192x128.Idx → EReal) (l : Fin 128) :
    (show S128x128.Idx → EReal from ((cfg0.win 9).blk t).view.read (Elt Ideal) A) (ix2 i l)
      = A (ix2 (row (zz t) (nn t) i) l) := by
  have ht : t.val < 64 := lt_of_lt_of_eq t.isLt N_0
  blk_point [idx t, row, zz, nn, prv, nxt]

theorem read10 (A : S8192x128.Idx → EReal) (l : Fin 128) :
    (show S128x128.Idx → EReal from ((cfg0.win 10).blk t).view.read (Elt Ideal) A) (ix2 i l)
      = A (ix2 (row (zz t) (nxt (nn t)) i) l) := by
  have ht : t.val < 64 := lt_of_lt_of_eq t.isLt N_0
  blk_point [idx t, row, zz, nn, prv, nxt]

theorem emb11 (l : Fin 1536) : ((cfg0.win 11).blk t).view.emb (ix2 i l) = (ix2 (row (zz t) (nn t) i) l : S8192x1536.Idx) := by
  have ht : t.val < 64 := lt_of_lt_of_eq t.isLt N_0
  blk_ext [idx t, row, zz, nn]

end Cert.KernelIdeal.Blocks

end
-- ==== Proof.Slabs.lean ====
module

public import proofs.«01_k».proof.Proof.Blocks

/-! The slabs, columns and rows of a pair of heads in the blocks of a grid point. -/

@[expose] public section

set_option maxRecDepth 16384

noncomputable section

namespace Cert.KernelIdeal.Blocks

open Idealize.ShloMosaic Idealize.ShloMosaic.TcCoe Idealize.SL.Sem Cert.KernelIdeal Cert.KernelIdeal.Gen
open Window Cert.KernelIdeal.HostRead Cert.KernelIdeal.Tiles

/-- A head of a pair. -/
def hd (p : Fin 4) (b : Fin 2) : Fin 8 := ⟨2 * p.val + b.val, by omega⟩

/-- A pair's rows and marks in a point's sequence. -/
def pr (x : Cert.ReferenceIdeal.S2x4096x8x64.Idx → ℝ) (t : Fin cfg0.N) (p : Fin 4) : Fin 2 → Rows := fun b => sub x (zz t) (hd p b)
def prM (x : Cert.ReferenceIdeal.S2x4096x8.Idx → ℝ) (t : Fin cfg0.N) (p : Fin 4) : Fin 2 → Marks := fun b => subM x (zz t) (hd p b)

/-- A lane of a pair among the lanes of all heads. -/
theorem lane_pair (p : Fin 4) (l : Fin 128) : (lane (hd p (half l)) (off l)).val = 128 * p.val + l.val := by
  simp only [lane, hd, half, off]; omega

/-- A wide block holds a row of blocks' queries, keys and values. -/
def Wide (q k v : Cert.ReferenceIdeal.S2x4096x8x64.Idx → ℝ) (t : Fin cfg0.N) (n : Fin 8) (X : Vec Ideal S128x1536 .bf16) : Prop :=
  ∀ (p : Fin 4) (i l : Fin 128),
    X (ix2 i ⟨128 * p.val + l.val, by omega⟩) = ((blkQ (pr q t p) n i (half l) (off l) : ℝ) : EReal)
    ∧ X (ix2 i ⟨512 + (128 * p.val + l.val), by omega⟩) = ((blk (pr k t p) n i (half l) (off l) : ℝ) : EReal)
    ∧ X (ix2 i ⟨1024 + (128 * p.val + l.val), by omega⟩) = ((blk (pr v t p) n i (half l) (off l) : ℝ) : EReal)

/-- A block holds the output gradients. -/
def Grads (dy : Cert.ReferenceIdeal.S2x4096x8x64.Idx → ℝ) (t : Fin cfg0.N) (n : Fin 8) (X : Vec Ideal S128x512 .f32) : Prop :=
  ∀ (p : Fin 4) (i l : Fin 128), X (ix2 i ⟨128 * p.val + l.val, by omega⟩) = ((blk (pr dy t p) n i (half l) (off l) : ℝ) : EReal)

/-- A block holds one number per head and row. -/
def Columns (f : Fin 4 → Fin 2 → Fin 128 → ℝ) (X : Vec Ideal S128x128 .f32) : Prop :=
  ∀ (p : Fin 4) (b : Fin 2) (i : Fin 128), X (ix2 i ⟨2 * p.val + b.val, by omega⟩) = ((f p b i : ℝ) : EReal)

variable {m : (ℓ : Loc nD τ sig) → Buf (Elt Ideal) ℓ} {c : Dev nD}
variable {q k v o0 o2 dy : Cert.ReferenceIdeal.S2x4096x8x64.Idx → ℝ} {l0 l2 : Cert.ReferenceIdeal.S2x4096x8.Idx → ℝ}
variable (A : Args m c q k v o0 o2 dy l0 l2) (t : Fin cfg0.N) (p : Fin 4)

include A

/-- A pair's columns of queries, keys and values in any row of blocks. -/
theorem nq_cols (n : Fin 8) (i l : Fin 128) :
    V m c main_v24 (ix2 (row (zz t) n i) ⟨128 * p.val + l.val, by omega⟩) = ((blkQ (pr q t p) n i (half l) (off l) : ℝ) : EReal)
    ∧ V m c main_v24 (ix2 (row (zz t) n i) ⟨512 + (128 * p.val + l.val), by omega⟩) = ((blk (pr k t p) n i (half l) (off l) : ℝ) : EReal)
    ∧ V m c main_v24 (ix2 (row (zz t) n i) ⟨1024 + (128 * p.val + l.val), by omega⟩) = ((blk (pr v t p) n i (half l) (off l) : ℝ) : EReal) := by
  have e := lane_pair p l
  refine ⟨?_, ?_, ?_⟩
  · refine Eq.trans (congrArg (fun x => V m c main_v24 (ix2 (row (zz t) n i) x)) (Fin.ext ?_)) (nq_q A (zz t) n i (hd p (half l)) (off l))
    exact e.symm
  · refine Eq.trans (congrArg (fun x => V m c main_v24 (ix2 (row (zz t) n i) x)) (Fin.ext ?_)) (nq_k A (zz t) n i (hd p (half l)) (off l))
    exact congrArg (512 + ·) e.symm
  · refine Eq.trans (congrArg (fun x => V m c main_v24 (ix2 (row (zz t) n i) x)) (Fin.ext ?_)) (nq_v A (zz t) n i (hd p (half l)) (off l))
    exact congrArg (1024 + ·) e.symm

theorem do_cols (n : Fin 8) (i l : Fin 128) :
    V m c main_v28 (ix2 (row (zz t) n i) ⟨128 * p.val + l.val, by omega⟩) = ((blk (pr dy t p) n i (half l) (off l) : ℝ) : EReal) := by
  refine Eq.trans (congrArg (fun x => V m c main_v28 (ix2 (row (zz t) n i) x)) (Fin.ext ?_)) (do_at A (zz t) n i (hd p (half l)) (off l))
  exact (lane_pair p l).symm

omit A in
/-- A slab of columns read out of a wide block. -/
theorem ld_cols (o : ℕ) (h) (X : Vec Ideal S128x1536 .bf16) (i l : Fin 128) (ho : o + l.val < 1536) :
    View.ld X (Rect.unit (s := S128x1536) ![0, o] S128x128.size h) (ix2 i l) = X (ix2 i ⟨o + l.val, ho⟩) := by
  pointwise []

omit A in
theorem ld_grad (o : ℕ) (h) (X : Vec Ideal S128x512 .f32) (i l : Fin 128) (ho : o + l.val < 512) :
    View.ld X (Rect.unit (s := S128x512) ![0, o] S128x128.size h) (ix2 i l) = X (ix2 i ⟨o + l.val, ho⟩) := by
  pointwise []

omit A in
/-- One column read out of a block of marks. -/
theorem ld_col (e : ℕ) (h) (X : Vec Ideal S128x128 .f32) (i : Fin 128) (he : e < 128) :
    View.ld X (Rect.unit (s := S128x128) ![0, e] S128x1.size h) (ix2 i 0) = X (ix2 i ⟨e, he⟩) := by
  pointwise []

omit A in
theorem ld_all (X : Vec Ideal S128x128 .f32) (i l : Fin 128) : View.ld X r0_0 (ix2 i l) = X (ix2 i l) := by
  pointwise [r0_0]

/-- What a grid point's blocks hold, for every pair of heads. -/
structure Holding (q k v o0 o2 dy : Cert.ReferenceIdeal.S2x4096x8x64.Idx → ℝ) (l0 l2 : Cert.ReferenceIdeal.S2x4096x8.Idx → ℝ)
    (t : Fin cfg0.N) (x0 x1 x2 : Vec Ideal S128x1536 .bf16) (x3 x4 : Vec Ideal S128x512 .f32)
    (x5 x6 x7 x8 x9 x10 : Vec Ideal S128x128 .f32) : Prop where
  w0 : Wide q k v t (prv (nn t)) x0
  w1 : Wide q k v t (nn t) x1
  w2 : Wide q k v t (nxt (nn t)) x2
  g3 : Grads dy t (nn t) x3
  g4 : Grads dy t (nxt (nn t)) x4
  l5 : Columns (fun p => blkL (pr q t p) (pr k t p) (nn t)) x5
  l6 : Columns (fun p => blkL (pr q t p) (pr k t p) (nxt (nn t))) x6
  w7 : Columns (fun p => blkW (pr q t p) (pr k t p) (prM l0 t p) (prM l2 t p) (nn t)) x7
  w8 : Columns (fun p => blkW (pr q t p) (pr k t p) (prM l0 t p) (prM l2 t p) (nxt (nn t))) x8
  r9 : Columns (fun p => blkR (pr q t p) (pr k t p) (pr v t p) (pr o0 t p) (pr o2 t p) (pr dy t p) (prM l0 t p) (prM l2 t p) (nn t)) x9
  r10 : Columns (fun p => blkR (pr q t p) (pr k t p) (pr v t p) (pr o0 t p) (pr o2 t p) (pr dy t p) (prM l0 t p) (prM l2 t p) (nxt (nn t))) x10

/-- The blocks the kernel reads hold that. -/
theorem holding : Holding q k v o0 o2 dy l0 l2 t (iblk m c 0 t) (iblk m c 1 t) (iblk m c 2 t) (iblk m c 3 t) (iblk m c 4 t)
    (iblk m c 5 t) (iblk m c 6 t) (iblk m c 7 t) (iblk m c 8 t) (iblk m c 9 t) (iblk m c 10 t) where
  w0 p i l := ⟨(read0 t i _ _).trans (nq_cols A t p _ i l).1, (read0 t i _ _).trans (nq_cols A t p _ i l).2.1, (read0 t i _ _).trans (nq_cols A t p _ i l).2.2⟩
  w1 p i l := ⟨(read1 t i _ _).trans (nq_cols A t p _ i l).1, (read1 t i _ _).trans (nq_cols A t p _ i l).2.1, (read1 t i _ _).trans (nq_cols A t p _ i l).2.2⟩
  w2 p i l := ⟨(read2 t i _ _).trans (nq_cols A t p _ i l).1, (read2 t i _ _).trans (nq_cols A t p _ i l).2.1, (read2 t i _ _).trans (nq_cols A t p _ i l).2.2⟩
  g3 p i l := (read3 t i _ _).trans (do_cols A t p _ i l)
  g4 p i l := (read4 t i _ _).trans (do_cols A t p _ i l)
  l5 p b i := (read5 t i _ _).trans (lse_at A (zz t) _ i (hd p b))
  l6 p b i := (read6 t i _ _).trans (lse_at A (zz t) _ i (hd p b))
  w7 p b i := (read7 t i _ _).trans (wts_at A (zz t) _ i (hd p b))
  w8 p b i := (read8 t i _ _).trans (wts_at A (zz t) _ i (hd p b))
  r9 p b i := (read9 t i _ _).trans (rsum_at A (zz t) _ i (hd p b))
  r10 p b i := (read10 t i _ _).trans (rsum_at A (zz t) _ i (hd p b))

end Cert.KernelIdeal.Blocks

end
-- ==== Proof.RefCt.lean ====
module

public import proofs.«01_k».proof.Proof.RefMerge

/-! What reaches the normaliser in the reference's backward pass. -/

@[expose] public section

set_option maxRecDepth 16384

noncomputable section

namespace Cert.ReferenceIdeal.Fwd

open Idealize.ShloMosaic Idealize.ShloMosaic.TcCoe Idealize.SL.Sem Cert.ReferenceIdeal Cert.ReferenceIdeal.Gen
open Cert.ReferenceIdeal.Read Window

variable (q k v o0 o2 dy : S2x4096x8x64.Idx → ℝ) (l0 l2 : S2x4096x8.Idx → ℝ)
variable (z n : Fin 8) (i : Fin 128) (h : Fin 8) (j : Fin 256) (d : Fin 64)

/-- The incoming gradient's product with a group's output. -/
def against (x : S2x4096x8x64.Idx → ℝ) : ℝ := ∑ d, sub dy z h n i d * sub x z h n i d

/-- The incoming gradient's product with this group's output. -/
def againstOut : ℝ := ∑ d, sub dy z h n i d * out (sub q z h) (sub k z h) (sub v z h) n i d

theorem v141_at : val_main_v141 (F := Ideal) (up dy) (ix4 (bat z) (pos z n i) h d) = ((sub dy z h n i d : ℝ) : EReal) := by
  pointwise [val_main_v141]
  rfl

theorem v161_at : val_main_v161 (F := Ideal) (up o0) (up dy) (ix3 (bat z) (pos z n i) h)
    = ((against dy z n i h o0 : ℝ) : EReal) := by
  pointwise [val_main_v161, val_main_cst_33, val_main_v160, val_main_v159, val_main_cst_32, val_main_v158, val_main_v141]
  rw [Fin.sum_univ_one]
  simp only [← EReal.coe_mul, sum_up]
  rfl

theorem v146_at : val_main_v146 (F := Ideal) (up o2) (up dy) (ix3 (bat z) (pos z n i) h)
    = ((against dy z n i h o2 : ℝ) : EReal) := by
  pointwise [val_main_v146, val_main_cst_27, val_main_v145, val_main_v144, val_main_cst_26, val_main_v143, val_main_v142]
  rw [Fin.sum_univ_one]
  simp only [← EReal.coe_mul, sum_up]
  rfl

theorem v151_at : val_main_v151 (F := Ideal) (up q) (up k) (up v) (up dy) (ix4 (bat z) (pos z n i) h d)
    = ((sub dy z h n i d * out (sub q z h) (sub k z h) (sub v z h) n i d : ℝ) : EReal) := by
  rw [val_main_v151_apply, v141_at, v83_at]
  exact (EReal.coe_mul _ _).symm

theorem v152_at : val_main_v152 (F := Ideal) (up q) (up k) (up v) (up dy) (ix3 (bat z) (pos z n i) h)
    = ((againstOut q k v dy z n i h : ℝ) : EReal) := by
  pointwise [val_main_v152, val_main_cst_29, v151_at]
  rw [sum_up]
  rfl

theorem v154_at : val_main_v154 (F := Ideal) (up q) (up k) (up v) (up dy) (ix3 (bat z) (pos z n i) h)
    = ((againstOut q k v dy z n i h : ℝ) : EReal) := by
  pointwise [val_main_v154, val_main_cst_30, val_main_v153, v152_at]
  rw [Fin.sum_univ_one]

/-- The gradient of each group's weight. -/
def three' (g : Fin 3) : ℝ := ![against dy z n i h o0, againstOut q k v dy z n i h, against dy z n i h o2] g

theorem v164_at (g : Fin 3) : val_main_v164 (F := Ideal) (up q) (up k) (up v) (up o0) (up o2) (up dy) (ix4 g (bat z) (pos z n i) h)
    = ((three' q k v o0 o2 dy z n i h g : ℝ) : EReal) := by
  have e := v161_at o0 dy z n i h
  have e1 := v154_at q k v dy z n i h
  have e2 := v146_at o2 dy z n i h
  have p : val_main_v163 (F := Ideal) (up o0) (up dy) (ix4 g (bat z) (pos z n i) h)
      = if g.val < 1 then ((against dy z n i h o0 : ℝ) : EReal) else 0 := by
    pointwise [val_main_v163, val_main_v162, val_main_cst_34, e]
    exact dite_eq_ite
  have p1 : val_main_v156 (F := Ideal) (up q) (up k) (up v) (up dy) (ix4 g (bat z) (pos z n i) h)
      = if 1 ≤ g.val ∧ g.val - 1 < 1 then ((againstOut q k v dy z n i h : ℝ) : EReal) else 0 := by
    pointwise [val_main_v156, val_main_v155, val_main_cst_31, e1]
    exact dite_eq_ite
  have p2 : val_main_v148 (F := Ideal) (up o2) (up dy) (ix4 g (bat z) (pos z n i) h)
      = if 2 ≤ g.val ∧ g.val - 2 < 1 then ((against dy z n i h o2 : ℝ) : EReal) else 0 := by
    pointwise [val_main_v148, val_main_v147, val_main_cst_28, e2]
    exact dite_eq_ite
  rw [val_main_v164_apply, val_main_v157_apply, p, p1, p2]
  show ((if 2 ≤ g.val ∧ g.val - 2 < 1 then ((against dy z n i h o2 : ℝ) : EReal) else 0)
      + (if 1 ≤ g.val ∧ g.val - 1 < 1 then ((againstOut q k v dy z n i h : ℝ) : EReal) else 0))
      + (if g.val < 1 then ((against dy z n i h o0 : ℝ) : EReal) else 0) = _
  fin_cases g
  · simp [three']
  · simp [three']
  · simp [three']

/-- The reciprocal of the square of the merge's divisor. -/
theorem v121_at : val_main_v121 (F := Ideal) (up q) (up k) (up l0) (up l2) (ix4 0 (bat z) (pos z n i) h)
    = ((1 / (tot (sub q z h) (sub k z h) (subM l0 z h) (subM l2 z h) n i * Real.exp (-top3 q k l0 l2 z n i h)
        * (tot (sub q z h) (sub k z h) (subM l0 z h) (subM l2 z h) n i * Real.exp (-top3 q k l0 l2 z n i h))) : ℝ) : EReal) := by
  have e : val_main_v119 (F := Ideal) (up q) (up k) (up l0) (up l2) (ix4 0 (bat z) (pos z n i) h)
      = ((tot (sub q z h) (sub k z h) (subM l0 z h) (subM l2 z h) n i * Real.exp (-top3 q k l0 l2 z n i h)
        * (tot (sub q z h) (sub k z h) (subM l0 z h) (subM l2 z h) n i * Real.exp (-top3 q k l0 l2 z n i h)) : ℝ) : EReal) := by
    rw [val_main_v119_apply, v116_at]
    exact (EReal.coe_mul _ _).symm
  pointwise [val_main_v121, val_main_v120, val_main_cst_25, e]
  have hs := scale3_ne q k l0 l2 z n i h
  exact div_up 1 _ (mul_ne_zero hs hs)

theorem v165_at (g : Fin 3) : val_main_v165 (F := Ideal) (up q) (up k) (up l0) (up l2) (ix4 g (bat z) (pos z n i) h)
    = val_main_v121 (F := Ideal) (up q) (up k) (up l0) (up l2) (ix4 0 (bat z) (pos z n i) h) := by
  pointwise [val_main_v165]

theorem v171_at (g : Fin 3) : val_main_v171 (F := Ideal) (up q) (up k) (up l0) (up l2) (ix4 g (bat z) (pos z n i) h)
    = val_main_v116 (F := Ideal) (up q) (up k) (up l0) (up l2) (ix4 0 (bat z) (pos z n i) h) := by
  pointwise [val_main_v171]

/-- The gradients of the weights, multiplied with the weights and divided by the divisor. -/
theorem v167_at (g : Fin 3) : val_main_v167 (F := Ideal) (up q) (up k) (up v) (up o0) (up l0) (up o2) (up l2) (up dy) (ix4 g (bat z) (pos z n i) h)
    = ((three' q k v o0 o2 dy z n i h g * (Real.exp (three q k l0 l2 z n i h g) / tot (sub q z h) (sub k z h) (subM l0 z h) (subM l2 z h) n i)
        / (tot (sub q z h) (sub k z h) (subM l0 z h) (subM l2 z h) n i * Real.exp (-top3 q k l0 l2 z n i h)) : ℝ) : EReal) := by
  rw [val_main_v167_apply, val_main_v166_apply, v164_at, v165_at, v121_at, v114_at]
  refine (congrArg (fun x : EReal => x * _) (EReal.coe_mul _ _).symm).trans ((EReal.coe_mul _ _).symm.trans (congrArg _ ?_))
  have h1 := (tot_pos (sub q z h) (sub k z h) (subM l0 z h) (subM l2 z h) n i).ne'
  have h2 := Real.exp_ne_zero (-top3 q k l0 l2 z n i h)
  field_simp

theorem sum_three' : ∑ g, three' q k v o0 o2 dy z n i h g * (Real.exp (three q k l0 l2 z n i h g) / tot (sub q z h) (sub k z h) (subM l0 z h) (subM l2 z h) n i)
    = rowSum (sub q z h) (sub k z h) (sub v z h) (sub o0 z h) (sub o2 z h) (sub dy z h) (subM l0 z h) (subM l2 z h) n i := by
  rw [Fin.sum_univ_three, rowSum_eq]
  show against dy z n i h o0 * (Real.exp (subM l0 z h n i) / _) + againstOut q k v dy z n i h * (Real.exp (Real.log (den (sub q z h) (sub k z h) n i)) / _)
    + against dy z n i h o2 * (Real.exp (subM l2 z h n i) / _) = _
  rw [Real.exp_log (den_pos _ _ n i)]
  rfl

/-- Less the row sum, divided by the divisor. -/
theorem v174_at (g : Fin 3) : val_main_v174 (F := Ideal) (up q) (up k) (up v) (up o0) (up l0) (up o2) (up l2) (up dy) (ix4 g (bat z) (pos z n i) h)
    = ((-(rowSum (sub q z h) (sub k z h) (sub v z h) (sub o0 z h) (sub o2 z h) (sub dy z h) (subM l0 z h) (subM l2 z h) n i
        / (tot (sub q z h) (sub k z h) (subM l0 z h) (subM l2 z h) n i * Real.exp (-top3 q k l0 l2 z n i h))) : ℝ) : EReal) := by
  have e : val_main_v168 (F := Ideal) (up q) (up k) (up v) (up o0) (up l0) (up o2) (up l2) (up dy) (ix3 (bat z) (pos z n i) h)
      = ((rowSum (sub q z h) (sub k z h) (sub v z h) (sub o0 z h) (sub o2 z h) (sub dy z h) (subM l0 z h) (subM l2 z h) n i
        / (tot (sub q z h) (sub k z h) (subM l0 z h) (subM l2 z h) n i * Real.exp (-top3 q k l0 l2 z n i h)) : ℝ) : EReal) := by
    pointwise [val_main_v168, val_main_cst_35, v167_at]
    rw [sum_up, ← sum_three']
    simp only [div_eq_mul_inv]
    rw [← Finset.sum_mul]
  have e1 : val_main_v170 (F := Ideal) (up q) (up k) (up v) (up o0) (up l0) (up o2) (up l2) (up dy) (ix4 0 (bat z) (pos z n i) h)
      = ((-(rowSum (sub q z h) (sub k z h) (sub v z h) (sub o0 z h) (sub o2 z h) (sub dy z h) (subM l0 z h) (subM l2 z h) n i
        / (tot (sub q z h) (sub k z h) (subM l0 z h) (subM l2 z h) n i * Real.exp (-top3 q k l0 l2 z n i h))) : ℝ) : EReal) := by
    have e2 : val_main_v169 (F := Ideal) (up q) (up k) (up v) (up o0) (up l0) (up o2) (up l2) (up dy) (ix4 0 (bat z) (pos z n i) h)
        = val_main_v168 (F := Ideal) (up q) (up k) (up v) (up o0) (up l0) (up o2) (up l2) (up dy) (ix3 (bat z) (pos z n i) h) := by
      pointwise [val_main_v169]
    rw [val_main_v170_apply, e2, e]
    exact (EReal.coe_neg _).symm
  pointwise [val_main_v174, val_main_v173, val_main_cst_36, e1]
  rw [Fin.sum_univ_one, e1]

/-- What reaches this group's normaliser. -/
theorem v180_at : val_main_v180 (F := Ideal) (up q) (up k) (up v) (up o0) (up l0) (up o2) (up l2) (up dy) (ix3 (bat z) (pos z n i) h)
    = ((weight (sub q z h) (sub k z h) (subM l0 z h) (subM l2 z h) n i * (againstOut q k v dy z n i h
        - rowSum (sub q z h) (sub k z h) (sub v z h) (sub o0 z h) (sub o2 z h) (sub dy z h) (subM l0 z h) (subM l2 z h) n i) : ℝ) : EReal) := by
  have e : val_main_v180 (F := Ideal) (up q) (up k) (up v) (up o0) (up l0) (up o2) (up l2) (up dy) (ix3 (bat z) (pos z n i) h)
      = val_main_v176 (F := Ideal) (up q) (up k) (up v) (up o0) (up l0) (up o2) (up l2) (up dy) (ix4 1 (bat z) (pos z n i) h) := by
    pointwise [val_main_v180, val_main_v179]
  have hs := scale3_ne q k l0 l2 z n i h
  have e1 : val_main_v172 (F := Ideal) (up q) (up k) (up v) (up o0) (up l0) (up o2) (up l2) (up dy) (ix4 1 (bat z) (pos z n i) h)
      = ((againstOut q k v dy z n i h / (tot (sub q z h) (sub k z h) (subM l0 z h) (subM l2 z h) n i * Real.exp (-top3 q k l0 l2 z n i h)) : ℝ) : EReal) := by
    rw [val_main_v172_apply, v164_at, v171_at, v116_at]
    exact div_up _ _ hs
  rw [e, val_main_v176_apply, val_main_v175_apply, e1, v174_at, v114_at]
  refine (congrArg (fun x : EReal => x * _) (EReal.coe_add _ _).symm).trans ((EReal.coe_mul _ _).symm.trans (congrArg _ ?_))
  rw [show three q k l0 l2 z n i h 1 = Real.log (den (sub q z h) (sub k z h) n i) from rfl, Real.exp_log (den_pos _ _ n i)]
  have h1 := (tot_pos (sub q z h) (sub k z h) (subM l0 z h) (subM l2 z h) n i).ne'
  have h2 := Real.exp_ne_zero (-top3 q k l0 l2 z n i h)
  unfold weight
  field_simp
  ring

end Cert.ReferenceIdeal.Fwd

end
-- ==== Proof.RefBwd.lean ====
module

public import proofs.«01_k».proof.Proof.RefCt

/-! The reference's backward pass through the attention, read at a position. -/

@[expose] public section

set_option maxRecDepth 16384

noncomputable section

namespace Cert.ReferenceIdeal.Fwd

open Idealize.ShloMosaic Idealize.ShloMosaic.TcCoe Idealize.SL.Sem Cert.ReferenceIdeal Cert.ReferenceIdeal.Gen
open Cert.ReferenceIdeal.Read Window

variable (q k v o0 o2 dy : S2x4096x8x64.Idx → ℝ) (l0 l2 : S2x4096x8.Idx → ℝ)
variable (z n : Fin 8) (i : Fin 128) (h : Fin 8) (j : Fin 256) (d : Fin 64)

/-- The weighted incoming gradient. -/
theorem v150_at : val_main_v150 (F := Ideal) (up q) (up k) (up l0) (up l2) (up dy) (ix4 (bat z) (pos z n i) h d) = ((weight (sub q z h) (sub k z h) (subM l0 z h) (subM l2 z h) n i * sub dy z h n i d : ℝ) : EReal) := by
  have e : val_main_v149 (F := Ideal) (up q) (up k) (up l0) (up l2) (ix4 (bat z) (pos z n i) h d)
      = val_main_v128 (F := Ideal) (up q) (up k) (up l0) (up l2) (ix3 (bat z) (pos z n i) h) := by
    pointwise [val_main_v149, val_main_v129]
  rw [val_main_v150_apply, e, v128_at, v141_at]
  exact (EReal.coe_mul _ _).symm

/-- By sequence and block. -/
theorem v192_at : val_main_v192 (F := Ideal) (up q) (up k) (up l0) (up l2) (up dy) (ix5 z n h d i) = ((weight (sub q z h) (sub k z h) (subM l0 z h) (subM l2 z h) n i * sub dy z h n i d : ℝ) : EReal) := by
  have e := v150_at q k dy l0 l2 z n i h d
  rw [← e]
  pointwise [val_main_v192, val_main_v189, val_main_v188, val_main_v187]
  rfl

/-- The gradient of a weight. -/
theorem v193_at : val_main_v193 (F := Ideal) (up q) (up k) (up v) (up l0) (up l2) (up dy) (ix5 z n h i j) = ((dweight (sub q z h) (sub k z h) (sub v z h) (sub dy z h) (subM l0 z h) (subM l2 z h) n i j : ℝ) : EReal) := by
  pointwise [val_main_v193, v192_at, v23_at]
  simp only [← EReal.coe_mul, sum_up]
  rfl

/-- The gradient of the values, by block. -/
theorem v195_at : val_main_v195 (F := Ideal) (up q) (up k) (up l0) (up l2) (up dy) (ix5 z n j h d)
    = ((dvAt (sub q z h) (sub k z h) (sub dy z h) (subM l0 z h) (subM l2 z h) n j d : ℝ) : EReal) := by
  pointwise [val_main_v195, val_main_v194, v192_at, v72_at]
  simp only [← EReal.coe_mul, sum_up]
  rfl

/-- What reaches the normaliser, by sequence and block. -/
theorem v190_at : val_main_v190 (F := Ideal) (up q) (up k) (up v) (up o0) (up l0) (up o2) (up l2) (up dy) (ix5 z n h i 0) = ((weight (sub q z h) (sub k z h) (subM l0 z h) (subM l2 z h) n i * (againstOut q k v dy z n i h - rowSum (sub q z h) (sub k z h) (sub v z h) (sub o0 z h) (sub o2 z h) (sub dy z h) (subM l0 z h) (subM l2 z h) n i) : ℝ) : EReal) := by
  rw [← v180_at]
  pointwise [val_main_v190, val_main_v186, val_main_v185, val_main_v184, val_main_v183]
  rfl

/-- The reciprocal of the square of the divisor. -/
theorem v196_at : val_main_v196 (F := Ideal) (up q) (up k) (ix5 z n h i j)
    = ((1 / ((den (sub q z h) (sub k z h) n i * Real.exp (-top q k z n i h)) * (den (sub q z h) (sub k z h) n i * Real.exp (-top q k z n i h))) : ℝ) : EReal) := by
  have e : val_main_v73 (F := Ideal) (up q) (up k) (ix5 z n h i 0) = (((den (sub q z h) (sub k z h) n i * Real.exp (-top q k z n i h)) * (den (sub q z h) (sub k z h) n i * Real.exp (-top q k z n i h)) : ℝ) : EReal) := by
    rw [val_main_v73_apply, v70_at]
    exact (EReal.coe_mul _ _).symm
  have e1 : val_main_v75 (F := Ideal) (up q) (up k) (ix5 z n h i 0) = ((1 / ((den (sub q z h) (sub k z h) n i * Real.exp (-top q k z n i h)) * (den (sub q z h) (sub k z h) n i * Real.exp (-top q k z n i h))) : ℝ) : EReal) := by
    pointwise [val_main_v75, val_main_v74, val_main_cst_13, e]
    exact div_up 1 _ (mul_ne_zero (scale_ne q k z n i h) (scale_ne q k z n i h))
  pointwise [val_main_v196, e1]

/-- The gradients of the weights, summed with the weights. -/
theorem v199_at : val_main_v199 (F := Ideal) (up q) (up k) (up v) (up l0) (up l2) (up dy) (ix4 z n h i)
    = ((weight (sub q z h) (sub k z h) (subM l0 z h) (subM l2 z h) n i * againstOut q k v dy z n i h / (den (sub q z h) (sub k z h) n i * Real.exp (-top q k z n i h)) : ℝ) : EReal) := by
  have e (j : Fin 256) : val_main_v198 (F := Ideal) (up q) (up k) (up v) (up l0) (up l2) (up dy) (ix5 z n h i j)
      = ((dweight (sub q z h) (sub k z h) (sub v z h) (sub dy z h) (subM l0 z h) (subM l2 z h) n i j * (wt (sub q z h) (sub k z h) n i j / den (sub q z h) (sub k z h) n i) / (den (sub q z h) (sub k z h) n i * Real.exp (-top q k z n i h)) : ℝ) : EReal) := by
    rw [val_main_v198_apply, val_main_v197_apply, v193_at, v196_at, v68_at]
    refine (congrArg (fun x : EReal => x * _) (EReal.coe_mul _ _).symm).trans ((EReal.coe_mul _ _).symm.trans (congrArg _ ?_))
    have h1 := (den_pos (sub q z h) (sub k z h) n i).ne'
    have h2 := Real.exp_ne_zero (-top q k z n i h)
    field_simp
  pointwise [val_main_v199, val_main_cst_37, e]
  rw [sum_up]
  refine congrArg _ ?_
  show _ = weight (sub q z h) (sub k z h) (subM l0 z h) (subM l2 z h) n i * (∑ d, sub dy z h n i d * out (sub q z h) (sub k z h) (sub v z h) n i d) / _
  rw [← sum_dweight]
  simp only [div_eq_mul_inv, ← Finset.sum_mul]

/-- What every score of a query receives. -/
theorem v202_at : val_main_v202 (F := Ideal) (up q) (up k) (up v) (up o0) (up l0) (up o2) (up l2) (up dy) (ix5 z n h i 0)
    = ((-(weight (sub q z h) (sub k z h) (subM l0 z h) (subM l2 z h) n i * rowSum (sub q z h) (sub k z h) (sub v z h) (sub o0 z h) (sub o2 z h) (sub dy z h) (subM l0 z h) (subM l2 z h) n i) / (den (sub q z h) (sub k z h) n i * Real.exp (-top q k z n i h)) : ℝ) : EReal) := by
  have e : val_main_v200 (F := Ideal) (up q) (up k) (up v) (up l0) (up l2) (up dy) (ix5 z n h i 0) = val_main_v199 (F := Ideal) (up q) (up k) (up v) (up l0) (up l2) (up dy) (ix4 z n h i) := by
    pointwise [val_main_v200]
  have e1 : val_main_v201 (F := Ideal) (up q) (up k) (up v) (up l0) (up l2) (up dy) (ix5 z n h i 0) = ((-(weight (sub q z h) (sub k z h) (subM l0 z h) (subM l2 z h) n i * againstOut q k v dy z n i h / (den (sub q z h) (sub k z h) n i * Real.exp (-top q k z n i h))) : ℝ) : EReal) := by
    rw [val_main_v201_apply, e, v199_at]
    exact (EReal.coe_neg _).symm
  have e2 : val_main_v191 (F := Ideal) (up q) (up k) (up v) (up o0) (up l0) (up o2) (up l2) (up dy) (ix5 z n h i 0) = ((weight (sub q z h) (sub k z h) (subM l0 z h) (subM l2 z h) n i * (againstOut q k v dy z n i h - rowSum (sub q z h) (sub k z h) (sub v z h) (sub o0 z h) (sub o2 z h) (sub dy z h) (subM l0 z h) (subM l2 z h) n i) / (den (sub q z h) (sub k z h) n i * Real.exp (-top q k z n i h)) : ℝ) : EReal) := by
    rw [val_main_v191_apply, v190_at, v70_at]
    exact div_up _ _ (scale_ne q k z n i h)
  rw [val_main_v202_apply, e1, e2]
  refine (EReal.coe_add _ _).symm.trans (congrArg _ ?_)
  ring

theorem v205_at : val_main_v205 (F := Ideal) (up q) (up k) (up v) (up o0) (up l0) (up o2) (up l2) (up dy) (ix4 z n h i) = ((-(weight (sub q z h) (sub k z h) (subM l0 z h) (subM l2 z h) n i * rowSum (sub q z h) (sub k z h) (sub v z h) (sub o0 z h) (sub o2 z h) (sub dy z h) (subM l0 z h) (subM l2 z h) n i) / (den (sub q z h) (sub k z h) n i * Real.exp (-top q k z n i h)) : ℝ) : EReal) := by
  pointwise [val_main_v205, val_main_cst_38, v202_at]
  rw [Fin.sum_univ_one, v202_at]

/-- The gradient of a score. -/
theorem v208_at : val_main_v208 (F := Ideal) (up q) (up k) (up v) (up o0) (up l0) (up o2) (up l2) (up dy) (ix5 z n h i j) = ((dscore (sub q z h) (sub k z h) (sub v z h) (sub o0 z h) (sub o2 z h) (sub dy z h) (subM l0 z h) (subM l2 z h) n i j : ℝ) : EReal) := by
  have e : val_main_v203 (F := Ideal) (up q) (up k) (ix5 z n h i j) = val_main_v70 (F := Ideal) (up q) (up k) (ix5 z n h i 0) := by
    pointwise [val_main_v203]
  have e1 : val_main_v204 (F := Ideal) (up q) (up k) (up v) (up l0) (up l2) (up dy) (ix5 z n h i j) = ((dweight (sub q z h) (sub k z h) (sub v z h) (sub dy z h) (subM l0 z h) (subM l2 z h) n i j / (den (sub q z h) (sub k z h) n i * Real.exp (-top q k z n i h)) : ℝ) : EReal) := by
    rw [val_main_v204_apply, e, v193_at, v70_at]
    exact div_up _ _ (scale_ne q k z n i h)
  have e2 : val_main_v206 (F := Ideal) (up q) (up k) (up v) (up o0) (up l0) (up o2) (up l2) (up dy) (ix5 z n h i j) = val_main_v205 (F := Ideal) (up q) (up k) (up v) (up o0) (up l0) (up o2) (up l2) (up dy) (ix4 z n h i) := by
    pointwise [val_main_v206]
  rw [val_main_v208_apply, val_main_v207_apply, e1, e2, v205_at, v68_at]
  refine (congrArg (fun x : EReal => x * _) (EReal.coe_add _ _).symm).trans ((EReal.coe_mul _ _).symm.trans (congrArg _ ?_))
  have h1 := (den_pos (sub q z h) (sub k z h) n i).ne'
  have h2 := Real.exp_ne_zero (-top q k z n i h)
  unfold dscore
  field_simp
  ring

/-- The gradients of a query's scores and what reaches its normaliser cancel. -/
theorem v213_at : val_main_v213 (F := Ideal) (up q) (up k) (up v) (up o0) (up l0) (up o2) (up l2) (up dy) (ix4 z n h i) = (0 : EReal) := by
  have e (j : Fin 256) : val_main_v209 (F := Ideal) (up q) (up k) (up v) (up o0) (up l0) (up o2) (up l2) (up dy) (ix5 z n h i j) = ((-dscore (sub q z h) (sub k z h) (sub v z h) (sub o0 z h) (sub o2 z h) (sub dy z h) (subM l0 z h) (subM l2 z h) n i j : ℝ) : EReal) := by
    rw [val_main_v209_apply, v208_at]
    exact (EReal.coe_neg _).symm
  have e1 : val_main_v210 (F := Ideal) (up q) (up k) (up v) (up o0) (up l0) (up o2) (up l2) (up dy) (ix4 z n h i) = ((-(weight (sub q z h) (sub k z h) (subM l0 z h) (subM l2 z h) n i * (againstOut q k v dy z n i h - rowSum (sub q z h) (sub k z h) (sub v z h) (sub o0 z h) (sub o2 z h) (sub dy z h) (subM l0 z h) (subM l2 z h) n i)) : ℝ) : EReal) := by
    pointwise [val_main_v210, val_main_cst_39, e]
    rw [sum_up, Finset.sum_neg_distrib, sum_dscore]
    rfl
  have e2 : val_main_v211 (F := Ideal) (up q) (up k) (up v) (up o0) (up l0) (up o2) (up l2) (up dy) (ix5 z n h i 0) = val_main_v210 (F := Ideal) (up q) (up k) (up v) (up o0) (up l0) (up o2) (up l2) (up dy) (ix4 z n h i) := by
    pointwise [val_main_v211]
  have e3 : val_main_v212 (F := Ideal) (up q) (up k) (up v) (up o0) (up l0) (up o2) (up l2) (up dy) (ix5 z n h i 0) = (0 : EReal) := by
    rw [val_main_v212_apply, e2, e1, v190_at]
    refine (EReal.coe_add _ _).symm.trans ?_
    rw [add_neg_cancel, EReal.coe_zero]
  pointwise [val_main_v213, val_main_cst_40, e3]
  rw [Fin.sum_univ_one, e3]

/-- How many of a query's scores are the largest: not none. -/
theorem v64_ne : (show EReal from val_main_v64 (F := Ideal) (up q) (up k) (ix4 z n h i)) ≠ 0 := by
  obtain ⟨j, hj⟩ := (v59_top q k z n i h).2
  have e (j : Fin 256) : val_main_v61 (F := Ideal) (up q) (up k) (ix5 z n h i j) = val_main_v59 (F := Ideal) (up q) (up k) (ix4 z n h i) := by
    pointwise [val_main_v61, val_main_v60]
  pointwise [val_main_v64, val_main_cst_11, val_main_v63, val_main_v62, e]
  have p (x : Fin 256) : (0 : EReal) ≤ FloatOps.uitofp (F := Ideal) FTy.f32 (BitVec.ofBool (decide
      (val_main_v58_0 (F := Ideal) (up q) (up k) (ix5 z n h i x) = val_main_v59 (F := Ideal) (up q) (up k) (ix4 z n h i)))) :=
    EReal.coe_nonneg.2 (Nat.cast_nonneg _)
  have p1 : FloatOps.uitofp (F := Ideal) FTy.f32 (BitVec.ofBool (decide
      (val_main_v58_0 (F := Ideal) (up q) (up k) (ix5 z n h i j) = val_main_v59 (F := Ideal) (up q) (up k) (ix4 z n h i)))) = (1 : EReal) := by
    rw [hj, (v59_top q k z n i h).1, decide_eq_true rfl]
    show ((((1#1 : BitVec 1).toNat : ℝ)) : EReal) = 1
    norm_num
  refine (lt_of_lt_of_le zero_lt_one (p1.symm.le.trans ?_)).ne'
  exact Finset.single_le_sum (f := fun x : Fin 256 => FloatOps.uitofp (F := Ideal) FTy.f32 (BitVec.ofBool (decide
      (val_main_v58_0 (F := Ideal) (up q) (up k) (ix5 z n h i x) = val_main_v59 (F := Ideal) (up q) (up k) (ix4 z n h i)))))
    (fun x _ => p x) (Finset.mem_univ j)

/-- What the largest score receives beside: nothing. -/
theorem v216_at : val_main_v216 (F := Ideal) (up q) (up k) (up v) (up o0) (up l0) (up o2) (up l2) (up dy) (ix5 z n h i j) = (0 : EReal) := by
  have e : val_main_v214 (F := Ideal) (up q) (up k) (up v) (up o0) (up l0) (up o2) (up l2) (up dy) (ix4 z n h i) = (0 : EReal) := by
    rw [val_main_v214_apply, v213_at]
    exact Ideal.zero_div (v64_ne q k z n i h)
  have e1 : val_main_v215 (F := Ideal) (up q) (up k) (up v) (up o0) (up l0) (up o2) (up l2) (up dy) (ix5 z n h i j) = (0 : EReal) := by
    pointwise [val_main_v215, e]
  rw [val_main_v216_apply, e1]
  exact zero_mul _

/-- The gradient of an unscaled product. -/
theorem v220_at : val_main_v220 (F := Ideal) (up q) (up k) (up v) (up o0) (up l0) (up o2) (up l2) (up dy) (ix5 z n h i j) = ((dscore (sub q z h) (sub k z h) (sub v z h) (sub o0 z h) (sub o2 z h) (sub dy z h) (subM l0 z h) (subM l2 z h) n i j * (1 / 8) : ℝ) : EReal) := by
  have e : val_main_v217 (F := Ideal) (up q) (up k) (up v) (up o0) (up l0) (up o2) (up l2) (up dy) (ix5 z n h i j) = ((dscore (sub q z h) (sub k z h) (sub v z h) (sub o0 z h) (sub o2 z h) (sub dy z h) (subM l0 z h) (subM l2 z h) n i j : ℝ) : EReal) := by
    rw [val_main_v217_apply, v216_at, v208_at]
    exact add_zero _
  have e1 : val_main_v218 (F := Ideal) (up q) (up k) (up v) (up o0) (up l0) (up o2) (up l2) (up dy) (ix5 z n h i j) = ((dscore (sub q z h) (sub k z h) (sub v z h) (sub o0 z h) (sub o2 z h) (sub dy z h) (subM l0 z h) (subM l2 z h) n i j : ℝ) : EReal) := by
    pointwise [val_main_v218, val_main_call1_v0, val_main_call1_cst, e, v58_1_at]
    rw [select_ite]
    split
    · rfl
    · rename_i c
      rw [dscore, wt, if_neg c, zero_div, zero_mul, EReal.coe_zero]
  have e2 : val_main_v219 (F := Ideal) (ix5 z n h i j) = (((1 / 8 : ℝ)) : EReal) := by
    pointwise [val_main_v219, val_main_cst_41]
    exact eighth_bits
  rw [val_main_v220_apply, e1, e2]
  exact (EReal.coe_mul _ _).symm

/-- The gradient of the keys, by block. -/
theorem v222_at : val_main_v222 (F := Ideal) (up q) (up k) (up v) (up o0) (up l0) (up o2) (up l2) (up dy) (ix5 z n j h d)
    = ((dkAt (sub q z h) (sub k z h) (sub v z h) (sub o0 z h) (sub o2 z h) (sub dy z h) (subM l0 z h) (subM l2 z h) n j d : ℝ) : EReal) := by
  have e (i : Fin 128) := v220_at q k v o0 o2 dy l0 l2 z n i h j
  pointwise [val_main_v222, val_main_v221, e, v3_at]
  simp only [← EReal.coe_mul, sum_up]
  rfl

/-- The gradient of the queries, by block. -/
theorem v224_at : val_main_v224 (F := Ideal) (up q) (up k) (up v) (up o0) (up l0) (up o2) (up l2) (up dy) (ix5 z n i h d)
    = ((dq (sub q z h) (sub k z h) (sub v z h) (sub o0 z h) (sub o2 z h) (sub dy z h) (subM l0 z h) (subM l2 z h) n i d / 8 : ℝ) : EReal) := by
  have e (j : Fin 256) := v220_at q k v o0 o2 dy l0 l2 z n i h j
  pointwise [val_main_v224, val_main_v223, e, v13_at]
  simp only [← EReal.coe_mul, sum_up]
  refine congrArg _ ?_
  unfold dq
  rw [Finset.sum_div]
  exact Finset.sum_congr rfl fun j _ => by ring

end Cert.ReferenceIdeal.Fwd

end
-- ==== Proof.RefOut.lean ====
module

public import proofs.«01_k».proof.Proof.RefBwd

/-! The reference's results, read at a position. -/

@[expose] public section

set_option maxRecDepth 16384

noncomputable section

namespace Cert.ReferenceIdeal.Fwd

open Idealize.ShloMosaic Idealize.ShloMosaic.TcCoe Idealize.SL.Sem Cert.ReferenceIdeal Cert.ReferenceIdeal.Gen
open Cert.ReferenceIdeal.Read Window

variable (q k v o0 o2 dy : S2x4096x8x64.Idx → ℝ) (l0 l2 : S2x4096x8.Idx → ℝ)
variable (z n : Fin 8) (i : Fin 128) (h : Fin 8) (j : Fin 256) (d : Fin 64)

/-- Values: a block's own half, and the other half of the next block. -/
theorem v230_at : val_main_v230 (F := Ideal) (up q) (up k) (up l0) (up l2) (up dy) (ix5 z n i h d) = ((gather (dvAt (sub q z h) (sub k z h) (sub dy z h) (subM l0 z h) (subM l2 z h)) n i d : ℝ) : EReal) := by
  have e (n : Fin 8) (j : Fin 256) := v195_at q k dy l0 l2 z n h j d
  have e1 : val_main_v229 (F := Ideal) (up q) (up k) (up l0) (up l2) (up dy) (ix5 z n i h d)
      = if H : n.val < 7 then ((dvAt (sub q z h) (sub k z h) (sub dy z h) (subM l0 z h) (subM l2 z h) ⟨n.val + 1, by omega⟩ ⟨i.val, by omega⟩ d : ℝ) : EReal) else 0 := by
    pointwise [val_main_v229, val_main_v228, val_main_v225, val_main_cst_42, e]
    split
    · exact congrArg (fun x : Fin 8 => ((dvAt (sub q z h) (sub k z h) (sub dy z h) (subM l0 z h) (subM l2 z h) x ⟨i.val, by omega⟩ d : ℝ) : EReal)) (Fin.ext (Nat.add_comm _ _))
    · rfl
  have e2 : val_main_v226 (F := Ideal) (up q) (up k) (up l0) (up l2) (up dy) (ix5 z n i h d) = ((dvAt (sub q z h) (sub k z h) (sub dy z h) (subM l0 z h) (subM l2 z h) n ⟨128 + i.val, by omega⟩ d : ℝ) : EReal) := by
    pointwise [val_main_v226, e]
  rw [val_main_v230_apply, e1, e2]
  unfold gather
  split
  · exact (EReal.coe_add _ _).symm
  · exact (add_zero _).trans (congrArg _ (add_zero _).symm)

/-- Keys: a block's own half, and the other half of the next block. -/
theorem v240_at : val_main_v240 (F := Ideal) (up q) (up k) (up v) (up o0) (up l0) (up o2) (up l2) (up dy) (ix5 z n i h d) = ((gather (dkAt (sub q z h) (sub k z h) (sub v z h) (sub o0 z h) (sub o2 z h) (sub dy z h) (subM l0 z h) (subM l2 z h)) n i d : ℝ) : EReal) := by
  have e (n : Fin 8) (j : Fin 256) := v222_at q k v o0 o2 dy l0 l2 z n h j d
  have e1 : val_main_v239 (F := Ideal) (up q) (up k) (up v) (up o0) (up l0) (up o2) (up l2) (up dy) (ix5 z n i h d)
      = if H : n.val < 7 then ((dkAt (sub q z h) (sub k z h) (sub v z h) (sub o0 z h) (sub o2 z h) (sub dy z h) (subM l0 z h) (subM l2 z h) ⟨n.val + 1, by omega⟩ ⟨i.val, by omega⟩ d : ℝ) : EReal) else 0 := by
    pointwise [val_main_v239, val_main_v238, val_main_v235, val_main_cst_43, e]
    split
    · exact congrArg (fun x : Fin 8 => ((dkAt (sub q z h) (sub k z h) (sub v z h) (sub o0 z h) (sub o2 z h) (sub dy z h) (subM l0 z h) (subM l2 z h) x ⟨i.val, by omega⟩ d : ℝ) : EReal)) (Fin.ext (Nat.add_comm _ _))
    · rfl
  have e2 : val_main_v236 (F := Ideal) (up q) (up k) (up v) (up o0) (up l0) (up o2) (up l2) (up dy) (ix5 z n i h d) = ((dkAt (sub q z h) (sub k z h) (sub v z h) (sub o0 z h) (sub o2 z h) (sub dy z h) (subM l0 z h) (subM l2 z h) n ⟨128 + i.val, by omega⟩ d : ℝ) : EReal) := by
    pointwise [val_main_v236, e]
  rw [val_main_v240_apply, e1, e2]
  unfold gather
  split
  · exact (EReal.coe_add _ _).symm
  · exact (add_zero _).trans (congrArg _ (add_zero _).symm)

/-- The values' gradient in the order of the array. -/
theorem v259_at : val_main_v259 (F := Ideal) (up q) (up k) (up l0) (up l2) (up dy) (ix2 (row z n i) (lane h d)) = ((gather (dvAt (sub q z h) (sub k z h) (sub dy z h) (subM l0 z h) (subM l2 z h)) n i d : ℝ) : EReal) := by
  have e := v230_at q k dy l0 l2 z n i h d
  pointwise [val_main_v259, val_main_v258, val_main_v257, val_main_v234, val_main_v233, val_main_v232, val_main_v231]
  simp only [row_seq, row_blk, row_off, lane_head, lane_off]
  exact e

/-- The keys' gradient in the order of the array. -/
theorem v256_at : val_main_v256 (F := Ideal) (up q) (up k) (up v) (up o0) (up l0) (up o2) (up l2) (up dy) (ix2 (row z n i) (lane h d)) = ((gather (dkAt (sub q z h) (sub k z h) (sub v z h) (sub o0 z h) (sub o2 z h) (sub dy z h) (subM l0 z h) (subM l2 z h)) n i d : ℝ) : EReal) := by
  have e := v240_at q k v o0 o2 dy l0 l2 z n i h d
  pointwise [val_main_v256, val_main_v255, val_main_v254, val_main_v244, val_main_v243, val_main_v242, val_main_v241]
  simp only [row_seq, row_blk, row_off, lane_head, lane_off]
  exact e

/-- An eighth, eightfold. -/
theorem eightfold (x : ℝ) : FloatOps.mulf (F := Ideal) (φ := .f32) ((x / 8 : ℝ) : EReal) ((8 : ℝ) : EReal) = (x : EReal) := by
  refine (EReal.coe_mul _ _).symm.trans (congrArg _ ?_)
  ring

/-- Blocks, in the order of the sequence, then by residue. -/
theorem by_residue (x : FVec Ideal S8x8x128x8x64 .f32) :
    shapeCast S8192x512 (transpose S2x4x1024x512 [0, 2, 1, 3] (shapeCast S2x1024x4x512 (shapeCast S2x4096x8x64
      (transpose S2x1024x4x8x64 [0, 2, 1, 3, 4] (shapeCast S2x4x1024x8x64 (shapeCast S8x1024x8x64 x
        shapeCasts_S8x8x128x8x64_S8x1024x8x64) shapeCasts_S8x1024x8x64_S2x4x1024x8x64)
        transposes_S2x4x1024x8x64_S2x1024x4x8x64_0_2_1_3_4) shapeCasts_S2x1024x4x8x64_S2x4096x8x64)
        shapeCasts_S2x4096x8x64_S2x1024x4x512) transposes_S2x1024x4x512_S2x4x1024x512_0_2_1_3)
        shapeCasts_S2x4x1024x512_S8192x512 (ix2 (row z n i) (lane h d)) = x (ix5 z n i h d) := by
  pointwise []
  simp only [row_seq, row_blk, row_off, lane_head, lane_off]

/-- The queries' gradient in the order of the array. -/
theorem v251_at : val_main_v251 (F := Ideal) (up q) (up k) (up v) (up o0) (up l0) (up o2) (up l2) (up dy) (ix2 (row z n i) (lane h d)) = ((dq (sub q z h) (sub k z h) (sub v z h) (sub o0 z h) (sub o2 z h) (sub dy z h) (subM l0 z h) (subM l2 z h) n i d / 8 : ℝ) : EReal) := by
  unfold val_main_v251 val_main_v250 val_main_v249 val_main_v248 val_main_v247 val_main_v246 val_main_v245
  exact (by_residue z n i h d _).trans (v224_at q k v o0 o2 dy l0 l2 z n i h d)

theorem v252_at (x : S8192x512.Idx) : val_main_v252 (F := Ideal) x = ((8 : ℝ) : EReal) := by
  pointwise [val_main_v252, val_main_cst_44]
  exact eight_bits

/-- The queries' gradient in the order of the array, eightfold. -/
theorem v253_at : val_main_v253 (F := Ideal) (up q) (up k) (up v) (up o0) (up l0) (up o2) (up l2) (up dy) (ix2 (row z n i) (lane h d)) = ((dq (sub q z h) (sub k z h) (sub v z h) (sub o0 z h) (sub o2 z h) (sub dy z h) (subM l0 z h) (subM l2 z h) n i d : ℝ) : EReal) := by
  rw [val_main_v253_apply, v251_at, v252_at, eightfold]

/-- The result's columns: queries, then keys, then values. -/
theorem v260_q : val_main_v260 (F := Ideal) (up q) (up k) (up v) (up o0) (up l0) (up o2) (up l2) (up dy) (ix2 (row z n i) ⟨h.val * 64 + d.val, by omega⟩) = ((dq (sub q z h) (sub k z h) (sub v z h) (sub o0 z h) (sub o2 z h) (sub dy z h) (subM l0 z h) (subM l2 z h) n i d : ℝ) : EReal) := by
  have e := v253_at q k v o0 o2 dy l0 l2 z n i h d
  have e1 : h.val * 64 + d.val < 512 := by omega
  pointwise [val_main_v260, e1]
  exact e

theorem v260_k : val_main_v260 (F := Ideal) (up q) (up k) (up v) (up o0) (up l0) (up o2) (up l2) (up dy) (ix2 (row z n i) ⟨512 + (h.val * 64 + d.val), by omega⟩) = ((gather (dkAt (sub q z h) (sub k z h) (sub v z h) (sub o0 z h) (sub o2 z h) (sub dy z h) (subM l0 z h) (subM l2 z h)) n i d : ℝ) : EReal) := by
  have e := v256_at q k v o0 o2 dy l0 l2 z n i h d
  have e0 : ¬ 512 + (h.val * 64 + d.val) < 512 := by omega
  have e1 : 512 + (h.val * 64 + d.val) < 1024 := by omega
  pointwise [val_main_v260, e0, e1]
  split
  · exact e
  · exact absurd (lane h d).isLt ‹_›

theorem v260_v : val_main_v260 (F := Ideal) (up q) (up k) (up v) (up o0) (up l0) (up o2) (up l2) (up dy) (ix2 (row z n i) ⟨1024 + (h.val * 64 + d.val), by omega⟩) = ((gather (dvAt (sub q z h) (sub k z h) (sub dy z h) (subM l0 z h) (subM l2 z h)) n i d : ℝ) : EReal) := by
  have e := v259_at q k dy l0 l2 z n i h d
  have e0 : ¬ 1024 + (h.val * 64 + d.val) < 512 := by omega
  have e1 : ¬ 1024 + (h.val * 64 + d.val) < 1024 := by omega
  pointwise [val_main_v260, e0, e1]
  have e2 : 1024 + (h.val * 64 + d.val) - 512 - 512 = h.val * 64 + d.val := by omega
  split
  · rename_i c; exact absurd c (by omega)
  · simp only [e2]; exact e

end Cert.ReferenceIdeal.Fwd

end
-- ==== Proof.Pairs.lean ====
module

public import proofs.«01_k».proof.Proof.Slabs
public import proofs.«01_k».proof.Proof.TileVal
public import proofs.«01_k».proof.Proof.RefOut

/-! What a pair's three tiles hold: the reference's gradients of that pair's queries, keys and values. -/

@[expose] public section

set_option maxRecDepth 16384

noncomputable section

namespace Cert.KernelIdeal.Blocks

open Idealize.ShloMosaic Idealize.ShloMosaic.TcCoe Idealize.SL.Sem Cert.KernelIdeal Cert.KernelIdeal.Gen
open Window Cert.KernelIdeal.HostRead Cert.KernelIdeal.Tiles
open Cert.ReferenceIdeal.Fwd (v260_q v260_k v260_v)

variable {q k v o0 o2 dy : Cert.ReferenceIdeal.S2x4096x8x64.Idx → ℝ} {l0 l2 : Cert.ReferenceIdeal.S2x4096x8.Idx → ℝ}
variable {t : Fin cfg0.N} {n : Fin 8}

section Loads

variable {X : Vec Ideal S128x1536 .bf16} (w : Wide q k v t n X) (p : Fin 4) (o : ℕ) (h)
include w

theorem holds_q (ho : o = 128 * p.val) : Holds (View.ld X (Rect.unit (s := S128x1536) ![0, o] S128x128.size h)) (blkQ (pr q t p) n) := by
  subst ho
  intro i l
  exact (ld_cols _ h X i l (by omega)).trans (w p i l).1

theorem holds_k (ho : o = 512 + 128 * p.val) : Holds (View.ld X (Rect.unit (s := S128x1536) ![0, o] S128x128.size h)) (blk (pr k t p) n) := by
  subst ho
  intro i l
  refine (ld_cols _ h X i l (by omega)).trans (Eq.trans ?_ (w p i l).2.1)
  exact congrArg (fun x => X (ix2 i x)) (Fin.ext (Nat.add_assoc _ _ _))

theorem holds_v (ho : o = 1024 + 128 * p.val) : Holds (View.ld X (Rect.unit (s := S128x1536) ![0, o] S128x128.size h)) (blk (pr v t p) n) := by
  subst ho
  intro i l
  refine (ld_cols _ h X i l (by omega)).trans (Eq.trans ?_ (w p i l).2.2)
  exact congrArg (fun x => X (ix2 i x)) (Fin.ext (Nat.add_assoc _ _ _))

end Loads

theorem holds_g {X : Vec Ideal S128x512 .f32} (w : Grads dy t n X) (p : Fin 4) (o : ℕ) (h) (ho : o = 128 * p.val) (i l : Fin 128) :
    View.ld X (Rect.unit (s := S128x512) ![0, o] S128x128.size h) (ix2 i l) = ((blk (pr dy t p) n i (half l) (off l) : ℝ) : EReal) := by
  subst ho
  exact (ld_grad _ h X i l (by omega)).trans (w p i l)

theorem col_of {f : Fin 4 → Fin 2 → Fin 128 → ℝ} {X : Vec Ideal S128x128 .f32} (w : Columns f X) (p : Fin 4) (b : Fin 2) (e : ℕ) (h)
    (he : e = 2 * p.val + b.val) : Col (View.ld X (Rect.unit (s := S128x128) ![0, e] S128x1.size h)) (f p b) := by
  subst he
  intro i
  exact (ld_col _ h X i (by omega)).trans (w p b i)

/-- A row of the transposed normalisers: the current block's, then the next one's. -/
theorem row_lse {f : Fin 8 → Fin 4 → Fin 2 → Fin 128 → ℝ} {x5 x6 : Vec Ideal S128x128 .f32}
    (w5 : Columns (f n) x5) (w6 : Columns (f (nxt n)) x6) (p : Fin 4) (b : Fin 2) (e : ℕ) (h) (he : e = 2 * p.val + b.val) :
    Row (extractStridedSlice S1x256 ![e, 0] (lseT (View.ld x5 r0_0) (View.ld x6 r0_0)) h) (two (fun n => f n p) n b) := by
  subst he
  intro j
  by_cases hj : j.val < 128
  · have e5 := w5 p b ⟨j.val, hj⟩
    pointwise [lseT, slabF, two, hj, ld_all]
    exact e5
  · have e6 := w6 p b ⟨j.val - 128, by omega⟩
    pointwise [lseT, slabF, two, hj, ld_all]
    exact e6

/-- Less a real number times another. -/
theorem neg_prod (a b : ℝ) : (0 - ((a : ℝ) : EReal)) * ((b : ℝ) : EReal) = (((0 - a) * b : ℝ) : EReal) := by
  rw [EReal.coe_mul, EReal.coe_sub, EReal.coe_zero]

/-- A row of the transposed products. -/
theorem row_dl {f g : Fin 8 → Fin 4 → Fin 2 → Fin 128 → ℝ} {x7 x8 x9 x10 : Vec Ideal S128x128 .f32}
    (w7 : Columns (f n) x7) (w8 : Columns (f (nxt n)) x8) (w9 : Columns (g n) x9) (w10 : Columns (g (nxt n)) x10)
    (p : Fin 4) (b : Fin 2) (e : ℕ) (h) (he : e = 2 * p.val + b.val) :
    Row (extractStridedSlice S1x256 ![e, 0] (dlT (View.ld x7 r0_0) (View.ld x8 r0_0) (View.ld x9 r0_0) (View.ld x10 r0_0)) h)
      (two (fun n b i => (0 - f n p b i) * g n p b i) n b) := by
  subst he
  intro j
  by_cases hj : j.val < 128
  · have e7 := w7 p b ⟨j.val, hj⟩
    have e9 := w9 p b ⟨j.val, hj⟩
    pointwise [dlT, negProd, slabF, two, hj, ld_all]
    rw [e7, e9]
    exact neg_prod _ _
  · have e8 := w8 p b ⟨j.val - 128, by omega⟩
    have e10 := w10 p b ⟨j.val - 128, by omega⟩
    pointwise [dlT, negProd, slabF, two, hj, ld_all]
    rw [e8, e10]
    exact neg_prod _ _

/-- The second grid coordinate is the block of the residue. -/
theorem coord (t : Fin cfg0.N) : (grid0.coords t 1).val = (nn t).val := by
  revert t; decide +kernel

section PairTiles

variable {x0 x1 x2 : Vec Ideal S128x1536 .bf16} {x3 x4 : Vec Ideal S128x512 .f32} {x5 x6 x7 x8 x9 x10 : Vec Ideal S128x128 .f32}
variable (H : Holding q k v o0 o2 dy l0 l2 t x0 x1 x2 x3 x4 x5 x6 x7 x8 x9 x10) (p : Fin 4)
variable (oQ oK oV oG o1 o2' : ℕ) (hQ hK hV hG h1 h2) (aQ : oQ = 128 * p.val) (aK : oK = 512 + 128 * p.val) (aV : oV = 1024 + 128 * p.val)
  (aG : oG = 128 * p.val) (a1 : o1 = 2 * p.val + 1) (a2 : o2' = 2 * p.val) (i l : Fin 128)
include H aQ aK aV aG a1 a2

/-- The tile of the queries' gradients. -/
theorem pair_q :
    tileQ (k0_pay2 (grid0.coords t)) (View.ld x1 (Rect.unit (s := S128x1536) ![0, oQ] S128x128.size hQ))
      (View.ld x1 (Rect.unit (s := S128x1536) ![0, oK] S128x128.size hK)) (View.ld x1 (Rect.unit (s := S128x1536) ![0, oV] S128x128.size hV))
      (View.ld x0 (Rect.unit (s := S128x1536) ![0, oK] S128x128.size hK)) (View.ld x0 (Rect.unit (s := S128x1536) ![0, oV] S128x128.size hV))
      (View.ld x3 (Rect.unit (s := S128x512) ![0, oG] S128x128.size hG)) (View.ld x4 (Rect.unit (s := S128x512) ![0, oG] S128x128.size hG))
      (View.ld x7 (Rect.unit (s := S128x128) ![0, o1] S128x1.size h1)) (View.ld x7 (Rect.unit (s := S128x128) ![0, o2'] S128x1.size h2))
      (View.ld x8 (Rect.unit (s := S128x128) ![0, o1] S128x1.size h1)) (View.ld x8 (Rect.unit (s := S128x128) ![0, o2'] S128x1.size h2))
      (View.ld x5 (Rect.unit (s := S128x128) ![0, o1] S128x1.size h1)) (View.ld x5 (Rect.unit (s := S128x128) ![0, o2'] S128x1.size h2))
      (View.ld x9 (Rect.unit (s := S128x128) ![0, o1] S128x1.size h1)) (View.ld x9 (Rect.unit (s := S128x128) ![0, o2'] S128x1.size h2)) (ix2 i l)
    = Cert.ReferenceIdeal.Read.val_main_v260 (F := Ideal) (up q) (up k) (up v) (up o0) (up l0) (up o2) (up l2) (up dy)
        (ix2 (row (zz t) (nn t) i) ⟨128 * p.val + l.val, by omega⟩) := by
  refine (tileQ_at _ _ _ _ _ _ _ _ _ _ _ _ _ _ _ _ _ _ (blkW (pr q t p) (pr k t p) (prM l0 t p) (prM l2 t p) (nn t)) (blkW (pr q t p) (pr k t p) (prM l0 t p) (prM l2 t p) (nxt (nn t))) _ (seen (nn t)) (mask_q _ _ (coord t)) (holds_q H.w1 p oQ hQ aQ) (holds_k H.w1 p oK hK aK) (holds_v H.w1 p oV hV aV)
    (holds_k H.w0 p oK hK aK) (holds_v H.w0 p oV hV aV) (holds_g H.g3 p oG hG aG) (holds_g H.g4 p oG hG aG)
    (col_of H.w7 p 1 o1 h1 a1) (col_of H.w7 p 0 o2' h2 a2) (col_of H.w8 p 1 o1 h1 a1) (col_of H.w8 p 0 o2' h2 a2) _ _ _ _
    (blkL (pr q t p) (pr k t p) (nn t)) (blkR (pr q t p) (pr k t p) (pr v t p) (pr o0 t p) (pr o2 t p) (pr dy t p) (prM l0 t p) (prM l2 t p) (nn t))
    (col_of H.l5 p 1 o1 h1 a1) (col_of H.l5 p 0 o2' h2 a2) (col_of H.r9 p 1 o1 h1 a1) (col_of H.r9 p 0 o2' h2 a2) i l).trans ?_
  rw [valQ_eq]
  refine (v260_q q k v o0 o2 dy l0 l2 (zz t) (nn t) i (hd p (half l)) (off l)).symm.trans ?_
  exact congrArg (fun x => Cert.ReferenceIdeal.Read.val_main_v260 (F := Ideal) (up q) (up k) (up v) (up o0) (up l0) (up o2) (up l2) (up dy)
    (ix2 (row (zz t) (nn t) i) x)) (Fin.ext (lane_pair p l))

/-- The tile of the keys' gradients. -/
theorem pair_k (s1 s2) :
    tileK (k0_pay3 (grid0.coords t)) (View.ld x1 (Rect.unit (s := S128x1536) ![0, oQ] S128x128.size hQ))
      (View.ld x1 (Rect.unit (s := S128x1536) ![0, oK] S128x128.size hK)) (View.ld x1 (Rect.unit (s := S128x1536) ![0, oV] S128x128.size hV))
      (View.ld x2 (Rect.unit (s := S128x1536) ![0, oQ] S128x128.size hQ))
      (View.ld x3 (Rect.unit (s := S128x512) ![0, oG] S128x128.size hG)) (View.ld x4 (Rect.unit (s := S128x512) ![0, oG] S128x128.size hG))
      (View.ld x7 (Rect.unit (s := S128x128) ![0, o1] S128x1.size h1)) (View.ld x7 (Rect.unit (s := S128x128) ![0, o2'] S128x1.size h2))
      (View.ld x8 (Rect.unit (s := S128x128) ![0, o1] S128x1.size h1)) (View.ld x8 (Rect.unit (s := S128x128) ![0, o2'] S128x1.size h2))
      (extractStridedSlice S1x256 ![o1, 0] (lseT (View.ld x5 r0_0) (View.ld x6 r0_0)) s1)
      (extractStridedSlice S1x256 ![o2', 0] (lseT (View.ld x5 r0_0) (View.ld x6 r0_0)) s2)
      (extractStridedSlice S1x256 ![o1, 0] (dlT (View.ld x7 r0_0) (View.ld x8 r0_0) (View.ld x9 r0_0) (View.ld x10 r0_0)) s1)
      (extractStridedSlice S1x256 ![o2', 0] (dlT (View.ld x7 r0_0) (View.ld x8 r0_0) (View.ld x9 r0_0) (View.ld x10 r0_0)) s2) (ix2 i l)
    = Cert.ReferenceIdeal.Read.val_main_v260 (F := Ideal) (up q) (up k) (up v) (up o0) (up l0) (up o2) (up l2) (up dy)
        (ix2 (row (zz t) (nn t) i) ⟨512 + (128 * p.val + l.val), by omega⟩) := by
  have L1 := row_lse (f := fun n p => blkL (pr q t p) (pr k t p) n) H.l5 H.l6 p 1 o1 s1 a1
  have L0 := row_lse (f := fun n p => blkL (pr q t p) (pr k t p) n) H.l5 H.l6 p 0 o2' s2 a2
  have D1 := row_dl (f := fun n p => blkW (pr q t p) (pr k t p) (prM l0 t p) (prM l2 t p) n)
    (g := fun n p => blkR (pr q t p) (pr k t p) (pr v t p) (pr o0 t p) (pr o2 t p) (pr dy t p) (prM l0 t p) (prM l2 t p) n)
    H.w7 H.w8 H.r9 H.r10 p 1 o1 s1 a1
  have D0 := row_dl (f := fun n p => blkW (pr q t p) (pr k t p) (prM l0 t p) (prM l2 t p) n)
    (g := fun n p => blkR (pr q t p) (pr k t p) (pr v t p) (pr o0 t p) (pr o2 t p) (pr dy t p) (prM l0 t p) (prM l2 t p) n)
    H.w7 H.w8 H.r9 H.r10 p 0 o2' s2 a2
  refine (tileK_at _ _ _ _ _ _ _ _ _ _ _ _ _ _ _ _ (blkW (pr q t p) (pr k t p) (prM l0 t p) (prM l2 t p) (nn t)) (blkW (pr q t p) (pr k t p) (prM l0 t p) (prM l2 t p) (nxt (nn t))) _ (kept (nn t)) (mask_k _ _ (coord t)) (holds_q H.w1 p oQ hQ aQ) (holds_k H.w1 p oK hK aK) (holds_v H.w1 p oV hV aV)
    (holds_q H.w2 p oQ hQ aQ) (holds_g H.g3 p oG hG aG) (holds_g H.g4 p oG hG aG)
    (col_of H.w7 p 1 o1 h1 a1) (col_of H.w7 p 0 o2' h2 a2) (col_of H.w8 p 1 o1 h1 a1) (col_of H.w8 p 0 o2' h2 a2) _ _ _ _
    (two (blkL (pr q t p) (pr k t p)) (nn t))
    (two (blkD (pr q t p) (pr k t p) (pr v t p) (pr o0 t p) (pr o2 t p) (pr dy t p) (prM l0 t p) (prM l2 t p)) (nn t))
    L1 L0 D1 D0 i l).trans ?_
  rw [valK_eq]
  refine (v260_k q k v o0 o2 dy l0 l2 (zz t) (nn t) i (hd p (half l)) (off l)).symm.trans ?_
  exact congrArg (fun x => Cert.ReferenceIdeal.Read.val_main_v260 (F := Ideal) (up q) (up k) (up v) (up o0) (up l0) (up o2) (up l2) (up dy)
    (ix2 (row (zz t) (nn t) i) x)) (Fin.ext (congrArg (512 + ·) (lane_pair p l)))

/-- The tile of the values' gradients. -/
theorem pair_v (s1 s2) :
    tileV (k0_pay3 (grid0.coords t)) (View.ld x1 (Rect.unit (s := S128x1536) ![0, oQ] S128x128.size hQ))
      (View.ld x1 (Rect.unit (s := S128x1536) ![0, oK] S128x128.size hK))
      (View.ld x2 (Rect.unit (s := S128x1536) ![0, oQ] S128x128.size hQ))
      (View.ld x3 (Rect.unit (s := S128x512) ![0, oG] S128x128.size hG)) (View.ld x4 (Rect.unit (s := S128x512) ![0, oG] S128x128.size hG))
      (View.ld x7 (Rect.unit (s := S128x128) ![0, o1] S128x1.size h1)) (View.ld x7 (Rect.unit (s := S128x128) ![0, o2'] S128x1.size h2))
      (View.ld x8 (Rect.unit (s := S128x128) ![0, o1] S128x1.size h1)) (View.ld x8 (Rect.unit (s := S128x128) ![0, o2'] S128x1.size h2))
      (extractStridedSlice S1x256 ![o1, 0] (lseT (View.ld x5 r0_0) (View.ld x6 r0_0)) s1)
      (extractStridedSlice S1x256 ![o2', 0] (lseT (View.ld x5 r0_0) (View.ld x6 r0_0)) s2) (ix2 i l)
    = Cert.ReferenceIdeal.Read.val_main_v260 (F := Ideal) (up q) (up k) (up v) (up o0) (up l0) (up o2) (up l2) (up dy)
        (ix2 (row (zz t) (nn t) i) ⟨1024 + (128 * p.val + l.val), by omega⟩) := by
  have L1 := row_lse (f := fun n p => blkL (pr q t p) (pr k t p) n) H.l5 H.l6 p 1 o1 s1 a1
  have L0 := row_lse (f := fun n p => blkL (pr q t p) (pr k t p) n) H.l5 H.l6 p 0 o2' s2 a2
  refine (tileV_at _ _ _ _ _ _ _ _ _ _ _ _ _ _ (blkW (pr q t p) (pr k t p) (prM l0 t p) (prM l2 t p) (nn t)) (blkW (pr q t p) (pr k t p) (prM l0 t p) (prM l2 t p) (nxt (nn t))) _ (kept (nn t)) (mask_k _ _ (coord t)) (holds_q H.w1 p oQ hQ aQ) (holds_k H.w1 p oK hK aK)
    (holds_q H.w2 p oQ hQ aQ) (holds_g H.g3 p oG hG aG) (holds_g H.g4 p oG hG aG)
    (col_of H.w7 p 1 o1 h1 a1) (col_of H.w7 p 0 o2' h2 a2) (col_of H.w8 p 1 o1 h1 a1) (col_of H.w8 p 0 o2' h2 a2) _ _
    (two (blkL (pr q t p) (pr k t p)) (nn t)) L1 L0 i l).trans ?_
  rw [valV_eq]
  refine (v260_v q k v o0 o2 dy l0 l2 (zz t) (nn t) i (hd p (half l)) (off l)).symm.trans ?_
  exact congrArg (fun x => Cert.ReferenceIdeal.Read.val_main_v260 (F := Ideal) (up q) (up k) (up v) (up o0) (up l0) (up o2) (up l2) (up dy)
    (ix2 (row (zz t) (nn t) i) x)) (Fin.ext (congrArg (1024 + ·) (lane_pair p l)))

end PairTiles

end Cert.KernelIdeal.Blocks

end
-- ==== Proof.Point.lean ====
module

public import proofs.«01_k».proof.Proof.Pairs
public import proofs.«01_k».proof.Proof.Tiles
public import proofs.«01_k».proof.Proof.Gen.KernelIdeal.Value

/-! What a grid point writes, and what the kernel's array then holds: the reference's gradients. -/

@[expose] public section

set_option maxRecDepth 16384

noncomputable section

namespace Cert.KernelIdeal.Blocks

open Idealize.ShloMosaic Idealize.ShloMosaic.TcCoe Idealize.SL.Sem Cert.KernelIdeal Cert.KernelIdeal.Gen
open Window Cert.KernelIdeal.HostRead Cert.KernelIdeal.Tiles

variable {q k v o0 o2 dy : Cert.ReferenceIdeal.S2x4096x8x64.Idx → ℝ} {l0 l2 : Cert.ReferenceIdeal.S2x4096x8.Idx → ℝ}
variable {t : Fin cfg0.N}

/-- The reference's array of gradients. -/
abbrev grads (q k v o0 o2 dy : Cert.ReferenceIdeal.S2x4096x8x64.Idx → ℝ) (l0 l2 : Cert.ReferenceIdeal.S2x4096x8.Idx → ℝ) :
    (⟨S8192x1536, .f32⟩ : BufTy).Contents (Elt Ideal) :=
  Cert.ReferenceIdeal.Read.val_main_v260 (F := Ideal) (up q) (up k) (up v) (up o0) (up l0) (up o2) (up l2) (up dy)

/-- A tile that is a slab of an array's columns lands on those columns. -/
theorem land {T : Vec Ideal S128x128 .f32} (G : S8192x1536.Idx → EReal) (z n : Fin 8) (f : Fin 128 → Fin 1536)
    (e : ∀ i l : Fin 128, T (ix2 i l) = G (ix2 (row z n i) (f l))) (y : S128x1536.Idx) (x : S128x128.Idx)
    (h0 : (y 0).val = (x 0).val) (h1 : (y 1).val = (f (x 1)).val) : T x = G (ix2 (row z n (y 0)) (y 1)) := by
  have ex : x = ix2 (x 0) (x 1) := by
    funext a; fin_cases a <;> rfl
  have e0 : y 0 = x 0 := Fin.ext h0
  have e1 : y 1 = f (x 1) := Fin.ext h1
  rw [ex, e0, e1]
  exact e (x 0) (x 1)

set_option maxHeartbeats 4000000 in
/-- A grid point's block is the reference's block of gradients. -/
theorem block_eq {x0 x1 x2 : Vec Ideal S128x1536 .bf16} {x3 x4 : Vec Ideal S128x512 .f32} {x5 x6 x7 x8 x9 x10 : Vec Ideal S128x128 .f32}
    (H : Holding q k v o0 o2 dy l0 l2 t x0 x1 x2 x3 x4 x5 x6 x7 x8 x9 x10) (y : S128x1536.Idx) :
    out0_11 (F := Ideal) (grid0.coords t) x0 x1 x2 x3 x4 x5 x6 x7 x8 x9 x10 y
      = grads q k v o0 o2 dy l0 l2 (ix2 (row (zz t) (nn t) (y 0)) (y 1)) := by
  rw [out_tiles]
  canon_tiles x h
  case piece0 => exact land _ (zz t) (nn t) _ (fun i l => pair_v H ⟨3, by omega⟩ _ _ _ _ _ _ _ _ _ _ _ rfl rfl rfl rfl rfl rfl i l _ _) y x h0 (by dsimp only; omega)
  case piece1 => exact land _ (zz t) (nn t) _ (fun i l => pair_k H ⟨3, by omega⟩ _ _ _ _ _ _ _ _ _ _ _ _ rfl rfl rfl rfl rfl rfl i l _ _) y x h0 (by dsimp only; omega)
  case piece2 => exact land _ (zz t) (nn t) _ (fun i l => pair_q H ⟨3, by omega⟩ _ _ _ _ _ _ _ _ _ _ _ _ rfl rfl rfl rfl rfl rfl i l) y x h0 (by dsimp only; omega)
  case piece3 => exact land _ (zz t) (nn t) _ (fun i l => pair_v H ⟨2, by omega⟩ _ _ _ _ _ _ _ _ _ _ _ rfl rfl rfl rfl rfl rfl i l _ _) y x h0 (by dsimp only; omega)
  case piece4 => exact land _ (zz t) (nn t) _ (fun i l => pair_k H ⟨2, by omega⟩ _ _ _ _ _ _ _ _ _ _ _ _ rfl rfl rfl rfl rfl rfl i l _ _) y x h0 (by dsimp only; omega)
  case piece5 => exact land _ (zz t) (nn t) _ (fun i l => pair_q H ⟨2, by omega⟩ _ _ _ _ _ _ _ _ _ _ _ _ rfl rfl rfl rfl rfl rfl i l) y x h0 (by dsimp only; omega)
  case piece6 => exact land _ (zz t) (nn t) _ (fun i l => pair_v H ⟨1, by omega⟩ _ _ _ _ _ _ _ _ _ _ _ rfl rfl rfl rfl rfl rfl i l _ _) y x h0 (by dsimp only; omega)
  case piece7 => exact land _ (zz t) (nn t) _ (fun i l => pair_k H ⟨1, by omega⟩ _ _ _ _ _ _ _ _ _ _ _ _ rfl rfl rfl rfl rfl rfl i l _ _) y x h0 (by dsimp only; omega)
  case piece8 => exact land _ (zz t) (nn t) _ (fun i l => pair_q H ⟨1, by omega⟩ _ _ _ _ _ _ _ _ _ _ _ _ rfl rfl rfl rfl rfl rfl i l) y x h0 (by dsimp only; omega)
  case piece9 => exact land _ (zz t) (nn t) _ (fun i l => pair_v H ⟨0, by omega⟩ _ _ _ _ _ _ _ _ _ _ _ rfl rfl rfl rfl rfl rfl i l _ _) y x h0 (by dsimp only; omega)
  case piece10 => exact land _ (zz t) (nn t) _ (fun i l => pair_k H ⟨0, by omega⟩ _ _ _ _ _ _ _ _ _ _ _ _ rfl rfl rfl rfl rfl rfl i l _ _) y x h0 (by dsimp only; omega)
  case piece11 => exact land _ (zz t) (nn t) _ (fun i l => pair_q H ⟨0, by omega⟩ _ _ _ _ _ _ _ _ _ _ _ _ rfl rfl rfl rfl rfl rfl i l) y x h0 (by dsimp only; omega)

/-- The kernel's array is the reference's array of gradients. -/
theorem final {m : (ℓ : Loc nD τ sig) → Buf (Elt Ideal) ℓ} {c : Dev nD} (A : Args m c q k v o0 o2 dy l0 l2) :
    (dats m 0 c).arrAt 11 (cfgs 0).N = grads q k v o0 o2 dy l0 l2 := by
  refine (dats m 0 c).arrAt_eq_of_covers 11 _ (by decide +kernel) fun t _ y => ?_
  blk_simp
  rw [after0_11]
  refine (block_eq (holding A t) y).trans ?_
  refine congrArg (grads q k v o0 o2 dy l0 l2) ((emb11 t (y 0) (y 1)).symm.trans ?_)
  congr 1
  funext a; fin_cases a <;> rfl

end Cert.KernelIdeal.Blocks

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel2.Frame
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3.Frame
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7.Frame
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8.Frame
public import proofs.«01_k».proof.Proof.Gen.Kernel8
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9.Frame
public import proofs.«01_k».proof.Proof.Gen.Kernel9
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10.Frame
public import proofs.«01_k».proof.Proof.Gen.Kernel10
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11.Frame
public import proofs.«01_k».proof.Proof.Gen.Kernel11
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12.Frame
public import proofs.«01_k».proof.Proof.Gen.Kernel12
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13.Frame
public import proofs.«01_k».proof.Proof.Gen.Kernel13
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14.Frame
public import proofs.«01_k».proof.Proof.Gen.Kernel14
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15.Frame
public import proofs.«01_k».proof.Proof.Gen.Kernel15
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16.Frame
public import proofs.«01_k».proof.Proof.Gen.Kernel16
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17.Frame
public import proofs.«01_k».proof.Proof.Gen.Kernel17
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18.Frame
public import proofs.«01_k».proof.Proof.Gen.Kernel18
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23
public import proofs.«01_k».proof.Proof.Gen.Kernel23Ideal
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24
public import proofs.«01_k».proof.Proof.Gen.Kernel24Ideal
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25
public import proofs.«01_k».proof.Proof.Gen.Kernel25Ideal
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26
public import proofs.«01_k».proof.Proof.Gen.Kernel26Ideal
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27
public import proofs.«01_k».proof.Proof.Gen.Kernel27Ideal
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Reference27Ideal.Read
public import proofs.«01_k».proof.Proof.Products
public import proofs.«01_k».proof.Proof.Finite
public import proofs.«01_k».proof.Proof.Point
public import Idealize.ShloMosaic.Adequacy
public import Idealize.ShloMosaic.Init
public import Idealize.ShloMosaic.Lib.Quiescent

@[expose] public section

noncomputable section

namespace Cert.Proof

open Idealize.ShloMosaic Idealize.SL.Sem Cert.Kernel
open Cert.KernelIdeal.Blocks Cert.KernelIdeal.HostRead Cert.Products

set_option maxHeartbeats 4000000 in
/-- The kernel's array and the reference's array of gradients are equal when every argument holds real numbers. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 11 (Cert.KernelIdeal.cfgs 0).N, Cert.KernelIdeal.Value.run_blocks m g,
    (θ_run Cert.ReferenceIdeal.defs _ _).mono (fun r h c => ⟨?_, (h c).2⟩) (Cert.ReferenceIdeal.Value.run m' g')⟩
  refine (h c).1.trans ((Cert.ReferenceIdeal.Read.val_main_v260_eq _).trans ?_)
  obtain ⟨⟨⟨q, hq⟩, ⟨k, hk⟩, ⟨v, hv⟩, ⟨o0, ho0⟩, ⟨o2, ho2⟩, ⟨dy, hdy⟩⟩, ⟨l0, hl0⟩, ⟨l2, hl2⟩⟩ := reals (hpre c)
  obtain ⟨a0, a1, a2, a3, a4, a5, a6, a7⟩ := hagree c
  refine Eq.trans ?_ (final (m := m) (c := c) (q := q) (k := k) (v := v) (o0 := o0) (o2 := o2) (dy := dy) (l0 := l0) (l2 := l2)
    ⟨hq, hk, hv, ho0, hl0, ho2, hl2, hdy⟩).symm
  have b0 := a0.trans hq
  have b1 := a1.trans hk
  have b2 := a2.trans hv
  have b3 := a3.trans ho0
  have b4 := a4.trans hl0
  have b5 := a5.trans ho2
  have b6 := a6.trans hl2
  have b7 := a7.trans hdy
  unfold grads
  rw [← b0, ← b1, ← b2, ← b3, ← b4, ← b5, ← b6, ← b7]

set_option maxHeartbeats 4000000 in
/-- The reference runs, keeps its arguments and ends quiescent. -/
theorem reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Pre_finite.Gen.facts,
  fun m g _ => Cert.Kernel.Gen.frame m g, fun m g _ => Cert.KernelIdeal.Gen.frame m g, fun m g _ => Cert.KernelIdeal.Gen.frame m g,
  reference, fun m g _ => reference m g trivial,
  fun m g _ => Cert.Kernel2.Gen.frame m g, fun m g _ => Cert.Kernel2Ideal.Gen.frame m g, reference2,
  fun m g _ => Cert.Kernel3.Gen.frame m g, fun m g _ => Cert.Kernel3Ideal.Gen.frame m g, reference3,
  fun m g _ => Cert.Kernel4.Gen.frame m g, fun m g _ => Cert.Kernel4Ideal.Gen.frame m g, reference4,
  fun m g _ => Cert.Kernel5.Gen.frame m g, fun m g _ => Cert.Kernel5Ideal.Gen.frame m g, reference5,
  fun m g _ => Cert.Kernel6.Gen.frame m g, fun m g _ => Cert.Kernel6Ideal.Gen.frame m g, reference6,
  fun m g _ => Cert.Kernel7.Gen.frame m g, fun m g _ => Cert.Kernel7Ideal.Gen.frame m g, reference7,
  fun m g _ => Cert.Kernel8.Gen.frame m g, fun m g _ => Cert.Kernel8Ideal.Gen.frame m g, reference8,
  fun m g _ => Cert.Kernel9.Gen.frame m g, fun m g _ => Cert.Kernel9Ideal.Gen.frame m g, reference9,
  fun m g _ => Cert.Kernel10.Gen.frame m g, fun m g _ => Cert.Kernel10Ideal.Gen.frame m g, reference10,
  fun m g _ => Cert.Kernel11.Gen.frame m g, fun m g _ => Cert.Kernel11Ideal.Gen.frame m g, reference11,
  fun m g _ => Cert.Kernel12.Gen.frame m g, fun m g _ => Cert.Kernel12Ideal.Gen.frame m g, reference12,
  fun m g _ => Cert.Kernel13.Gen.frame m g, fun m g _ => Cert.Kernel13Ideal.Gen.frame m g, reference13,
  fun m g _ => Cert.Kernel14.Gen.frame m g, fun m g _ => Cert.Kernel14Ideal.Gen.frame m g, reference14,
  fun m g _ => Cert.Kernel15.Gen.frame m g, fun m g _ => Cert.Kernel15Ideal.Gen.frame m g, reference15,
  fun m g _ => Cert.Kernel16.Gen.frame m g, fun m g _ => Cert.Kernel16Ideal.Gen.frame m g, reference16,
  fun m g _ => Cert.Kernel17.Gen.frame m g, fun m g _ => Cert.Kernel17Ideal.Gen.frame m g, reference17,
  fun m g _ => Cert.Kernel18.Gen.frame m g, fun m g _ => Cert.Kernel18Ideal.Gen.frame m g, reference18,
  fun m g _ => Cert.Kernel19.Gen.frame m g, fun m g _ => Cert.Kernel19Ideal.Gen.frame m g, reference19,
  fun m g _ => Cert.Kernel20.Gen.frame m g, fun m g _ => Cert.Kernel20Ideal.Gen.frame m g, reference20,
  fun m g _ => Cert.Kernel21.Gen.frame m g, fun m g _ => Cert.Kernel21Ideal.Gen.frame m g, reference21,
  fun m g _ => Cert.Kernel22.Gen.frame m g, fun m g _ => Cert.Kernel22Ideal.Gen.frame m g, reference22,
  fun m g _ => Cert.Kernel23.Gen.frame m g, fun m g _ => Cert.Kernel23Ideal.Gen.frame m g, reference23,
  fun m g _ => Cert.Kernel24.Gen.frame m g, fun m g _ => Cert.Kernel24Ideal.Gen.frame m g, reference24,
  fun m g _ => Cert.Kernel25.Gen.frame m g, fun m g _ => Cert.Kernel25Ideal.Gen.frame m g, reference25,
  fun m g _ => Cert.Kernel26.Gen.frame m g, fun m g _ => Cert.Kernel26Ideal.Gen.frame m g, reference26,
  fun m g _ => Cert.Kernel27.Gen.frame m g, fun m g _ => Cert.Kernel27Ideal.Gen.frame m g, reference27,
  IdealRules.named_const.statement Cert.KernelIdeal.κ "mask" .f32 0xF149F2CA#32 ⊥ rfl, value,
  trivial, value2, trivial, value3, trivial, value4, trivial, value5, trivial, value6, trivial, value7,
  trivial, value8, trivial, value9, trivial, value10, trivial, value11, trivial, value12, trivial, value13,
  trivial, value14, trivial, value15, trivial, value16, trivial, value17, trivial, value18, trivial, value19, trivial, value20,
  trivial, value21, trivial, value22, trivial, value23, trivial, value24, trivial, value25, trivial, value26, trivial, value27⟩

end Cert.Proof

end
